-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hReference : Cert.Reference.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Reference (hReference := hReference)
    ∧ preserves_Kernel_KernelIdeal
    ∧ preserves_Reference_ReferenceIdeal
    ∧ algebraic_KernelIdeal_ReferenceIdeal_pre_pre (hKernelIdeal := hKernelIdeal) (hReferenceIdeal := hReferenceIdeal) (hPre_pre := hPre_pre)
-- ==== Pre_pre.lean ====
abbrev S2x1024x24x128 : Shape := ⟨4, ![2, 1024, 24, 128]⟩
abbrev S2x24 : Shape := ⟨2, ![2, 24]⟩
abbrev S32x24 : Shape := ⟨2, ![32, 24]⟩
abbrev S2x1024 : Shape := ⟨2, ![2, 1024]⟩
abbrev S_ : Shape := ⟨0, ![]⟩
abbrev S2x1023 : Shape := ⟨2, ![2, 1023]⟩

class Facts : Prop where
  bcast_S_S2x24 : S_.BroadcastsInDim S2x24 (![] : Fin 0 → Fin S2x24.rank)
  reducesTo_S2x24_S_d0_1 : S2x24.ReducesTo [0, 1] S_
  h_S_ : 0 < S_.numel
  slices_S2x1024_S2x1023_0_1 : S2x1024.Slices ![0, 1] S2x1023
  slices_S2x1024_S2x1023_0_0 : S2x1024.Slices ![0, 0] S2x1023
  reducesTo_S2x1023_S_d0_1 : S2x1023.ReducesTo [0, 1] S_

variable [Facts]

def fn {F : FTy → Type} [FloatOps F] (main_arg0 : FVec F S2x1024x24x128 .fp8e4m3) (main_arg1 : FVec F S2x1024x24x128 .fp8e4m3) (main_arg2 : FVec F S2x1024x24x128 .fp8e4m3) (main_arg3 : FVec F S2x24 .f32) (main_arg4 : FVec F S2x24 .f32) (main_arg5 : FVec F S2x24 .f32) (main_arg6 : FVec F S32x24 .bf16) (main_arg7 : IVec S2x1024 32) : IVec S_ 1 :=
  let main_v0 : FVec F S2x24 .f32 := mulf main_arg3 main_arg4
  let main_cst : FVec F S_ .f32 := constant S_ .f32 0x00000000#32
  let main_v1 : FVec F S2x24 .f32 := broadcastInDim S2x24 ![] bcast_S_S2x24 main_cst
  let main_v2 : IVec S2x24 1 := cmpf .ogt main_v0 main_v1
  let main_cst_0 : FVec F S_ .f32 := constant S_ .f32 0x7F800000#32
  let main_v3 : FVec F S2x24 .f32 := broadcastInDim S2x24 ![] bcast_S_S2x24 main_cst_0
  let main_v4 : IVec S2x24 1 := cmpf .olt main_v0 main_v3
  let main_v5 : IVec S2x24 1 := andi main_v2 main_v4
  let main_c : IVec S_ 1 := constantI S_ 1 1#1
  let main_v6 : IVec S_ 1 := (fun x v => Host.reduce IntOp.andi x v reducesTo_S2x24_S_d0_1 h_S_) main_v5 main_c
  let main_v7 : IVec S2x1023 32 := (extractStridedSlice S2x1023 ![0, 1] · slices_S2x1024_S2x1023_0_1) main_arg7
  let main_v8 : IVec S2x1023 32 := (extractStridedSlice S2x1023 ![0, 0] · slices_S2x1024_S2x1023_0_0) main_arg7
  let main_v9 : IVec S2x1023 1 := cmpi .sge main_v7 main_v8
  let main_c_1 : IVec S_ 1 := constantI S_ 1 1#1
  let main_v10 : IVec S_ 1 := (fun x v => Host.reduce IntOp.andi x v reducesTo_S2x1023_S_d0_1 h_S_) main_v9 main_c_1
  let main_v11 : IVec S_ 1 := andi main_v6 main_v10
  main_v11
-- ==== Kernel.lean ====
abbrev S2x1024x24x128 : Shape := ⟨4, ![2, 1024, 24, 128]⟩
abbrev S2x24 : Shape := ⟨2, ![2, 24]⟩
abbrev S32x24 : Shape := ⟨2, ![32, 24]⟩
abbrev S2x1024 : Shape := ⟨2, ![2, 1024]⟩
abbrev S2x1024x3072 : Shape := ⟨3, ![2, 1024, 3072]⟩
abbrev S_ : Shape := ⟨0, ![]⟩
abbrev S24x1x128 : Shape := ⟨3, ![24, 1, 128]⟩
abbrev S24x32 : Shape := ⟨2, ![24, 32]⟩
abbrev S1 : Shape := ⟨1, ![1]⟩
abbrev S2 : Shape := ⟨1, ![2]⟩
abbrev S2x1x1024 : Shape := ⟨3, ![2, 1, 1024]⟩
abbrev S1x1x1024 : Shape := ⟨3, ![1, 1, 1024]⟩
abbrev S1x1x128 : Shape := ⟨3, ![1, 1, 128]⟩
abbrev S1x1024x128 : Shape := ⟨3, ![1, 1024, 128]⟩
abbrev S640x128 : Shape := ⟨2, ![640, 128]⟩
abbrev S1024x128 : Shape := ⟨2, ![1024, 128]⟩
abbrev S128x1024 : Shape := ⟨2, ![128, 1024]⟩
abbrev S1x128 : Shape := ⟨2, ![1, 128]⟩
abbrev S128x128 : Shape := ⟨2, ![128, 128]⟩
abbrev S1x1 : Shape := ⟨2, ![1, 1]⟩
abbrev S8x128 : Shape := ⟨2, ![8, 128]⟩
abbrev S8x128x1 : Shape := ⟨3, ![8, 128, 1]⟩
abbrev S1x128x128 : Shape := ⟨3, ![1, 128, 128]⟩
abbrev S128 : Shape := ⟨1, ![128]⟩
abbrev S256x128 : Shape := ⟨2, ![256, 128]⟩
abbrev S128x256 : Shape := ⟨2, ![128, 256]⟩
abbrev S384x128 : Shape := ⟨2, ![384, 128]⟩
abbrev S128x384 : Shape := ⟨2, ![128, 384]⟩
abbrev S512x128 : Shape := ⟨2, ![512, 128]⟩
abbrev S128x512 : Shape := ⟨2, ![128, 512]⟩
abbrev S128x640 : Shape := ⟨2, ![128, 640]⟩
abbrev S768x128 : Shape := ⟨2, ![768, 128]⟩
abbrev S128x768 : Shape := ⟨2, ![128, 768]⟩
abbrev S896x128 : Shape := ⟨2, ![896, 128]⟩
abbrev S128x896 : Shape := ⟨2, ![128, 896]⟩

abbrev nBuf : Space → Nat
  | .hbm => 23
  | .vmem => 16
  | .smem => 4
  | _ => 0

abbrev bufTy : (tb : Table) → Fin (tcTables nBuf tb) → BufTy
  | .hbm, ⟨0, _⟩ => ⟨S2x1024x24x128, .fp8e4m3⟩
  | .hbm, ⟨1, _⟩ => ⟨S2x1024x24x128, .fp8e4m3⟩
  | .hbm, ⟨2, _⟩ => ⟨S2x1024x24x128, .fp8e4m3⟩
  | .hbm, ⟨3, _⟩ => ⟨S2x24, .f32⟩
  | .hbm, ⟨4, _⟩ => ⟨S2x24, .f32⟩
  | .hbm, ⟨5, _⟩ => ⟨S2x24, .f32⟩
  | .hbm, ⟨6, _⟩ => ⟨S32x24, .bf16⟩
  | .hbm, ⟨7, _⟩ => ⟨S2x1024, .i32⟩
  | .hbm, ⟨8, _⟩ => ⟨S2x1024x3072, .fp8e4m3⟩
  | .hbm, ⟨9, _⟩ => ⟨S2x1024x3072, .fp8e4m3⟩
  | .hbm, ⟨10, _⟩ => ⟨S2x1024x3072, .fp8e4m3⟩
  | .hbm, ⟨11, _⟩ => ⟨S_, .f32⟩
  | .hbm, ⟨12, _⟩ => ⟨S24x1x128, .f32⟩
  | .hbm, ⟨13, _⟩ => ⟨S24x32, .bf16⟩
  | .hbm, ⟨14, _⟩ => ⟨S24x32, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S24x1x128, .f32⟩
  | .hbm, ⟨21, _⟩ => ⟨S2x1x1024, .i32⟩
  | .hbm, ⟨22, _⟩ => ⟨S2x1024x3072, .bf16⟩
  | .local _ .vmem, ⟨0, _⟩ => ⟨S1x1x1024, .i32⟩
  | .local _ .vmem, ⟨1, _⟩ => ⟨S1x1x1024, .i32⟩
  | .local _ .vmem, ⟨2, _⟩ => ⟨S1x1x128, .f32⟩
  | .local _ .vmem, ⟨3, _⟩ => ⟨S1x1x128, .f32⟩
  | .local _ .vmem, ⟨4, _⟩ => ⟨S1x1024x128, .fp8e4m3⟩
  | .local _ .vmem, ⟨5, _⟩ => ⟨S1x1024x128, .fp8e4m3⟩
  | .local _ .vmem, ⟨6, _⟩ => ⟨S1x1024x128, .fp8e4m3⟩
  | .local _ .vmem, ⟨7, _⟩ => ⟨S1x1024x128, .fp8e4m3⟩
  | .local _ .vmem, ⟨8, _⟩ => ⟨S1x1024x128, .fp8e4m3⟩
  | .local _ .vmem, ⟨9, _⟩ => ⟨S1x1024x128, .fp8e4m3⟩
  | .local _ .vmem, ⟨10, _⟩ => ⟨S1x1024x128, .bf16⟩
  | .local _ .vmem, ⟨11, _⟩ => ⟨S1x1024x128, .bf16⟩
  | .local _ .vmem, ⟨12, _⟩ => ⟨S640x128, .i32⟩
  | .local _ .vmem, ⟨13, _⟩ => ⟨S1024x128, .i32⟩
  | .local _ .vmem, ⟨14, _⟩ => ⟨S640x128, .f32⟩
  | .local _ .vmem, ⟨15, _⟩ => ⟨S128x1024, .fp8e4m3⟩
  | .local _ .smem, ⟨0, _⟩ => ⟨S2x1024, .i32⟩
  | .local _ .smem, ⟨1, _⟩ => ⟨S2x24, .f32⟩
  | .local _ .smem, ⟨2, _⟩ => ⟨S2x24, .f32⟩
  | .local _ .smem, ⟨3, _⟩ => ⟨S2x24, .f32⟩
  | _, _ => ⟨S2x1024x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 24], ![false, false]⟩

def k0_off1 (i : grid0.Coords) : Fin 2 → Nat :=
  let arg0 : BitVec 32 := BitVec.ofNat 32 (i 0).val
  let v8 : Index := Scalar.indexCast arg0
  let arg1 : BitVec 32 := BitVec.ofNat 32 (i 1).val
  let v9 : Index := Scalar.indexCast arg1
  ![v8.toNat, v9.toNat]
@[reducible] def k0_t1_loop : Scf.Loop 32 :=
  let c0_i32_411 : BitVec 32 := 0#32
  let c8_i32 : BitVec 32 := 8#32
  let v993 : BitVec 32 := Scalar.addi c0_i32_411 c8_i32
  let c1_i32 : BitVec 32 := 1#32
  ⟨c0_i32_411, v993, c1_i32⟩
def k0_off2 (i : grid0.Coords) (k0_t1 : Fin k0_t1_loop.trips) : Fin 2 → Nat :=
  let arg0 : BitVec 32 := BitVec.ofNat 32 (i 0).val
  let v997 : Index := Scalar.indexCast arg0
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_415 : BitVec 32 := 128#32
  let v996 : BitVec 32 := Scalar.muli v995 c128_i32_415
  let v998 : Index := Scalar.indexCast v996
  ![v997.toNat, v998.toNat]
def k0_off3 (i : grid0.Coords) (k0_t1 : Fin k0_t1_loop.trips) : Fin 2 → Nat :=
  let arg0 : BitVec 32 := BitVec.ofNat 32 (i 0).val
  let v1003 : Index := Scalar.indexCast arg0
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_416 : BitVec 32 := 128#32
  let v1000 : BitVec 32 := Scalar.muli v995 c128_i32_416
  let c128_i32_417 : BitVec 32 := 128#32
  let v1001 : BitVec 32 := Scalar.addi v1000 c128_i32_417
  let c1_i32_418 : BitVec 32 := 1#32
  let v1002 : BitVec 32 := Scalar.subi v1001 c1_i32_418
  let v1004 : Index := Scalar.indexCast v1002
  ![v1003.toNat, v1004.toNat]
def k0_off4 (i : grid0.Coords) : Fin 2 → Nat :=
  let arg0 : BitVec 32 := BitVec.ofNat 32 (i 0).val
  let v1006 : Index := Scalar.indexCast arg0
  let c127 : Index := 127#32
  ![v1006.toNat, 127]
def k0_off5 (i : grid0.Coords) : Fin 2 → Nat :=
  let arg0 : BitVec 32 := BitVec.ofNat 32 (i 0).val
  let v1011 : Index := Scalar.indexCast arg0
  let c0_420 : Index := 0#32
  ![v1011.toNat, 0]
def k0_off6 (i : grid0.Coords) : Fin 2 → Nat :=
  let arg0 : BitVec 32 := BitVec.ofNat 32 (i 0).val
  let v1016 : Index := Scalar.indexCast arg0
  let c255 : Index := 255#32
  ![v1016.toNat, 255]
def k0_off7 (i : grid0.Coords) : Fin 2 → Nat :=
  let arg0 : BitVec 32 := BitVec.ofNat 32 (i 0).val
  let v1021 : Index := Scalar.indexCast arg0
  let c128_422 : Index := 128#32
  ![v1021.toNat, 128]
def k0_off8 (i : grid0.Coords) : Fin 2 → Nat :=
  let arg0 : BitVec 32 := BitVec.ofNat 32 (i 0).val
  let v1026 : Index := Scalar.indexCast arg0
  let c383 : Index := 383#32
  ![v1026.toNat, 383]
def k0_off9 (i : grid0.Coords) : Fin 2 → Nat :=
  let arg0 : BitVec 32 := BitVec.ofNat 32 (i 0).val
  let v1031 : Index := Scalar.indexCast arg0
  let c256_423 : Index := 256#32
  ![v1031.toNat, 256]
def k0_off10 (i : grid0.Coords) : Fin 2 → Nat :=
  let arg0 : BitVec 32 := BitVec.ofNat 32 (i 0).val
  let v1036 : Index := Scalar.indexCast arg0
  let c511 : Index := 511#32
  ![v1036.toNat, 511]
def k0_off11 (i : grid0.Coords) : Fin 2 → Nat :=
  let arg0 : BitVec 32 := BitVec.ofNat 32 (i 0).val
  let v1041 : Index := Scalar.indexCast arg0
  let c384_424 : Index := 384#32
  ![v1041.toNat, 384]
def k0_off12 (i : grid0.Coords) : Fin 2 → Nat :=
  let arg0 : BitVec 32 := BitVec.ofNat 32 (i 0).val
  let v1046 : Index := Scalar.indexCast arg0
  let c639 : Index := 639#32
  ![v1046.toNat, 639]
def k0_off13 (i : grid0.Coords) : Fin 2 → Nat :=
  let arg0 : BitVec 32 := BitVec.ofNat 32 (i 0).val
  let v1051 : Index := Scalar.indexCast arg0
  let c512_425 : Index := 512#32
  ![v1051.toNat, 512]
def k0_off14 (i : grid0.Coords) : Fin 2 → Nat :=
  let arg0 : BitVec 32 := BitVec.ofNat 32 (i 0).val
  let v1056 : Index := Scalar.indexCast arg0
  let c767 : Index := 767#32
  ![v1056.toNat, 767]
def k0_off15 (i : grid0.Coords) : Fin 2 → Nat :=
  let arg0 : BitVec 32 := BitVec.ofNat 32 (i 0).val
  let v1061 : Index := Scalar.indexCast arg0
  let c640 : Index := 640#32
  ![v1061.toNat, 640]
def k0_off16 (i : grid0.Coords) : Fin 2 → Nat :=
  let arg0 : BitVec 32 := BitVec.ofNat 32 (i 0).val
  let v1066 : Index := Scalar.indexCast arg0
  let c895 : Index := 895#32
  ![v1066.toNat, 895]
def k0_off17 (i : grid0.Coords) : Fin 2 → Nat :=
  let arg0 : BitVec 32 := BitVec.ofNat 32 (i 0).val
  let v1071 : Index := Scalar.indexCast arg0
  let c768 : Index := 768#32
  ![v1071.toNat, 768]
def k0_off18 (i : grid0.Coords) : Fin 2 → Nat :=
  let arg0 : BitVec 32 := BitVec.ofNat 32 (i 0).val
  let v1076 : Index := Scalar.indexCast arg0
  let c1023 : Index := 1023#32
  ![v1076.toNat, 1023]
def k0_off19 (i : grid0.Coords) : Fin 2 → Nat :=
  let arg0 : BitVec 32 := BitVec.ofNat 32 (i 0).val
  let v1081 : Index := Scalar.indexCast arg0
  let c896 : Index := 896#32
  ![v1081.toNat, 896]
def k0_mult1 (k0_t1 : Fin k0_t1_loop.trips) : BitVec 32 :=
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  v1118
def k0_mult2 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  v1120
def k0_cond3 (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : BitVec 1 :=
  let c0_i32_421 : BitVec 32 := 0#32
  let v1013 : BitVec 1 := Scalar.cmpi .sle v1012 v1005
  let v1014 : BitVec 32 := Scalar.extui v1013
  let v1015 : BitVec 32 := Scalar.addi c0_i32_421 v1014
  let v1023 : BitVec 1 := Scalar.cmpi .sle v1022 v1005
  let v1024 : BitVec 32 := Scalar.extui v1023
  let v1025 : BitVec 32 := Scalar.addi v1015 v1024
  let v1033 : BitVec 1 := Scalar.cmpi .sle v1032 v1005
  let v1034 : BitVec 32 := Scalar.extui v1033
  let v1035 : BitVec 32 := Scalar.addi v1025 v1034
  let v1043 : BitVec 1 := Scalar.cmpi .sle v1042 v1005
  let v1044 : BitVec 32 := Scalar.extui v1043
  let v1045 : BitVec 32 := Scalar.addi v1035 v1044
  let v1053 : BitVec 1 := Scalar.cmpi .sle v1052 v1005
  let v1054 : BitVec 32 := Scalar.extui v1053
  let v1055 : BitVec 32 := Scalar.addi v1045 v1054
  let v1063 : BitVec 1 := Scalar.cmpi .sle v1062 v1005
  let v1064 : BitVec 32 := Scalar.extui v1063
  let v1065 : BitVec 32 := Scalar.addi v1055 v1064
  let v1073 : BitVec 1 := Scalar.cmpi .sle v1072 v1005
  let v1074 : BitVec 32 := Scalar.extui v1073
  let v1075 : BitVec 32 := Scalar.addi v1065 v1074
  let v1083 : BitVec 1 := Scalar.cmpi .sle v1082 v1005
  let v1084 : BitVec 32 := Scalar.extui v1083
  let v1085 : BitVec 32 := Scalar.addi v1075 v1084
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1086 : BitVec 32 := Scalar.subi v1085 v1080
  let c1_i32_426 : BitVec 32 := 1#32
  let v1087 : BitVec 1 := Scalar.cmpi .eq v1086 c1_i32_426
  let v1088 : BitVec 32 := Scalar.extui v1087
  let c0_i32_427 : BitVec 32 := 0#32
  let v1089 : BitVec 1 := Scalar.cmpi .ne v1088 c0_i32_427
  v1089

def k0_off20 (k0_t1 : Fin k0_t1_loop.trips) : Fin 3 → Nat :=
  let c0_438 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1122 : Index := Scalar.indexCast v1119
  let c0_439 : Index := 0#32
  ![0, v1122.toNat, 0]
def k0_off21 (k0_t1 : Fin k0_t1_loop.trips) : Fin 3 → Nat :=
  let c0_440 : Index := 0#32
  let c0_441 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1125 : Index := Scalar.indexCast v1119
  ![0, 0, v1125.toNat]
def k0_mult3 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  v1128
def k0_off22 (v999 : BitVec 32) (v1007 : BitVec 32) (v1017 : BitVec 32) (v1027 : BitVec 32) (v1037 : BitVec 32) (v1047 : BitVec 32) (v1057 : BitVec 32) (v1067 : BitVec 32) (v1077 : BitVec 32) : Fin 3 → Nat :=
  let c0_443 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  let v1129 : BitVec 32 := v1128
  let v1130 : Index := Scalar.indexCast v1129
  let c0_444 : Index := 0#32
  ![0, v1130.toNat, 0]
def k0_mult4 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  v1139
def k0_off23 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  let v1140 : BitVec 32 := v1139
  let v1141 : Index := Scalar.indexCast v1140
  let c0_450 : Index := 0#32
  ![v1141.toNat, 0]
def k0_off24 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  let v1129 : BitVec 32 := v1128
  let v1144 : Index := Scalar.indexCast v1129
  let c0_451 : Index := 0#32
  ![v1144.toNat, 0]
def k0_off25 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_470 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1220 : Index := Scalar.indexCast v1121
  ![0, v1220.toNat]
def k0_mult5 (k0_t1 : Fin k0_t1_loop.trips) : BitVec 32 :=
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  v1118
def k0_mult6 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  v1120
def k0_cond4 (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : BitVec 1 :=
  let c0_i32_421 : BitVec 32 := 0#32
  let v1013 : BitVec 1 := Scalar.cmpi .sle v1012 v1005
  let v1014 : BitVec 32 := Scalar.extui v1013
  let v1015 : BitVec 32 := Scalar.addi c0_i32_421 v1014
  let v1023 : BitVec 1 := Scalar.cmpi .sle v1022 v1005
  let v1024 : BitVec 32 := Scalar.extui v1023
  let v1025 : BitVec 32 := Scalar.addi v1015 v1024
  let v1033 : BitVec 1 := Scalar.cmpi .sle v1032 v1005
  let v1034 : BitVec 32 := Scalar.extui v1033
  let v1035 : BitVec 32 := Scalar.addi v1025 v1034
  let v1043 : BitVec 1 := Scalar.cmpi .sle v1042 v1005
  let v1044 : BitVec 32 := Scalar.extui v1043
  let v1045 : BitVec 32 := Scalar.addi v1035 v1044
  let v1053 : BitVec 1 := Scalar.cmpi .sle v1052 v1005
  let v1054 : BitVec 32 := Scalar.extui v1053
  let v1055 : BitVec 32 := Scalar.addi v1045 v1054
  let v1063 : BitVec 1 := Scalar.cmpi .sle v1062 v1005
  let v1064 : BitVec 32 := Scalar.extui v1063
  let v1065 : BitVec 32 := Scalar.addi v1055 v1064
  let v1073 : BitVec 1 := Scalar.cmpi .sle v1072 v1005
  let v1074 : BitVec 32 := Scalar.extui v1073
  let v1075 : BitVec 32 := Scalar.addi v1065 v1074
  let v1083 : BitVec 1 := Scalar.cmpi .sle v1082 v1005
  let v1084 : BitVec 32 := Scalar.extui v1083
  let v1085 : BitVec 32 := Scalar.addi v1075 v1084
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1090 : BitVec 32 := Scalar.subi v1085 v1080
  let c2_i32 : BitVec 32 := 2#32
  let v1091 : BitVec 1 := Scalar.cmpi .eq v1090 c2_i32
  let v1092 : BitVec 32 := Scalar.extui v1091
  let c0_i32_428 : BitVec 32 := 0#32
  let v1093 : BitVec 1 := Scalar.cmpi .ne v1092 c0_i32_428
  v1093

def k0_off26 (k0_t1 : Fin k0_t1_loop.trips) : Fin 3 → Nat :=
  let c0_438 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1122 : Index := Scalar.indexCast v1119
  let c0_439 : Index := 0#32
  ![0, v1122.toNat, 0]
def k0_off27 (k0_t1 : Fin k0_t1_loop.trips) : Fin 3 → Nat :=
  let c0_440 : Index := 0#32
  let c0_441 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1125 : Index := Scalar.indexCast v1119
  ![0, 0, v1125.toNat]
def k0_mult7 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  v1128
def k0_off28 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 3 → Nat :=
  let c0_443 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1130 : Index := Scalar.indexCast v1129
  let c0_444 : Index := 0#32
  ![0, v1130.toNat, 0]
def k0_mult8 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  v1139
def k0_off29 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) (c0_i32_446 : BitVec 32) : Fin 2 → Nat :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  let v1140 : BitVec 32 := v1139
  let v1141 : Index := Scalar.indexCast v1140
  let c0_450 : Index := 0#32
  ![v1141.toNat, 0]
def k0_off30 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 2 → Nat :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1144 : Index := Scalar.indexCast v1129
  let c0_451 : Index := 0#32
  ![v1144.toNat, 0]
def k0_mult9 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c128_i32_453 : BitVec 32 := 128#32
  let v1150 : BitVec 32 := Scalar.addi v1121 c128_i32_453
  v1150
def k0_mult10 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_459 : BitVec 32 := 2#32
  let c_m2_i32_458 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c1_i32_457 : BitVec 32 := 1#32
  let v1156 : BitVec 32 := Scalar.addi v1080 c1_i32_457
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1157 : BitVec 32 := Scalar.subi v1156 v995
  let v1158 : BitVec 32 := Scalar.maxsi c_m2_i32_458 v1157
  let v1159 : BitVec 32 := Scalar.minsi c2_i32_459 v1158
  let c2_i32_460 : BitVec 32 := 2#32
  let v1160 : BitVec 32 := Scalar.addi v1159 c2_i32_460
  let c128_i32_461 : BitVec 32 := 128#32
  let v1161 : BitVec 32 := Scalar.muli v1160 c128_i32_461
  v1161
def k0_off31 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_482 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1243 : Index := Scalar.indexCast v1121
  ![0, v1243.toNat]
def k0_mult11 (k0_t1 : Fin k0_t1_loop.trips) : BitVec 32 :=
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  v1118
def k0_mult12 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  v1120
def k0_cond5 (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : BitVec 1 :=
  let c0_i32_421 : BitVec 32 := 0#32
  let v1013 : BitVec 1 := Scalar.cmpi .sle v1012 v1005
  let v1014 : BitVec 32 := Scalar.extui v1013
  let v1015 : BitVec 32 := Scalar.addi c0_i32_421 v1014
  let v1023 : BitVec 1 := Scalar.cmpi .sle v1022 v1005
  let v1024 : BitVec 32 := Scalar.extui v1023
  let v1025 : BitVec 32 := Scalar.addi v1015 v1024
  let v1033 : BitVec 1 := Scalar.cmpi .sle v1032 v1005
  let v1034 : BitVec 32 := Scalar.extui v1033
  let v1035 : BitVec 32 := Scalar.addi v1025 v1034
  let v1043 : BitVec 1 := Scalar.cmpi .sle v1042 v1005
  let v1044 : BitVec 32 := Scalar.extui v1043
  let v1045 : BitVec 32 := Scalar.addi v1035 v1044
  let v1053 : BitVec 1 := Scalar.cmpi .sle v1052 v1005
  let v1054 : BitVec 32 := Scalar.extui v1053
  let v1055 : BitVec 32 := Scalar.addi v1045 v1054
  let v1063 : BitVec 1 := Scalar.cmpi .sle v1062 v1005
  let v1064 : BitVec 32 := Scalar.extui v1063
  let v1065 : BitVec 32 := Scalar.addi v1055 v1064
  let v1073 : BitVec 1 := Scalar.cmpi .sle v1072 v1005
  let v1074 : BitVec 32 := Scalar.extui v1073
  let v1075 : BitVec 32 := Scalar.addi v1065 v1074
  let v1083 : BitVec 1 := Scalar.cmpi .sle v1082 v1005
  let v1084 : BitVec 32 := Scalar.extui v1083
  let v1085 : BitVec 32 := Scalar.addi v1075 v1084
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1094 : BitVec 32 := Scalar.subi v1085 v1080
  let c3_i32 : BitVec 32 := 3#32
  let v1095 : BitVec 1 := Scalar.cmpi .eq v1094 c3_i32
  let v1096 : BitVec 32 := Scalar.extui v1095
  let c0_i32_429 : BitVec 32 := 0#32
  let v1097 : BitVec 1 := Scalar.cmpi .ne v1096 c0_i32_429
  v1097

def k0_off32 (k0_t1 : Fin k0_t1_loop.trips) : Fin 3 → Nat :=
  let c0_438 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1122 : Index := Scalar.indexCast v1119
  let c0_439 : Index := 0#32
  ![0, v1122.toNat, 0]
def k0_off33 (k0_t1 : Fin k0_t1_loop.trips) : Fin 3 → Nat :=
  let c0_440 : Index := 0#32
  let c0_441 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1125 : Index := Scalar.indexCast v1119
  ![0, 0, v1125.toNat]
def k0_mult13 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  v1128
def k0_off34 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 3 → Nat :=
  let c0_443 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1130 : Index := Scalar.indexCast v1129
  let c0_444 : Index := 0#32
  ![0, v1130.toNat, 0]
def k0_mult14 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  v1139
def k0_off35 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) (c0_i32_446 : BitVec 32) : Fin 2 → Nat :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  let v1140 : BitVec 32 := v1139
  let v1141 : Index := Scalar.indexCast v1140
  let c0_450 : Index := 0#32
  ![v1141.toNat, 0]
def k0_off36 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 2 → Nat :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1144 : Index := Scalar.indexCast v1129
  let c0_451 : Index := 0#32
  ![v1144.toNat, 0]
def k0_mult15 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c128_i32_453 : BitVec 32 := 128#32
  let v1150 : BitVec 32 := Scalar.addi v1121 c128_i32_453
  v1150
def k0_mult16 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_459 : BitVec 32 := 2#32
  let c_m2_i32_458 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c1_i32_457 : BitVec 32 := 1#32
  let v1156 : BitVec 32 := Scalar.addi v1080 c1_i32_457
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1157 : BitVec 32 := Scalar.subi v1156 v995
  let v1158 : BitVec 32 := Scalar.maxsi c_m2_i32_458 v1157
  let v1159 : BitVec 32 := Scalar.minsi c2_i32_459 v1158
  let c2_i32_460 : BitVec 32 := 2#32
  let v1160 : BitVec 32 := Scalar.addi v1159 c2_i32_460
  let c128_i32_461 : BitVec 32 := 128#32
  let v1161 : BitVec 32 := Scalar.muli v1160 c128_i32_461
  v1161
def k0_mult17 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c256_i32 : BitVec 32 := 256#32
  let v1172 : BitVec 32 := Scalar.addi v1121 c256_i32
  v1172
def k0_mult18 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_470 : BitVec 32 := 2#32
  let c_m2_i32_469 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c2_i32_468 : BitVec 32 := 2#32
  let v1178 : BitVec 32 := Scalar.addi v1080 c2_i32_468
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1179 : BitVec 32 := Scalar.subi v1178 v995
  let v1180 : BitVec 32 := Scalar.maxsi c_m2_i32_469 v1179
  let v1181 : BitVec 32 := Scalar.minsi c2_i32_470 v1180
  let c2_i32_471 : BitVec 32 := 2#32
  let v1182 : BitVec 32 := Scalar.addi v1181 c2_i32_471
  let c128_i32_472 : BitVec 32 := 128#32
  let v1183 : BitVec 32 := Scalar.muli v1182 c128_i32_472
  v1183
def k0_off37 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_493 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1265 : Index := Scalar.indexCast v1121
  ![0, v1265.toNat]
def k0_mult19 (k0_t1 : Fin k0_t1_loop.trips) : BitVec 32 :=
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  v1118
def k0_mult20 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  v1120
def k0_cond6 (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : BitVec 1 :=
  let c0_i32_421 : BitVec 32 := 0#32
  let v1013 : BitVec 1 := Scalar.cmpi .sle v1012 v1005
  let v1014 : BitVec 32 := Scalar.extui v1013
  let v1015 : BitVec 32 := Scalar.addi c0_i32_421 v1014
  let v1023 : BitVec 1 := Scalar.cmpi .sle v1022 v1005
  let v1024 : BitVec 32 := Scalar.extui v1023
  let v1025 : BitVec 32 := Scalar.addi v1015 v1024
  let v1033 : BitVec 1 := Scalar.cmpi .sle v1032 v1005
  let v1034 : BitVec 32 := Scalar.extui v1033
  let v1035 : BitVec 32 := Scalar.addi v1025 v1034
  let v1043 : BitVec 1 := Scalar.cmpi .sle v1042 v1005
  let v1044 : BitVec 32 := Scalar.extui v1043
  let v1045 : BitVec 32 := Scalar.addi v1035 v1044
  let v1053 : BitVec 1 := Scalar.cmpi .sle v1052 v1005
  let v1054 : BitVec 32 := Scalar.extui v1053
  let v1055 : BitVec 32 := Scalar.addi v1045 v1054
  let v1063 : BitVec 1 := Scalar.cmpi .sle v1062 v1005
  let v1064 : BitVec 32 := Scalar.extui v1063
  let v1065 : BitVec 32 := Scalar.addi v1055 v1064
  let v1073 : BitVec 1 := Scalar.cmpi .sle v1072 v1005
  let v1074 : BitVec 32 := Scalar.extui v1073
  let v1075 : BitVec 32 := Scalar.addi v1065 v1074
  let v1083 : BitVec 1 := Scalar.cmpi .sle v1082 v1005
  let v1084 : BitVec 32 := Scalar.extui v1083
  let v1085 : BitVec 32 := Scalar.addi v1075 v1084
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1098 : BitVec 32 := Scalar.subi v1085 v1080
  let c4_i32 : BitVec 32 := 4#32
  let v1099 : BitVec 1 := Scalar.cmpi .eq v1098 c4_i32
  let v1100 : BitVec 32 := Scalar.extui v1099
  let c0_i32_430 : BitVec 32 := 0#32
  let v1101 : BitVec 1 := Scalar.cmpi .ne v1100 c0_i32_430
  v1101

def k0_off38 (k0_t1 : Fin k0_t1_loop.trips) : Fin 3 → Nat :=
  let c0_438 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1122 : Index := Scalar.indexCast v1119
  let c0_439 : Index := 0#32
  ![0, v1122.toNat, 0]
def k0_off39 (k0_t1 : Fin k0_t1_loop.trips) : Fin 3 → Nat :=
  let c0_440 : Index := 0#32
  let c0_441 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1125 : Index := Scalar.indexCast v1119
  ![0, 0, v1125.toNat]
def k0_mult21 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  v1128
def k0_off40 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 3 → Nat :=
  let c0_443 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1130 : Index := Scalar.indexCast v1129
  let c0_444 : Index := 0#32
  ![0, v1130.toNat, 0]
def k0_mult22 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  v1139
def k0_off41 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) (c0_i32_446 : BitVec 32) : Fin 2 → Nat :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  let v1140 : BitVec 32 := v1139
  let v1141 : Index := Scalar.indexCast v1140
  let c0_450 : Index := 0#32
  ![v1141.toNat, 0]
def k0_off42 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 2 → Nat :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1144 : Index := Scalar.indexCast v1129
  let c0_451 : Index := 0#32
  ![v1144.toNat, 0]
def k0_mult23 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c128_i32_453 : BitVec 32 := 128#32
  let v1150 : BitVec 32 := Scalar.addi v1121 c128_i32_453
  v1150
def k0_mult24 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_459 : BitVec 32 := 2#32
  let c_m2_i32_458 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c1_i32_457 : BitVec 32 := 1#32
  let v1156 : BitVec 32 := Scalar.addi v1080 c1_i32_457
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1157 : BitVec 32 := Scalar.subi v1156 v995
  let v1158 : BitVec 32 := Scalar.maxsi c_m2_i32_458 v1157
  let v1159 : BitVec 32 := Scalar.minsi c2_i32_459 v1158
  let c2_i32_460 : BitVec 32 := 2#32
  let v1160 : BitVec 32 := Scalar.addi v1159 c2_i32_460
  let c128_i32_461 : BitVec 32 := 128#32
  let v1161 : BitVec 32 := Scalar.muli v1160 c128_i32_461
  v1161
def k0_mult25 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c256_i32 : BitVec 32 := 256#32
  let v1172 : BitVec 32 := Scalar.addi v1121 c256_i32
  v1172
def k0_mult26 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_470 : BitVec 32 := 2#32
  let c_m2_i32_469 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c2_i32_468 : BitVec 32 := 2#32
  let v1178 : BitVec 32 := Scalar.addi v1080 c2_i32_468
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1179 : BitVec 32 := Scalar.subi v1178 v995
  let v1180 : BitVec 32 := Scalar.maxsi c_m2_i32_469 v1179
  let v1181 : BitVec 32 := Scalar.minsi c2_i32_470 v1180
  let c2_i32_471 : BitVec 32 := 2#32
  let v1182 : BitVec 32 := Scalar.addi v1181 c2_i32_471
  let c128_i32_472 : BitVec 32 := 128#32
  let v1183 : BitVec 32 := Scalar.muli v1182 c128_i32_472
  v1183
def k0_mult27 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c384_i32 : BitVec 32 := 384#32
  let v1194 : BitVec 32 := Scalar.addi v1121 c384_i32
  v1194
def k0_mult28 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_481 : BitVec 32 := 2#32
  let c_m2_i32_480 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c3_i32_479 : BitVec 32 := 3#32
  let v1200 : BitVec 32 := Scalar.addi v1080 c3_i32_479
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1201 : BitVec 32 := Scalar.subi v1200 v995
  let v1202 : BitVec 32 := Scalar.maxsi c_m2_i32_480 v1201
  let v1203 : BitVec 32 := Scalar.minsi c2_i32_481 v1202
  let c2_i32_482 : BitVec 32 := 2#32
  let v1204 : BitVec 32 := Scalar.addi v1203 c2_i32_482
  let c128_i32_483 : BitVec 32 := 128#32
  let v1205 : BitVec 32 := Scalar.muli v1204 c128_i32_483
  v1205
def k0_off43 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_504 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1287 : Index := Scalar.indexCast v1121
  ![0, v1287.toNat]
def k0_mult29 (k0_t1 : Fin k0_t1_loop.trips) : BitVec 32 :=
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  v1118
def k0_mult30 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  v1120
def k0_cond7 (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : BitVec 1 :=
  let c0_i32_421 : BitVec 32 := 0#32
  let v1013 : BitVec 1 := Scalar.cmpi .sle v1012 v1005
  let v1014 : BitVec 32 := Scalar.extui v1013
  let v1015 : BitVec 32 := Scalar.addi c0_i32_421 v1014
  let v1023 : BitVec 1 := Scalar.cmpi .sle v1022 v1005
  let v1024 : BitVec 32 := Scalar.extui v1023
  let v1025 : BitVec 32 := Scalar.addi v1015 v1024
  let v1033 : BitVec 1 := Scalar.cmpi .sle v1032 v1005
  let v1034 : BitVec 32 := Scalar.extui v1033
  let v1035 : BitVec 32 := Scalar.addi v1025 v1034
  let v1043 : BitVec 1 := Scalar.cmpi .sle v1042 v1005
  let v1044 : BitVec 32 := Scalar.extui v1043
  let v1045 : BitVec 32 := Scalar.addi v1035 v1044
  let v1053 : BitVec 1 := Scalar.cmpi .sle v1052 v1005
  let v1054 : BitVec 32 := Scalar.extui v1053
  let v1055 : BitVec 32 := Scalar.addi v1045 v1054
  let v1063 : BitVec 1 := Scalar.cmpi .sle v1062 v1005
  let v1064 : BitVec 32 := Scalar.extui v1063
  let v1065 : BitVec 32 := Scalar.addi v1055 v1064
  let v1073 : BitVec 1 := Scalar.cmpi .sle v1072 v1005
  let v1074 : BitVec 32 := Scalar.extui v1073
  let v1075 : BitVec 32 := Scalar.addi v1065 v1074
  let v1083 : BitVec 1 := Scalar.cmpi .sle v1082 v1005
  let v1084 : BitVec 32 := Scalar.extui v1083
  let v1085 : BitVec 32 := Scalar.addi v1075 v1084
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1102 : BitVec 32 := Scalar.subi v1085 v1080
  let c5_i32 : BitVec 32 := 5#32
  let v1103 : BitVec 1 := Scalar.cmpi .eq v1102 c5_i32
  let v1104 : BitVec 32 := Scalar.extui v1103
  let c0_i32_431 : BitVec 32 := 0#32
  let v1105 : BitVec 1 := Scalar.cmpi .ne v1104 c0_i32_431
  v1105

def k0_off44 (k0_t1 : Fin k0_t1_loop.trips) : Fin 3 → Nat :=
  let c0_438 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1122 : Index := Scalar.indexCast v1119
  let c0_439 : Index := 0#32
  ![0, v1122.toNat, 0]
def k0_off45 (k0_t1 : Fin k0_t1_loop.trips) : Fin 3 → Nat :=
  let c0_440 : Index := 0#32
  let c0_441 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1125 : Index := Scalar.indexCast v1119
  ![0, 0, v1125.toNat]
def k0_mult31 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  v1128
def k0_off46 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 3 → Nat :=
  let c0_443 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1130 : Index := Scalar.indexCast v1129
  let c0_444 : Index := 0#32
  ![0, v1130.toNat, 0]
def k0_mult32 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  v1139
def k0_off47 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) (c0_i32_446 : BitVec 32) : Fin 2 → Nat :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  let v1140 : BitVec 32 := v1139
  let v1141 : Index := Scalar.indexCast v1140
  let c0_450 : Index := 0#32
  ![v1141.toNat, 0]
def k0_off48 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 2 → Nat :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1144 : Index := Scalar.indexCast v1129
  let c0_451 : Index := 0#32
  ![v1144.toNat, 0]
def k0_mult33 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c128_i32_453 : BitVec 32 := 128#32
  let v1150 : BitVec 32 := Scalar.addi v1121 c128_i32_453
  v1150
def k0_mult34 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_459 : BitVec 32 := 2#32
  let c_m2_i32_458 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c1_i32_457 : BitVec 32 := 1#32
  let v1156 : BitVec 32 := Scalar.addi v1080 c1_i32_457
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1157 : BitVec 32 := Scalar.subi v1156 v995
  let v1158 : BitVec 32 := Scalar.maxsi c_m2_i32_458 v1157
  let v1159 : BitVec 32 := Scalar.minsi c2_i32_459 v1158
  let c2_i32_460 : BitVec 32 := 2#32
  let v1160 : BitVec 32 := Scalar.addi v1159 c2_i32_460
  let c128_i32_461 : BitVec 32 := 128#32
  let v1161 : BitVec 32 := Scalar.muli v1160 c128_i32_461
  v1161
def k0_mult35 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c256_i32 : BitVec 32 := 256#32
  let v1172 : BitVec 32 := Scalar.addi v1121 c256_i32
  v1172
def k0_mult36 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_470 : BitVec 32 := 2#32
  let c_m2_i32_469 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c2_i32_468 : BitVec 32 := 2#32
  let v1178 : BitVec 32 := Scalar.addi v1080 c2_i32_468
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1179 : BitVec 32 := Scalar.subi v1178 v995
  let v1180 : BitVec 32 := Scalar.maxsi c_m2_i32_469 v1179
  let v1181 : BitVec 32 := Scalar.minsi c2_i32_470 v1180
  let c2_i32_471 : BitVec 32 := 2#32
  let v1182 : BitVec 32 := Scalar.addi v1181 c2_i32_471
  let c128_i32_472 : BitVec 32 := 128#32
  let v1183 : BitVec 32 := Scalar.muli v1182 c128_i32_472
  v1183
def k0_mult37 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c384_i32 : BitVec 32 := 384#32
  let v1194 : BitVec 32 := Scalar.addi v1121 c384_i32
  v1194
def k0_mult38 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_481 : BitVec 32 := 2#32
  let c_m2_i32_480 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c3_i32_479 : BitVec 32 := 3#32
  let v1200 : BitVec 32 := Scalar.addi v1080 c3_i32_479
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1201 : BitVec 32 := Scalar.subi v1200 v995
  let v1202 : BitVec 32 := Scalar.maxsi c_m2_i32_480 v1201
  let v1203 : BitVec 32 := Scalar.minsi c2_i32_481 v1202
  let c2_i32_482 : BitVec 32 := 2#32
  let v1204 : BitVec 32 := Scalar.addi v1203 c2_i32_482
  let c128_i32_483 : BitVec 32 := 128#32
  let v1205 : BitVec 32 := Scalar.muli v1204 c128_i32_483
  v1205
def k0_mult39 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c512_i32 : BitVec 32 := 512#32
  let v1216 : BitVec 32 := Scalar.addi v1121 c512_i32
  v1216
def k0_mult40 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_492 : BitVec 32 := 2#32
  let c_m2_i32_491 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c4_i32_490 : BitVec 32 := 4#32
  let v1222 : BitVec 32 := Scalar.addi v1080 c4_i32_490
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1223 : BitVec 32 := Scalar.subi v1222 v995
  let v1224 : BitVec 32 := Scalar.maxsi c_m2_i32_491 v1223
  let v1225 : BitVec 32 := Scalar.minsi c2_i32_492 v1224
  let c2_i32_493 : BitVec 32 := 2#32
  let v1226 : BitVec 32 := Scalar.addi v1225 c2_i32_493
  let c128_i32_494 : BitVec 32 := 128#32
  let v1227 : BitVec 32 := Scalar.muli v1226 c128_i32_494
  v1227
def k0_off49 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_515 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1309 : Index := Scalar.indexCast v1121
  ![0, v1309.toNat]
def k0_mult41 (k0_t1 : Fin k0_t1_loop.trips) : BitVec 32 :=
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  v1118
def k0_mult42 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  v1120
def k0_cond8 (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : BitVec 1 :=
  let c0_i32_421 : BitVec 32 := 0#32
  let v1013 : BitVec 1 := Scalar.cmpi .sle v1012 v1005
  let v1014 : BitVec 32 := Scalar.extui v1013
  let v1015 : BitVec 32 := Scalar.addi c0_i32_421 v1014
  let v1023 : BitVec 1 := Scalar.cmpi .sle v1022 v1005
  let v1024 : BitVec 32 := Scalar.extui v1023
  let v1025 : BitVec 32 := Scalar.addi v1015 v1024
  let v1033 : BitVec 1 := Scalar.cmpi .sle v1032 v1005
  let v1034 : BitVec 32 := Scalar.extui v1033
  let v1035 : BitVec 32 := Scalar.addi v1025 v1034
  let v1043 : BitVec 1 := Scalar.cmpi .sle v1042 v1005
  let v1044 : BitVec 32 := Scalar.extui v1043
  let v1045 : BitVec 32 := Scalar.addi v1035 v1044
  let v1053 : BitVec 1 := Scalar.cmpi .sle v1052 v1005
  let v1054 : BitVec 32 := Scalar.extui v1053
  let v1055 : BitVec 32 := Scalar.addi v1045 v1054
  let v1063 : BitVec 1 := Scalar.cmpi .sle v1062 v1005
  let v1064 : BitVec 32 := Scalar.extui v1063
  let v1065 : BitVec 32 := Scalar.addi v1055 v1064
  let v1073 : BitVec 1 := Scalar.cmpi .sle v1072 v1005
  let v1074 : BitVec 32 := Scalar.extui v1073
  let v1075 : BitVec 32 := Scalar.addi v1065 v1074
  let v1083 : BitVec 1 := Scalar.cmpi .sle v1082 v1005
  let v1084 : BitVec 32 := Scalar.extui v1083
  let v1085 : BitVec 32 := Scalar.addi v1075 v1084
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1106 : BitVec 32 := Scalar.subi v1085 v1080
  let c6_i32 : BitVec 32 := 6#32
  let v1107 : BitVec 1 := Scalar.cmpi .eq v1106 c6_i32
  let v1108 : BitVec 32 := Scalar.extui v1107
  let c0_i32_432 : BitVec 32 := 0#32
  let v1109 : BitVec 1 := Scalar.cmpi .ne v1108 c0_i32_432
  v1109

def k0_off50 (k0_t1 : Fin k0_t1_loop.trips) : Fin 3 → Nat :=
  let c0_438 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1122 : Index := Scalar.indexCast v1119
  let c0_439 : Index := 0#32
  ![0, v1122.toNat, 0]
def k0_off51 (k0_t1 : Fin k0_t1_loop.trips) : Fin 3 → Nat :=
  let c0_440 : Index := 0#32
  let c0_441 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1125 : Index := Scalar.indexCast v1119
  ![0, 0, v1125.toNat]
def k0_mult43 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  v1128
def k0_off52 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 3 → Nat :=
  let c0_443 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1130 : Index := Scalar.indexCast v1129
  let c0_444 : Index := 0#32
  ![0, v1130.toNat, 0]
def k0_mult44 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  v1139
def k0_off53 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) (c0_i32_446 : BitVec 32) : Fin 2 → Nat :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  let v1140 : BitVec 32 := v1139
  let v1141 : Index := Scalar.indexCast v1140
  let c0_450 : Index := 0#32
  ![v1141.toNat, 0]
def k0_off54 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 2 → Nat :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1144 : Index := Scalar.indexCast v1129
  let c0_451 : Index := 0#32
  ![v1144.toNat, 0]
def k0_mult45 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c128_i32_453 : BitVec 32 := 128#32
  let v1150 : BitVec 32 := Scalar.addi v1121 c128_i32_453
  v1150
def k0_mult46 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_459 : BitVec 32 := 2#32
  let c_m2_i32_458 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c1_i32_457 : BitVec 32 := 1#32
  let v1156 : BitVec 32 := Scalar.addi v1080 c1_i32_457
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1157 : BitVec 32 := Scalar.subi v1156 v995
  let v1158 : BitVec 32 := Scalar.maxsi c_m2_i32_458 v1157
  let v1159 : BitVec 32 := Scalar.minsi c2_i32_459 v1158
  let c2_i32_460 : BitVec 32 := 2#32
  let v1160 : BitVec 32 := Scalar.addi v1159 c2_i32_460
  let c128_i32_461 : BitVec 32 := 128#32
  let v1161 : BitVec 32 := Scalar.muli v1160 c128_i32_461
  v1161
def k0_mult47 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c256_i32 : BitVec 32 := 256#32
  let v1172 : BitVec 32 := Scalar.addi v1121 c256_i32
  v1172
def k0_mult48 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_470 : BitVec 32 := 2#32
  let c_m2_i32_469 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c2_i32_468 : BitVec 32 := 2#32
  let v1178 : BitVec 32 := Scalar.addi v1080 c2_i32_468
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1179 : BitVec 32 := Scalar.subi v1178 v995
  let v1180 : BitVec 32 := Scalar.maxsi c_m2_i32_469 v1179
  let v1181 : BitVec 32 := Scalar.minsi c2_i32_470 v1180
  let c2_i32_471 : BitVec 32 := 2#32
  let v1182 : BitVec 32 := Scalar.addi v1181 c2_i32_471
  let c128_i32_472 : BitVec 32 := 128#32
  let v1183 : BitVec 32 := Scalar.muli v1182 c128_i32_472
  v1183
def k0_mult49 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c384_i32 : BitVec 32 := 384#32
  let v1194 : BitVec 32 := Scalar.addi v1121 c384_i32
  v1194
def k0_mult50 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_481 : BitVec 32 := 2#32
  let c_m2_i32_480 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c3_i32_479 : BitVec 32 := 3#32
  let v1200 : BitVec 32 := Scalar.addi v1080 c3_i32_479
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1201 : BitVec 32 := Scalar.subi v1200 v995
  let v1202 : BitVec 32 := Scalar.maxsi c_m2_i32_480 v1201
  let v1203 : BitVec 32 := Scalar.minsi c2_i32_481 v1202
  let c2_i32_482 : BitVec 32 := 2#32
  let v1204 : BitVec 32 := Scalar.addi v1203 c2_i32_482
  let c128_i32_483 : BitVec 32 := 128#32
  let v1205 : BitVec 32 := Scalar.muli v1204 c128_i32_483
  v1205
def k0_mult51 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c512_i32 : BitVec 32 := 512#32
  let v1216 : BitVec 32 := Scalar.addi v1121 c512_i32
  v1216
def k0_mult52 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_492 : BitVec 32 := 2#32
  let c_m2_i32_491 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c4_i32_490 : BitVec 32 := 4#32
  let v1222 : BitVec 32 := Scalar.addi v1080 c4_i32_490
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1223 : BitVec 32 := Scalar.subi v1222 v995
  let v1224 : BitVec 32 := Scalar.maxsi c_m2_i32_491 v1223
  let v1225 : BitVec 32 := Scalar.minsi c2_i32_492 v1224
  let c2_i32_493 : BitVec 32 := 2#32
  let v1226 : BitVec 32 := Scalar.addi v1225 c2_i32_493
  let c128_i32_494 : BitVec 32 := 128#32
  let v1227 : BitVec 32 := Scalar.muli v1226 c128_i32_494
  v1227
def k0_mult53 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c640_i32 : BitVec 32 := 640#32
  let v1238 : BitVec 32 := Scalar.addi v1121 c640_i32
  v1238
def k0_mult54 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_503 : BitVec 32 := 2#32
  let c_m2_i32_502 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c5_i32_501 : BitVec 32 := 5#32
  let v1244 : BitVec 32 := Scalar.addi v1080 c5_i32_501
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1245 : BitVec 32 := Scalar.subi v1244 v995
  let v1246 : BitVec 32 := Scalar.maxsi c_m2_i32_502 v1245
  let v1247 : BitVec 32 := Scalar.minsi c2_i32_503 v1246
  let c2_i32_504 : BitVec 32 := 2#32
  let v1248 : BitVec 32 := Scalar.addi v1247 c2_i32_504
  let c128_i32_505 : BitVec 32 := 128#32
  let v1249 : BitVec 32 := Scalar.muli v1248 c128_i32_505
  v1249
def k0_off55 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_526 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1331 : Index := Scalar.indexCast v1121
  ![0, v1331.toNat]
def k0_mult55 (k0_t1 : Fin k0_t1_loop.trips) : BitVec 32 :=
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  v1118
def k0_mult56 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  v1120
def k0_cond9 (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : BitVec 1 :=
  let c0_i32_421 : BitVec 32 := 0#32
  let v1013 : BitVec 1 := Scalar.cmpi .sle v1012 v1005
  let v1014 : BitVec 32 := Scalar.extui v1013
  let v1015 : BitVec 32 := Scalar.addi c0_i32_421 v1014
  let v1023 : BitVec 1 := Scalar.cmpi .sle v1022 v1005
  let v1024 : BitVec 32 := Scalar.extui v1023
  let v1025 : BitVec 32 := Scalar.addi v1015 v1024
  let v1033 : BitVec 1 := Scalar.cmpi .sle v1032 v1005
  let v1034 : BitVec 32 := Scalar.extui v1033
  let v1035 : BitVec 32 := Scalar.addi v1025 v1034
  let v1043 : BitVec 1 := Scalar.cmpi .sle v1042 v1005
  let v1044 : BitVec 32 := Scalar.extui v1043
  let v1045 : BitVec 32 := Scalar.addi v1035 v1044
  let v1053 : BitVec 1 := Scalar.cmpi .sle v1052 v1005
  let v1054 : BitVec 32 := Scalar.extui v1053
  let v1055 : BitVec 32 := Scalar.addi v1045 v1054
  let v1063 : BitVec 1 := Scalar.cmpi .sle v1062 v1005
  let v1064 : BitVec 32 := Scalar.extui v1063
  let v1065 : BitVec 32 := Scalar.addi v1055 v1064
  let v1073 : BitVec 1 := Scalar.cmpi .sle v1072 v1005
  let v1074 : BitVec 32 := Scalar.extui v1073
  let v1075 : BitVec 32 := Scalar.addi v1065 v1074
  let v1083 : BitVec 1 := Scalar.cmpi .sle v1082 v1005
  let v1084 : BitVec 32 := Scalar.extui v1083
  let v1085 : BitVec 32 := Scalar.addi v1075 v1084
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1110 : BitVec 32 := Scalar.subi v1085 v1080
  let c7_i32 : BitVec 32 := 7#32
  let v1111 : BitVec 1 := Scalar.cmpi .eq v1110 c7_i32
  let v1112 : BitVec 32 := Scalar.extui v1111
  let c0_i32_433 : BitVec 32 := 0#32
  let v1113 : BitVec 1 := Scalar.cmpi .ne v1112 c0_i32_433
  v1113

def k0_off56 (k0_t1 : Fin k0_t1_loop.trips) : Fin 3 → Nat :=
  let c0_438 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1122 : Index := Scalar.indexCast v1119
  let c0_439 : Index := 0#32
  ![0, v1122.toNat, 0]
def k0_off57 (k0_t1 : Fin k0_t1_loop.trips) : Fin 3 → Nat :=
  let c0_440 : Index := 0#32
  let c0_441 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1125 : Index := Scalar.indexCast v1119
  ![0, 0, v1125.toNat]
def k0_mult57 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  v1128
def k0_off58 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 3 → Nat :=
  let c0_443 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1130 : Index := Scalar.indexCast v1129
  let c0_444 : Index := 0#32
  ![0, v1130.toNat, 0]
def k0_mult58 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  v1139
def k0_off59 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) (c0_i32_446 : BitVec 32) : Fin 2 → Nat :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  let v1140 : BitVec 32 := v1139
  let v1141 : Index := Scalar.indexCast v1140
  let c0_450 : Index := 0#32
  ![v1141.toNat, 0]
def k0_off60 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 2 → Nat :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1144 : Index := Scalar.indexCast v1129
  let c0_451 : Index := 0#32
  ![v1144.toNat, 0]
def k0_mult59 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c128_i32_453 : BitVec 32 := 128#32
  let v1150 : BitVec 32 := Scalar.addi v1121 c128_i32_453
  v1150
def k0_mult60 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_459 : BitVec 32 := 2#32
  let c_m2_i32_458 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c1_i32_457 : BitVec 32 := 1#32
  let v1156 : BitVec 32 := Scalar.addi v1080 c1_i32_457
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1157 : BitVec 32 := Scalar.subi v1156 v995
  let v1158 : BitVec 32 := Scalar.maxsi c_m2_i32_458 v1157
  let v1159 : BitVec 32 := Scalar.minsi c2_i32_459 v1158
  let c2_i32_460 : BitVec 32 := 2#32
  let v1160 : BitVec 32 := Scalar.addi v1159 c2_i32_460
  let c128_i32_461 : BitVec 32 := 128#32
  let v1161 : BitVec 32 := Scalar.muli v1160 c128_i32_461
  v1161
def k0_mult61 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c256_i32 : BitVec 32 := 256#32
  let v1172 : BitVec 32 := Scalar.addi v1121 c256_i32
  v1172
def k0_mult62 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_470 : BitVec 32 := 2#32
  let c_m2_i32_469 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c2_i32_468 : BitVec 32 := 2#32
  let v1178 : BitVec 32 := Scalar.addi v1080 c2_i32_468
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1179 : BitVec 32 := Scalar.subi v1178 v995
  let v1180 : BitVec 32 := Scalar.maxsi c_m2_i32_469 v1179
  let v1181 : BitVec 32 := Scalar.minsi c2_i32_470 v1180
  let c2_i32_471 : BitVec 32 := 2#32
  let v1182 : BitVec 32 := Scalar.addi v1181 c2_i32_471
  let c128_i32_472 : BitVec 32 := 128#32
  let v1183 : BitVec 32 := Scalar.muli v1182 c128_i32_472
  v1183
def k0_mult63 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c384_i32 : BitVec 32 := 384#32
  let v1194 : BitVec 32 := Scalar.addi v1121 c384_i32
  v1194
def k0_mult64 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_481 : BitVec 32 := 2#32
  let c_m2_i32_480 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c3_i32_479 : BitVec 32 := 3#32
  let v1200 : BitVec 32 := Scalar.addi v1080 c3_i32_479
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1201 : BitVec 32 := Scalar.subi v1200 v995
  let v1202 : BitVec 32 := Scalar.maxsi c_m2_i32_480 v1201
  let v1203 : BitVec 32 := Scalar.minsi c2_i32_481 v1202
  let c2_i32_482 : BitVec 32 := 2#32
  let v1204 : BitVec 32 := Scalar.addi v1203 c2_i32_482
  let c128_i32_483 : BitVec 32 := 128#32
  let v1205 : BitVec 32 := Scalar.muli v1204 c128_i32_483
  v1205
def k0_mult65 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c512_i32 : BitVec 32 := 512#32
  let v1216 : BitVec 32 := Scalar.addi v1121 c512_i32
  v1216
def k0_mult66 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_492 : BitVec 32 := 2#32
  let c_m2_i32_491 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c4_i32_490 : BitVec 32 := 4#32
  let v1222 : BitVec 32 := Scalar.addi v1080 c4_i32_490
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1223 : BitVec 32 := Scalar.subi v1222 v995
  let v1224 : BitVec 32 := Scalar.maxsi c_m2_i32_491 v1223
  let v1225 : BitVec 32 := Scalar.minsi c2_i32_492 v1224
  let c2_i32_493 : BitVec 32 := 2#32
  let v1226 : BitVec 32 := Scalar.addi v1225 c2_i32_493
  let c128_i32_494 : BitVec 32 := 128#32
  let v1227 : BitVec 32 := Scalar.muli v1226 c128_i32_494
  v1227
def k0_mult67 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c640_i32 : BitVec 32 := 640#32
  let v1238 : BitVec 32 := Scalar.addi v1121 c640_i32
  v1238
def k0_mult68 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_503 : BitVec 32 := 2#32
  let c_m2_i32_502 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c5_i32_501 : BitVec 32 := 5#32
  let v1244 : BitVec 32 := Scalar.addi v1080 c5_i32_501
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1245 : BitVec 32 := Scalar.subi v1244 v995
  let v1246 : BitVec 32 := Scalar.maxsi c_m2_i32_502 v1245
  let v1247 : BitVec 32 := Scalar.minsi c2_i32_503 v1246
  let c2_i32_504 : BitVec 32 := 2#32
  let v1248 : BitVec 32 := Scalar.addi v1247 c2_i32_504
  let c128_i32_505 : BitVec 32 := 128#32
  let v1249 : BitVec 32 := Scalar.muli v1248 c128_i32_505
  v1249
def k0_mult69 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c768_i32 : BitVec 32 := 768#32
  let v1260 : BitVec 32 := Scalar.addi v1121 c768_i32
  v1260
def k0_mult70 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_514 : BitVec 32 := 2#32
  let c_m2_i32_513 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c6_i32_512 : BitVec 32 := 6#32
  let v1266 : BitVec 32 := Scalar.addi v1080 c6_i32_512
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1267 : BitVec 32 := Scalar.subi v1266 v995
  let v1268 : BitVec 32 := Scalar.maxsi c_m2_i32_513 v1267
  let v1269 : BitVec 32 := Scalar.minsi c2_i32_514 v1268
  let c2_i32_515 : BitVec 32 := 2#32
  let v1270 : BitVec 32 := Scalar.addi v1269 c2_i32_515
  let c128_i32_516 : BitVec 32 := 128#32
  let v1271 : BitVec 32 := Scalar.muli v1270 c128_i32_516
  v1271
def k0_off61 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_537 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1353 : Index := Scalar.indexCast v1121
  ![0, v1353.toNat]
def k0_mult71 (k0_t1 : Fin k0_t1_loop.trips) : BitVec 32 :=
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  v1118
def k0_mult72 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  v1120
def k0_cond10 (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : BitVec 1 :=
  let c0_i32_421 : BitVec 32 := 0#32
  let v1013 : BitVec 1 := Scalar.cmpi .sle v1012 v1005
  let v1014 : BitVec 32 := Scalar.extui v1013
  let v1015 : BitVec 32 := Scalar.addi c0_i32_421 v1014
  let v1023 : BitVec 1 := Scalar.cmpi .sle v1022 v1005
  let v1024 : BitVec 32 := Scalar.extui v1023
  let v1025 : BitVec 32 := Scalar.addi v1015 v1024
  let v1033 : BitVec 1 := Scalar.cmpi .sle v1032 v1005
  let v1034 : BitVec 32 := Scalar.extui v1033
  let v1035 : BitVec 32 := Scalar.addi v1025 v1034
  let v1043 : BitVec 1 := Scalar.cmpi .sle v1042 v1005
  let v1044 : BitVec 32 := Scalar.extui v1043
  let v1045 : BitVec 32 := Scalar.addi v1035 v1044
  let v1053 : BitVec 1 := Scalar.cmpi .sle v1052 v1005
  let v1054 : BitVec 32 := Scalar.extui v1053
  let v1055 : BitVec 32 := Scalar.addi v1045 v1054
  let v1063 : BitVec 1 := Scalar.cmpi .sle v1062 v1005
  let v1064 : BitVec 32 := Scalar.extui v1063
  let v1065 : BitVec 32 := Scalar.addi v1055 v1064
  let v1073 : BitVec 1 := Scalar.cmpi .sle v1072 v1005
  let v1074 : BitVec 32 := Scalar.extui v1073
  let v1075 : BitVec 32 := Scalar.addi v1065 v1074
  let v1083 : BitVec 1 := Scalar.cmpi .sle v1082 v1005
  let v1084 : BitVec 32 := Scalar.extui v1083
  let v1085 : BitVec 32 := Scalar.addi v1075 v1084
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1114 : BitVec 32 := Scalar.subi v1085 v1080
  let c8_i32_434 : BitVec 32 := 8#32
  let v1115 : BitVec 1 := Scalar.cmpi .eq v1114 c8_i32_434
  let v1116 : BitVec 32 := Scalar.extui v1115
  let c0_i32_435 : BitVec 32 := 0#32
  let v1117 : BitVec 1 := Scalar.cmpi .ne v1116 c0_i32_435
  v1117

def k0_off62 (k0_t1 : Fin k0_t1_loop.trips) : Fin 3 → Nat :=
  let c0_438 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1122 : Index := Scalar.indexCast v1119
  let c0_439 : Index := 0#32
  ![0, v1122.toNat, 0]
def k0_off63 (k0_t1 : Fin k0_t1_loop.trips) : Fin 3 → Nat :=
  let c0_440 : Index := 0#32
  let c0_441 : Index := 0#32
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let c128_i32_436 : BitVec 32 := 128#32
  let v1118 : BitVec 32 := Scalar.muli v995 c128_i32_436
  let v1119 : BitVec 32 := v1118
  let v1125 : Index := Scalar.indexCast v1119
  ![0, 0, v1125.toNat]
def k0_mult73 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c0_i32_442 : BitVec 32 := 0#32
  let v1128 : BitVec 32 := Scalar.addi v1121 c0_i32_442
  v1128
def k0_off64 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 3 → Nat :=
  let c0_443 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1130 : Index := Scalar.indexCast v1129
  let c0_444 : Index := 0#32
  ![0, v1130.toNat, 0]
def k0_mult74 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c0_i32_446 : BitVec 32 := 0#32
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  v1139
def k0_off65 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) (c0_i32_446 : BitVec 32) : Fin 2 → Nat :=
  let c2_i32_447 : BitVec 32 := 2#32
  let c_m2_i32 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let v1134 : BitVec 32 := Scalar.addi v1080 c0_i32_446
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1135 : BitVec 32 := Scalar.subi v1134 v995
  let v1136 : BitVec 32 := Scalar.maxsi c_m2_i32 v1135
  let v1137 : BitVec 32 := Scalar.minsi c2_i32_447 v1136
  let c2_i32_448 : BitVec 32 := 2#32
  let v1138 : BitVec 32 := Scalar.addi v1137 c2_i32_448
  let c128_i32_449 : BitVec 32 := 128#32
  let v1139 : BitVec 32 := Scalar.muli v1138 c128_i32_449
  let v1140 : BitVec 32 := v1139
  let v1141 : Index := Scalar.indexCast v1140
  let c0_450 : Index := 0#32
  ![v1141.toNat, 0]
def k0_off66 (v999 : BitVec 32) (v1007 : BitVec 32) (v1017 : BitVec 32) (v1027 : BitVec 32) (v1037 : BitVec 32) (v1047 : BitVec 32) (v1057 : BitVec 32) (v1067 : BitVec 32) (v1077 : BitVec 32) (c0_i32_442 : BitVec 32) : Fin 2 → Nat :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1128 : BitVec 32 := Scalar.addi v1121 c0_i32_442
  let v1129 : BitVec 32 := v1128
  let v1144 : Index := Scalar.indexCast v1129
  let c0_451 : Index := 0#32
  ![v1144.toNat, 0]
def k0_mult75 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c128_i32_453 : BitVec 32 := 128#32
  let v1150 : BitVec 32 := Scalar.addi v1121 c128_i32_453
  v1150
def k0_mult76 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_459 : BitVec 32 := 2#32
  let c_m2_i32_458 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c1_i32_457 : BitVec 32 := 1#32
  let v1156 : BitVec 32 := Scalar.addi v1080 c1_i32_457
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1157 : BitVec 32 := Scalar.subi v1156 v995
  let v1158 : BitVec 32 := Scalar.maxsi c_m2_i32_458 v1157
  let v1159 : BitVec 32 := Scalar.minsi c2_i32_459 v1158
  let c2_i32_460 : BitVec 32 := 2#32
  let v1160 : BitVec 32 := Scalar.addi v1159 c2_i32_460
  let c128_i32_461 : BitVec 32 := 128#32
  let v1161 : BitVec 32 := Scalar.muli v1160 c128_i32_461
  v1161
def k0_mult77 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c256_i32 : BitVec 32 := 256#32
  let v1172 : BitVec 32 := Scalar.addi v1121 c256_i32
  v1172
def k0_mult78 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_470 : BitVec 32 := 2#32
  let c_m2_i32_469 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c2_i32_468 : BitVec 32 := 2#32
  let v1178 : BitVec 32 := Scalar.addi v1080 c2_i32_468
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1179 : BitVec 32 := Scalar.subi v1178 v995
  let v1180 : BitVec 32 := Scalar.maxsi c_m2_i32_469 v1179
  let v1181 : BitVec 32 := Scalar.minsi c2_i32_470 v1180
  let c2_i32_471 : BitVec 32 := 2#32
  let v1182 : BitVec 32 := Scalar.addi v1181 c2_i32_471
  let c128_i32_472 : BitVec 32 := 128#32
  let v1183 : BitVec 32 := Scalar.muli v1182 c128_i32_472
  v1183
def k0_mult79 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c384_i32 : BitVec 32 := 384#32
  let v1194 : BitVec 32 := Scalar.addi v1121 c384_i32
  v1194
def k0_mult80 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_481 : BitVec 32 := 2#32
  let c_m2_i32_480 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c3_i32_479 : BitVec 32 := 3#32
  let v1200 : BitVec 32 := Scalar.addi v1080 c3_i32_479
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1201 : BitVec 32 := Scalar.subi v1200 v995
  let v1202 : BitVec 32 := Scalar.maxsi c_m2_i32_480 v1201
  let v1203 : BitVec 32 := Scalar.minsi c2_i32_481 v1202
  let c2_i32_482 : BitVec 32 := 2#32
  let v1204 : BitVec 32 := Scalar.addi v1203 c2_i32_482
  let c128_i32_483 : BitVec 32 := 128#32
  let v1205 : BitVec 32 := Scalar.muli v1204 c128_i32_483
  v1205
def k0_mult81 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c512_i32 : BitVec 32 := 512#32
  let v1216 : BitVec 32 := Scalar.addi v1121 c512_i32
  v1216
def k0_mult82 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_492 : BitVec 32 := 2#32
  let c_m2_i32_491 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c4_i32_490 : BitVec 32 := 4#32
  let v1222 : BitVec 32 := Scalar.addi v1080 c4_i32_490
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1223 : BitVec 32 := Scalar.subi v1222 v995
  let v1224 : BitVec 32 := Scalar.maxsi c_m2_i32_491 v1223
  let v1225 : BitVec 32 := Scalar.minsi c2_i32_492 v1224
  let c2_i32_493 : BitVec 32 := 2#32
  let v1226 : BitVec 32 := Scalar.addi v1225 c2_i32_493
  let c128_i32_494 : BitVec 32 := 128#32
  let v1227 : BitVec 32 := Scalar.muli v1226 c128_i32_494
  v1227
def k0_mult83 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c640_i32 : BitVec 32 := 640#32
  let v1238 : BitVec 32 := Scalar.addi v1121 c640_i32
  v1238
def k0_mult84 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_503 : BitVec 32 := 2#32
  let c_m2_i32_502 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c5_i32_501 : BitVec 32 := 5#32
  let v1244 : BitVec 32 := Scalar.addi v1080 c5_i32_501
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1245 : BitVec 32 := Scalar.subi v1244 v995
  let v1246 : BitVec 32 := Scalar.maxsi c_m2_i32_502 v1245
  let v1247 : BitVec 32 := Scalar.minsi c2_i32_503 v1246
  let c2_i32_504 : BitVec 32 := 2#32
  let v1248 : BitVec 32 := Scalar.addi v1247 c2_i32_504
  let c128_i32_505 : BitVec 32 := 128#32
  let v1249 : BitVec 32 := Scalar.muli v1248 c128_i32_505
  v1249
def k0_mult85 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c768_i32 : BitVec 32 := 768#32
  let v1260 : BitVec 32 := Scalar.addi v1121 c768_i32
  v1260
def k0_mult86 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_514 : BitVec 32 := 2#32
  let c_m2_i32_513 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c6_i32_512 : BitVec 32 := 6#32
  let v1266 : BitVec 32 := Scalar.addi v1080 c6_i32_512
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1267 : BitVec 32 := Scalar.subi v1266 v995
  let v1268 : BitVec 32 := Scalar.maxsi c_m2_i32_513 v1267
  let v1269 : BitVec 32 := Scalar.minsi c2_i32_514 v1268
  let c2_i32_515 : BitVec 32 := 2#32
  let v1270 : BitVec 32 := Scalar.addi v1269 c2_i32_515
  let c128_i32_516 : BitVec 32 := 128#32
  let v1271 : BitVec 32 := Scalar.muli v1270 c128_i32_516
  v1271
def k0_mult87 (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let c896_i32 : BitVec 32 := 896#32
  let v1282 : BitVec 32 := Scalar.addi v1121 c896_i32
  v1282
def k0_mult88 (k0_t1 : Fin k0_t1_loop.trips) (v999 : BitVec 32) (v1007 : BitVec 32) (v1017 : BitVec 32) (v1027 : BitVec 32) (v1037 : BitVec 32) (v1047 : BitVec 32) (v1057 : BitVec 32) (v1067 : BitVec 32) (v1077 : BitVec 32) : BitVec 32 :=
  let c2_i32_525 : BitVec 32 := 2#32
  let c_m2_i32_524 : BitVec 32 := 4294967294#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c7_i32_523 : BitVec 32 := 7#32
  let v1288 : BitVec 32 := Scalar.addi v1080 c7_i32_523
  let c0_i32_414 : BitVec 32 := 0#32
  let c0_i32_411 : BitVec 32 := 0#32
  let c1_i32 : BitVec 32 := 1#32
  let arg16 : BitVec 32 := Scf.iv c0_i32_411 c1_i32 k0_t1
  let c1_i32_413 : BitVec 32 := 1#32
  let v994 : BitVec 32 := Scalar.muli arg16 c1_i32_413
  let v995 : BitVec 32 := Scalar.addi c0_i32_414 v994
  let v1289 : BitVec 32 := Scalar.subi v1288 v995
  let v1290 : BitVec 32 := Scalar.maxsi c_m2_i32_524 v1289
  let v1291 : BitVec 32 := Scalar.minsi c2_i32_525 v1290
  let c2_i32_526 : BitVec 32 := 2#32
  let v1292 : BitVec 32 := Scalar.addi v1291 c2_i32_526
  let c128_i32_527 : BitVec 32 := 128#32
  let v1293 : BitVec 32 := Scalar.muli v1292 c128_i32_527
  v1293
def k0_off67 (v999 : BitVec 32) (v1007 : BitVec 32) (v1017 : BitVec 32) (v1027 : BitVec 32) (v1037 : BitVec 32) (v1047 : BitVec 32) (v1057 : BitVec 32) (v1067 : BitVec 32) (v1077 : BitVec 32) : Fin 2 → Nat :=
  let c0_548 : Index := 0#32
  let c0_i32_419 : BitVec 32 := 0#32
  let v1008 : BitVec 1 := Scalar.cmpi .slt v1007 v999
  let v1009 : BitVec 32 := Scalar.extui v1008
  let v1010 : BitVec 32 := Scalar.addi c0_i32_419 v1009
  let v1018 : BitVec 1 := Scalar.cmpi .slt v1017 v999
  let v1019 : BitVec 32 := Scalar.extui v1018
  let v1020 : BitVec 32 := Scalar.addi v1010 v1019
  let v1028 : BitVec 1 := Scalar.cmpi .slt v1027 v999
  let v1029 : BitVec 32 := Scalar.extui v1028
  let v1030 : BitVec 32 := Scalar.addi v1020 v1029
  let v1038 : BitVec 1 := Scalar.cmpi .slt v1037 v999
  let v1039 : BitVec 32 := Scalar.extui v1038
  let v1040 : BitVec 32 := Scalar.addi v1030 v1039
  let v1048 : BitVec 1 := Scalar.cmpi .slt v1047 v999
  let v1049 : BitVec 32 := Scalar.extui v1048
  let v1050 : BitVec 32 := Scalar.addi v1040 v1049
  let v1058 : BitVec 1 := Scalar.cmpi .slt v1057 v999
  let v1059 : BitVec 32 := Scalar.extui v1058
  let v1060 : BitVec 32 := Scalar.addi v1050 v1059
  let v1068 : BitVec 1 := Scalar.cmpi .slt v1067 v999
  let v1069 : BitVec 32 := Scalar.extui v1068
  let v1070 : BitVec 32 := Scalar.addi v1060 v1069
  let v1078 : BitVec 1 := Scalar.cmpi .slt v1077 v999
  let v1079 : BitVec 32 := Scalar.extui v1078
  let v1080 : BitVec 32 := Scalar.addi v1070 v1079
  let c128_i32_437 : BitVec 32 := 128#32
  let v1120 : BitVec 32 := Scalar.muli v1080 c128_i32_437
  let v1121 : BitVec 32 := v1120
  let v1375 : Index := Scalar.indexCast v1121
  ![0, v1375.toNat]

def k0_chk1_0 (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : Prop :=
  (∀ (k0_h3 : k0_cond3 v999 v1005 v1007 v1012 v1017 v1022 v1027 v1032 v1037 v1042 v1047 v1052 v1057 v1062 v1067 v1072 v1077 v1082 = 1#1), 128 ∣ (k0_mult2 v999 v1007 v1017 v1027 v1037 v1047 v1057 v1067 v1077).toNat) ∧
  (∀ (k0_h3 : k0_cond3 v999 v1005 v1007 v1012 v1017 v1022 v1027 v1032 v1037 v1042 v1047 v1052 v1057 v1062 v1067 v1072 v1077 v1082 = 1#1), 128 ∣ (k0_mult3 v999 v1007 v1017 v1027 v1037 v1047 v1057 v1067 v1077).toNat) ∧
  (∀ (k0_h3 : k0_cond3 v999 v1005 v1007 v1012 v1017 v1022 v1027 v1032 v1037 v1042 v1047 v1052 v1057 v1062 v1067 v1072 v1077 v1082 = 1#1), ∀ a, (k0_off22 v999 v1007 v1017 v1027 v1037 v1047 v1057 v1067 v1077) a + S1x128x128.size a ≤ S1x1024x128.size a) ∧
  (∀ (k0_h3 : k0_cond3 v999 v1005 v1007 v1012 v1017 v1022 v1027 v1032 v1037 v1042 v1047 v1052 v1057 v1062 v1067 v1072 v1077 v1082 = 1#1), 128 ∣ (k0_mult4 k0_t1 v999 v1007 v1017 v1027 v1037 v1047 v1057 v1067 v1077).toNat) ∧
  (∀ (k0_h3 : k0_cond3 v999 v1005 v1007 v1012 v1017 v1022 v1027 v1032 v1037 v1042 v1047 v1052 v1057 v1062 v1067 v1072 v1077 v1082 = 1#1), ∀ a, (k0_off23 k0_t1 v999 v1007 v1017 v1027 v1037 v1047 v1057 v1067 v1077) a + S128x128.size a ≤ S640x128.size a) ∧
  (∀ (k0_h3 : k0_cond3 v999 v1005 v1007 v1012 v1017 v1022 v1027 v1032 v1037 v1042 v1047 v1052 v1057 v1062 v1067 v1072 v1077 v1082 = 1#1), ∀ a, (k0_off24 v999 v1007 v1017 v1027 v1037 v1047 v1057 v1067 v1077) a + S128x128.size a ≤ S1024x128.size a) ∧
  (∀ (k0_h3 : k0_cond3 v999 v1005 v1007 v1012 v1017 v1022 v1027 v1032 v1037 v1042 v1047 v1052 v1057 v1062 v1067 v1072 v1077 v1082 = 1#1), ∀ a, (k0_off25 v999 v1007 v1017 v1027 v1037 v1047 v1057 v1067 v1077) a + S128x128.size a ≤ S128x1024.size a) ∧
  (∀ (k0_h4 : k0_cond4 v999 v1005 v1007 v1012 v1017 v1022 v1027 v1032 v1037 v1042 v1047 v1052 v1057 v1062 v1067 v1072 v1077 v1082 = 1#1), 128 ∣ (k0_mult6 v999 v1007 v1017 v1027 v1037 v1047 v1057 v1067 v1077).toNat) ∧
  (∀ (k0_h4 : k0_cond4 v999 v1005 v1007 v1012 v1017 v1022 v1027 v1032 v1037 v1042 v1047 v1052 v1057 v1062 v1067 v1072 v1077 v1082 = 1#1), 128 ∣ (k0_mult7 v999 v1007 v1017 v1027 v1037 v1047 v1057 v1067 v1077).toNat) ∧
  (∀ (k0_h4 : k0_cond4 v999 v1005 v1007 v1012 v1017 v1022 v1027 v1032 v1037 v1042 v1047 v1052 v1057 v1062 v1067 v1072 v1077 v1082 = 1#1), ∀ (r : Fin 2), ∀ a, (k0_off28 v999 v1007 v1017 v1027 v1037 v1047 v1057 v1067 v1077 (BitVec.ofNat 32 (128 * r.val))) a + S1x128x128.size a ≤ S1x1024x128.size a) ∧
  (∀ (k0_h4 : k0_cond4 v999 v1005 v1007 v1012 v1017 v1022 v1027 v1032 v1037 v1042 v1047 v1052 v1057 v1062 v1067 v1072 v1077 v1082 = 1#1), 128 ∣ (k0_mult8 k0_t1 v999 v1007 v1017 v1027 v1037 v1047 v1057 v1067 v1077).toNat) ∧
  (∀ (k0_h4 : k0_cond4 v999 v1005 v1007 v1012 v1017 v1022 v1027 v1032 v1037 v1042 v1047 v1052 v1057 v1062 v1067 v1072 v1077 v1082 = 1#1), ∀ (r : Fin 2), ∀ a, (k0_off29 k0_t1 v999 v1007 v1017 v1027 v1037 v1047 v1057 v1067 v1077 (BitVec.ofNat 32 r.val)) a + S128x128.size a ≤ S640x128.size a) ∧
  (∀ (k0_h4 : k0_cond4 v999 v1005 v1007 v1012 v1017 v1022 v1027 v1032 v1037 v1042 v1047 v1052 v1057 v1062 v1067 v1072 v1077 v1082 = 1#1), ∀ (r : Fin 2), ∀ a, (k0_off30 v999 v1007 v1017 v1027 v1037 v1047 v1057 v1067 v1077 (BitVec.ofNat 32 (128 * r.val))) a + S128x128.size a ≤ S1024x128.size a) ∧
  (∀ (k0_h4 : k0_cond4 v999 v1005 v1007 v1012 v1017 v1022 v1027 v1032 v1037 v1042 v1047 v1052 v1057 v1062 v1067 v1072 v1077 v1082 = 1#1), 128 ∣ (k0_mult9 v999 v1007 v1017 v1027 v1037 v1047 v1057 v1067 v1077).toNat) ∧
  (∀ (k0_h4 : k0_cond4 v999 v1005 v1007 v1012 v1017 v1022 v1027 v1032 v1037 v1042 v1047 v1052 v1057 v1062 v1067 v1072 v1077 v1082 = 1#1), 128 ∣ (k0_mult10 k0_t1 v999 v1007 v1017 v1027 v1037 v1047 v1057 v1067 v1077).toNat) ∧
  (∀ (k0_h4 : k0_cond4 v999 v1005 v1007 v1012 v1017 v1022 v1027 v1032 v1037 v1042 v1047 v1052 v1057 v1062 v1067 v1072 v1077 v1082 = 1#1), ∀ a, (k0_off31 v999 v1007 v1017 v1027 v1037 v1047 v1057 v1067 v1077) a + S128x256.size a ≤ S128x1024.size a) ∧
  (∀ (k0_h5 : k0_cond5 v999 v1005 v1007 v1012 v1017 v1022 v1027 v1032 v1037 v1042 v1047 v1052 v1057 v1062 v1067 v1072 v1077 v1082 = 1#1), 128 ∣ (k0_mult12 v999 v1007 v1017 v1027 v1037 v1047 v1057 v1067 v1077).toNat) ∧
  (∀ (k0_h5 : k0_cond5 v999 v1005 v1007 v1012 v1017 v1022 v1027 v1032 v1037 v1042 v1047 v1052 v1057 v1062 v1067 v1072 v1077 v1082 = 1#1), 128 ∣ (k0_mult13 v999 v1007 v1017 v1027 v1037 v1047 v1057 v1067 v1077).toNat) ∧
  (∀ (k0_h5 : k0_cond5 v999 v1005 v1007 v1012 v1017 v1022 v1027 v1032 v1037 v1042 v1047 v1052 v1057 v1062 v1067 v1072 v1077 v1082 = 1#1), ∀ (r : Fin 3), ∀ a, (k0_off34 v999 v1007 v1017 v1027 v1037 v1047 v1057 v1067 v1077 (BitVec.ofNat 32 (128 * r.val))) a + S1x128x128.size a ≤ S1x1024x128.size a) ∧
  (∀ (k0_h5 : k0_cond5 v999 v1005 v1007 v1012 v1017 v1022 v1027 v1032 v1037 v1042 v1047 v1052 v1057 v1062 v1067 v1072 v1077 v1082 = 1#1), 128 ∣ (k0_mult14 k0_t1 v999 v1007 v1017 v1027 v1037 v1047 v1057 v1067 v1077).toNat) ∧
  (∀ (k0_h5 : k0_cond5 v999 v1005 v1007 v1012 v1017 v1022 v1027 v1032 v1037 v1042 v1047 v1052 v1057 v1062 v1067 v1072 v1077 v1082 = 1#1), ∀ (r : Fin 3), ∀ a, (k0_off35 k0_t1 v999 v1007 v1017 v1027 v1037 v1047 v1057 v1067 v1077 (BitVec.ofNat 32 r.val)) a + S128x128.size a ≤ S640x128.size a) ∧
  (∀ (k0_h5 : k0_cond5 v999 v1005 v1007 v1012 v1017 v1022 v1027 v1032 v1037 v1042 v1047 v1052 v1057 v1062 v1067 v1072 v1077 v1082 = 1#1), ∀ (r : Fin 3), ∀ a, (k0_off36 v999 v1007 v1017 v1027 v1037 v1047 v1057 v1067 v1077 (BitVec.ofNat 32 (128 * r.val))) a + S128x128.size a ≤ S1024x128.size a) ∧
  (∀ (k0_h5 : k0_cond5 v999 v1005 v1007 v1012 v1017 v1022 v1027 v1032 v1037 v1042 v1047 v1052 v1057 v1062 v1067 v1072 v1077 v1082 = 1#1), 128 ∣ (k0_mult15 v999 v1007 v1017 v1027 v1037 v1047 v1057 v1067 v1077).toNat) ∧
  (∀ (k0_h5 : k0_cond5 v999 v1005 v1007 v1012 v1017 v1022 v1027 v1032 v1037 v1042 v1047 v1052 v1057 v1062 v1067 v1072 v1077 v1082 = 1#1), 128 ∣ (k0_mult16 k0_t1 v999 v1007 v1017 v1027 v1037 v1047 v1057 v1067 v1077).toNat) ∧
  (∀ (k0_h5 : k0_cond5 v999 v1005 v1007 v1012 v1017 v1022 v1027 v1032 v1037 v1042 v1047 v1052 v1057 v1062 v1067 v1072 v1077 v1082 = 1#1), 128 ∣ (k0_mult17 v999 v1007 v1017 v1027 v1037 v1047 v1057 v1067 v1077).toNat) ∧
  (∀ (k0_h5 : k0_cond5 v999 v1005 v1007 v1012 v1017 v1022 v1027 v1032 v1037 v1042 v1047 v1052 v1057 v1062 v1067 v1072 v1077 v1082 = 1#1), 128 ∣ (k0_mult18 k0_t1 v999 v1007 v1017 v1027 v1037 v1047 v1057 v1067 v1077).toNat) ∧
  (∀ (k0_h5 : k0_cond5 v999 v1005 v1007 v1012 v1017 v1022 v1027 v1032 v1037 v1042 v1047 v1052 v1057 v1062 v1067 v1072 v1077 v1082 = 1#1), ∀ a, (k0_off37 v999 v1007 v1017 v1027 v1037 v1047 v1057 v1067 v1077) a + S128x384.size a ≤ S128x1024.size a) ∧
  (∀ (k0_h6 : k0_cond6 v999 v1005 v1007 v1012 v1017 v1022 v1027 v1032 v1037 v1042 v1047 v1052 v1057 v1062 v1067 v1072 v1077 v1082 = 1#1), 128 ∣ (k0_mult20 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), 128 ∣ (k0_mult21 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), ∀ (r : Fin 4), ∀ a, (k0_off40 v999 v1007 v1017 v1027 v1037 v1047 v1057 v1067 v1077 (BitVec.ofNat 32 (128 * r.val))) a + S1x128x128.size a ≤ S1x1024x128.size a) ∧
  (∀ (k0_h6 : k0_cond6 v999 v1005 v1007 v1012 v1017 v1022 v1027 v1032 v1037 v1042 v1047 v1052 v1057 v1062 v1067 v1072 v1077 v1082 = 1#1), 128 ∣ (k0_mult22 k0_t1 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), ∀ (r : Fin 4), ∀ a, (k0_off41 k0_t1 v999 v1007 v1017 v1027 v1037 v1047 v1057 v1067 v1077 (BitVec.ofNat 32 r.val)) a + S128x128.size a ≤ S640x128.size a)
def k0_chk1_1 (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : Prop :=
  (∀ (k0_h6 : k0_cond6 v999 v1005 v1007 v1012 v1017 v1022 v1027 v1032 v1037 v1042 v1047 v1052 v1057 v1062 v1067 v1072 v1077 v1082 = 1#1), ∀ (r : Fin 4), ∀ a, (k0_off42 v999 v1007 v1017 v1027 v1037 v1047 v1057 v1067 v1077 (BitVec.ofNat 32 (128 * r.val))) a + S128x128.size a ≤ S1024x128.size a) ∧
  (∀ (k0_h6 : k0_cond6 v999 v1005 v1007 v1012 v1017 v1022 v1027 v1032 v1037 v1042 v1047 v1052 v1057 v1062 v1067 v1072 v1077 v1082 = 1#1), 128 ∣ (k0_mult23 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), 128 ∣ (k0_mult24 k0_t1 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), 128 ∣ (k0_mult25 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), 128 ∣ (k0_mult26 k0_t1 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), 128 ∣ (k0_mult27 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), 128 ∣ (k0_mult28 k0_t1 v999 v1007 v1017 v1027 v1037 v1047 v1057 v1067 v1077).toNat) ∧
  (∀ (k0_h6 : k0_cond6 v999 v1005 v1007 v1012 v1017 v1022 v1027 v1032 v1037 v1042 v1047 v1052 v1057 v1062 v1067 v1072 v1077 v1082 = 1#1), ∀ a, (k0_off43 v999 v1007 v1017 v1027 v1037 v1047 v1057 v1067 v1077) a + S128x512.size a ≤ S128x1024.size a) ∧
  (∀ (k0_h7 : k0_cond7 v999 v1005 v1007 v1012 v1017 v1022 v1027 v1032 v1037 v1042 v1047 v1052 v1057 v1062 v1067 v1072 v1077 v1082 = 1#1), 128 ∣ (k0_mult30 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), 128 ∣ (k0_mult31 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), ∀ (r : Fin 5), ∀ a, (k0_off46 v999 v1007 v1017 v1027 v1037 v1047 v1057 v1067 v1077 (BitVec.ofNat 32 (128 * r.val))) a + S1x128x128.size a ≤ S1x1024x128.size a) ∧
  (∀ (k0_h7 : k0_cond7 v999 v1005 v1007 v1012 v1017 v1022 v1027 v1032 v1037 v1042 v1047 v1052 v1057 v1062 v1067 v1072 v1077 v1082 = 1#1), 128 ∣ (k0_mult32 k0_t1 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), ∀ (r : Fin 5), ∀ a, (k0_off47 k0_t1 v999 v1007 v1017 v1027 v1037 v1047 v1057 v1067 v1077 (BitVec.ofNat 32 r.val)) a + S128x128.size a ≤ S640x128.size a) ∧
  (∀ (k0_h7 : k0_cond7 v999 v1005 v1007 v1012 v1017 v1022 v1027 v1032 v1037 v1042 v1047 v1052 v1057 v1062 v1067 v1072 v1077 v1082 = 1#1), ∀ (r : Fin 5), ∀ a, (k0_off48 v999 v1007 v1017 v1027 v1037 v1047 v1057 v1067 v1077 (BitVec.ofNat 32 (128 * r.val))) a + S128x128.size a ≤ S1024x128.size a) ∧
  (∀ (k0_h7 : k0_cond7 v999 v1005 v1007 v1012 v1017 v1022 v1027 v1032 v1037 v1042 v1047 v1052 v1057 v1062 v1067 v1072 v1077 v1082 = 1#1), 128 ∣ (k0_mult33 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), 128 ∣ (k0_mult34 k0_t1 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), 128 ∣ (k0_mult35 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), 128 ∣ (k0_mult36 k0_t1 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), 128 ∣ (k0_mult37 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), 128 ∣ (k0_mult38 k0_t1 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), 128 ∣ (k0_mult39 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), 128 ∣ (k0_mult40 k0_t1 v999 v1007 v1017 v1027 v1037 v1047 v1057 v1067 v1077).toNat) ∧
  (∀ (k0_h7 : k0_cond7 v999 v1005 v1007 v1012 v1017 v1022 v1027 v1032 v1037 v1042 v1047 v1052 v1057 v1062 v1067 v1072 v1077 v1082 = 1#1), ∀ a, (k0_off49 v999 v1007 v1017 v1027 v1037 v1047 v1057 v1067 v1077) a + S128x640.size a ≤ S128x1024.size a) ∧
  (∀ (k0_h8 : k0_cond8 v999 v1005 v1007 v1012 v1017 v1022 v1027 v1032 v1037 v1042 v1047 v1052 v1057 v1062 v1067 v1072 v1077 v1082 = 1#1), 128 ∣ (k0_mult42 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult43 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), ∀ (r : Fin 6), ∀ a, (k0_off52 v999 v1007 v1017 v1027 v1037 v1047 v1057 v1067 v1077 (BitVec.ofNat 32 (128 * r.val))) a + S1x128x128.size a ≤ S1x1024x128.size a) ∧
  (∀ (k0_h8 : k0_cond8 v999 v1005 v1007 v1012 v1017 v1022 v1027 v1032 v1037 v1042 v1047 v1052 v1057 v1062 v1067 v1072 v1077 v1082 = 1#1), 128 ∣ (k0_mult44 k0_t1 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), ∀ (r : Fin 6), ∀ a, (k0_off53 k0_t1 v999 v1007 v1017 v1027 v1037 v1047 v1057 v1067 v1077 (BitVec.ofNat 32 r.val)) a + S128x128.size a ≤ S640x128.size a) ∧
  (∀ (k0_h8 : k0_cond8 v999 v1005 v1007 v1012 v1017 v1022 v1027 v1032 v1037 v1042 v1047 v1052 v1057 v1062 v1067 v1072 v1077 v1082 = 1#1), ∀ (r : Fin 6), ∀ a, (k0_off54 v999 v1007 v1017 v1027 v1037 v1047 v1057 v1067 v1077 (BitVec.ofNat 32 (128 * r.val))) a + S128x128.size a ≤ S1024x128.size a) ∧
  (∀ (k0_h8 : k0_cond8 v999 v1005 v1007 v1012 v1017 v1022 v1027 v1032 v1037 v1042 v1047 v1052 v1057 v1062 v1067 v1072 v1077 v1082 = 1#1), 128 ∣ (k0_mult45 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult46 k0_t1 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult47 v999 v1007 v1017 v1027 v1037 v1047 v1057 v1067 v1077).toNat)
def k0_chk1_2 (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : Prop :=
  (∀ (k0_h8 : k0_cond8 v999 v1005 v1007 v1012 v1017 v1022 v1027 v1032 v1037 v1042 v1047 v1052 v1057 v1062 v1067 v1072 v1077 v1082 = 1#1), 128 ∣ (k0_mult48 k0_t1 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult49 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult50 k0_t1 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult51 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult52 k0_t1 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult53 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), 128 ∣ (k0_mult54 k0_t1 v999 v1007 v1017 v1027 v1037 v1047 v1057 v1067 v1077).toNat) ∧
  (∀ (k0_h8 : k0_cond8 v999 v1005 v1007 v1012 v1017 v1022 v1027 v1032 v1037 v1042 v1047 v1052 v1057 v1062 v1067 v1072 v1077 v1082 = 1#1), ∀ a, (k0_off55 v999 v1007 v1017 v1027 v1037 v1047 v1057 v1067 v1077) a + S128x768.size a ≤ S128x1024.size a) ∧
  (∀ (k0_h9 : k0_cond9 v999 v1005 v1007 v1012 v1017 v1022 v1027 v1032 v1037 v1042 v1047 v1052 v1057 v1062 v1067 v1072 v1077 v1082 = 1#1), 128 ∣ (k0_mult56 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult57 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), ∀ (r : Fin 7), ∀ a, (k0_off58 v999 v1007 v1017 v1027 v1037 v1047 v1057 v1067 v1077 (BitVec.ofNat 32 (128 * r.val))) a + S1x128x128.size a ≤ S1x1024x128.size a) ∧
  (∀ (k0_h9 : k0_cond9 v999 v1005 v1007 v1012 v1017 v1022 v1027 v1032 v1037 v1042 v1047 v1052 v1057 v1062 v1067 v1072 v1077 v1082 = 1#1), 128 ∣ (k0_mult58 k0_t1 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), ∀ (r : Fin 7), ∀ a, (k0_off59 k0_t1 v999 v1007 v1017 v1027 v1037 v1047 v1057 v1067 v1077 (BitVec.ofNat 32 r.val)) a + S128x128.size a ≤ S640x128.size a) ∧
  (∀ (k0_h9 : k0_cond9 v999 v1005 v1007 v1012 v1017 v1022 v1027 v1032 v1037 v1042 v1047 v1052 v1057 v1062 v1067 v1072 v1077 v1082 = 1#1), ∀ (r : Fin 7), ∀ a, (k0_off60 v999 v1007 v1017 v1027 v1037 v1047 v1057 v1067 v1077 (BitVec.ofNat 32 (128 * r.val))) a + S128x128.size a ≤ S1024x128.size a) ∧
  (∀ (k0_h9 : k0_cond9 v999 v1005 v1007 v1012 v1017 v1022 v1027 v1032 v1037 v1042 v1047 v1052 v1057 v1062 v1067 v1072 v1077 v1082 = 1#1), 128 ∣ (k0_mult59 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult60 k0_t1 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult61 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult62 k0_t1 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult63 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult64 k0_t1 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult65 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult66 k0_t1 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult67 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult68 k0_t1 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult69 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), 128 ∣ (k0_mult70 k0_t1 v999 v1007 v1017 v1027 v1037 v1047 v1057 v1067 v1077).toNat) ∧
  (∀ (k0_h9 : k0_cond9 v999 v1005 v1007 v1012 v1017 v1022 v1027 v1032 v1037 v1042 v1047 v1052 v1057 v1062 v1067 v1072 v1077 v1082 = 1#1), ∀ a, (k0_off61 v999 v1007 v1017 v1027 v1037 v1047 v1057 v1067 v1077) a + S128x896.size a ≤ S128x1024.size a) ∧
  (∀ (k0_h10 : k0_cond10 v999 v1005 v1007 v1012 v1017 v1022 v1027 v1032 v1037 v1042 v1047 v1052 v1057 v1062 v1067 v1072 v1077 v1082 = 1#1), 128 ∣ (k0_mult72 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult73 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), ∀ (r : Fin 8), ∀ a, (k0_off64 v999 v1007 v1017 v1027 v1037 v1047 v1057 v1067 v1077 (BitVec.ofNat 32 (128 * r.val))) a + S1x128x128.size a ≤ S1x1024x128.size a) ∧
  (∀ (k0_h10 : k0_cond10 v999 v1005 v1007 v1012 v1017 v1022 v1027 v1032 v1037 v1042 v1047 v1052 v1057 v1062 v1067 v1072 v1077 v1082 = 1#1), 128 ∣ (k0_mult74 k0_t1 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), ∀ (r : Fin 8), ∀ a, (k0_off65 k0_t1 v999 v1007 v1017 v1027 v1037 v1047 v1057 v1067 v1077 (BitVec.ofNat 32 r.val)) a + S128x128.size a ≤ S640x128.size a)
def k0_chk1_3 (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : Prop :=
  (∀ (k0_h10 : k0_cond10 v999 v1005 v1007 v1012 v1017 v1022 v1027 v1032 v1037 v1042 v1047 v1052 v1057 v1062 v1067 v1072 v1077 v1082 = 1#1), ∀ (r : Fin 8), ∀ a, (k0_off66 v999 v1007 v1017 v1027 v1037 v1047 v1057 v1067 v1077 (BitVec.ofNat 32 (128 * r.val))) a + S128x128.size a ≤ S1024x128.size a) ∧
  (∀ (k0_h10 : k0_cond10 v999 v1005 v1007 v1012 v1017 v1022 v1027 v1032 v1037 v1042 v1047 v1052 v1057 v1062 v1067 v1072 v1077 v1082 = 1#1), 128 ∣ (k0_mult75 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult76 k0_t1 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult77 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult78 k0_t1 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult79 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult80 k0_t1 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult81 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult82 k0_t1 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult83 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult84 k0_t1 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult85 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult86 k0_t1 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult87 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), 128 ∣ (k0_mult88 k0_t1 v999 v1007 v1017 v1027 v1037 v1047 v1057 v1067 v1077).toNat) ∧
  (∀ (k0_h10 : k0_cond10 v999 v1005 v1007 v1012 v1017 v1022 v1027 v1032 v1037 v1042 v1047 v1052 v1057 v1062 v1067 v1072 v1077 v1082 = 1#1), ∀ a, (k0_off67 v999 v1007 v1017 v1027 v1037 v1047 v1057 v1067 v1077) a + S128x1024.size a ≤ S128x1024.size a)
def k0_chk1 (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) : Prop :=
  k0_chk1_0 k0_t1 v999 v1005 v1007 v1012 v1017 v1022 v1027 v1032 v1037 v1042 v1047 v1052 v1057 v1062 v1067 v1072 v1077 v1082 ∧
  k0_chk1_1 k0_t1 v999 v1005 v1007 v1012 v1017 v1022 v1027 v1032 v1037 v1042 v1047 v1052 v1057 v1062 v1067 v1072 v1077 v1082 ∧
  k0_chk1_2 k0_t1 v999 v1005 v1007 v1012 v1017 v1022 v1027 v1032 v1037 v1042 v1047 v1052 v1057 v1062 v1067 v1072 v1077 v1082 ∧
  k0_chk1_3 k0_t1 v999 v1005 v1007 v1012 v1017 v1022 v1027 v1032 v1037 v1042 v1047 v1052 v1057 v1062 v1067 v1072 v1077 v1082
theorem k0_mult2_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h3 : k0_cond3 v999 v1005 v1007 v1012 v1017 v1022 v1027 v1032 v1037 v1042 v1047 v1052 v1057 v1062 v1067 v1072 v1077 v1082 = 1#1), 128 ∣ (k0_mult2 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h3 => k0_hw1.1.1 k0_h3
theorem k0_mult3_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h3 : k0_cond3 v999 v1005 v1007 v1012 v1017 v1022 v1027 v1032 v1037 v1042 v1047 v1052 v1057 v1062 v1067 v1072 v1077 v1082 = 1#1), 128 ∣ (k0_mult3 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h3 => k0_hw1.1.2.1 k0_h3
theorem k0_off22_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h3 : k0_cond3 v999 v1005 v1007 v1012 v1017 v1022 v1027 v1032 v1037 v1042 v1047 v1052 v1057 v1062 v1067 v1072 v1077 v1082 = 1#1), ∀ a, (k0_off22 v999 v1007 v1017 v1027 v1037 v1047 v1057 v1067 v1077) a + S1x128x128.size a ≤ S1x1024x128.size a := fun k0_t1 v999 v1005 v1007 v1012 v1017 v1022 v1027 v1032 v1037 v1042 v1047 v1052 v1057 v1062 v1067 v1072 v1077 v1082 k0_hw1 k0_h3 => k0_hw1.1.2.2.1 k0_h3
theorem k0_mult4_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h3 : k0_cond3 v999 v1005 v1007 v1012 v1017 v1022 v1027 v1032 v1037 v1042 v1047 v1052 v1057 v1062 v1067 v1072 v1077 v1082 = 1#1), 128 ∣ (k0_mult4 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h3 => k0_hw1.1.2.2.2.1 k0_h3
theorem k0_off23_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h3 : k0_cond3 v999 v1005 v1007 v1012 v1017 v1022 v1027 v1032 v1037 v1042 v1047 v1052 v1057 v1062 v1067 v1072 v1077 v1082 = 1#1), ∀ a, (k0_off23 k0_t1 v999 v1007 v1017 v1027 v1037 v1047 v1057 v1067 v1077) a + S128x128.size a ≤ S640x128.size a := fun k0_t1 v999 v1005 v1007 v1012 v1017 v1022 v1027 v1032 v1037 v1042 v1047 v1052 v1057 v1062 v1067 v1072 v1077 v1082 k0_hw1 k0_h3 => k0_hw1.1.2.2.2.2.1 k0_h3
theorem k0_off24_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h3 : k0_cond3 v999 v1005 v1007 v1012 v1017 v1022 v1027 v1032 v1037 v1042 v1047 v1052 v1057 v1062 v1067 v1072 v1077 v1082 = 1#1), ∀ a, (k0_off24 v999 v1007 v1017 v1027 v1037 v1047 v1057 v1067 v1077) a + S128x128.size a ≤ S1024x128.size a := fun k0_t1 v999 v1005 v1007 v1012 v1017 v1022 v1027 v1032 v1037 v1042 v1047 v1052 v1057 v1062 v1067 v1072 v1077 v1082 k0_hw1 k0_h3 => k0_hw1.1.2.2.2.2.2.1 k0_h3
theorem k0_off25_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h3 : k0_cond3 v999 v1005 v1007 v1012 v1017 v1022 v1027 v1032 v1037 v1042 v1047 v1052 v1057 v1062 v1067 v1072 v1077 v1082 = 1#1), ∀ a, (k0_off25 v999 v1007 v1017 v1027 v1037 v1047 v1057 v1067 v1077) a + S128x128.size a ≤ S128x1024.size a := fun k0_t1 v999 v1005 v1007 v1012 v1017 v1022 v1027 v1032 v1037 v1042 v1047 v1052 v1057 v1062 v1067 v1072 v1077 v1082 k0_hw1 k0_h3 => k0_hw1.1.2.2.2.2.2.2.1 k0_h3
theorem k0_mult6_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), 128 ∣ (k0_mult6 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h4 => k0_hw1.1.2.2.2.2.2.2.2.1 k0_h4
theorem k0_mult7_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), 128 ∣ (k0_mult7 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h4 => k0_hw1.1.2.2.2.2.2.2.2.2.1 k0_h4
theorem k0_off28_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), ∀ (r : Fin 2), ∀ a, (k0_off28 v999 v1007 v1017 v1027 v1037 v1047 v1057 v1067 v1077 (BitVec.ofNat 32 (128 * r.val))) a + S1x128x128.size a ≤ S1x1024x128.size a := fun k0_t1 v999 v1005 v1007 v1012 v1017 v1022 v1027 v1032 v1037 v1042 v1047 v1052 v1057 v1062 v1067 v1072 v1077 v1082 k0_hw1 k0_h4 r => k0_hw1.1.2.2.2.2.2.2.2.2.2.1 k0_h4 r
theorem k0_mult8_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), 128 ∣ (k0_mult8 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h4 => k0_hw1.1.2.2.2.2.2.2.2.2.2.2.1 k0_h4
theorem k0_off29_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), ∀ (r : Fin 2), ∀ a, (k0_off29 k0_t1 v999 v1007 v1017 v1027 v1037 v1047 v1057 v1067 v1077 (BitVec.ofNat 32 r.val)) a + S128x128.size a ≤ S640x128.size a := fun k0_t1 v999 v1005 v1007 v1012 v1017 v1022 v1027 v1032 v1037 v1042 v1047 v1052 v1057 v1062 v1067 v1072 v1077 v1082 k0_hw1 k0_h4 r => k0_hw1.1.2.2.2.2.2.2.2.2.2.2.2.1 k0_h4 r
theorem k0_off30_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), ∀ (r : Fin 2), ∀ a, (k0_off30 v999 v1007 v1017 v1027 v1037 v1047 v1057 v1067 v1077 (BitVec.ofNat 32 (128 * r.val))) a + S128x128.size a ≤ S1024x128.size a := fun k0_t1 v999 v1005 v1007 v1012 v1017 v1022 v1027 v1032 v1037 v1042 v1047 v1052 v1057 v1062 v1067 v1072 v1077 v1082 k0_hw1 k0_h4 r => k0_hw1.1.2.2.2.2.2.2.2.2.2.2.2.2.1 k0_h4 r
theorem k0_mult9_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), 128 ∣ (k0_mult9 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h4 => k0_hw1.1.2.2.2.2.2.2.2.2.2.2.2.2.2.1 k0_h4
theorem k0_mult10_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), 128 ∣ (k0_mult10 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h4 => k0_hw1.1.2.2.2.2.2.2.2.2.2.2.2.2.2.2.1 k0_h4
theorem k0_off31_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h4 : k0_cond4 v999 v1005 v1007 v1012 v1017 v1022 v1027 v1032 v1037 v1042 v1047 v1052 v1057 v1062 v1067 v1072 v1077 v1082 = 1#1), ∀ a, (k0_off31 v999 v1007 v1017 v1027 v1037 v1047 v1057 v1067 v1077) a + S128x256.size a ≤ S128x1024.size a := fun k0_t1 v999 v1005 v1007 v1012 v1017 v1022 v1027 v1032 v1037 v1042 v1047 v1052 v1057 v1062 v1067 v1072 v1077 v1082 k0_hw1 k0_h4 => k0_hw1.1.2.2.2.2.2.2.2.2.2.2.2.2.2.2.2.1 k0_h4
theorem k0_mult12_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), 128 ∣ (k0_mult12 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h5 => k0_hw1.1.2.2.2.2.2.2.2.2.2.2.2.2.2.2.2.2.1 k0_h5
theorem k0_mult13_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), 128 ∣ (k0_mult13 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h5 => k0_hw1.1.2.2.2.2.2.2.2.2.2.2.2.2.2.2.2.2.2.1 k0_h5
theorem k0_off34_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), ∀ (r : Fin 3), ∀ a, (k0_off34 v999 v1007 v1017 v1027 v1037 v1047 v1057 v1067 v1077 (BitVec.ofNat 32 (128 * r.val))) a + S1x128x128.size a ≤ S1x1024x128.size a := fun k0_t1 v999 v1005 v1007 v1012 v1017 v1022 v1027 v1032 v1037 v1042 v1047 v1052 v1057 v1062 v1067 v1072 v1077 v1082 k0_hw1 k0_h5 r => k0_hw1.1.2.2.2.2.2.2.2.2.2.2.2.2.2.2.2.2.2.2.1 k0_h5 r
theorem k0_mult14_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), 128 ∣ (k0_mult14 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h5 => k0_hw1.1.2.2.2.2.2.2.2.2.2.2.2.2.2.2.2.2.2.2.2.1 k0_h5
theorem k0_off35_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), ∀ (r : Fin 3), ∀ a, (k0_off35 k0_t1 v999 v1007 v1017 v1027 v1037 v1047 v1057 v1067 v1077 (BitVec.ofNat 32 r.val)) a + S128x128.size a ≤ S640x128.size a := fun k0_t1 v999 v1005 v1007 v1012 v1017 v1022 v1027 v1032 v1037 v1042 v1047 v1052 v1057 v1062 v1067 v1072 v1077 v1082 k0_hw1 k0_h5 r => k0_hw1.1.2.2.2.2.2.2.2.2.2.2.2.2.2.2.2.2.2.2.2.2.1 k0_h5 r
theorem k0_off36_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), ∀ (r : Fin 3), ∀ a, (k0_off36 v999 v1007 v1017 v1027 v1037 v1047 v1057 v1067 v1077 (BitVec.ofNat 32 (128 * r.val))) a + S128x128.size a ≤ S1024x128.size a := fun k0_t1 v999 v1005 v1007 v1012 v1017 v1022 v1027 v1032 v1037 v1042 v1047 v1052 v1057 v1062 v1067 v1072 v1077 v1082 k0_hw1 k0_h5 r => k0_hw1.1.2.2.2.2.2.2.2.2.2.2.2.2.2.2.2.2.2.2.2.2.2.1 k0_h5 r
theorem k0_mult15_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), 128 ∣ (k0_mult15 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h5 => k0_hw1.1.2.2.2.2.2.2.2.2.2.2.2.2.2.2.2.2.2.2.2.2.2.2.1 k0_h5
theorem k0_mult16_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), 128 ∣ (k0_mult16 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h5 => k0_hw1.1.2.2.2.2.2.2.2.2.2.2.2.2.2.2.2.2.2.2.2.2.2.2.2.1 k0_h5
theorem k0_mult17_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), 128 ∣ (k0_mult17 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h5 => k0_hw1.1.2.2.2.2.2.2.2.2.2.2.2.2.2.2.2.2.2.2.2.2.2.2.2.2.1 k0_h5
theorem k0_mult18_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), 128 ∣ (k0_mult18 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h5 => k0_hw1.1.2.2.2.2.2.2.2.2.2.2.2.2.2.2.2.2.2.2.2.2.2.2.2.2.2.1 k0_h5
theorem k0_off37_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h5 : k0_cond5 v999 v1005 v1007 v1012 v1017 v1022 v1027 v1032 v1037 v1042 v1047 v1052 v1057 v1062 v1067 v1072 v1077 v1082 = 1#1), ∀ a, (k0_off37 v999 v1007 v1017 v1027 v1037 v1047 v1057 v1067 v1077) a + S128x384.size a ≤ S128x1024.size a := fun k0_t1 v999 v1005 v1007 v1012 v1017 v1022 v1027 v1032 v1037 v1042 v1047 v1052 v1057 v1062 v1067 v1072 v1077 v1082 k0_hw1 k0_h5 => k0_hw1.1.2.2.2.2.2.2.2.2.2.2.2.2.2.2.2.2.2.2.2.2.2.2.2.2.2.2.1 k0_h5
theorem k0_mult20_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult20 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.1.2.2.2.2.2.2.2.2.2.2.2.2.2.2.2.2.2.2.2.2.2.2.2.2.2.2.2.1 k0_h6
theorem k0_mult21_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult21 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.1.2.2.2.2.2.2.2.2.2.2.2.2.2.2.2.2.2.2.2.2.2.2.2.2.2.2.2.2.1 k0_h6
theorem k0_off40_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), ∀ (r : Fin 4), ∀ a, (k0_off40 v999 v1007 v1017 v1027 v1037 v1047 v1057 v1067 v1077 (BitVec.ofNat 32 (128 * r.val))) a + S1x128x128.size a ≤ S1x1024x128.size a := fun k0_t1 v999 v1005 v1007 v1012 v1017 v1022 v1027 v1032 v1037 v1042 v1047 v1052 v1057 v1062 v1067 v1072 v1077 v1082 k0_hw1 k0_h6 r => k0_hw1.1.2.2.2.2.2.2.2.2.2.2.2.2.2.2.2.2.2.2.2.2.2.2.2.2.2.2.2.2.2.1 k0_h6 r
theorem k0_mult22_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult22 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.1.2.2.2.2.2.2.2.2.2.2.2.2.2.2.2.2.2.2.2.2.2.2.2.2.2.2.2.2.2.2.1 k0_h6
theorem k0_off41_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), ∀ (r : Fin 4), ∀ a, (k0_off41 k0_t1 v999 v1007 v1017 v1027 v1037 v1047 v1057 v1067 v1077 (BitVec.ofNat 32 r.val)) a + S128x128.size a ≤ S640x128.size a := fun k0_t1 v999 v1005 v1007 v1012 v1017 v1022 v1027 v1032 v1037 v1042 v1047 v1052 v1057 v1062 v1067 v1072 v1077 v1082 k0_hw1 k0_h6 r => k0_hw1.1.2.2.2.2.2.2.2.2.2.2.2.2.2.2.2.2.2.2.2.2.2.2.2.2.2.2.2.2.2.2.2 k0_h6 r
theorem k0_off42_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), ∀ (r : Fin 4), ∀ a, (k0_off42 v999 v1007 v1017 v1027 v1037 v1047 v1057 v1067 v1077 (BitVec.ofNat 32 (128 * r.val))) a + S128x128.size a ≤ S1024x128.size a := fun k0_t1 v999 v1005 v1007 v1012 v1017 v1022 v1027 v1032 v1037 v1042 v1047 v1052 v1057 v1062 v1067 v1072 v1077 v1082 k0_hw1 k0_h6 r => k0_hw1.2.1.1 k0_h6 r
theorem k0_mult23_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult23 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.2.1.2.1 k0_h6
theorem k0_mult24_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult24 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.2.1.2.2.1 k0_h6
theorem k0_mult25_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult25 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.2.1.2.2.2.1 k0_h6
theorem k0_mult26_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult26 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.2.1.2.2.2.2.1 k0_h6
theorem k0_mult27_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult27 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.2.1.2.2.2.2.2.1 k0_h6
theorem k0_mult28_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), 128 ∣ (k0_mult28 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h6 => k0_hw1.2.1.2.2.2.2.2.2.1 k0_h6
theorem k0_off43_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h6 : k0_cond6 v999 v1005 v1007 v1012 v1017 v1022 v1027 v1032 v1037 v1042 v1047 v1052 v1057 v1062 v1067 v1072 v1077 v1082 = 1#1), ∀ a, (k0_off43 v999 v1007 v1017 v1027 v1037 v1047 v1057 v1067 v1077) a + S128x512.size a ≤ S128x1024.size a := fun k0_t1 v999 v1005 v1007 v1012 v1017 v1022 v1027 v1032 v1037 v1042 v1047 v1052 v1057 v1062 v1067 v1072 v1077 v1082 k0_hw1 k0_h6 => k0_hw1.2.1.2.2.2.2.2.2.2.1 k0_h6
theorem k0_mult30_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult30 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.1 k0_h7
theorem k0_mult31_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult31 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.1 k0_h7
theorem k0_off46_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), ∀ (r : Fin 5), ∀ a, (k0_off46 v999 v1007 v1017 v1027 v1037 v1047 v1057 v1067 v1077 (BitVec.ofNat 32 (128 * r.val))) a + S1x128x128.size a ≤ S1x1024x128.size a := fun k0_t1 v999 v1005 v1007 v1012 v1017 v1022 v1027 v1032 v1037 v1042 v1047 v1052 v1057 v1062 v1067 v1072 v1077 v1082 k0_hw1 k0_h7 r => k0_hw1.2.1.2.2.2.2.2.2.2.2.2.2.1 k0_h7 r
theorem k0_mult32_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult32 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.1 k0_h7
theorem k0_off47_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), ∀ (r : Fin 5), ∀ a, (k0_off47 k0_t1 v999 v1007 v1017 v1027 v1037 v1047 v1057 v1067 v1077 (BitVec.ofNat 32 r.val)) a + S128x128.size a ≤ S640x128.size a := fun k0_t1 v999 v1005 v1007 v1012 v1017 v1022 v1027 v1032 v1037 v1042 v1047 v1052 v1057 v1062 v1067 v1072 v1077 v1082 k0_hw1 k0_h7 r => k0_hw1.2.1.2.2.2.2.2.2.2.2.2.2.2.2.1 k0_h7 r
theorem k0_off48_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), ∀ (r : Fin 5), ∀ a, (k0_off48 v999 v1007 v1017 v1027 v1037 v1047 v1057 v1067 v1077 (BitVec.ofNat 32 (128 * r.val))) a + S128x128.size a ≤ S1024x128.size a := fun k0_t1 v999 v1005 v1007 v1012 v1017 v1022 v1027 v1032 v1037 v1042 v1047 v1052 v1057 v1062 v1067 v1072 v1077 v1082 k0_hw1 k0_h7 r => k0_hw1.2.1.2.2.2.2.2.2.2.2.2.2.2.2.2.1 k0_h7 r
theorem k0_mult33_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult33 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.1 k0_h7
theorem k0_mult34_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult34 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.2.1 k0_h7
theorem k0_mult35_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult35 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.2.2.1 k0_h7
theorem k0_mult36_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult36 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.2.2.2.1 k0_h7
theorem k0_mult37_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult37 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.2.2.2.2.1 k0_h7
theorem k0_mult38_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult38 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.2.2.2.2.2.1 k0_h7
theorem k0_mult39_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult39 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.2.2.2.2.2.2.1 k0_h7
theorem k0_mult40_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), 128 ∣ (k0_mult40 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.2.2.2.2.2.2.2.1 k0_h7
theorem k0_off49_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h7 : k0_cond7 v999 v1005 v1007 v1012 v1017 v1022 v1027 v1032 v1037 v1042 v1047 v1052 v1057 v1062 v1067 v1072 v1077 v1082 = 1#1), ∀ a, (k0_off49 v999 v1007 v1017 v1027 v1037 v1047 v1057 v1067 v1077) a + S128x640.size a ≤ S128x1024.size a := fun k0_t1 v999 v1005 v1007 v1012 v1017 v1022 v1027 v1032 v1037 v1042 v1047 v1052 v1057 v1062 v1067 v1072 v1077 v1082 k0_hw1 k0_h7 => k0_hw1.2.1.2.2.2.2.2.2.2.2.2.2.2.2.2.2.2.2.2.2.2.2.2.2.1 k0_h7
theorem k0_mult42_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult42 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.1.2.2.2.2.2.2.2.2.2.2.2.2.2.2.2.2.2.2.2.2.2.2.2.1 k0_h8
theorem k0_mult43_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult43 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.1.2.2.2.2.2.2.2.2.2.2.2.2.2.2.2.2.2.2.2.2.2.2.2.2.1 k0_h8
theorem k0_off52_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), ∀ (r : Fin 6), ∀ a, (k0_off52 v999 v1007 v1017 v1027 v1037 v1047 v1057 v1067 v1077 (BitVec.ofNat 32 (128 * r.val))) a + S1x128x128.size a ≤ S1x1024x128.size a := fun k0_t1 v999 v1005 v1007 v1012 v1017 v1022 v1027 v1032 v1037 v1042 v1047 v1052 v1057 v1062 v1067 v1072 v1077 v1082 k0_hw1 k0_h8 r => k0_hw1.2.1.2.2.2.2.2.2.2.2.2.2.2.2.2.2.2.2.2.2.2.2.2.2.2.2.2.1 k0_h8 r
theorem k0_mult44_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult44 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.1.2.2.2.2.2.2.2.2.2.2.2.2.2.2.2.2.2.2.2.2.2.2.2.2.2.2.1 k0_h8
theorem k0_off53_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), ∀ (r : Fin 6), ∀ a, (k0_off53 k0_t1 v999 v1007 v1017 v1027 v1037 v1047 v1057 v1067 v1077 (BitVec.ofNat 32 r.val)) a + S128x128.size a ≤ S640x128.size a := fun k0_t1 v999 v1005 v1007 v1012 v1017 v1022 v1027 v1032 v1037 v1042 v1047 v1052 v1057 v1062 v1067 v1072 v1077 v1082 k0_hw1 k0_h8 r => k0_hw1.2.1.2.2.2.2.2.2.2.2.2.2.2.2.2.2.2.2.2.2.2.2.2.2.2.2.2.2.2.1 k0_h8 r
theorem k0_off54_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), ∀ (r : Fin 6), ∀ a, (k0_off54 v999 v1007 v1017 v1027 v1037 v1047 v1057 v1067 v1077 (BitVec.ofNat 32 (128 * r.val))) a + S128x128.size a ≤ S1024x128.size a := fun k0_t1 v999 v1005 v1007 v1012 v1017 v1022 v1027 v1032 v1037 v1042 v1047 v1052 v1057 v1062 v1067 v1072 v1077 v1082 k0_hw1 k0_h8 r => k0_hw1.2.1.2.2.2.2.2.2.2.2.2.2.2.2.2.2.2.2.2.2.2.2.2.2.2.2.2.2.2.2.1 k0_h8 r
theorem k0_mult45_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult45 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.1.2.2.2.2.2.2.2.2.2.2.2.2.2.2.2.2.2.2.2.2.2.2.2.2.2.2.2.2.2.1 k0_h8
theorem k0_mult46_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult46 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.1.2.2.2.2.2.2.2.2.2.2.2.2.2.2.2.2.2.2.2.2.2.2.2.2.2.2.2.2.2.2.1 k0_h8
theorem k0_mult47_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult47 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.1.2.2.2.2.2.2.2.2.2.2.2.2.2.2.2.2.2.2.2.2.2.2.2.2.2.2.2.2.2.2.2 k0_h8
theorem k0_mult48_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult48 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.2.1.1 k0_h8
theorem k0_mult49_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult49 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.2.1.2.1 k0_h8
theorem k0_mult50_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult50 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.2.1.2.2.1 k0_h8
theorem k0_mult51_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult51 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.2.1.2.2.2.1 k0_h8
theorem k0_mult52_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult52 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.2.1.2.2.2.2.1 k0_h8
theorem k0_mult53_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult53 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.2.1.2.2.2.2.2.1 k0_h8
theorem k0_mult54_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), 128 ∣ (k0_mult54 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h8 => k0_hw1.2.2.1.2.2.2.2.2.2.1 k0_h8
theorem k0_off55_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h8 : k0_cond8 v999 v1005 v1007 v1012 v1017 v1022 v1027 v1032 v1037 v1042 v1047 v1052 v1057 v1062 v1067 v1072 v1077 v1082 = 1#1), ∀ a, (k0_off55 v999 v1007 v1017 v1027 v1037 v1047 v1057 v1067 v1077) a + S128x768.size a ≤ S128x1024.size a := fun k0_t1 v999 v1005 v1007 v1012 v1017 v1022 v1027 v1032 v1037 v1042 v1047 v1052 v1057 v1062 v1067 v1072 v1077 v1082 k0_hw1 k0_h8 => k0_hw1.2.2.1.2.2.2.2.2.2.2.1 k0_h8
theorem k0_mult56_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult56 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.1 k0_h9
theorem k0_mult57_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult57 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.1 k0_h9
theorem k0_off58_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), ∀ (r : Fin 7), ∀ a, (k0_off58 v999 v1007 v1017 v1027 v1037 v1047 v1057 v1067 v1077 (BitVec.ofNat 32 (128 * r.val))) a + S1x128x128.size a ≤ S1x1024x128.size a := fun k0_t1 v999 v1005 v1007 v1012 v1017 v1022 v1027 v1032 v1037 v1042 v1047 v1052 v1057 v1062 v1067 v1072 v1077 v1082 k0_hw1 k0_h9 r => k0_hw1.2.2.1.2.2.2.2.2.2.2.2.2.2.1 k0_h9 r
theorem k0_mult58_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult58 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.1 k0_h9
theorem k0_off59_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), ∀ (r : Fin 7), ∀ a, (k0_off59 k0_t1 v999 v1007 v1017 v1027 v1037 v1047 v1057 v1067 v1077 (BitVec.ofNat 32 r.val)) a + S128x128.size a ≤ S640x128.size a := fun k0_t1 v999 v1005 v1007 v1012 v1017 v1022 v1027 v1032 v1037 v1042 v1047 v1052 v1057 v1062 v1067 v1072 v1077 v1082 k0_hw1 k0_h9 r => k0_hw1.2.2.1.2.2.2.2.2.2.2.2.2.2.2.2.1 k0_h9 r
theorem k0_off60_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), ∀ (r : Fin 7), ∀ a, (k0_off60 v999 v1007 v1017 v1027 v1037 v1047 v1057 v1067 v1077 (BitVec.ofNat 32 (128 * r.val))) a + S128x128.size a ≤ S1024x128.size a := fun k0_t1 v999 v1005 v1007 v1012 v1017 v1022 v1027 v1032 v1037 v1042 v1047 v1052 v1057 v1062 v1067 v1072 v1077 v1082 k0_hw1 k0_h9 r => k0_hw1.2.2.1.2.2.2.2.2.2.2.2.2.2.2.2.2.1 k0_h9 r
theorem k0_mult59_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult59 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.1 k0_h9
theorem k0_mult60_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult60 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.1 k0_h9
theorem k0_mult61_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult61 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.1 k0_h9
theorem k0_mult62_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult62 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.1 k0_h9
theorem k0_mult63_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult63 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.1 k0_h9
theorem k0_mult64_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult64 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.2.1 k0_h9
theorem k0_mult65_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult65 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.2.2.1 k0_h9
theorem k0_mult66_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult66 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.2.2.2.1 k0_h9
theorem k0_mult67_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult67 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.2.2.2.2.1 k0_h9
theorem k0_mult68_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult68 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.2.2.2.2.2.1 k0_h9
theorem k0_mult69_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult69 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.2.2.2.2.2.2.1 k0_h9
theorem k0_mult70_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), 128 ∣ (k0_mult70 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.2.2.2.2.2.2.2.1 k0_h9
theorem k0_off61_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h9 : k0_cond9 v999 v1005 v1007 v1012 v1017 v1022 v1027 v1032 v1037 v1042 v1047 v1052 v1057 v1062 v1067 v1072 v1077 v1082 = 1#1), ∀ a, (k0_off61 v999 v1007 v1017 v1027 v1037 v1047 v1057 v1067 v1077) a + S128x896.size a ≤ S128x1024.size a := fun k0_t1 v999 v1005 v1007 v1012 v1017 v1022 v1027 v1032 v1037 v1042 v1047 v1052 v1057 v1062 v1067 v1072 v1077 v1082 k0_hw1 k0_h9 => k0_hw1.2.2.1.2.2.2.2.2.2.2.2.2.2.2.2.2.2.2.2.2.2.2.2.2.2.2.2.2.2.1 k0_h9
theorem k0_mult72_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult72 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.1.2.2.2.2.2.2.2.2.2.2.2.2.2.2.2.2.2.2.2.2.2.2.2.2.2.2.2.1 k0_h10
theorem k0_mult73_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult73 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.1.2.2.2.2.2.2.2.2.2.2.2.2.2.2.2.2.2.2.2.2.2.2.2.2.2.2.2.2.1 k0_h10
theorem k0_off64_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), ∀ (r : Fin 8), ∀ a, (k0_off64 v999 v1007 v1017 v1027 v1037 v1047 v1057 v1067 v1077 (BitVec.ofNat 32 (128 * r.val))) a + S1x128x128.size a ≤ S1x1024x128.size a := fun k0_t1 v999 v1005 v1007 v1012 v1017 v1022 v1027 v1032 v1037 v1042 v1047 v1052 v1057 v1062 v1067 v1072 v1077 v1082 k0_hw1 k0_h10 r => k0_hw1.2.2.1.2.2.2.2.2.2.2.2.2.2.2.2.2.2.2.2.2.2.2.2.2.2.2.2.2.2.2.2.2.1 k0_h10 r
theorem k0_mult74_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult74 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.1.2.2.2.2.2.2.2.2.2.2.2.2.2.2.2.2.2.2.2.2.2.2.2.2.2.2.2.2.2.2.1 k0_h10
theorem k0_off65_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), ∀ (r : Fin 8), ∀ a, (k0_off65 k0_t1 v999 v1007 v1017 v1027 v1037 v1047 v1057 v1067 v1077 (BitVec.ofNat 32 r.val)) a + S128x128.size a ≤ S640x128.size a := fun k0_t1 v999 v1005 v1007 v1012 v1017 v1022 v1027 v1032 v1037 v1042 v1047 v1052 v1057 v1062 v1067 v1072 v1077 v1082 k0_hw1 k0_h10 r => k0_hw1.2.2.1.2.2.2.2.2.2.2.2.2.2.2.2.2.2.2.2.2.2.2.2.2.2.2.2.2.2.2.2.2.2.2 k0_h10 r
theorem k0_off66_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), ∀ (r : Fin 8), ∀ a, (k0_off66 v999 v1007 v1017 v1027 v1037 v1047 v1057 v1067 v1077 (BitVec.ofNat 32 (128 * r.val))) a + S128x128.size a ≤ S1024x128.size a := fun k0_t1 v999 v1005 v1007 v1012 v1017 v1022 v1027 v1032 v1037 v1042 v1047 v1052 v1057 v1062 v1067 v1072 v1077 v1082 k0_hw1 k0_h10 r => k0_hw1.2.2.2.1 k0_h10 r
theorem k0_mult75_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult75 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.1 k0_h10
theorem k0_mult76_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult76 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.1 k0_h10
theorem k0_mult77_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult77 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.1 k0_h10
theorem k0_mult78_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult78 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.1 k0_h10
theorem k0_mult79_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult79 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.1 k0_h10
theorem k0_mult80_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult80 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.1 k0_h10
theorem k0_mult81_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult81 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.2.1 k0_h10
theorem k0_mult82_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult82 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.2.2.1 k0_h10
theorem k0_mult83_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult83 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.2.2.2.1 k0_h10
theorem k0_mult84_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult84 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.2.2.2.2.1 k0_h10
theorem k0_mult85_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult85 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.2.2.2.2.2.1 k0_h10
theorem k0_mult86_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult86 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.2.2.2.2.2.2.1 k0_h10
theorem k0_mult87_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult87 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.2.2.2.2.2.2.2.1 k0_h10
theorem k0_mult88_dvd : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), 128 ∣ (k0_mult88 k0_t1 v999 v1007 v1017 v1027 v1037 v1047 v1057 v1067 v1077).toNat := fun k0_t1 v999 v1005 v1007 v1012 v1017 v1022 v1027 v1032 v1037 v1042 v1047 v1052 v1057 v1062 v1067 v1072 v1077 v1082 k0_hw1 k0_h10 => k0_hw1.2.2.2.2.2.2.2.2.2.2.2.2.2.2.2.2.2.1 k0_h10
theorem k0_off67_inb : ∀ (k0_t1 : Fin k0_t1_loop.trips) (v999 : BitVec 32) (v1005 : BitVec 32) (v1007 : BitVec 32) (v1012 : BitVec 32) (v1017 : BitVec 32) (v1022 : BitVec 32) (v1027 : BitVec 32) (v1032 : BitVec 32) (v1037 : BitVec 32) (v1042 : BitVec 32) (v1047 : BitVec 32) (v1052 : BitVec 32) (v1057 : BitVec 32) (v1062 : BitVec 32) (v1067 : BitVec 32) (v1072 : BitVec 32) (v1077 : BitVec 32) (v1082 : BitVec 32) (k0_hw1 : k0_chk1 k0_t1 v999 v1005 v1007 v1012 v1017 v1022 v1027 v1032 v1037 v1042 v1047 v1052 v1057 v1062 v1067 v1072 v1077 v1082), ∀ (k0_h10 : k0_cond10 v999 v1005 v1007 v1012 v1017 v1022 v1027 v1032 v1037 v1042 v1047 v1052 v1057 v1062 v1067 v1072 v1077 v1082 = 1#1), ∀ a, (k0_off67 v999 v1007 v1017 v1027 v1037 v1047 v1057 v1067 v1077) a + S128x1024.size a ≤ S128x1024.size a := fun k0_t1 v999 v1005 v1007 v1012 v1017 v1022 v1027 v1032 v1037 v1042 v1047 v1052 v1057 v1062 v1067 v1072 v1077 v1082 k0_hw1 k0_h10 => k0_hw1.2.2.2.2.2.2.2.2.2.2.2.2.2.2.2.2.2.2 k0_h10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S2x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S2x1024x24x128 : Shape := ⟨4, ![2, 1024, 24, 128]⟩
abbrev S2x24 : Shape := ⟨2, ![2, 24]⟩
abbrev S32x24 : Shape := ⟨2, ![32, 24]⟩
abbrev S2x1024 : Shape := ⟨2, ![2, 1024]⟩
abbrev S2x1024x3072 : Shape := ⟨3, ![2, 1024, 3072]⟩
abbrev S2x24x1024x1024 : Shape := ⟨4, ![2, 24, 1024, 1024]⟩
abbrev S2x24x1x1 : Shape := ⟨4, ![2, 24, 1, 1]⟩
abbrev S1024x1024 : Shape := ⟨2, ![1024, 1024]⟩
abbrev S24x1024x1024 : Shape := ⟨3, ![24, 1024, 1024]⟩
abbrev S1x1024x1024 : Shape := ⟨3, ![1, 1024, 1024]⟩
abbrev S1x24 : Shape := ⟨2, ![1, 24]⟩
abbrev S24 : Shape := ⟨1, ![24]⟩
abbrev S24x1x1 : Shape := ⟨3, ![24, 1, 1]⟩
abbrev S2x1024x1 : Shape := ⟨3, ![2, 1024, 1]⟩
abbrev S2x1x1024 : Shape := ⟨3, ![2, 1, 1024]⟩
abbrev S2x1024x1024 : Shape := ⟨3, ![2, 1024, 1024]⟩
abbrev S2x1x1024x1024 : Shape := ⟨4, ![2, 1, 1024, 1024]⟩
abbrev S1x24x1024x1024 : Shape := ⟨4, ![1, 24, 1024, 1024]⟩
abbrev S2x24x1024 : Shape := ⟨3, ![2, 24, 1024]⟩
abbrev S2x24x1024x1 : Shape := ⟨4, ![2, 24, 1024, 1]⟩
abbrev S2x24x128x1024 : Shape := ⟨4, ![2, 24, 128, 1024]⟩
abbrev S2x24x1 : Shape := ⟨3, ![2, 24, 1]⟩
abbrev S2x1024x24 : Shape := ⟨3, ![2, 1024, 24]⟩
abbrev S2x1024x24x1 : Shape := ⟨4, ![2, 1024, 24, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x1024x24x128, .fp8e4m3⟩
  | .hbm, ⟨1, _⟩ => ⟨S2x1024x24x128, .fp8e4m3⟩
  | .hbm, ⟨2, _⟩ => ⟨S2x1024x24x128, .fp8e4m3⟩
  | .hbm, ⟨3, _⟩ => ⟨S2x24, .f32⟩
  | .hbm, ⟨4, _⟩ => ⟨S2x24, .f32⟩
  | .hbm, ⟨5, _⟩ => ⟨S2x24, .f32⟩
  | .hbm, ⟨6, _⟩ => ⟨S32x24, .bf16⟩
  | .hbm, ⟨7, _⟩ => ⟨S2x1024, .i32⟩
  | .hbm, ⟨8, _⟩ => ⟨S2x1024x3072, .bf16⟩
  | .local _ .vmem, ⟨0, _⟩ => ⟨S2x1024x24x128, .fp8e4m3⟩
  | .local _ .vmem, ⟨1, _⟩ => ⟨S2x1024x24x128, .fp8e4m3⟩
  | .local _ .vmem, ⟨2, _⟩ => ⟨S2x1024x24x128, .fp8e4m3⟩
  | .local _ .vmem, ⟨3, _⟩ => ⟨S2x24, .f32⟩
  | .local _ .vmem, ⟨4, _⟩ => ⟨S2x24, .f32⟩
  | .local _ .vmem, ⟨5, _⟩ => ⟨S2x24, .f32⟩
  | .local _ .vmem, ⟨6, _⟩ => ⟨S32x24, .bf16⟩
  | .local _ .vmem, ⟨7, _⟩ => ⟨S2x1024, .i32⟩
  | .local _ .vmem, ⟨8, _⟩ => ⟨S2x1024x3072, .bf16⟩
  | _, _ => ⟨S2x1024x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x1024x24x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x24x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x24x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x24 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Words.lean ====
/-
  The words the kernel counts its key tiles with. `loW` counts the key tiles that end before the query tile's
  first segment, `hiW` those that begin no later than its last one; every offset of a trip is one of the few
  forms below at `loW`, and each lies inside its buffer when `hiW - loW` is the trip's number of tiles.
-/
module

public import Idealize.ShloMosaic.PureOps.Float
public import Idealize.ShloMosaic.Lib.WordCmp
public import Idealize.ShloMosaic.Lib.Tactic

@[expose] public section

namespace Cert.Proof.Words

open Idealize.ShloMosaic

/-- Eight bits added up from zero, as the kernel adds them. -/
abbrev cntW (b0 b1 b2 b3 b4 b5 b6 b7 : BitVec 1) : BitVec 32 :=
  Scalar.addi (Scalar.addi (Scalar.addi (Scalar.addi (Scalar.addi (Scalar.addi (Scalar.addi (Scalar.addi 0#32
    (Scalar.extui b0)) (Scalar.extui b1)) (Scalar.extui b2)) (Scalar.extui b3)) (Scalar.extui b4)) (Scalar.extui b5))
    (Scalar.extui b6)) (Scalar.extui b7)

/-- How many of the tiles' last ids lie below `a`. -/
abbrev loW (a l0 l1 l2 l3 l4 l5 l6 l7 : BitVec 32) : BitVec 32 :=
  cntW (Scalar.cmpi .slt l0 a) (Scalar.cmpi .slt l1 a) (Scalar.cmpi .slt l2 a) (Scalar.cmpi .slt l3 a)
    (Scalar.cmpi .slt l4 a) (Scalar.cmpi .slt l5 a) (Scalar.cmpi .slt l6 a) (Scalar.cmpi .slt l7 a)

/-- How many of the tiles' first ids lie at or below `z`. -/
abbrev hiW (z h0 h1 h2 h3 h4 h5 h6 h7 : BitVec 32) : BitVec 32 :=
  cntW (Scalar.cmpi .sle h0 z) (Scalar.cmpi .sle h1 z) (Scalar.cmpi .sle h2 z) (Scalar.cmpi .sle h3 z)
    (Scalar.cmpi .sle h4 z) (Scalar.cmpi .sle h5 z) (Scalar.cmpi .sle h6 z) (Scalar.cmpi .sle h7 z)

theorem cntW_toNat : ∀ b0 b1 b2 b3 b4 b5 b6 b7 : BitVec 1, (cntW b0 b1 b2 b3 b4 b5 b6 b7).toNat
    = b0.toNat + b1.toNat + b2.toNat + b3.toNat + b4.toNat + b5.toNat + b6.toNat + b7.toNat := by decide +kernel

theorem cntW_le (b0 b1 b2 b3 b4 b5 b6 b7 : BitVec 1) : (cntW b0 b1 b2 b3 b4 b5 b6 b7).toNat ≤ 8 := by
  rw [cntW_toNat]
  have h0 := b0.isLt; have h1 := b1.isLt; have h2 := b2.isLt; have h3 := b3.isLt
  have h4 := b4.isLt; have h5 := b5.isLt; have h6 := b6.isLt; have h7 := b7.isLt
  omega

/-- A printed guard: the bit that `hi - lo` is `n`, widened and compared with zero. -/
abbrev condW (hi lo n : BitVec 32) : BitVec 1 :=
  Scalar.cmpi .ne (Scalar.extui (Scalar.cmpi .eq (Scalar.subi hi lo) n)) 0#32

theorem condW_iff (hi lo n : BitVec 32) : condW hi lo n = 1#1 ↔ hi - lo = n := by
  unfold condW
  by_cases h : hi - lo = n
  · simp only [h, iff_true]
    have : Scalar.cmpi .eq (Scalar.subi hi lo) n = 1#1 := by
      simp [Scalar.cmpi, Scalar.subi, IntOp.cmpi, IntOp.subi, h]
    rw [this]; decide
  · simp only [h, iff_false]
    have : Scalar.cmpi .eq (Scalar.subi hi lo) n = 0#1 := by
      have h' : (hi - lo == n) = false := by simpa using h
      simp [Scalar.cmpi, Scalar.subi, IntOp.cmpi, IntOp.subi, h']
    rw [this]; decide

/-- Counts of at most eight whose difference is `n` (1 to 8) differ by `n`. -/
theorem hi_eq {hi lo : BitVec 32} {n : Nat} (hh : hi.toNat ≤ 8) (hl : lo.toNat ≤ 8) (hn : n ≤ 8)
    (h : hi - lo = BitVec.ofNat 32 n) : hi.toNat = lo.toNat + n := by
  have : (hi - lo).toNat = n := by rw [h, BitVec.toNat_ofNat]; omega
  rw [BitVec.toNat_sub] at this
  omega

/-- A word at most 8 is one of nine. -/
theorem le_eq {x : BitVec 32} {k : Nat} (h : x.toNat ≤ k) (hk : k ≤ 8) : ∃ i : Fin 9, i.val ≤ k ∧ x = BitVec.ofNat 32 i.val :=
  ⟨⟨x.toNat, by omega⟩, h, by simp⟩

theorem cond_lo {n : Nat} (b0 b1 b2 b3 b4 b5 b6 b7 c0 c1 c2 c3 c4 c5 c6 c7 : BitVec 1) (hn : n ≤ 8)
    (h : condW (cntW b0 b1 b2 b3 b4 b5 b6 b7) (cntW c0 c1 c2 c3 c4 c5 c6 c7) (BitVec.ofNat 32 n) = 1#1) :
    (cntW c0 c1 c2 c3 c4 c5 c6 c7).toNat + n ≤ 8 := by
  have := hi_eq (cntW_le b0 b1 b2 b3 b4 b5 b6 b7) (cntW_le c0 c1 c2 c3 c4 c5 c6 c7) hn ((condW_iff _ _ _).1 h)
  have h2 := cntW_le b0 b1 b2 b3 b4 b5 b6 b7
  omega

/-- A key row: `128 * lo + c`. -/
abbrev kOff (lo c : BitVec 32) : Nat := (Scalar.indexCast (Scalar.addi (Scalar.muli lo 128#32) c)).toNat
/-- A tile's first key: `128 * lo`. -/
abbrev vOff (lo : BitVec 32) : Nat := (Scalar.indexCast (Scalar.muli lo 128#32)).toNat
/-- A trip's number as the kernel computes it. -/
abbrev tW {n : Nat} (t : Fin n) : BitVec 32 := Scalar.addi 0#32 (Scalar.muli (Scf.iv 0#32 1#32 t) 1#32)
/-- The strip block of the key tile `lo + c` and the query tile `t`: `128 * (clip (lo + c - t) + 2)`. -/
abbrev sOff (t lo c : BitVec 32) : Nat :=
  (Scalar.indexCast (Scalar.muli (Scalar.addi (Scalar.minsi 2#32 (Scalar.maxsi 4294967294#32
    (Scalar.subi (Scalar.addi lo c) t))) 2#32) 128#32)).toNat

theorem kOff_eq {lo : BitVec 32} (h : lo.toNat ≤ 8) (r : Nat) (hr : r < 8) :
    kOff lo (BitVec.ofNat 32 (128 * r)) = 128 * (lo.toNat + r) := by
  obtain ⟨i, -, rfl⟩ := le_eq h le_rfl
  have : ∀ (i : Fin 9) (r : Fin 8), kOff (BitVec.ofNat 32 i.val) (BitVec.ofNat 32 (128 * r.val)) = 128 * (i.val + r.val) := by decide +kernel
  rw [this i ⟨r, hr⟩, BitVec.toNat_ofNat]
  have := i.isLt
  simp only; omega
theorem vOff_eq {lo : BitVec 32} (h : lo.toNat ≤ 8) : vOff lo = 128 * lo.toNat := by
  obtain ⟨i, -, rfl⟩ := le_eq h le_rfl
  have : ∀ (i : Fin 9), vOff (BitVec.ofNat 32 i.val) = 128 * i.val := by decide +kernel
  rw [this i, BitVec.toNat_ofNat]
  have := i.isLt
  omega
/-- The strip's row block of key tile `k` at query tile `t`. -/
def stripBlk (k t : Nat) : Nat := if k + 2 ≤ t then 0 else if t + 2 ≤ k then 4 else k + 2 - t
theorem stripBlk_le (k t : Nat) : stripBlk k t ≤ 4 := by unfold stripBlk; split_ifs <;> omega
theorem sOff_eq (t : Fin 8) {lo : BitVec 32} (h : lo.toNat ≤ 8) (r : Nat) (hr : r < 8) :
    sOff (tW t) lo (BitVec.ofNat 32 r) = 128 * stripBlk (lo.toNat + r) t.val := by
  obtain ⟨i, -, rfl⟩ := le_eq h le_rfl
  have : ∀ (t : Fin 8) (i : Fin 9) (r : Fin 8), sOff (tW t) (BitVec.ofNat 32 i.val) (BitVec.ofNat 32 r.val) = 128 * stripBlk (i.val + r.val) t.val := by decide +kernel
  rw [this t i ⟨r, hr⟩, BitVec.toNat_ofNat, Nat.mod_eq_of_lt (by have := i.isLt; omega)]

theorem dvd128 (x : BitVec 32) : 128 ∣ (Scalar.muli x 128#32).toNat := by
  show 128 ∣ (x * 128#32).toNat
  rw [BitVec.toNat_mul]
  exact (Nat.dvd_mod_iff (by decide)).2 (Dvd.intro_left _ rfl)

theorem dvd128a (x : BitVec 32) (k : BitVec 32) (hk : 128 ∣ k.toNat) : 128 ∣ (Scalar.addi (Scalar.muli x 128#32) k).toNat := by
  show 128 ∣ (x * 128#32 + k).toNat
  rw [BitVec.toNat_add]
  exact (Nat.dvd_mod_iff (by decide)).2 (Nat.dvd_add (dvd128 x) hk)

/-! Each offset of a trip keeps its box inside its buffer: `m` rows from tile `lo + r`, `r + m` tiles at most. -/

theorem inb_k3 {lo : BitVec 32} {n r : Nat} (h : lo.toNat + n ≤ 8) (hr : r < n) (S S' : Fin 3 → Nat)
    (hS : S = ![1, 128, 128]) (hS' : S' = ![1, 1024, 128]) :
    ∀ a, (![0, kOff lo (BitVec.ofNat 32 (128 * r)), 0] : Fin 3 → Nat) a + S a ≤ S' a := by
  subst hS hS'
  intro a
  fin_cases a
  · simp
  · show kOff lo _ + 128 ≤ 1024
    rw [kOff_eq (by omega) r (by omega)]; omega
  · simp
theorem inb_k2 {lo : BitVec 32} {n r : Nat} (h : lo.toNat + n ≤ 8) (hr : r < n) (S S' : Fin 2 → Nat)
    (hS : S = ![128, 128]) (hS' : S' = ![1024, 128]) :
    ∀ a, (![kOff lo (BitVec.ofNat 32 (128 * r)), 0] : Fin 2 → Nat) a + S a ≤ S' a := by
  subst hS hS'
  intro a
  fin_cases a
  · show kOff lo _ + 128 ≤ 1024
    rw [kOff_eq (by omega) r (by omega)]; omega
  · simp
theorem inb_s2 (t : Fin 8) {lo : BitVec 32} {n r : Nat} (h : lo.toNat + n ≤ 8) (hr : r < n) (S S' : Fin 2 → Nat)
    (hS : S = ![128, 128]) (hS' : S' = ![640, 128]) :
    ∀ a, (![sOff (tW t) lo (BitVec.ofNat 32 r), 0] : Fin 2 → Nat) a + S a ≤ S' a := by
  subst hS hS'
  intro a
  fin_cases a
  · show sOff _ lo _ + 128 ≤ 640
    rw [sOff_eq t (by omega) r (by omega)]
    have := stripBlk_le (lo.toNat + r) t.val
    omega
  · simp
theorem inb_v2 {lo : BitVec 32} {n : Nat} (h : lo.toNat + n ≤ 8) (S S' : Fin 2 → Nat)
    (hS : S = ![128, 128 * n]) (hS' : S' = ![128, 1024]) :
    ∀ a, (![0, vOff lo] : Fin 2 → Nat) a + S a ≤ S' a := by
  subst hS hS'
  intro a
  fin_cases a
  · simp
  · show vOff lo + 128 * n ≤ 1024
    rw [vOff_eq (by omega)]; omega

end Cert.Proof.Words
-- ==== Proof.KernelCheck.lean ====
/-
  The side condition the loop's body assumes of the words it reads holds for every word: under the guard
  `hi - lo = n` both counts are at most eight, so `lo + n` is, and every box of the trip lies in its buffer.
-/
module

public import proofs.«01_k».proof.Proof.Words
public import proofs.«01_k».proof.Proof.Gen.Kernel.Skeleton

@[expose] public section

set_option maxRecDepth 16384

namespace Cert.Proof.Kernel

open Cert.Kernel Idealize.ShloMosaic Cert.Proof.Words

variable (k0_t1 : Fin k0_t1_loop.trips) (v999 v1005 v1007 v1012 v1017 v1022 v1027 v1032 v1037 v1042 v1047 v1052 v1057 v1062 v1067 v1072 v1077 v1082 : BitVec 32)

set_option maxHeartbeats 4000000
theorem chk1_0 : k0_chk1_0 k0_t1 v999 v1005 v1007 v1012 v1017 v1022 v1027 v1032 v1037 v1042 v1047 v1052 v1057 v1062 v1067 v1072 v1077 v1082 :=
  ⟨fun _ => dvd128 _,
    fun _ => dvd128a _ _ (by decide),
    fun h => inb_k3 (n := 1) (cond_lo (n := 1) _ _ _ _ _ _ _ _ _ _ _ _ _ _ _ _ (by decide) h) (r := 0) (by decide) _ _ rfl rfl,
    fun _ => dvd128 _,
    fun h => inb_s2 k0_t1 (n := 1) (cond_lo (n := 1) _ _ _ _ _ _ _ _ _ _ _ _ _ _ _ _ (by decide) h) (r := 0) (by decide) _ _ rfl rfl,
    fun h => inb_k2 (n := 1) (cond_lo (n := 1) _ _ _ _ _ _ _ _ _ _ _ _ _ _ _ _ (by decide) h) (r := 0) (by decide) _ _ rfl rfl,
    fun h => inb_v2 (n := 1) (cond_lo (n := 1) _ _ _ _ _ _ _ _ _ _ _ _ _ _ _ _ (by decide) h) _ _ rfl rfl,
    fun _ => dvd128 _,
    fun _ => dvd128a _ _ (by decide),
    fun h r => inb_k3 (n := 2) (cond_lo (n := 2) _ _ _ _ _ _ _ _ _ _ _ _ _ _ _ _ (by decide) h) r.isLt _ _ rfl rfl,
    fun _ => dvd128 _,
    fun h r => inb_s2 k0_t1 (n := 2) (cond_lo (n := 2) _ _ _ _ _ _ _ _ _ _ _ _ _ _ _ _ (by decide) h) r.isLt _ _ rfl rfl,
    fun h r => inb_k2 (n := 2) (cond_lo (n := 2) _ _ _ _ _ _ _ _ _ _ _ _ _ _ _ _ (by decide) h) r.isLt _ _ rfl rfl,
    fun _ => dvd128a _ _ (by decide),
    fun _ => dvd128 _,
    fun h => inb_v2 (n := 2) (cond_lo (n := 2) _ _ _ _ _ _ _ _ _ _ _ _ _ _ _ _ (by decide) h) _ _ rfl rfl,
    fun _ => dvd128 _,
    fun _ => dvd128a _ _ (by decide),
    fun h r => inb_k3 (n := 3) (cond_lo (n := 3) _ _ _ _ _ _ _ _ _ _ _ _ _ _ _ _ (by decide) h) r.isLt _ _ rfl rfl,
    fun _ => dvd128 _,
    fun h r => inb_s2 k0_t1 (n := 3) (cond_lo (n := 3) _ _ _ _ _ _ _ _ _ _ _ _ _ _ _ _ (by decide) h) r.isLt _ _ rfl rfl,
    fun h r => inb_k2 (n := 3) (cond_lo (n := 3) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun h => inb_v2 (n := 3) (cond_lo (n := 3) _ _ _ _ _ _ _ _ _ _ _ _ _ _ _ _ (by decide) h) _ _ rfl rfl,
    fun _ => dvd128 _,
    fun _ => dvd128a _ _ (by decide),
    fun h r => inb_k3 (n := 4) (cond_lo (n := 4) _ _ _ _ _ _ _ _ _ _ _ _ _ _ _ _ (by decide) h) r.isLt _ _ rfl rfl,
    fun _ => dvd128 _,
    fun h r => inb_s2 k0_t1 (n := 4) (cond_lo (n := 4) _ _ _ _ _ _ _ _ _ _ _ _ _ _ _ _ (by decide) h) r.isLt _ _ rfl rfl⟩

theorem chk1_1 : k0_chk1_1 k0_t1 v999 v1005 v1007 v1012 v1017 v1022 v1027 v1032 v1037 v1042 v1047 v1052 v1057 v1062 v1067 v1072 v1077 v1082 :=
  ⟨fun h r => inb_k2 (n := 4) (cond_lo (n := 4) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun _ => dvd128a _ _ (by decide),
    fun _ => dvd128 _,
    fun h => inb_v2 (n := 4) (cond_lo (n := 4) _ _ _ _ _ _ _ _ _ _ _ _ _ _ _ _ (by decide) h) _ _ rfl rfl,
    fun _ => dvd128 _,
    fun _ => dvd128a _ _ (by decide),
    fun h r => inb_k3 (n := 5) (cond_lo (n := 5) _ _ _ _ _ _ _ _ _ _ _ _ _ _ _ _ (by decide) h) r.isLt _ _ rfl rfl,
    fun _ => dvd128 _,
    fun h r => inb_s2 k0_t1 (n := 5) (cond_lo (n := 5) _ _ _ _ _ _ _ _ _ _ _ _ _ _ _ _ (by decide) h) r.isLt _ _ rfl rfl,
    fun h r => inb_k2 (n := 5) (cond_lo (n := 5) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun h => inb_v2 (n := 5) (cond_lo (n := 5) _ _ _ _ _ _ _ _ _ _ _ _ _ _ _ _ (by decide) h) _ _ rfl rfl,
    fun _ => dvd128 _,
    fun _ => dvd128a _ _ (by decide),
    fun h r => inb_k3 (n := 6) (cond_lo (n := 6) _ _ _ _ _ _ _ _ _ _ _ _ _ _ _ _ (by decide) h) r.isLt _ _ rfl rfl,
    fun _ => dvd128 _,
    fun h r => inb_s2 k0_t1 (n := 6) (cond_lo (n := 6) _ _ _ _ _ _ _ _ _ _ _ _ _ _ _ _ (by decide) h) r.isLt _ _ rfl rfl,
    fun h r => inb_k2 (n := 6) (cond_lo (n := 6) _ _ _ _ _ _ _ _ _ _ _ _ _ _ _ _ (by decide) h) r.isLt _ _ rfl rfl,
    fun _ => dvd128a _ _ (by decide),
    fun _ => dvd128 _,
    fun _ => dvd128a _ _ (by decide)⟩

theorem chk1_2 : k0_chk1_2 k0_t1 v999 v1005 v1007 v1012 v1017 v1022 v1027 v1032 v1037 v1042 v1047 v1052 v1057 v1062 v1067 v1072 v1077 v1082 :=
  ⟨fun _ => dvd128 _,
    fun _ => dvd128a _ _ (by decide),
    fun _ => dvd128 _,
    fun _ => dvd128a _ _ (by decide),
    fun _ => dvd128 _,
    fun _ => dvd128a _ _ (by decide),
    fun _ => dvd128 _,
    fun h => inb_v2 (n := 6) (cond_lo (n := 6) _ _ _ _ _ _ _ _ _ _ _ _ _ _ _ _ (by decide) h) _ _ rfl rfl,
    fun _ => dvd128 _,
    fun _ => dvd128a _ _ (by decide),
    fun h r => inb_k3 (n := 7) (cond_lo (n := 7) _ _ _ _ _ _ _ _ _ _ _ _ _ _ _ _ (by decide) h) r.isLt _ _ rfl rfl,
    fun _ => dvd128 _,
    fun h r => inb_s2 k0_t1 (n := 7) (cond_lo (n := 7) _ _ _ _ _ _ _ _ _ _ _ _ _ _ _ _ (by decide) h) r.isLt _ _ rfl rfl,
    fun h r => inb_k2 (n := 7) (cond_lo (n := 7) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun h => inb_v2 (n := 7) (cond_lo (n := 7) _ _ _ _ _ _ _ _ _ _ _ _ _ _ _ _ (by decide) h) _ _ rfl rfl,
    fun _ => dvd128 _,
    fun _ => dvd128a _ _ (by decide),
    fun h r => inb_k3 (n := 8) (cond_lo (n := 8) _ _ _ _ _ _ _ _ _ _ _ _ _ _ _ _ (by decide) h) r.isLt _ _ rfl rfl,
    fun _ => dvd128 _,
    fun h r => inb_s2 k0_t1 (n := 8) (cond_lo (n := 8) _ _ _ _ _ _ _ _ _ _ _ _ _ _ _ _ (by decide) h) r.isLt _ _ rfl rfl⟩

theorem chk1_3 : k0_chk1_3 k0_t1 v999 v1005 v1007 v1012 v1017 v1022 v1027 v1032 v1037 v1042 v1047 v1052 v1057 v1062 v1067 v1072 v1077 v1082 :=
  ⟨fun h r => inb_k2 (n := 8) (cond_lo (n := 8) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun h => inb_v2 (n := 8) (cond_lo (n := 8) _ _ _ _ _ _ _ _ _ _ _ _ _ _ _ _ (by decide) h) _ _ rfl rfl⟩

theorem chk1 : k0_chk1 k0_t1 v999 v1005 v1007 v1012 v1017 v1022 v1027 v1032 v1037 v1042 v1047 v1052 v1057 v1062 v1067 v1072 v1077 v1082 :=
  ⟨chk1_0 k0_t1 v999 v1005 v1007 v1012 v1017 v1022 v1027 v1032 v1037 v1042 v1047 v1052 v1057 v1062 v1067 v1072 v1077 v1082, chk1_1 k0_t1 v999 v1005 v1007 v1012 v1017 v1022 v1027 v1032 v1037 v1042 v1047 v1052 v1057 v1062 v1067 v1072 v1077 v1082, chk1_2 k0_t1 v999 v1005 v1007 v1012 v1017 v1022 v1027 v1032 v1037 v1042 v1047 v1052 v1057 v1062 v1067 v1072 v1077 v1082, chk1_3 k0_t1 v999 v1005 v1007 v1012 v1017 v1022 v1027 v1032 v1037 v1042 v1047 v1052 v1057 v1062 v1067 v1072 v1077 v1082⟩

end Cert.Proof.Kernel
-- ==== Proof.KernelLoop.lean ====
/-
  One trip of the loop over query tiles, and the loop's invariant: the result's buffer at what the trips before
  left, every other buffer as it was.
-/
module

public import proofs.«01_k».proof.Proof.KernelCheck
public import proofs.«01_k».proof.Proof.Gen.Kernel.Loops
public import proofs.«01_k».proof.Proof.Gen.Kernel.Frame

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

variable (c : Dev nD) (i : grid0.Coords) (arg2 : Memref sig .tc .smem S2x1024 .i32) (harg2 : arg2.IsWhole) (arg3 : Memref sig .tc .smem S2x24 .f32) (harg3 : arg3.IsWhole) (arg4 : Memref sig .tc .smem S2x24 .f32) (harg4 : arg4.IsWhole) (arg5 : Memref sig .tc .smem S2x24 .f32) (harg5 : arg5.IsWhole) (arg6 : Memref sig .tc .vmem S1x1x1024 .i32) (harg6 : arg6.IsWhole) (arg7 : Memref sig .tc .vmem S1x1x128 .f32) (harg7 : arg7.IsWhole) (arg8 : Memref sig .tc .vmem S1x1024x128 .fp8e4m3) (harg8 : arg8.IsWhole) (arg9 : Memref sig .tc .vmem S1x1024x128 .fp8e4m3) (harg9 : arg9.IsWhole) (arg10 : Memref sig .tc .vmem S1x1024x128 .fp8e4m3) (harg10 : arg10.IsWhole) (arg11 : Memref sig .tc .vmem S1x1024x128 .bf16) (harg11 : arg11.IsWhole) (arg12 : Memref sig .tc .vmem S640x128 .i32) (harg12 : arg12.IsWhole) (arg13 : Memref sig .tc .vmem S1024x128 .i32) (harg13 : arg13.IsWhole) (arg14 : Memref sig .tc .vmem S640x128 .f32) (harg14 : arg14.IsWhole) (arg15 : Memref sig .tc .vmem S128x1024 .fp8e4m3) (harg15 : arg15.IsWhole) (arg0 : BitVec 32) (v14 : F .f32) (v17 : Elt F .f32)

/-- What a trip touches: the staged words, ids, queries and keys, the result, and the three scratches it reads. -/
abbrev Trip (f2 : Bf (F := F) c arg2) (f6 : Bf (F := F) c arg6) (f8 : Bf (F := F) c arg8) (f9 : Bf (F := F) c arg9)
    (f13 : Bf (F := F) c arg13) (f14 : Bf (F := F) c arg14) (f15 : Bf (F := F) c arg15) (f11 : Bf (F := F) c arg11) : sProp 𝕄 :=
  iprop(pt c arg2 f2 ∗ pt c arg6 f6 ∗ pt c arg8 f8 ∗ pt c arg9 f9 ∗ pt c arg13 f13 ∗ pt c arg14 f14 ∗ pt c arg15 f15 ∗ pt c arg11 f11)

/-- One trip, its result's contents found by the run. -/
def trip (f2 : Bf (F := F) c arg2) (f6 : Bf (F := F) c arg6) (f8 : Bf (F := F) c arg8) (f9 : Bf (F := F) c arg9)
    (f13 : Bf (F := F) c arg13) (f14 : Bf (F := F) c arg14) (f15 : Bf (F := F) c arg15) (k : Fin k0_t1_loop.trips) :
    { g : Bf (F := F) c arg11 → Bf (F := F) c arg11 // ∀ f11, (Trip c arg2 arg6 arg8 arg9 arg11 arg13 arg14 arg15 f2 f6 f8 f9 f13 f14 f15 f11)
      ⊢ wp frame (wpE (defs₀ (F := F)) 𝒱₀ (c : Thread nD τ) none) Set.univ
        (Gen.k0_t1_body i arg2 harg2 arg3 harg3 arg4 harg4 arg5 harg5 arg6 harg6 arg7 harg7 arg8 harg8 arg9 harg9 arg10 harg10 arg11 harg11 arg12 harg12 arg13 harg13 arg14 harg14 arg15 harg15 arg0 v14 v17 k ())
        (fun _ => Trip c arg2 arg6 arg8 arg9 arg11 arg13 arg14 arg15 f2 f6 f8 f9 f13 f14 f15 (g f11)) } := by
  refine ⟨?_, fun f11 => ?run⟩
  case run =>
    unfold Gen.k0_t1_body
    iintro ⟨H2, H6, H8, H9, H13, H14, H15, H11⟩
    sl_exec_parts (disch := exact chk1 ..)
    sl_step
    isplitl [H2]; · iexact H2
    isplitl [H6]; · iexact H6
    isplitl [H8]; · iexact H8
    isplitl [H9]; · iexact H9
    isplitl [H13]; · iexact H13
    isplitl [H14]; · iexact H14
    isplitl [H15]; · iexact H15
    iexact H11

section Inv

variable (f2 : Bf (F := F) c arg2) (f6 : Bf (F := F) c arg6) (f8 : Bf (F := F) c arg8) (f9 : Bf (F := F) c arg9)
    (f13 : Bf (F := F) c arg13) (f14 : Bf (F := F) c arg14) (f15 : Bf (F := F) c arg15)

/-- The result's contents before trip `k`. -/
def accAt (f11 : Bf (F := F) c arg11) : ℕ → Bf (F := F) c arg11
  | 0 => f11
  | k + 1 =>
    if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 ⟨k, h⟩).1 (accAt f11 k)
    else accAt f11 k

set_option warn.classDefReducibility false in
/-- The loop's invariant: before trip `k`, the result at `accAt k`. -/
@[sl_loop] def loopInv_k0_t1 (f11 : Bf (F := F) c arg11) :
    Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg0 v14 v17 where
  inv k _ := Trip c arg2 arg6 arg8 arg9 arg11 arg13 arg14 arg15 f2 f6 f8 f9 f13 f14 f15
    (accAt c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 f11 k)
  step k _ := by
    have e : accAt c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 f11 (k.val + 1)
        = (trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1
            (accAt c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 f11 k.val) := by
      rw [accAt, dif_pos k.isLt]
    rw [e]
    exact (trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).2 _

end Inv

end Cert.Proof.Kernel

end
-- ==== Proof.KernelBody.lean ====
/-
  One grid point's body, run once at symbolic contents: what it leaves in the result's staging buffer and in the
  four scratches is found by the run.
-/
module

public import proofs.«01_k».proof.Proof.KernelLoop

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg2 : Memref sig .tc .smem S2x1024 .i32) (harg2 : arg2.IsWhole) (arg3 : Memref sig .tc .smem S2x24 .f32) (harg3 : arg3.IsWhole) (arg4 : Memref sig .tc .smem S2x24 .f32) (harg4 : arg4.IsWhole) (arg5 : Memref sig .tc .smem S2x24 .f32) (harg5 : arg5.IsWhole) (arg6 : Memref sig .tc .vmem S1x1x1024 .i32) (harg6 : arg6.IsWhole) (arg7 : Memref sig .tc .vmem S1x1x128 .f32) (harg7 : arg7.IsWhole) (arg8 : Memref sig .tc .vmem S1x1024x128 .fp8e4m3) (harg8 : arg8.IsWhole) (arg9 : Memref sig .tc .vmem S1x1024x128 .fp8e4m3) (harg9 : arg9.IsWhole) (arg10 : Memref sig .tc .vmem S1x1024x128 .fp8e4m3) (harg10 : arg10.IsWhole) (arg11 : Memref sig .tc .vmem S1x1024x128 .bf16) (harg11 : arg11.IsWhole) (arg12 : Memref sig .tc .vmem S640x128 .i32) (harg12 : arg12.IsWhole) (arg13 : Memref sig .tc .vmem S1024x128 .i32) (harg13 : arg13.IsWhole) (arg14 : Memref sig .tc .vmem S640x128 .f32) (harg14 : arg14.IsWhole) (arg15 : Memref sig .tc .vmem S128x1024 .fp8e4m3) (harg15 : arg15.IsWhole)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11)
  (f12 : Bf (F := F) c arg12) (f13 : Bf (F := F) c arg13) (f14 : Bf (F := F) c arg14) (f15 : Bf (F := F) c arg15)

/-- All fourteen buffers of a point's body. -/
abbrev All (f11 : Bf (F := F) c arg11) (f12 : Bf (F := F) c arg12) (f13 : Bf (F := F) c arg13) (f14 : Bf (F := F) c arg14) (f15 : Bf (F := F) c arg15) : sProp 𝕄 :=
  iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
    ∗ pt c arg11 f11 ∗ pt c arg12 f12 ∗ pt c arg13 f13 ∗ pt c arg14 f14 ∗ pt c arg15 f15)

/-- The body's run at a point, and the contents it leaves. -/
def bodyRun : Σ' (g11 : Bf (F := F) c arg11) (g12 : Bf (F := F) c arg12) (g13 : Bf (F := F) c arg13) (g14 : Bf (F := F) c arg14) (g15 : Bf (F := F) c arg15),
    All c arg2 arg3 arg4 arg5 arg6 arg7 arg8 arg9 arg10 arg11 arg12 arg13 arg14 arg15 f2 f3 f4 f5 f6 f7 f8 f9 f10 f11 f12 f13 f14 f15
      ⊢ wp frame (wpE (defs₀ (F := F)) 𝒱₀ (c : Thread nD τ) none) Set.univ
        (cc0_t5_attention i arg2 harg2 arg3 harg3 arg4 harg4 arg5 harg5 arg6 harg6 arg7 harg7 arg8 harg8 arg9 harg9 arg10 harg10 arg11 harg11 arg12 harg12 arg13 harg13 arg14 harg14 arg15 harg15)
        (fun _ => All c arg2 arg3 arg4 arg5 arg6 arg7 arg8 arg9 arg10 arg11 arg12 arg13 arg14 arg15 f2 f3 f4 f5 f6 f7 f8 f9 f10 g11 g12 g13 g14 g15) := by
  refine ⟨?_, ?_, ?_, ?_, ?_, ?run⟩
  case run =>
    iintro ⟨H2, H3, H4, H5, H6, H7, H8, H9, H10, H11, H12, H13, H14, H15⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Kernel

end
-- ==== Proof.KernelFrame.lean ====
/-
  The frame: a grid point's body between the pipeline's staging buffers, the pipeline's proof data, the body
  obligation with the result's window forgotten, and the run of @main to its argument arrays unchanged. The result's
  block is not wholly written for every table of ids, so nothing is said of it here.
-/
module

public import proofs.«01_k».proof.Proof.KernelBody
public import proofs.«01_k».proof.Proof.Gen.Kernel.Frame
public import proofs.«01_k».proof.Proof.Gen.Kernel.Points
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- A whole memref owned at `x` is its buffer held at the contents that read `x`, -/
theorem own_pt (c : Dev nD) {sp : Space} {S : Shape} {e : EltTy} (M : Memref sig .tc sp S e) (h : M.IsWhole) (x : S.Idx → Elt F e) :
    (owns (c : Thread nD τ) M fullShare x : sProp 𝕄) ⊢ pt (F := F) c M (h.unread x) := by
  unfold owns pt
  iintro ⟨%f, %hf, H⟩
  obtain rfl := h.eq_unread hf
  rw [h.set_eq_univ]
  iexact H

/-- and conversely. -/
theorem pt_own (c : Dev nD) {sp : Space} {S : Shape} {e : EltTy} (M : Memref sig .tc sp S e) (h : M.IsWhole) (f : Bf (F := F) c M)
    (x : S.Idx → Elt F e) (hx : View.read (Elt F) M.view f = x) :
    pt (F := F) c M f ⊢ (owns (c : Thread nD τ) M fullShare x : sProp 𝕄) := by
  unfold owns pt
  iintro H
  iexists f
  isplitr
  · ipureintro; exact hx
  rw [h.set_eq_univ]
  iexact H

variable (m : (ℓ : Loc nD τ sig) → Buf (Elt F) ℓ) (ρ : Dev nD → PrngReg)

section Point

variable (c : Dev nD) (t : Fin cfg0.N) (X9 : (cfg0.win 9).block.Idx → Elt F (cfg0.win 9).elt)
  (f12 : Bf (F := F) c (Memref.whole cc0_scratch0)) (f13 : Bf (F := F) c (Memref.whole cc0_scratch1))
  (f14 : Bf (F := F) c (Memref.whole cc0_scratch2)) (f15 : Bf (F := F) c (Memref.whole cc0_scratch3))

/-- The body's run at point `t`, between the staging buffers the pipeline calls it with. -/
def RR := bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)
  ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t))
  ((hstage0_9 ((cfg0.slots t 9).cast nbuf0_9)).unread X9) f12 f13 f14 f15

/-- The block it leaves for the result, -/
def outX : (cfg0.win 9).block.Idx → Elt F (cfg0.win 9).elt :=
  View.read (Elt F) (win0_9.stage (cfg0.slots t 9)).view (RR m c t X9 f12 f13 f14 f15).1

/-- and the point as a triple. -/
theorem body_at :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare X9 ∗ pt c (Memref.whole cc0_scratch0) f12 ∗ pt c (Memref.whole cc0_scratch1) f13 ∗ pt c (Memref.whole cc0_scratch2) f14 ∗ pt c (Memref.whole cc0_scratch3) f15)
    ⊢ wp frame (wpE (defs₀ (F := F)) 𝒱₀ (c : Thread nD τ) none) Set.univ (bodyAt0 t)
      (fun _ => iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (outX m c t X9 f12 f13 f14 f15) ∗ pt c (Memref.whole cc0_scratch0) (RR m c t X9 f12 f13 f14 f15).2.1 ∗ pt c (Memref.whole cc0_scratch1) (RR m c t X9 f12 f13 f14 f15).2.2.1 ∗ pt c (Memref.whole cc0_scratch2) (RR m c t X9 f12 f13 f14 f15).2.2.2.1 ∗ pt c (Memref.whole cc0_scratch3) (RR m c t X9 f12 f13 f14 f15).2.2.2.2.1)) := by
  refine triple_restated (RR m c t X9 f12 f13 f14 f15).2.2.2.2.2 rfl ?_ (fun _ => ?_)
  · iintro ⟨H0, H1, H2, H3, H4, H5, H6, H7, H8, H9, HS⟩
    isplitl [H0]; · iapply own_pt; iexact H0
    isplitl [H1]; · iapply own_pt; iexact H1
    isplitl [H2]; · iapply own_pt; iexact H2
    isplitl [H3]; · iapply own_pt; iexact H3
    isplitl [H4]; · iapply own_pt; iexact H4
    isplitl [H5]; · iapply own_pt; iexact H5
    isplitl [H6]; · iapply own_pt; iexact H6
    isplitl [H7]; · iapply own_pt; iexact H7
    isplitl [H8]; · iapply own_pt; iexact H8
    isplitl [H9]; · iapply own_pt; iexact H9
    iexact HS
  · iintro ⟨H0, H1, H2, H3, H4, H5, H6, H7, H8, H9, HS⟩
    isplitl [H0]; · iapply (pt_own _ _ (hstage0_0 ((cfg0.slots t 0).cast nbuf0_0)) _ _ (Memref.IsWhole.read_unread _ _)); iexact H0
    isplitl [H1]; · iapply (pt_own _ _ (hstage0_1 ((cfg0.slots t 1).cast nbuf0_1)) _ _ (Memref.IsWhole.read_unread _ _)); iexact H1
    isplitl [H2]; · iapply (pt_own _ _ (hstage0_2 ((cfg0.slots t 2).cast nbuf0_2)) _ _ (Memref.IsWhole.read_unread _ _)); iexact H2
    isplitl [H3]; · iapply (pt_own _ _ (hstage0_3 ((cfg0.slots t 3).cast nbuf0_3)) _ _ (Memref.IsWhole.read_unread _ _)); iexact H3
    isplitl [H4]; · iapply (pt_own _ _ (hstage0_4 ((cfg0.slots t 4).cast nbuf0_4)) _ _ (Memref.IsWhole.read_unread _ _)); iexact H4
    isplitl [H5]; · iapply (pt_own _ _ (hstage0_5 ((cfg0.slots t 5).cast nbuf0_5)) _ _ (Memref.IsWhole.read_unread _ _)); iexact H5
    isplitl [H6]; · iapply (pt_own _ _ (hstage0_6 ((cfg0.slots t 6).cast nbuf0_6)) _ _ (Memref.IsWhole.read_unread _ _)); iexact H6
    isplitl [H7]; · iapply (pt_own _ _ (hstage0_7 ((cfg0.slots t 7).cast nbuf0_7)) _ _ (Memref.IsWhole.read_unread _ _)); iexact H7
    isplitl [H8]; · iapply (pt_own _ _ (hstage0_8 ((cfg0.slots t 8).cast nbuf0_8)) _ _ (Memref.IsWhole.read_unread _ _)); iexact H8
    isplitl [H9]; · iapply (pt_own _ _ (hstage0_9 ((cfg0.slots t 9).cast nbuf0_9)) _ _ rfl); iexact H9
    iexact HS

end Point

/-- The pipeline's proof data at an invariant `Φ` of the scratches and result blocks `o`. -/
def datsOf (Φ : (c : Dev nD) → Fin (cfg0.N + 1) → sProp 𝕄) (o : (c : Dev nD) → Fin cfg0.N → (cfg0.win 9).block.Idx → Elt F (cfg0.win 9).elt)
    (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => o c t
  Φ := Φ c
  q _ := fullShare
  owed _ := 0

theorem A_eq (Φ : (c : Dev nD) → Fin (cfg0.N + 1) → sProp 𝕄) (o : (c : Dev nD) → Fin cfg0.N → (cfg0.win 9).block.Idx → Elt F (cfg0.win 9).elt) (c : Dev nD) (w : Fin cfg0.W) : (datsOf m Φ o 0 c).A w = V m c (Pipeline.arrRef spec0 w) := by
  dsimp only [datsOf]
theorem after0_0 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 0 t = iblk m c 0 t := by dsimp only [datsOf]
theorem after0_1 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 1 t = iblk m c 1 t := by dsimp only [datsOf]
theorem after0_2 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 2 t = iblk m c 2 t := by dsimp only [datsOf]
theorem after0_3 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 3 t = iblk m c 3 t := by dsimp only [datsOf]
theorem after0_4 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 4 t = iblk m c 4 t := by dsimp only [datsOf]
theorem after0_5 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 5 t = iblk m c 5 t := by dsimp only [datsOf]
theorem after0_6 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 6 t = iblk m c 6 t := by dsimp only [datsOf]
theorem after0_7 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 7 t = iblk m c 7 t := by dsimp only [datsOf]
theorem after0_8 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 8 t = iblk m c 8 t := by dsimp only [datsOf]
theorem after0_9 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 9 t = o c t := by dsimp only [datsOf]
theorem before0_0 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 0 t d = iblk m c 0 t :=
  before0_0_of m (datsOf m Φ o 0 c) (A_eq m Φ o c 0) (after0_0 m Φ o c) t d
theorem before0_1 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 1 t d = iblk m c 1 t :=
  before0_1_of m (datsOf m Φ o 0 c) (A_eq m Φ o c 1) (after0_1 m Φ o c) t d
theorem before0_2 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 2 t d = iblk m c 2 t :=
  before0_2_of m (datsOf m Φ o 0 c) (A_eq m Φ o c 2) (after0_2 m Φ o c) t d
theorem before0_3 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 3 t d = iblk m c 3 t :=
  before0_3_of m (datsOf m Φ o 0 c) (A_eq m Φ o c 3) (after0_3 m Φ o c) t d
theorem before0_4 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 4 t d = iblk m c 4 t :=
  before0_4_of m (datsOf m Φ o 0 c) (A_eq m Φ o c 4) (after0_4 m Φ o c) t d
theorem before0_5 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 5 t d = iblk m c 5 t :=
  before0_5_of m (datsOf m Φ o 0 c) (A_eq m Φ o c 5) (after0_5 m Φ o c) t d
theorem before0_6 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 6 t d = iblk m c 6 t :=
  before0_6_of m (datsOf m Φ o 0 c) (A_eq m Φ o c 6) (after0_6 m Φ o c) t d
theorem before0_7 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 7 t d = iblk m c 7 t :=
  before0_7_of m (datsOf m Φ o 0 c) (A_eq m Φ o c 7) (after0_7 m Φ o c) t d
theorem before0_8 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 8 t d = iblk m c 8 t :=
  before0_8_of m (datsOf m Φ o 0 c) (A_eq m Φ o c 8) (after0_8 m Φ o c) t d

theorem defs₀_row (t : Fin cfg0.N) :
    defs₀ (F := F) .tc cfg0.body (cfg0.bodyArgs t (cfg0.slots t)) = bodyAt0 t := by
  unfold defs₀; rw [Defs.onTc_tc]

/-! ## The result forgotten -/

/-- The result's window is forgotten. -/
abbrev fgt : Fin cfg0.W → Bool := fun w => w == 9

/-- The proof data of the frame: nothing tracked. -/
abbrev dats0 : (p : Fin 1) → (c : Dev nD) → Dat τ (Elt F) Unit ℕ (UR sig nD τ) ℕ cfg0 c :=
  datsOf m (fun c _ => Pipeline.ΦA spec0 c) (fun _ => Dat.unnamed 9)

theorem sound_body (c : Dev nD) (t : Fin cfg0.N) :
    iprop((dats0 m 0 c).Φ t.castSucc ∗ (dats0 m 0 c).owesAt () t.castSucc
      ∗ (∃ d, owns (c : Thread nD τ) (st0_0 t) fullShare ((dats0 m 0 c).before 0 t d)) ∗ (∃ d, owns (c : Thread nD τ) (st0_1 t) fullShare ((dats0 m 0 c).before 1 t d)) ∗ (∃ d, owns (c : Thread nD τ) (st0_2 t) fullShare ((dats0 m 0 c).before 2 t d)) ∗ (∃ d, owns (c : Thread nD τ) (st0_3 t) fullShare ((dats0 m 0 c).before 3 t d)) ∗ (∃ d, owns (c : Thread nD τ) (st0_4 t) fullShare ((dats0 m 0 c).before 4 t d)) ∗ (∃ d, owns (c : Thread nD τ) (st0_5 t) fullShare ((dats0 m 0 c).before 5 t d)) ∗ (∃ d, owns (c : Thread nD τ) (st0_6 t) fullShare ((dats0 m 0 c).before 6 t d)) ∗ (∃ d, owns (c : Thread nD τ) (st0_7 t) fullShare ((dats0 m 0 c).before 7 t d)) ∗ (∃ d, owns (c : Thread nD τ) (st0_8 t) fullShare ((dats0 m 0 c).before 8 t d)) ∗ (∃ X, owns (c : Thread nD τ) (st0_9 t) fullShare X))
    ⊢ wp frame (wpE (defs₀ (F := F)) 𝒱₀ (c : Thread nD τ) none) Set.univ (bodyAt0 t)
      (fun _ => iprop((dats0 m 0 c).Φ t.succ ∗ (dats0 m 0 c).owesAt () t.succ
        ∗ owns (c : Thread nD τ) (st0_0 t) fullShare ((dats0 m 0 c).after 0 t) ∗ owns (c : Thread nD τ) (st0_1 t) fullShare ((dats0 m 0 c).after 1 t) ∗ owns (c : Thread nD τ) (st0_2 t) fullShare ((dats0 m 0 c).after 2 t) ∗ owns (c : Thread nD τ) (st0_3 t) fullShare ((dats0 m 0 c).after 3 t) ∗ owns (c : Thread nD τ) (st0_4 t) fullShare ((dats0 m 0 c).after 4 t) ∗ owns (c : Thread nD τ) (st0_5 t) fullShare ((dats0 m 0 c).after 5 t) ∗ owns (c : Thread nD τ) (st0_6 t) fullShare ((dats0 m 0 c).after 6 t) ∗ owns (c : Thread nD τ) (st0_7 t) fullShare ((dats0 m 0 c).after 7 t) ∗ owns (c : Thread nD τ) (st0_8 t) fullShare ((dats0 m 0 c).after 8 t) ∗ (∃ X, owns (c : Thread nD τ) (st0_9 t) fullShare X))) := by
  simp only [before0_0, before0_1, before0_2, before0_3, before0_4, before0_5, before0_6, before0_7, before0_8]
  rw [show (dats0 m 0 c).Φ t.succ = (dats0 m 0 c).Φ t.castSucc from rfl,
    show (dats0 m 0 c).owesAt () t.succ = (dats0 m 0 c).owesAt () t.castSucc from rfl,
    after0_0, after0_1, after0_2, after0_3, after0_4, after0_5, after0_6, after0_7, after0_8]
  rw [show (dats0 m 0 c).Φ t.castSucc = Pipeline.ΦA spec0 c from rfl, Pipeline.ΦA, scopedRest0_eq]
  iintro ⟨⟨⟨⟨%f12, S0⟩, ⟨%f13, S1⟩, ⟨%f14, S2⟩, ⟨%f15, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X9, H9⟩⟩
  iapply (wp_wand_r frame (wpE (defs₀ (F := F)) 𝒱₀ (c : Thread nD τ) none) Set.univ)
  isplitl [S0 S1 S2 S3 H0 H1 H2 H3 H4 H5 H6 H7 H8 H9]
  · iapply (body_at m c t X9 f12 f13 f14 f15)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  iintro %_ ⟨H0, H1, H2, H3, H4, H5, H6, H7, H8, H9, S0, S1, S2, S3⟩
  isplitl [S0 S1 S2 S3 HP]
  · isplitl [S0 S1 S2 S3]
    · isplitl [S0]; · iexists _; iexact S0
      isplitl [S1]; · iexists _; iexact S1
      isplitl [S2]; · iexists _; iexact S2
      iexists _; iexact S3
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

theorem body_obligation (c : Dev nD) : BodyObligation (dats0 (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
set_option maxHeartbeats 800000 in
/-- The launch, the result forgotten. -/
theorem run_forget : θ_run defs (onTc (τ := τ) (main (F := F))) (s₀ m ρ)
    (fun r => (Pipeline.RDat.FramePost cfg0 (fun c => (dats0 m 0 c).toRForget fgt) (V m)) r ∧ r.2.sem = fun _ => 0) :=
  Pipeline.θ_run_frame_forget (Q' := _) cfgs (dats0 m) (0 : Fin 1) launch0 defs₀ 𝒱₀ fgt m ρ main
    (hbody := fun c => (body_obligation m c).loose) (hshare := fun c => (dats0 m 0 c).share_full fun _ => rfl)
    (howed := fun _ _ => rfl) (V := V m) (hmain := hmain m 𝒱₀) (hA := A_eq m _ _) (hΦ := fun _ _ => rfl)

/-- THE FRAME: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => by
    have h1 := (h.1 c).1
    have h2 := (h.1 c).2
    have g : ∀ w : Fin cfg0.W, fgt w = false → (cfg0.win w).isOut = false →
        r.2.mem ((cfg0.spec w).arr.view.loc (c.tc : Thread nD τ)) = V m c (Pipeline.arrRef spec0 w) := fun w hw ho =>
      (((dats0 m 0 c).toRForget_arrAt_iff hw _ _).1 (h1 w)).trans (((dats0 m 0 c).arrAt_in w ho _).trans (A_eq m _ _ c w))
    exact ⟨(h2 main_arg0 (Pipeline.mem_restRefs_of main_arg0 (by decide) (by decide))).trans (V_main_arg0 m c),
      (h2 main_arg1 (Pipeline.mem_restRefs_of main_arg1 (by decide) (by decide))).trans (V_main_arg1 m c),
      (h2 main_arg2 (Pipeline.mem_restRefs_of main_arg2 (by decide) (by decide))).trans (V_main_arg2 m c),
      (g 1 rfl rfl).trans (V_main_arg3 m c), (g 2 rfl rfl).trans (V_main_arg4 m c), (g 3 rfl rfl).trans (V_main_arg5 m c),
      (h2 main_arg6 (Pipeline.mem_restRefs_of main_arg6 (by decide) (by decide))).trans (V_main_arg6 m c),
      (g 0 rfl rfl).trans (V_main_arg7 m c)⟩, h.2⟩) (run_forget m ρ)

end Cert.Proof.Kernel

end
-- ==== Proof.KernelIdealCheck.lean ====
/-
  The side condition the loop's body assumes of the words it reads holds for every word: under the guard
  `hi - lo = n` both counts are at most eight, so `lo + n` is, and every box of the trip lies in its buffer.
-/
module

public import proofs.«01_k».proof.Proof.Words
public import proofs.«01_k».proof.Proof.Gen.KernelIdeal.Skeleton

@[expose] public section

set_option maxRecDepth 16384

namespace Cert.Proof.KernelIdeal

open Cert.KernelIdeal Idealize.ShloMosaic Cert.Proof.Words

variable (k0_t1 : Fin k0_t1_loop.trips) (v999 v1005 v1007 v1012 v1017 v1022 v1027 v1032 v1037 v1042 v1047 v1052 v1057 v1062 v1067 v1072 v1077 v1082 : BitVec 32)

set_option maxHeartbeats 4000000
theorem chk1_0 : k0_chk1_0 k0_t1 v999 v1005 v1007 v1012 v1017 v1022 v1027 v1032 v1037 v1042 v1047 v1052 v1057 v1062 v1067 v1072 v1077 v1082 :=
  ⟨fun _ => dvd128 _,
    fun _ => dvd128a _ _ (by decide),
    fun h => inb_k3 (n := 1) (cond_lo (n := 1) _ _ _ _ _ _ _ _ _ _ _ _ _ _ _ _ (by decide) h) (r := 0) (by decide) _ _ rfl rfl,
    fun _ => dvd128 _,
    fun h => inb_s2 k0_t1 (n := 1) (cond_lo (n := 1) _ _ _ _ _ _ _ _ _ _ _ _ _ _ _ _ (by decide) h) (r := 0) (by decide) _ _ rfl rfl,
    fun h => inb_k2 (n := 1) (cond_lo (n := 1) _ _ _ _ _ _ _ _ _ _ _ _ _ _ _ _ (by decide) h) (r := 0) (by decide) _ _ rfl rfl,
    fun h => inb_v2 (n := 1) (cond_lo (n := 1) _ _ _ _ _ _ _ _ _ _ _ _ _ _ _ _ (by decide) h) _ _ rfl rfl,
    fun _ => dvd128 _,
    fun _ => dvd128a _ _ (by decide),
    fun h r => inb_k3 (n := 2) (cond_lo (n := 2) _ _ _ _ _ _ _ _ _ _ _ _ _ _ _ _ (by decide) h) r.isLt _ _ rfl rfl,
    fun _ => dvd128 _,
    fun h r => inb_s2 k0_t1 (n := 2) (cond_lo (n := 2) _ _ _ _ _ _ _ _ _ _ _ _ _ _ _ _ (by decide) h) r.isLt _ _ rfl rfl,
    fun h r => inb_k2 (n := 2) (cond_lo (n := 2) _ _ _ _ _ _ _ _ _ _ _ _ _ _ _ _ (by decide) h) r.isLt _ _ rfl rfl,
    fun _ => dvd128a _ _ (by decide),
    fun _ => dvd128 _,
    fun h => inb_v2 (n := 2) (cond_lo (n := 2) _ _ _ _ _ _ _ _ _ _ _ _ _ _ _ _ (by decide) h) _ _ rfl rfl,
    fun _ => dvd128 _,
    fun _ => dvd128a _ _ (by decide),
    fun h r => inb_k3 (n := 3) (cond_lo (n := 3) _ _ _ _ _ _ _ _ _ _ _ _ _ _ _ _ (by decide) h) r.isLt _ _ rfl rfl,
    fun _ => dvd128 _,
    fun h r => inb_s2 k0_t1 (n := 3) (cond_lo (n := 3) _ _ _ _ _ _ _ _ _ _ _ _ _ _ _ _ (by decide) h) r.isLt _ _ rfl rfl,
    fun h r => inb_k2 (n := 3) (cond_lo (n := 3) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun h => inb_v2 (n := 3) (cond_lo (n := 3) _ _ _ _ _ _ _ _ _ _ _ _ _ _ _ _ (by decide) h) _ _ rfl rfl,
    fun _ => dvd128 _,
    fun _ => dvd128a _ _ (by decide),
    fun h r => inb_k3 (n := 4) (cond_lo (n := 4) _ _ _ _ _ _ _ _ _ _ _ _ _ _ _ _ (by decide) h) r.isLt _ _ rfl rfl,
    fun _ => dvd128 _,
    fun h r => inb_s2 k0_t1 (n := 4) (cond_lo (n := 4) _ _ _ _ _ _ _ _ _ _ _ _ _ _ _ _ (by decide) h) r.isLt _ _ rfl rfl⟩

theorem chk1_1 : k0_chk1_1 k0_t1 v999 v1005 v1007 v1012 v1017 v1022 v1027 v1032 v1037 v1042 v1047 v1052 v1057 v1062 v1067 v1072 v1077 v1082 :=
  ⟨fun h r => inb_k2 (n := 4) (cond_lo (n := 4) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun _ => dvd128a _ _ (by decide),
    fun _ => dvd128 _,
    fun h => inb_v2 (n := 4) (cond_lo (n := 4) _ _ _ _ _ _ _ _ _ _ _ _ _ _ _ _ (by decide) h) _ _ rfl rfl,
    fun _ => dvd128 _,
    fun _ => dvd128a _ _ (by decide),
    fun h r => inb_k3 (n := 5) (cond_lo (n := 5) _ _ _ _ _ _ _ _ _ _ _ _ _ _ _ _ (by decide) h) r.isLt _ _ rfl rfl,
    fun _ => dvd128 _,
    fun h r => inb_s2 k0_t1 (n := 5) (cond_lo (n := 5) _ _ _ _ _ _ _ _ _ _ _ _ _ _ _ _ (by decide) h) r.isLt _ _ rfl rfl,
    fun h r => inb_k2 (n := 5) (cond_lo (n := 5) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun h => inb_v2 (n := 5) (cond_lo (n := 5) _ _ _ _ _ _ _ _ _ _ _ _ _ _ _ _ (by decide) h) _ _ rfl rfl,
    fun _ => dvd128 _,
    fun _ => dvd128a _ _ (by decide),
    fun h r => inb_k3 (n := 6) (cond_lo (n := 6) _ _ _ _ _ _ _ _ _ _ _ _ _ _ _ _ (by decide) h) r.isLt _ _ rfl rfl,
    fun _ => dvd128 _,
    fun h r => inb_s2 k0_t1 (n := 6) (cond_lo (n := 6) _ _ _ _ _ _ _ _ _ _ _ _ _ _ _ _ (by decide) h) r.isLt _ _ rfl rfl,
    fun h r => inb_k2 (n := 6) (cond_lo (n := 6) _ _ _ _ _ _ _ _ _ _ _ _ _ _ _ _ (by decide) h) r.isLt _ _ rfl rfl,
    fun _ => dvd128a _ _ (by decide),
    fun _ => dvd128 _,
    fun _ => dvd128a _ _ (by decide)⟩

theorem chk1_2 : k0_chk1_2 k0_t1 v999 v1005 v1007 v1012 v1017 v1022 v1027 v1032 v1037 v1042 v1047 v1052 v1057 v1062 v1067 v1072 v1077 v1082 :=
  ⟨fun _ => dvd128 _,
    fun _ => dvd128a _ _ (by decide),
    fun _ => dvd128 _,
    fun _ => dvd128a _ _ (by decide),
    fun _ => dvd128 _,
    fun _ => dvd128a _ _ (by decide),
    fun _ => dvd128 _,
    fun h => inb_v2 (n := 6) (cond_lo (n := 6) _ _ _ _ _ _ _ _ _ _ _ _ _ _ _ _ (by decide) h) _ _ rfl rfl,
    fun _ => dvd128 _,
    fun _ => dvd128a _ _ (by decide),
    fun h r => inb_k3 (n := 7) (cond_lo (n := 7) _ _ _ _ _ _ _ _ _ _ _ _ _ _ _ _ (by decide) h) r.isLt _ _ rfl rfl,
    fun _ => dvd128 _,
    fun h r => inb_s2 k0_t1 (n := 7) (cond_lo (n := 7) _ _ _ _ _ _ _ _ _ _ _ _ _ _ _ _ (by decide) h) r.isLt _ _ rfl rfl,
    fun h r => inb_k2 (n := 7) (cond_lo (n := 7) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun h => inb_v2 (n := 7) (cond_lo (n := 7) _ _ _ _ _ _ _ _ _ _ _ _ _ _ _ _ (by decide) h) _ _ rfl rfl,
    fun _ => dvd128 _,
    fun _ => dvd128a _ _ (by decide),
    fun h r => inb_k3 (n := 8) (cond_lo (n := 8) _ _ _ _ _ _ _ _ _ _ _ _ _ _ _ _ (by decide) h) r.isLt _ _ rfl rfl,
    fun _ => dvd128 _,
    fun h r => inb_s2 k0_t1 (n := 8) (cond_lo (n := 8) _ _ _ _ _ _ _ _ _ _ _ _ _ _ _ _ (by decide) h) r.isLt _ _ rfl rfl⟩

theorem chk1_3 : k0_chk1_3 k0_t1 v999 v1005 v1007 v1012 v1017 v1022 v1027 v1032 v1037 v1042 v1047 v1052 v1057 v1062 v1067 v1072 v1077 v1082 :=
  ⟨fun h r => inb_k2 (n := 8) (cond_lo (n := 8) _ _ _ _ _ _ _ _ _ _ _ _ _ _ _ _ (by decide) h) r.isLt _ _ rfl rfl,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun _ => dvd128a _ _ (by decide),
    fun _ => dvd128 _,
    fun h => inb_v2 (n := 8) (cond_lo (n := 8) _ _ _ _ _ _ _ _ _ _ _ _ _ _ _ _ (by decide) h) _ _ rfl rfl⟩

theorem chk1 : k0_chk1 k0_t1 v999 v1005 v1007 v1012 v1017 v1022 v1027 v1032 v1037 v1042 v1047 v1052 v1057 v1062 v1067 v1072 v1077 v1082 :=
  ⟨chk1_0 k0_t1 v999 v1005 v1007 v1012 v1017 v1022 v1027 v1032 v1037 v1042 v1047 v1052 v1057 v1062 v1067 v1072 v1077 v1082, chk1_1 k0_t1 v999 v1005 v1007 v1012 v1017 v1022 v1027 v1032 v1037 v1042 v1047 v1052 v1057 v1062 v1067 v1072 v1077 v1082, chk1_2 k0_t1 v999 v1005 v1007 v1012 v1017 v1022 v1027 v1032 v1037 v1042 v1047 v1052 v1057 v1062 v1067 v1072 v1077 v1082, chk1_3 k0_t1 v999 v1005 v1007 v1012 v1017 v1022 v1027 v1032 v1037 v1042 v1047 v1052 v1057 v1062 v1067 v1072 v1077 v1082⟩

end Cert.Proof.KernelIdeal
-- ==== Proof.KernelIdealLoop.lean ====
/-
  One trip of the loop over query tiles, and the loop's invariant: the result's buffer at what the trips before
  left, every other buffer as it was.
-/
module

public import proofs.«01_k».proof.Proof.KernelIdealCheck
public import proofs.«01_k».proof.Proof.Gen.KernelIdeal.Loops
public import proofs.«01_k».proof.Proof.Gen.KernelIdeal.Frame

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

variable (c : Dev nD) (i : grid0.Coords) (arg2 : Memref sig .tc .smem S2x1024 .i32) (harg2 : arg2.IsWhole) (arg3 : Memref sig .tc .smem S2x24 .f32) (harg3 : arg3.IsWhole) (arg4 : Memref sig .tc .smem S2x24 .f32) (harg4 : arg4.IsWhole) (arg5 : Memref sig .tc .smem S2x24 .f32) (harg5 : arg5.IsWhole) (arg6 : Memref sig .tc .vmem S1x1x1024 .i32) (harg6 : arg6.IsWhole) (arg7 : Memref sig .tc .vmem S1x1x128 .f32) (harg7 : arg7.IsWhole) (arg8 : Memref sig .tc .vmem S1x1024x128 .fp8e4m3) (harg8 : arg8.IsWhole) (arg9 : Memref sig .tc .vmem S1x1024x128 .fp8e4m3) (harg9 : arg9.IsWhole) (arg10 : Memref sig .tc .vmem S1x1024x128 .fp8e4m3) (harg10 : arg10.IsWhole) (arg11 : Memref sig .tc .vmem S1x1024x128 .bf16) (harg11 : arg11.IsWhole) (arg12 : Memref sig .tc .vmem S640x128 .i32) (harg12 : arg12.IsWhole) (arg13 : Memref sig .tc .vmem S1024x128 .i32) (harg13 : arg13.IsWhole) (arg14 : Memref sig .tc .vmem S640x128 .f32) (harg14 : arg14.IsWhole) (arg15 : Memref sig .tc .vmem S128x1024 .fp8e4m3) (harg15 : arg15.IsWhole) (arg0 : BitVec 32) (v14 : F .f32) (v17 : Elt F .f32)

/-- What a trip touches: the staged words, ids, queries and keys, the result, and the three scratches it reads. -/
abbrev Trip (f2 : Bf (F := F) c arg2) (f6 : Bf (F := F) c arg6) (f8 : Bf (F := F) c arg8) (f9 : Bf (F := F) c arg9)
    (f13 : Bf (F := F) c arg13) (f14 : Bf (F := F) c arg14) (f15 : Bf (F := F) c arg15) (f11 : Bf (F := F) c arg11) : sProp 𝕄 :=
  iprop(pt c arg2 f2 ∗ pt c arg6 f6 ∗ pt c arg8 f8 ∗ pt c arg9 f9 ∗ pt c arg13 f13 ∗ pt c arg14 f14 ∗ pt c arg15 f15 ∗ pt c arg11 f11)

/-- One trip, its result's contents found by the run. -/
def trip (f2 : Bf (F := F) c arg2) (f6 : Bf (F := F) c arg6) (f8 : Bf (F := F) c arg8) (f9 : Bf (F := F) c arg9)
    (f13 : Bf (F := F) c arg13) (f14 : Bf (F := F) c arg14) (f15 : Bf (F := F) c arg15) (k : Fin k0_t1_loop.trips) :
    { g : Bf (F := F) c arg11 → Bf (F := F) c arg11 // ∀ f11, (Trip c arg2 arg6 arg8 arg9 arg11 arg13 arg14 arg15 f2 f6 f8 f9 f13 f14 f15 f11)
      ⊢ wp frame (wpE (defs₀ (F := F)) 𝒱₀ (c : Thread nD τ) none) Set.univ
        (Gen.k0_t1_body i arg2 harg2 arg3 harg3 arg4 harg4 arg5 harg5 arg6 harg6 arg7 harg7 arg8 harg8 arg9 harg9 arg10 harg10 arg11 harg11 arg12 harg12 arg13 harg13 arg14 harg14 arg15 harg15 arg0 v14 v17 k ())
        (fun _ => Trip c arg2 arg6 arg8 arg9 arg11 arg13 arg14 arg15 f2 f6 f8 f9 f13 f14 f15 (g f11)) } := by
  refine ⟨?_, fun f11 => ?run⟩
  case run =>
    unfold Gen.k0_t1_body
    iintro ⟨H2, H6, H8, H9, H13, H14, H15, H11⟩
    sl_exec_parts (disch := exact chk1 ..)
    sl_step
    isplitl [H2]; · iexact H2
    isplitl [H6]; · iexact H6
    isplitl [H8]; · iexact H8
    isplitl [H9]; · iexact H9
    isplitl [H13]; · iexact H13
    isplitl [H14]; · iexact H14
    isplitl [H15]; · iexact H15
    iexact H11

section Inv

variable (f2 : Bf (F := F) c arg2) (f6 : Bf (F := F) c arg6) (f8 : Bf (F := F) c arg8) (f9 : Bf (F := F) c arg9)
    (f13 : Bf (F := F) c arg13) (f14 : Bf (F := F) c arg14) (f15 : Bf (F := F) c arg15)

/-- The result's contents before trip `k`. -/
def accAt (f11 : Bf (F := F) c arg11) : ℕ → Bf (F := F) c arg11
  | 0 => f11
  | k + 1 =>
    if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 ⟨k, h⟩).1 (accAt f11 k)
    else accAt f11 k

set_option warn.classDefReducibility false in
/-- The loop's invariant: before trip `k`, the result at `accAt k`. -/
@[sl_loop] def loopInv_k0_t1 (f11 : Bf (F := F) c arg11) :
    Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg0 v14 v17 where
  inv k _ := Trip c arg2 arg6 arg8 arg9 arg11 arg13 arg14 arg15 f2 f6 f8 f9 f13 f14 f15
    (accAt c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 f11 k)
  step k _ := by
    have e : accAt c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 f11 (k.val + 1)
        = (trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1
            (accAt c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 f11 k.val) := by
      rw [accAt, dif_pos k.isLt]
    rw [e]
    exact (trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).2 _

end Inv

end Cert.Proof.KernelIdeal

end
-- ==== Proof.KernelIdealBody.lean ====
/-
  One grid point's body, run once at symbolic contents: what it leaves in the result's staging buffer and in the
  four scratches is found by the run.
-/
module

public import proofs.«01_k».proof.Proof.KernelIdealLoop

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords) (arg2 : Memref sig .tc .smem S2x1024 .i32) (harg2 : arg2.IsWhole) (arg3 : Memref sig .tc .smem S2x24 .f32) (harg3 : arg3.IsWhole) (arg4 : Memref sig .tc .smem S2x24 .f32) (harg4 : arg4.IsWhole) (arg5 : Memref sig .tc .smem S2x24 .f32) (harg5 : arg5.IsWhole) (arg6 : Memref sig .tc .vmem S1x1x1024 .i32) (harg6 : arg6.IsWhole) (arg7 : Memref sig .tc .vmem S1x1x128 .f32) (harg7 : arg7.IsWhole) (arg8 : Memref sig .tc .vmem S1x1024x128 .fp8e4m3) (harg8 : arg8.IsWhole) (arg9 : Memref sig .tc .vmem S1x1024x128 .fp8e4m3) (harg9 : arg9.IsWhole) (arg10 : Memref sig .tc .vmem S1x1024x128 .fp8e4m3) (harg10 : arg10.IsWhole) (arg11 : Memref sig .tc .vmem S1x1024x128 .bf16) (harg11 : arg11.IsWhole) (arg12 : Memref sig .tc .vmem S640x128 .i32) (harg12 : arg12.IsWhole) (arg13 : Memref sig .tc .vmem S1024x128 .i32) (harg13 : arg13.IsWhole) (arg14 : Memref sig .tc .vmem S640x128 .f32) (harg14 : arg14.IsWhole) (arg15 : Memref sig .tc .vmem S128x1024 .fp8e4m3) (harg15 : arg15.IsWhole)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11)
  (f12 : Bf (F := F) c arg12) (f13 : Bf (F := F) c arg13) (f14 : Bf (F := F) c arg14) (f15 : Bf (F := F) c arg15)

/-- All fourteen buffers of a point's body. -/
abbrev All (f11 : Bf (F := F) c arg11) (f12 : Bf (F := F) c arg12) (f13 : Bf (F := F) c arg13) (f14 : Bf (F := F) c arg14) (f15 : Bf (F := F) c arg15) : sProp 𝕄 :=
  iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
    ∗ pt c arg11 f11 ∗ pt c arg12 f12 ∗ pt c arg13 f13 ∗ pt c arg14 f14 ∗ pt c arg15 f15)

/-- The body's run at a point, and the contents it leaves. -/
def bodyRun : Σ' (g11 : Bf (F := F) c arg11) (g12 : Bf (F := F) c arg12) (g13 : Bf (F := F) c arg13) (g14 : Bf (F := F) c arg14) (g15 : Bf (F := F) c arg15),
    All c arg2 arg3 arg4 arg5 arg6 arg7 arg8 arg9 arg10 arg11 arg12 arg13 arg14 arg15 f2 f3 f4 f5 f6 f7 f8 f9 f10 f11 f12 f13 f14 f15
      ⊢ wp frame (wpE (defs₀ (F := F)) 𝒱₀ (c : Thread nD τ) none) Set.univ
        (cc0_t5_attention i arg2 harg2 arg3 harg3 arg4 harg4 arg5 harg5 arg6 harg6 arg7 harg7 arg8 harg8 arg9 harg9 arg10 harg10 arg11 harg11 arg12 harg12 arg13 harg13 arg14 harg14 arg15 harg15)
        (fun _ => All c arg2 arg3 arg4 arg5 arg6 arg7 arg8 arg9 arg10 arg11 arg12 arg13 arg14 arg15 f2 f3 f4 f5 f6 f7 f8 f9 f10 g11 g12 g13 g14 g15) := by
  refine ⟨?_, ?_, ?_, ?_, ?_, ?run⟩
  case run =>
    iintro ⟨H2, H3, H4, H5, H6, H7, H8, H9, H10, H11, H12, H13, H14, H15⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.KernelIdeal

end
-- ==== Proof.KernelIdealFrame.lean ====
/-
  The frame: a grid point's body between the pipeline's staging buffers, the pipeline's proof data, the body
  obligation with the result's window forgotten, and the run of @main to its argument arrays unchanged. The result's
  block is not wholly written for every table of ids, so nothing is said of it here.
-/
module

public import proofs.«01_k».proof.Proof.KernelIdealBody
public import proofs.«01_k».proof.Proof.Gen.KernelIdeal.Frame
public import proofs.«01_k».proof.Proof.Gen.KernelIdeal.Points
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- A whole memref owned at `x` is its buffer held at the contents that read `x`, -/
theorem own_pt (c : Dev nD) {sp : Space} {S : Shape} {e : EltTy} (M : Memref sig .tc sp S e) (h : M.IsWhole) (x : S.Idx → Elt F e) :
    (owns (c : Thread nD τ) M fullShare x : sProp 𝕄) ⊢ pt (F := F) c M (h.unread x) := by
  unfold owns pt
  iintro ⟨%f, %hf, H⟩
  obtain rfl := h.eq_unread hf
  rw [h.set_eq_univ]
  iexact H

/-- and conversely. -/
theorem pt_own (c : Dev nD) {sp : Space} {S : Shape} {e : EltTy} (M : Memref sig .tc sp S e) (h : M.IsWhole) (f : Bf (F := F) c M)
    (x : S.Idx → Elt F e) (hx : View.read (Elt F) M.view f = x) :
    pt (F := F) c M f ⊢ (owns (c : Thread nD τ) M fullShare x : sProp 𝕄) := by
  unfold owns pt
  iintro H
  iexists f
  isplitr
  · ipureintro; exact hx
  rw [h.set_eq_univ]
  iexact H

variable (m : (ℓ : Loc nD τ sig) → Buf (Elt F) ℓ) (ρ : Dev nD → PrngReg)

section Point

variable (c : Dev nD) (t : Fin cfg0.N) (X9 : (cfg0.win 9).block.Idx → Elt F (cfg0.win 9).elt)
  (f12 : Bf (F := F) c (Memref.whole cc0_scratch0)) (f13 : Bf (F := F) c (Memref.whole cc0_scratch1))
  (f14 : Bf (F := F) c (Memref.whole cc0_scratch2)) (f15 : Bf (F := F) c (Memref.whole cc0_scratch3))

/-- The body's run at point `t`, between the staging buffers the pipeline calls it with. -/
def RR := bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)
  ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t))
  ((hstage0_9 ((cfg0.slots t 9).cast nbuf0_9)).unread X9) f12 f13 f14 f15

/-- The block it leaves for the result, -/
def outX : (cfg0.win 9).block.Idx → Elt F (cfg0.win 9).elt :=
  View.read (Elt F) (win0_9.stage (cfg0.slots t 9)).view (RR m c t X9 f12 f13 f14 f15).1

/-- and the point as a triple. -/
theorem body_at :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare X9 ∗ pt c (Memref.whole cc0_scratch0) f12 ∗ pt c (Memref.whole cc0_scratch1) f13 ∗ pt c (Memref.whole cc0_scratch2) f14 ∗ pt c (Memref.whole cc0_scratch3) f15)
    ⊢ wp frame (wpE (defs₀ (F := F)) 𝒱₀ (c : Thread nD τ) none) Set.univ (bodyAt0 t)
      (fun _ => iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (outX m c t X9 f12 f13 f14 f15) ∗ pt c (Memref.whole cc0_scratch0) (RR m c t X9 f12 f13 f14 f15).2.1 ∗ pt c (Memref.whole cc0_scratch1) (RR m c t X9 f12 f13 f14 f15).2.2.1 ∗ pt c (Memref.whole cc0_scratch2) (RR m c t X9 f12 f13 f14 f15).2.2.2.1 ∗ pt c (Memref.whole cc0_scratch3) (RR m c t X9 f12 f13 f14 f15).2.2.2.2.1)) := by
  refine triple_restated (RR m c t X9 f12 f13 f14 f15).2.2.2.2.2 rfl ?_ (fun _ => ?_)
  · iintro ⟨H0, H1, H2, H3, H4, H5, H6, H7, H8, H9, HS⟩
    isplitl [H0]; · iapply own_pt; iexact H0
    isplitl [H1]; · iapply own_pt; iexact H1
    isplitl [H2]; · iapply own_pt; iexact H2
    isplitl [H3]; · iapply own_pt; iexact H3
    isplitl [H4]; · iapply own_pt; iexact H4
    isplitl [H5]; · iapply own_pt; iexact H5
    isplitl [H6]; · iapply own_pt; iexact H6
    isplitl [H7]; · iapply own_pt; iexact H7
    isplitl [H8]; · iapply own_pt; iexact H8
    isplitl [H9]; · iapply own_pt; iexact H9
    iexact HS
  · iintro ⟨H0, H1, H2, H3, H4, H5, H6, H7, H8, H9, HS⟩
    isplitl [H0]; · iapply (pt_own _ _ (hstage0_0 ((cfg0.slots t 0).cast nbuf0_0)) _ _ (Memref.IsWhole.read_unread _ _)); iexact H0
    isplitl [H1]; · iapply (pt_own _ _ (hstage0_1 ((cfg0.slots t 1).cast nbuf0_1)) _ _ (Memref.IsWhole.read_unread _ _)); iexact H1
    isplitl [H2]; · iapply (pt_own _ _ (hstage0_2 ((cfg0.slots t 2).cast nbuf0_2)) _ _ (Memref.IsWhole.read_unread _ _)); iexact H2
    isplitl [H3]; · iapply (pt_own _ _ (hstage0_3 ((cfg0.slots t 3).cast nbuf0_3)) _ _ (Memref.IsWhole.read_unread _ _)); iexact H3
    isplitl [H4]; · iapply (pt_own _ _ (hstage0_4 ((cfg0.slots t 4).cast nbuf0_4)) _ _ (Memref.IsWhole.read_unread _ _)); iexact H4
    isplitl [H5]; · iapply (pt_own _ _ (hstage0_5 ((cfg0.slots t 5).cast nbuf0_5)) _ _ (Memref.IsWhole.read_unread _ _)); iexact H5
    isplitl [H6]; · iapply (pt_own _ _ (hstage0_6 ((cfg0.slots t 6).cast nbuf0_6)) _ _ (Memref.IsWhole.read_unread _ _)); iexact H6
    isplitl [H7]; · iapply (pt_own _ _ (hstage0_7 ((cfg0.slots t 7).cast nbuf0_7)) _ _ (Memref.IsWhole.read_unread _ _)); iexact H7
    isplitl [H8]; · iapply (pt_own _ _ (hstage0_8 ((cfg0.slots t 8).cast nbuf0_8)) _ _ (Memref.IsWhole.read_unread _ _)); iexact H8
    isplitl [H9]; · iapply (pt_own _ _ (hstage0_9 ((cfg0.slots t 9).cast nbuf0_9)) _ _ rfl); iexact H9
    iexact HS

end Point

/-- The pipeline's proof data at an invariant `Φ` of the scratches and result blocks `o`. -/
def datsOf (Φ : (c : Dev nD) → Fin (cfg0.N + 1) → sProp 𝕄) (o : (c : Dev nD) → Fin cfg0.N → (cfg0.win 9).block.Idx → Elt F (cfg0.win 9).elt)
    (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => o c t
  Φ := Φ c
  q _ := fullShare
  owed _ := 0

theorem A_eq (Φ : (c : Dev nD) → Fin (cfg0.N + 1) → sProp 𝕄) (o : (c : Dev nD) → Fin cfg0.N → (cfg0.win 9).block.Idx → Elt F (cfg0.win 9).elt) (c : Dev nD) (w : Fin cfg0.W) : (datsOf m Φ o 0 c).A w = V m c (Pipeline.arrRef spec0 w) := by
  dsimp only [datsOf]
theorem after0_0 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 0 t = iblk m c 0 t := by dsimp only [datsOf]
theorem after0_1 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 1 t = iblk m c 1 t := by dsimp only [datsOf]
theorem after0_2 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 2 t = iblk m c 2 t := by dsimp only [datsOf]
theorem after0_3 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 3 t = iblk m c 3 t := by dsimp only [datsOf]
theorem after0_4 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 4 t = iblk m c 4 t := by dsimp only [datsOf]
theorem after0_5 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 5 t = iblk m c 5 t := by dsimp only [datsOf]
theorem after0_6 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 6 t = iblk m c 6 t := by dsimp only [datsOf]
theorem after0_7 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 7 t = iblk m c 7 t := by dsimp only [datsOf]
theorem after0_8 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 8 t = iblk m c 8 t := by dsimp only [datsOf]
theorem after0_9 (Φ : (c : Dev nD) → Fin (cfg0.N + 1) → sProp 𝕄) (o : (c : Dev nD) → Fin cfg0.N → (cfg0.win 9).block.Idx → Elt F (cfg0.win 9).elt) (c : Dev nD) (t : Fin cfg0.N) : (datsOf m Φ o 0 c).after 9 t = o c t := by dsimp only [datsOf]
theorem before0_0 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 0 t d = iblk m c 0 t :=
  before0_0_of m (datsOf m Φ o 0 c) (A_eq m Φ o c 0) (after0_0 m Φ o c) t d
theorem before0_1 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 1 t d = iblk m c 1 t :=
  before0_1_of m (datsOf m Φ o 0 c) (A_eq m Φ o c 1) (after0_1 m Φ o c) t d
theorem before0_2 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 2 t d = iblk m c 2 t :=
  before0_2_of m (datsOf m Φ o 0 c) (A_eq m Φ o c 2) (after0_2 m Φ o c) t d
theorem before0_3 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 3 t d = iblk m c 3 t :=
  before0_3_of m (datsOf m Φ o 0 c) (A_eq m Φ o c 3) (after0_3 m Φ o c) t d
theorem before0_4 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 4 t d = iblk m c 4 t :=
  before0_4_of m (datsOf m Φ o 0 c) (A_eq m Φ o c 4) (after0_4 m Φ o c) t d
theorem before0_5 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 5 t d = iblk m c 5 t :=
  before0_5_of m (datsOf m Φ o 0 c) (A_eq m Φ o c 5) (after0_5 m Φ o c) t d
theorem before0_6 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 6 t d = iblk m c 6 t :=
  before0_6_of m (datsOf m Φ o 0 c) (A_eq m Φ o c 6) (after0_6 m Φ o c) t d
theorem before0_7 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 7 t d = iblk m c 7 t :=
  before0_7_of m (datsOf m Φ o 0 c) (A_eq m Φ o c 7) (after0_7 m Φ o c) t d
theorem before0_8 (Φ : (c : Dev nD) → Fin (cfg0.N + 1) → sProp 𝕄) (o : (c : Dev nD) → Fin cfg0.N → (cfg0.win 9).block.Idx → Elt F (cfg0.win 9).elt) (c : Dev nD) (t : Fin cfg0.N) (d) : (datsOf m Φ o 0 c).before 8 t d = iblk m c 8 t :=
  before0_8_of m (datsOf m Φ o 0 c) (A_eq m Φ o c 8) (after0_8 m Φ o c) t d

theorem defs₀_row (t : Fin cfg0.N) :
    defs₀ (F := F) .tc cfg0.body (cfg0.bodyArgs t (cfg0.slots t)) = bodyAt0 t := by
  unfold defs₀; rw [Defs.onTc_tc]

/-! ## The result forgotten -/

/-- The result's window is forgotten. -/
abbrev fgt : Fin cfg0.W → Bool := fun w => w == 9

/-- The proof data of the frame: nothing tracked. -/
abbrev dats0 : (p : Fin 1) → (c : Dev nD) → Dat τ (Elt F) Unit ℕ (UR sig nD τ) ℕ cfg0 c :=
  datsOf m (fun c _ => Pipeline.ΦA spec0 c) (fun _ => Dat.unnamed 9)

theorem sound_body (c : Dev nD) (t : Fin cfg0.N) :
    iprop((dats0 m 0 c).Φ t.castSucc ∗ (dats0 m 0 c).owesAt () t.castSucc
      ∗ (∃ d, owns (c : Thread nD τ) (st0_0 t) fullShare ((dats0 m 0 c).before 0 t d)) ∗ (∃ d, owns (c : Thread nD τ) (st0_1 t) fullShare ((dats0 m 0 c).before 1 t d)) ∗ (∃ d, owns (c : Thread nD τ) (st0_2 t) fullShare ((dats0 m 0 c).before 2 t d)) ∗ (∃ d, owns (c : Thread nD τ) (st0_3 t) fullShare ((dats0 m 0 c).before 3 t d)) ∗ (∃ d, owns (c : Thread nD τ) (st0_4 t) fullShare ((dats0 m 0 c).before 4 t d)) ∗ (∃ d, owns (c : Thread nD τ) (st0_5 t) fullShare ((dats0 m 0 c).before 5 t d)) ∗ (∃ d, owns (c : Thread nD τ) (st0_6 t) fullShare ((dats0 m 0 c).before 6 t d)) ∗ (∃ d, owns (c : Thread nD τ) (st0_7 t) fullShare ((dats0 m 0 c).before 7 t d)) ∗ (∃ d, owns (c : Thread nD τ) (st0_8 t) fullShare ((dats0 m 0 c).before 8 t d)) ∗ (∃ X, owns (c : Thread nD τ) (st0_9 t) fullShare X))
    ⊢ wp frame (wpE (defs₀ (F := F)) 𝒱₀ (c : Thread nD τ) none) Set.univ (bodyAt0 t)
      (fun _ => iprop((dats0 m 0 c).Φ t.succ ∗ (dats0 m 0 c).owesAt () t.succ
        ∗ owns (c : Thread nD τ) (st0_0 t) fullShare ((dats0 m 0 c).after 0 t) ∗ owns (c : Thread nD τ) (st0_1 t) fullShare ((dats0 m 0 c).after 1 t) ∗ owns (c : Thread nD τ) (st0_2 t) fullShare ((dats0 m 0 c).after 2 t) ∗ owns (c : Thread nD τ) (st0_3 t) fullShare ((dats0 m 0 c).after 3 t) ∗ owns (c : Thread nD τ) (st0_4 t) fullShare ((dats0 m 0 c).after 4 t) ∗ owns (c : Thread nD τ) (st0_5 t) fullShare ((dats0 m 0 c).after 5 t) ∗ owns (c : Thread nD τ) (st0_6 t) fullShare ((dats0 m 0 c).after 6 t) ∗ owns (c : Thread nD τ) (st0_7 t) fullShare ((dats0 m 0 c).after 7 t) ∗ owns (c : Thread nD τ) (st0_8 t) fullShare ((dats0 m 0 c).after 8 t) ∗ (∃ X, owns (c : Thread nD τ) (st0_9 t) fullShare X))) := by
  simp only [before0_0, before0_1, before0_2, before0_3, before0_4, before0_5, before0_6, before0_7, before0_8]
  rw [show (dats0 m 0 c).Φ t.succ = (dats0 m 0 c).Φ t.castSucc from rfl,
    show (dats0 m 0 c).owesAt () t.succ = (dats0 m 0 c).owesAt () t.castSucc from rfl,
    after0_0, after0_1, after0_2, after0_3, after0_4, after0_5, after0_6, after0_7, after0_8]
  rw [show (dats0 m 0 c).Φ t.castSucc = Pipeline.ΦA spec0 c from rfl, Pipeline.ΦA, scopedRest0_eq]
  iintro ⟨⟨⟨⟨%f12, S0⟩, ⟨%f13, S1⟩, ⟨%f14, S2⟩, ⟨%f15, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X9, H9⟩⟩
  iapply (wp_wand_r frame (wpE (defs₀ (F := F)) 𝒱₀ (c : Thread nD τ) none) Set.univ)
  isplitl [S0 S1 S2 S3 H0 H1 H2 H3 H4 H5 H6 H7 H8 H9]
  · iapply (body_at m c t X9 f12 f13 f14 f15)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  iintro %_ ⟨H0, H1, H2, H3, H4, H5, H6, H7, H8, H9, S0, S1, S2, S3⟩
  isplitl [S0 S1 S2 S3 HP]
  · isplitl [S0 S1 S2 S3]
    · isplitl [S0]; · iexists _; iexact S0
      isplitl [S1]; · iexists _; iexact S1
      isplitl [S2]; · iexists _; iexact S2
      iexists _; iexact S3
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

theorem body_obligation (c : Dev nD) : BodyObligation (dats0 (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
set_option maxHeartbeats 800000 in
/-- The launch, the result forgotten. -/
theorem run_forget : θ_run defs (onTc (τ := τ) (main (F := F))) (s₀ m ρ)
    (fun r => (Pipeline.RDat.FramePost cfg0 (fun c => (dats0 m 0 c).toRForget fgt) (V m)) r ∧ r.2.sem = fun _ => 0) :=
  Pipeline.θ_run_frame_forget (Q' := _) cfgs (dats0 m) (0 : Fin 1) launch0 defs₀ 𝒱₀ fgt m ρ main
    (hbody := fun c => (body_obligation m c).loose) (hshare := fun c => (dats0 m 0 c).share_full fun _ => rfl)
    (howed := fun _ _ => rfl) (V := V m) (hmain := hmain m 𝒱₀) (hA := A_eq m _ _) (hΦ := fun _ _ => rfl)

/-- THE FRAME: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => by
    have h1 := (h.1 c).1
    have h2 := (h.1 c).2
    have g : ∀ w : Fin cfg0.W, fgt w = false → (cfg0.win w).isOut = false →
        r.2.mem ((cfg0.spec w).arr.view.loc (c.tc : Thread nD τ)) = V m c (Pipeline.arrRef spec0 w) := fun w hw ho =>
      (((dats0 m 0 c).toRForget_arrAt_iff hw _ _).1 (h1 w)).trans (((dats0 m 0 c).arrAt_in w ho _).trans (A_eq m _ _ c w))
    exact ⟨(h2 main_arg0 (Pipeline.mem_restRefs_of main_arg0 (by decide) (by decide))).trans (V_main_arg0 m c),
      (h2 main_arg1 (Pipeline.mem_restRefs_of main_arg1 (by decide) (by decide))).trans (V_main_arg1 m c),
      (h2 main_arg2 (Pipeline.mem_restRefs_of main_arg2 (by decide) (by decide))).trans (V_main_arg2 m c),
      (g 1 rfl rfl).trans (V_main_arg3 m c), (g 2 rfl rfl).trans (V_main_arg4 m c), (g 3 rfl rfl).trans (V_main_arg5 m c),
      (h2 main_arg6 (Pipeline.mem_restRefs_of main_arg6 (by decide) (by decide))).trans (V_main_arg6 m c),
      (g 0 rfl rfl).trans (V_main_arg7 m c)⟩, h.2⟩) (run_forget m ρ)

end Cert.Proof.KernelIdeal

end
-- ==== Proof.Row.lean ====
/-
  One row of the attention as the kernel computes it, over a row of scores: the exponentials against the row's
  maximum, their sum's reciprocal, its power-of-two scale by comparisons, the codes, and the weighted sum of values.
-/
module

public import Idealize.ShloMosaic.Lib.Pointwise
public import Idealize.ShloMosaic.PureOps.Ideal

@[expose] public section

set_option maxRecDepth 16384

noncomputable section

namespace Cert.Proof.Row

open Idealize.ShloMosaic

/-- The greatest score, -/
def mx {N : ℕ} (y : Fin N → EReal) : EReal := Finset.fold max (Ideal.ofBits FTy.f32 4286578688#32) y Finset.univ

/-- a key's exponential against it, `c` turning the scores to base two, -/
def ee {N : ℕ} (y : Fin N → EReal) (c : EReal) (k : Fin N) : EReal := FloatOps.exp2 (F := Ideal) (φ := FTy.f32) ((y k - mx y) * c)

/-- the reciprocal of the exponentials' sum, -/
def aa {N : ℕ} (y : Fin N → EReal) (c : EReal) : EReal := Ideal.div 1 (∑ k, ee y c k)

/-- one comparison as a word, -/
def ge (x : EReal) (b : BitVec 32) : BitVec 32 := BitVec.setWidth 32 (BitVec.ofBool (decide (Ideal.ofBits FTy.f32 b ≤ x)))

/-- the exponent counted by ten comparisons, -/
def exW (x : EReal) : BitVec 32 :=
  IntOp.addi (IntOp.addi (IntOp.addi (IntOp.addi (IntOp.addi (IntOp.addi (IntOp.addi (IntOp.addi (IntOp.addi (IntOp.addi
    4294967278#32 (ge x 914358272#32)) (ge x 922746880#32)) (ge x 931135488#32)) (ge x 939524096#32)) (ge x 947912704#32))
    (ge x 956301312#32)) (ge x 964689920#32)) (ge x 973078528#32)) (ge x 981467136#32)) (ge x 989855744#32)

/-- that power of two and its inverse, their bits put together, -/
def pScale (e : BitVec 32) : EReal := Ideal.ofBits FTy.f32 (IntOp.shli ArithUnit.vector (IntOp.addi e 127#32) 23#32)
def pInv (e : BitVec 32) : EReal := Ideal.ofBits FTy.f32 (IntOp.shli ArithUnit.vector (IntOp.subi 127#32 e) 23#32)

/-- and the row's result at one lane: values `v`, value scale `vs`. -/
def outAt {N : ℕ} (y : Fin N → EReal) (c : EReal) (v : Fin N → EReal) (vs : EReal) : EReal :=
  (∑ k, v k * (ee y c k * min (aa y c * pInv (exW (aa y c * Ideal.ofBits FTy.f32 991054117#32))) (Ideal.ofBits FTy.f32 1138753536#32)))
    * (pScale (exW (aa y c * Ideal.ofBits FTy.f32 991054117#32)) * vs)

end Cert.Proof.Row

end
-- ==== Proof.KernelIdealPay.lean ====
/-
  What a trip stores, read at one row and lane, for each number of key tiles it can take: the row of scores the
  trip gathered, through the row function.
-/
module
public import proofs.«01_k».proof.Proof.KernelIdealBody
public import proofs.«01_k».proof.Proof.Row
public import Idealize.ShloMosaic.Lib.Pointwise
@[expose] public section
set_option maxRecDepth 16384
noncomputable section
namespace Cert.Proof.KernelIdeal
open Cert.KernelIdeal
open Idealize.ShloMosaic Idealize.ShloMosaic.TcCoe
open Cert.Proof.Row

variable (c : Dev nD) (i : grid0.Coords) (arg2 : Memref sig .tc .smem S2x1024 .i32) (arg6 : Memref sig .tc .vmem S1x1x1024 .i32) (arg8 : Memref sig .tc .vmem S1x1024x128 .fp8e4m3) (arg9 : Memref sig .tc .vmem S1x1024x128 .fp8e4m3) (arg13 : Memref sig .tc .vmem S1024x128 .i32) (arg14 : Memref sig .tc .vmem S640x128 .f32) (arg15 : Memref sig .tc .vmem S128x1024 .fp8e4m3)
  (v14 v17 : Ideal .f32) (f2 : Bf (F := Ideal) c arg2) (f6 : Bf (F := Ideal) c arg6) (f8 : Bf (F := Ideal) c arg8) (f9 : Bf (F := Ideal) c arg9)
  (f13 : Bf (F := Ideal) c arg13) (f14 : Bf (F := Ideal) c arg14) (f15 : Bf (F := Ideal) c arg15) (k : Fin k0_t1_loop.trips)

theorem pay1 (hc : k0_cond3 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (r d : Fin 128) :
    Gen.k0_pay3 v17 (trip.sl.v1156 c i arg2 arg6 arg8 arg9 arg13 arg14 v14 f2 f6 f8 f9 f13 f14 k hc) (trip.sl.v1160 c i arg2 arg6 arg8 arg9 arg13 arg14 v14 f2 f6 f8 f9 f13 f14 k hc) (trip.sl.v1203 c i arg2 arg6 arg8 arg9 arg13 arg14 v14 f2 f6 f8 f9 f13 f14 k hc) (127#32) (trip.sl.v1221 c i arg2 arg15 f2 f15 k hc) (ix3 0 r d)
      = outAt (fun j : Fin 128 => (trip.sl.v1149 c i arg2 arg6 arg8 arg9 arg13 arg14 f2 f6 f8 f9 f13 f14 k hc) (ix2 j r)) ((v14 : EReal) * (Named.named (F := Ideal) κ "log2e" (φ := .f32) 1069066811#32 : EReal)) (fun j : Fin 128 => (trip.sl.v1221 c i arg2 arg15 f2 f15 k hc) (ix2 d j)) v17 := by
  pointwise [Gen.k0_pay2, Gen.k0_pay3, trip.sl.v1203, trip.sl.v1202, trip.sl.v1201, trip.sl.v1200, trip.sl.cst_466, trip.sl.v1162, trip.sl.v1161, trip.sl.cst_456, trip.sl.v1160, trip.sl.v1158, trip.sl.v1157, trip.sl.v1156, trip.sl.v1155, trip.sl.v1154, trip.sl.v1153, trip.sl.v1152, trip.sl.v1151, trip.sl.v1150, trip.sl.v1159, trip.sl.cst_455, trip.sl.v1199, trip.sl.v1198, trip.sl.v1197, trip.sl.v1196, trip.sl.cst_465, trip.sl.v1195, trip.sl.v1194, trip.sl.v1193, trip.sl.v1192, trip.sl.cst_464, trip.sl.v1191, trip.sl.v1190, trip.sl.v1189, trip.sl.v1188, trip.sl.cst_463, trip.sl.v1187, trip.sl.v1186, trip.sl.v1185, trip.sl.v1184, trip.sl.cst_462, trip.sl.v1183, trip.sl.v1182, trip.sl.v1181, trip.sl.v1180, trip.sl.cst_461, trip.sl.v1179, trip.sl.v1178, trip.sl.v1177, trip.sl.v1176, trip.sl.cst_460, trip.sl.v1175, trip.sl.v1174, trip.sl.v1173, trip.sl.v1172, trip.sl.cst_459, trip.sl.v1171, trip.sl.v1170, trip.sl.v1169, trip.sl.v1168, trip.sl.cst_458, trip.sl.v1167, trip.sl.v1166, trip.sl.v1165, trip.sl.v1164, trip.sl.cst_457, trip.sl.v1163, outAt, mx, ee, aa, ge, exW, pScale, pInv]

theorem pay2 (hc : k0_cond4 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (r d : Fin 128) :
    Gen.k0_pay4 v17 (trip.sl.v1231 c i arg2 arg6 arg8 arg9 arg13 arg14 v14 f2 f6 f8 f9 f13 f14 k hc) (trip.sl.v1245 c i arg2 arg6 arg8 arg9 arg13 arg14 arg15 v14 f2 f6 f8 f9 f13 f14 f15 k hc) (ix3 0 r d)
      = outAt (fun j : Fin 256 => (trip.sl.v1172_1 c i arg2 arg6 arg8 arg9 arg13 arg14 f2 f6 f8 f9 f13 f14 k hc) (ix2 j r)) ((v14 : EReal) * (Named.named (F := Ideal) κ "log2e" (φ := .f32) 1069066811#32 : EReal)) (fun j : Fin 256 => (trip.sl.v1244 c i arg2 arg15 f2 f15 k hc) (ix2 d j)) v17 := by
  pointwise [Gen.k0_pay2, Gen.k0_pay4, trip.sl.v1245, trip.sl.cst_445, trip.sl.v1242, trip.sl.v1241, trip.sl.v1240, trip.sl.v1239, trip.sl.v1238, trip.sl.cst_481, trip.sl.v1237, trip.sl.v1236, trip.sl.v1235, trip.sl.v1229, trip.sl.v1233, trip.sl.v1226, trip.sl.v1225, trip.sl.v1224, trip.sl.v1200, trip.sl.cst_466, trip.sl.v1185_1, trip.sl.v1161, trip.sl.cst_456, trip.sl.v1183_1, trip.sl.v1181_1, trip.sl.v1180_1, trip.sl.v1179_1, trip.sl.v1178_1, trip.sl.v1177_1, trip.sl.v1176_1, trip.sl.v1175_1, trip.sl.v1174_1, trip.sl.v1173_1, trip.sl.v1159, trip.sl.cst_455, trip.sl.v1222, trip.sl.v1221_1, trip.sl.v1220, trip.sl.v1196, trip.sl.cst_465, trip.sl.v1218, trip.sl.v1217, trip.sl.v1216, trip.sl.v1192, trip.sl.cst_464, trip.sl.v1214, trip.sl.v1213, trip.sl.v1212, trip.sl.v1188, trip.sl.cst_463, trip.sl.v1210, trip.sl.v1209, trip.sl.v1208, trip.sl.v1184, trip.sl.cst_462, trip.sl.v1206, trip.sl.v1205, trip.sl.v1204, trip.sl.v1180, trip.sl.cst_461, trip.sl.v1202_1, trip.sl.v1201_1, trip.sl.v1200_1, trip.sl.v1176, trip.sl.cst_460, trip.sl.v1198_1, trip.sl.v1197_1, trip.sl.v1196_1, trip.sl.v1172, trip.sl.cst_459, trip.sl.v1194_1, trip.sl.v1193_1, trip.sl.v1192_1, trip.sl.v1168, trip.sl.cst_458, trip.sl.v1190_1, trip.sl.v1189_1, trip.sl.v1188_1, trip.sl.v1164, trip.sl.cst_457, trip.sl.v1163, trip.sl.v1227, trip.sl.v1231, trip.sl.v1230, trip.sl.v1228, outAt, mx, ee, aa, ge, exW, pScale, pInv]

theorem pay3 (hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (r d : Fin 128) :
    Gen.k0_pay5 v17 (trip.sl.v1201_2 c i arg2 arg6 arg8 arg9 arg13 arg14 v14 f2 f6 f8 f9 f13 f14 k hc) (trip.sl.v1205_1 c i arg2 arg6 arg8 arg9 arg13 arg14 v14 f2 f6 f8 f9 f13 f14 k hc) (trip.sl.v1207 c i arg2 arg6 arg8 arg9 arg13 arg14 v14 f2 f6 f8 f9 f13 f14 k hc) (trip.sl.v1240_1 c i arg2 arg6 arg8 arg9 arg13 arg14 v14 f2 f6 f8 f9 f13 f14 k hc) trip.sl.v1196 (trip.sl.v1266 c i arg2 arg15 f2 f15 k hc) (ix3 0 r d)
      = outAt (fun j : Fin 384 => (trip.sl.v1194_2 c i arg2 arg6 arg8 arg9 arg13 arg14 f2 f6 f8 f9 f13 f14 k hc) (ix2 j r)) ((v14 : EReal) * (Named.named (F := Ideal) κ "log2e" (φ := .f32) 1069066811#32 : EReal)) (fun j : Fin 384 => (trip.sl.v1266 c i arg2 arg15 f2 f15 k hc) (ix2 d j)) v17 := by
  pointwise [Gen.k0_pay2, Gen.k0_pay5, trip.sl.v1196, trip.sl.cst_465, trip.sl.v1240_1, trip.sl.v1239_1, trip.sl.v1238_1, trip.sl.v1192, trip.sl.cst_464, trip.sl.v1207, trip.sl.v1161, trip.sl.cst_456, trip.sl.v1205_1, trip.sl.v1203_1, trip.sl.v1202_2, trip.sl.v1201_2, trip.sl.v1200_2, trip.sl.v1199_1, trip.sl.v1198_2, trip.sl.v1197_2, trip.sl.v1196_2, trip.sl.v1195_1, trip.sl.v1159, trip.sl.cst_455, trip.sl.v1236_1, trip.sl.v1235_1, trip.sl.v1234, trip.sl.v1188, trip.sl.cst_463, trip.sl.v1232, trip.sl.v1231_1, trip.sl.v1230_1, trip.sl.v1184, trip.sl.cst_462, trip.sl.v1228_1, trip.sl.v1227_1, trip.sl.v1226_1, trip.sl.v1180, trip.sl.cst_461, trip.sl.v1224_1, trip.sl.v1223, trip.sl.v1222_1, trip.sl.v1176, trip.sl.cst_460, trip.sl.v1220_1, trip.sl.v1219, trip.sl.v1218_1, trip.sl.v1172, trip.sl.cst_459, trip.sl.v1216_1, trip.sl.v1215, trip.sl.v1214_1, trip.sl.v1168, trip.sl.cst_458, trip.sl.v1212_1, trip.sl.v1211, trip.sl.v1210_1, trip.sl.v1164, trip.sl.cst_457, trip.sl.v1163, outAt, mx, ee, aa, ge, exW, pScale, pInv]

theorem pay4 (hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (r d : Fin 128) :
    Gen.k0_pay6 v17 (trip.sl.v1223_1 c i arg2 arg6 arg8 arg9 arg13 arg14 v14 f2 f6 f8 f9 f13 f14 k hc) (trip.sl.v1275 c i arg2 arg6 arg8 arg9 arg13 arg14 v14 f2 f6 f8 f9 f13 f14 k hc) (trip.sl.v1283 c i arg2 arg6 arg8 arg9 arg13 arg14 v14 f2 f6 f8 f9 f13 f14 k hc) (trip.sl.v1288 c i arg2 arg15 f2 f15 k hc) (ix3 0 r d)
      = outAt (fun j : Fin 512 => (trip.sl.v1216_2 c i arg2 arg6 arg8 arg9 arg13 arg14 f2 f6 f8 f9 f13 f14 k hc) (ix2 j r)) ((v14 : EReal) * (Named.named (F := Ideal) κ "log2e" (φ := .f32) 1069066811#32 : EReal)) (fun j : Fin 512 => (trip.sl.v1288 c i arg2 arg15 f2 f15 k hc) (ix2 d j)) v17 := by
  pointwise [Gen.k0_pay2, Gen.k0_pay6, trip.sl.v1283, trip.sl.v1238, trip.sl.cst_481, trip.sl.v1281, trip.sl.v1280, trip.sl.v1279, trip.sl.v1229, trip.sl.v1277, trip.sl.v1270, trip.sl.v1269, trip.sl.v1268, trip.sl.v1200, trip.sl.cst_466, trip.sl.v1229_1, trip.sl.v1161, trip.sl.cst_456, trip.sl.v1227_2, trip.sl.v1225_1, trip.sl.v1224_2, trip.sl.v1223_1, trip.sl.v1222_2, trip.sl.v1221_2, trip.sl.v1220_2, trip.sl.v1219_1, trip.sl.v1218_2, trip.sl.v1217_1, trip.sl.v1159, trip.sl.cst_455, trip.sl.v1266_1, trip.sl.v1265, trip.sl.v1264, trip.sl.v1196, trip.sl.cst_465, trip.sl.v1262, trip.sl.v1261, trip.sl.v1260, trip.sl.v1192, trip.sl.cst_464, trip.sl.v1258, trip.sl.v1257, trip.sl.v1256, trip.sl.v1188, trip.sl.cst_463, trip.sl.v1254, trip.sl.v1253, trip.sl.v1252, trip.sl.v1184, trip.sl.cst_462, trip.sl.v1250, trip.sl.v1249, trip.sl.v1248, trip.sl.v1180, trip.sl.cst_461, trip.sl.v1246, trip.sl.v1245_1, trip.sl.v1244_1, trip.sl.v1176, trip.sl.cst_460, trip.sl.v1242_1, trip.sl.v1241_1, trip.sl.v1240_2, trip.sl.v1172, trip.sl.cst_459, trip.sl.v1238_2, trip.sl.v1237_1, trip.sl.v1236_2, trip.sl.v1168, trip.sl.cst_458, trip.sl.v1234_1, trip.sl.v1233_1, trip.sl.v1232_1, trip.sl.v1164, trip.sl.cst_457, trip.sl.v1163, trip.sl.v1227, trip.sl.v1275, trip.sl.v1274, trip.sl.v1272, outAt, mx, ee, aa, ge, exW, pScale, pInv]

theorem pay5 (hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (r d : Fin 128) :
    Gen.k0_pay7 v17 (trip.sl.v1245_2 c i arg2 arg6 arg8 arg9 arg13 arg14 v14 f2 f6 f8 f9 f13 f14 k hc) (trip.sl.v1249_1 c i arg2 arg6 arg8 arg9 arg13 arg14 v14 f2 f6 f8 f9 f13 f14 k hc) (trip.sl.v1251 c i arg2 arg6 arg8 arg9 arg13 arg14 v14 f2 f6 f8 f9 f13 f14 k hc) (trip.sl.v1276 c i arg2 arg6 arg8 arg9 arg13 arg14 v14 f2 f6 f8 f9 f13 f14 k hc) (trip.sl.v1279_1 c i arg2 arg6 arg8 arg9 arg13 arg14 v14 f2 f6 f8 f9 f13 f14 k hc) (trip.sl.v1310 c i arg2 arg15 f2 f15 k hc) (ix3 0 r d)
      = outAt (fun j : Fin 640 => (trip.sl.v1238_3 c i arg2 arg6 arg8 arg9 arg13 arg14 f2 f6 f8 f9 f13 f14 k hc) (ix2 j r)) ((v14 : EReal) * (Named.named (F := Ideal) κ "log2e" (φ := .f32) 1069066811#32 : EReal)) (fun j : Fin 640 => (trip.sl.v1310 c i arg2 arg15 f2 f15 k hc) (ix2 d j)) v17 := by
  pointwise [Gen.k0_pay2, Gen.k0_pay7, trip.sl.v1279_1, trip.sl.v1278, trip.sl.v1188, trip.sl.cst_463, trip.sl.v1251, trip.sl.v1161, trip.sl.cst_456, trip.sl.v1249_1, trip.sl.v1247, trip.sl.v1246_1, trip.sl.v1245_2, trip.sl.v1244_2, trip.sl.v1243_1, trip.sl.v1242_2, trip.sl.v1241_2, trip.sl.v1240_3, trip.sl.v1239_2, trip.sl.v1159, trip.sl.cst_455, trip.sl.v1276, trip.sl.v1275_1, trip.sl.v1274_1, trip.sl.v1184, trip.sl.cst_462, trip.sl.v1272_1, trip.sl.v1271, trip.sl.v1270_1, trip.sl.v1180, trip.sl.cst_461, trip.sl.v1268_1, trip.sl.v1267, trip.sl.v1266_2, trip.sl.v1176, trip.sl.cst_460, trip.sl.v1264_1, trip.sl.v1263, trip.sl.v1262_1, trip.sl.v1172, trip.sl.cst_459, trip.sl.v1260_1, trip.sl.v1259, trip.sl.v1258_1, trip.sl.v1168, trip.sl.cst_458, trip.sl.v1256_1, trip.sl.v1255, trip.sl.v1254_1, trip.sl.v1164, trip.sl.cst_457, trip.sl.v1163, outAt, mx, ee, aa, ge, exW, pScale, pInv]

theorem pay6 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (r d : Fin 128) :
    Gen.k0_pay8 v17 (trip.sl.v1267_1 c i arg2 arg6 arg8 arg9 arg13 arg14 v14 f2 f6 f8 f9 f13 f14 k hc) (trip.sl.v1271_1 c i arg2 arg6 arg8 arg9 arg13 arg14 v14 f2 f6 f8 f9 f13 f14 k hc) (trip.sl.v1319 c i arg2 arg6 arg8 arg9 arg13 arg14 v14 f2 f6 f8 f9 f13 f14 k hc) (trip.sl.v1321 c i arg2 arg6 arg8 arg9 arg13 arg14 v14 f2 f6 f8 f9 f13 f14 k hc) (trip.sl.v1332 c i arg2 arg15 f2 f15 k hc) (ix3 0 r d)
      = outAt (fun j : Fin 768 => (trip.sl.v1260_2 c i arg2 arg6 arg8 arg9 arg13 arg14 f2 f6 f8 f9 f13 f14 k hc) (ix2 j r)) ((v14 : EReal) * (Named.named (F := Ideal) κ "log2e" (φ := .f32) 1069066811#32 : EReal)) (fun j : Fin 768 => (trip.sl.v1332 c i arg2 arg15 f2 f15 k hc) (ix2 d j)) v17 := by
  pointwise [Gen.k0_pay2, Gen.k0_pay8, trip.sl.v1321, trip.sl.v1314, trip.sl.v1313, trip.sl.v1312, trip.sl.v1200, trip.sl.cst_466, trip.sl.v1273, trip.sl.v1161, trip.sl.cst_456, trip.sl.v1271_1, trip.sl.v1269_1, trip.sl.v1268_2, trip.sl.v1267_1, trip.sl.v1266_3, trip.sl.v1265_1, trip.sl.v1264_2, trip.sl.v1263_1, trip.sl.v1262_2, trip.sl.v1261_1, trip.sl.v1159, trip.sl.cst_455, trip.sl.v1310_1, trip.sl.v1309, trip.sl.v1308, trip.sl.v1196, trip.sl.cst_465, trip.sl.v1306, trip.sl.v1305, trip.sl.v1304, trip.sl.v1192, trip.sl.cst_464, trip.sl.v1302, trip.sl.v1301, trip.sl.v1300, trip.sl.v1188, trip.sl.cst_463, trip.sl.v1298, trip.sl.v1297, trip.sl.v1296, trip.sl.v1184, trip.sl.cst_462, trip.sl.v1294, trip.sl.v1293, trip.sl.v1292, trip.sl.v1180, trip.sl.cst_461, trip.sl.v1290, trip.sl.v1289, trip.sl.v1288_1, trip.sl.v1176, trip.sl.cst_460, trip.sl.v1286, trip.sl.v1285, trip.sl.v1284, trip.sl.v1172, trip.sl.cst_459, trip.sl.v1282, trip.sl.v1281_1, trip.sl.v1280_1, trip.sl.v1168, trip.sl.cst_458, trip.sl.v1278_1, trip.sl.v1277_1, trip.sl.v1276_1, trip.sl.v1164, trip.sl.cst_457, trip.sl.v1163, trip.sl.v1227, trip.sl.v1319, trip.sl.v1318, trip.sl.v1229, trip.sl.v1316, outAt, mx, ee, aa, ge, exW, pScale, pInv]

theorem pay7 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (r d : Fin 128) :
    Gen.k0_pay9 (trip.sl.v1361 c i arg2 arg6 arg8 arg9 arg13 arg14 arg15 v14 v17 f2 f6 f8 f9 f13 f14 f15 k hc) (ix3 0 r d)
      = outAt (fun j : Fin 896 => (trip.sl.v1282_1 c i arg2 arg6 arg8 arg9 arg13 arg14 f2 f6 f8 f9 f13 f14 k hc) (ix2 j r)) ((v14 : EReal) * (Named.named (F := Ideal) κ "log2e" (φ := .f32) 1069066811#32 : EReal)) (fun j : Fin 896 => (trip.sl.v1354 c i arg2 arg15 f2 f15 k hc) (ix2 d j)) v17 := by
  pointwise [Gen.k0_pay2, Gen.k0_pay9, trip.sl.v1361, trip.sl.v1360, trip.sl.v1359, trip.sl.v1358, trip.sl.v1357, trip.sl.v1356, trip.sl.v1341, trip.sl.v1340, trip.sl.v1229, trip.sl.v1338, trip.sl.v1227, trip.sl.v1336, trip.sl.v1335, trip.sl.v1334, trip.sl.v1200, trip.sl.cst_466, trip.sl.v1295, trip.sl.v1161, trip.sl.cst_456, trip.sl.v1293_1, trip.sl.v1291, trip.sl.v1290_1, trip.sl.v1289_1, trip.sl.v1288_2, trip.sl.v1287, trip.sl.v1286_1, trip.sl.v1285_1, trip.sl.v1284_1, trip.sl.v1283_1, trip.sl.v1159, trip.sl.cst_455, trip.sl.v1332_1, trip.sl.v1331, trip.sl.v1330, trip.sl.v1196, trip.sl.cst_465, trip.sl.v1328, trip.sl.v1327, trip.sl.v1326, trip.sl.v1192, trip.sl.cst_464, trip.sl.v1324, trip.sl.v1323, trip.sl.v1322, trip.sl.v1188, trip.sl.cst_463, trip.sl.v1320, trip.sl.v1319_1, trip.sl.v1318_1, trip.sl.v1184, trip.sl.cst_462, trip.sl.v1316_1, trip.sl.v1315, trip.sl.v1314_1, trip.sl.v1180, trip.sl.cst_461, trip.sl.v1312_1, trip.sl.v1311, trip.sl.v1310_2, trip.sl.v1176, trip.sl.cst_460, trip.sl.v1308_1, trip.sl.v1307, trip.sl.v1306_1, trip.sl.v1172, trip.sl.cst_459, trip.sl.v1304_1, trip.sl.v1303, trip.sl.v1302_1, trip.sl.v1168, trip.sl.cst_458, trip.sl.v1300_1, trip.sl.v1299, trip.sl.v1298_1, trip.sl.v1164, trip.sl.cst_457, trip.sl.v1163, trip.sl.v1355, trip.sl.cst_445, trip.sl.v1352, trip.sl.v1351, trip.sl.v1350, trip.sl.v1349, trip.sl.v1238, trip.sl.cst_481, trip.sl.v1347, trip.sl.v1346, trip.sl.v1345, trip.sl.v1343, outAt, mx, ee, aa, ge, exW, pScale, pInv]

theorem pay8 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (r d : Fin 128) :
    Gen.k0_pay10 v17 (trip.sl.v1311_1 c i arg2 arg6 arg8 arg9 arg13 arg14 v14 f2 f6 f8 f9 f13 f14 k hc) (trip.sl.v1315_1 c i arg2 arg6 arg8 arg9 arg13 arg14 v14 f2 f6 f8 f9 f13 f14 k hc) (trip.sl.v1358_1 c i arg2 arg6 arg8 arg9 arg13 arg14 v14 f2 f6 f8 f9 f13 f14 k hc) trip.sl.v1227 (trip.sl.v1376 c i arg2 arg15 f2 f15 k hc) (ix3 0 r d)
      = outAt (fun j : Fin 1024 => (trip.sl.v1304_2 c i arg2 arg6 arg8 arg9 arg13 arg14 f2 f6 f8 f9 f13 f14 k hc) (ix2 j r)) ((v14 : EReal) * (Named.named (F := Ideal) κ "log2e" (φ := .f32) 1069066811#32 : EReal)) (fun j : Fin 1024 => (trip.sl.v1376 c i arg2 arg15 f2 f15 k hc) (ix2 d j)) v17 := by
  pointwise [Gen.k0_pay10, Gen.k0_pay2, trip.sl.v1227, trip.sl.v1358_1, trip.sl.v1357_1, trip.sl.v1356_1, trip.sl.v1200, trip.sl.cst_466, trip.sl.v1317, trip.sl.v1161, trip.sl.cst_456, trip.sl.v1315_1, trip.sl.v1313_1, trip.sl.v1312_2, trip.sl.v1311_1, trip.sl.v1310_3, trip.sl.v1309_1, trip.sl.v1308_2, trip.sl.v1307_1, trip.sl.v1306_2, trip.sl.v1305_1, trip.sl.v1159, trip.sl.cst_455, trip.sl.v1354_1, trip.sl.v1353, trip.sl.v1352_1, trip.sl.v1196, trip.sl.cst_465, trip.sl.v1350_1, trip.sl.v1349_1, trip.sl.v1348, trip.sl.v1192, trip.sl.cst_464, trip.sl.v1346_1, trip.sl.v1345_1, trip.sl.v1344, trip.sl.v1188, trip.sl.cst_463, trip.sl.v1342, trip.sl.v1341_1, trip.sl.v1340_1, trip.sl.v1184, trip.sl.cst_462, trip.sl.v1338_1, trip.sl.v1337, trip.sl.v1336_1, trip.sl.v1180, trip.sl.cst_461, trip.sl.v1334_1, trip.sl.v1333, trip.sl.v1332_2, trip.sl.v1176, trip.sl.cst_460, trip.sl.v1330_1, trip.sl.v1329, trip.sl.v1328_1, trip.sl.v1172, trip.sl.cst_459, trip.sl.v1326_1, trip.sl.v1325, trip.sl.v1324_1, trip.sl.v1168, trip.sl.cst_458, trip.sl.v1322_1, trip.sl.v1321_1, trip.sl.v1320_1, trip.sl.v1164, trip.sl.cst_457, trip.sl.v1163, outAt, mx, ee, aa, ge, exW, pScale, pInv]

end Cert.Proof.KernelIdeal
end
-- ==== Proof.KernelIdealTile.lean ====
/-
  What a trip gathers: each key tile's scores, masked by segment, at their absolute keys and queries.
-/
module
public import proofs.«01_k».proof.Proof.KernelIdealPay
@[expose] public section
set_option maxRecDepth 16384
noncomputable section
namespace Cert.Proof.KernelIdeal
open Cert.KernelIdeal
open Idealize.ShloMosaic Idealize.ShloMosaic.TcCoe
open Cert.Proof.Row Cert.Proof.Words

/-- A position's place in its tile of 128. -/
abbrev lane (ρ : Fin 1024) : Fin 128 := ⟨ρ.val % 128, Nat.mod_lt _ (by decide)⟩
/-- The strip row of a key against a query. -/
def strow (κ ρ : Fin 1024) : Fin 640 :=
  ⟨128 * stripBlk (κ.val / 128) (ρ.val / 128) + κ.val % 128, by have := stripBlk_le (κ.val / 128) (ρ.val / 128); omega⟩
abbrev pos (t : ℕ) (j : Fin 128) (h : t < 8) : Fin 1024 := ⟨128 * t + j.val, by have := j.isLt; omega⟩

theorem lane_pos (t : ℕ) (j : Fin 128) (h : t < 8) : lane (pos t j h) = j := by
  apply Fin.ext; show (128 * t + j.val) % 128 = j.val; have := j.isLt; omega

theorem strow_pos (t s : ℕ) (j r : Fin 128) (h : t < 8) (h' : s < 8) :
    (strow (pos t j h) (pos s r h')).val = 128 * stripBlk t s + j.val := by
  have := j.isLt; have := r.isLt
  show 128 * stripBlk ((128 * t + j.val) / 128) ((128 * s + r.val) / 128) + (128 * t + j.val) % 128 = _
  rw [show (128 * t + j.val) / 128 = t by omega, show (128 * s + r.val) / 128 = s by omega]; omega

variable (c : Dev nD) (i : grid0.Coords) (arg2 : Memref sig .tc .smem S2x1024 .i32) (arg6 : Memref sig .tc .vmem S1x1x1024 .i32) (arg8 : Memref sig .tc .vmem S1x1024x128 .fp8e4m3) (arg9 : Memref sig .tc .vmem S1x1024x128 .fp8e4m3) (arg13 : Memref sig .tc .vmem S1024x128 .i32) (arg14 : Memref sig .tc .vmem S640x128 .f32) (arg15 : Memref sig .tc .vmem S128x1024 .fp8e4m3)
  (v14 v17 : Ideal .f32) (f2 : Bf (F := Ideal) c arg2) (f6 : Bf (F := Ideal) c arg6) (f8 : Bf (F := Ideal) c arg8) (f9 : Bf (F := Ideal) c arg9)
  (f13 : Bf (F := Ideal) c arg13) (f14 : Bf (F := Ideal) c arg14) (f15 : Bf (F := Ideal) c arg15) (k : Fin k0_t1_loop.trips)

/-- The score of key `κ` at query `ρ`: masked out unless they share a segment. -/
def Yk (κ ρ : Fin 1024) : EReal :=
  Scalar.select (IntOp.cmpi .eq (arg13.view.read (Elt Ideal) f13 (ix2 κ (lane ρ))) (arg6.view.read (Elt Ideal) f6 (ix3 0 0 ρ)))
    ((∑ d : Fin 128, (arg9.view.read (Elt Ideal) f9 (ix3 0 κ d) : EReal) * arg8.view.read (Elt Ideal) f8 (ix3 0 ρ d)) + arg14.view.read (Elt Ideal) f14 (ix2 (strow κ ρ) (lane ρ)))
    (Ideal.ofBits .f32 4286578688#32)

/-- A load reads, at an index, the buffer at that index moved by the load's offsets. -/
theorem ld {sig : RefSig} {κ : Kind} {sp : Space} {s : Shape} {e : EltTy} (v : View sig κ sp s e) (f : v.ty.Contents (Elt Ideal)) {off size : Fin s.rank → ℕ}
    (inb : ∀ a, off a + size a ≤ s.size a) (x : (Rect.unit off size inb).toLoadRect.shape.Idx) (y : s.Idx) (h : ∀ a, (y a).val = off a + (x a).val) :
    v.readAt (Elt Ideal) (Rect.unit off size inb).toLoadRect f x = v.read (Elt Ideal) f y :=
  congrArg (v.read (Elt Ideal) f) (funext fun a => Fin.ext (by show off a + 1 * (x a).val = _; rw [h, one_mul]))

theorem tile_eq (SC : IVec S128x128 32) (IDS : IVec S1x1x128 32) (K Q : FVec Ideal S1x128x128 .fp8e4m3) (ST : FVec Ideal S128x128 .f32)
    (p1 p2 p3 p4) (j r : Fin 128) (κ ρ : Fin 1024)
    (hSC : SC (ix2 j r) = arg13.view.read (Elt Ideal) f13 (ix2 κ (lane ρ))) (hI : IDS (ix3 0 0 r) = arg6.view.read (Elt Ideal) f6 (ix3 0 0 ρ))
    (hK : ∀ d, K (ix3 0 j d) = arg9.view.read (Elt Ideal) f9 (ix3 0 κ d)) (hQ : ∀ d, Q (ix3 0 r d) = arg8.view.read (Elt Ideal) f8 (ix3 0 ρ d))
    (hS : ST (ix2 j r) = arg14.view.read (Elt Ideal) f14 (ix2 (strow κ ρ) (lane ρ))) :
    select (cmpi .eq SC (broadcastTo S128x128 (shapeCast S1x128 IDS p1) p2))
      (addf (F := Ideal) (φ := .f32) (matmul (F := Ideal) (φ₁ := .fp8e4m3) (φ₂ := .fp8e4m3) dot_S128x128_S128x128_S128x128_1_1_0_0_n_n none (shapeCast S128x128 K p3)
        (shapeCast S128x128 Q p4) (constant S128x128 .f32 0#32)) ST)
      (broadcast S128x128 (FloatOps.ofBits (F := Ideal) .f32 4286578688#32)) (ix2 j r)
      = Yk c arg6 arg8 arg9 arg13 arg14 f6 f8 f9 f13 f14 κ ρ := by
  pointwise [Yk, hSC, hI, hK, hQ, hS]

theorem qOff_eq : ∀ t : Fin 8, (Scalar.indexCast (Scalar.muli (tW t) 128#32)).toNat = 128 * t.val := by decide +kernel

section Loads
variable {sig' : RefSig} {κ' : Kind} {sp : Space} {e : EltTy}

theorem ldK (v : View sig' κ' sp S1x1024x128 e) (f : v.ty.Contents (Elt Ideal)) {off : Fin 3 → ℕ} (inb) (lo : BitVec 32) (n r : ℕ) (h : lo.toNat + n ≤ 8) (hr : r < n)
    (ho : off = ![0, kOff lo (BitVec.ofNat 32 (128 * r)), 0]) (j d : Fin 128) :
    v.readAt (Elt Ideal) (Rect.unit (s := S1x1024x128) off S1x128x128.size inb).toLoadRect f (show (Rect.unit (s := S1x1024x128) off S1x128x128.size inb).toLoadRect.shape.Idx from ix3 0 j d)
      = v.read (Elt Ideal) f (ix3 0 (pos (lo.toNat + r) j (by omega)) d) := by
  rw [kOff_eq (by omega) r (by omega)] at ho
  subst ho
  exact ld v f inb _ _ (fun a => by fin_cases a <;> simp <;> first | rfl | (symm; exact Nat.zero_add _))

theorem ldC (v : View sig' κ' sp S1024x128 e) (f : v.ty.Contents (Elt Ideal)) {off : Fin 2 → ℕ} (inb) (lo : BitVec 32) (n r : ℕ) (h : lo.toNat + n ≤ 8) (hr : r < n)
    (ho : off = ![kOff lo (BitVec.ofNat 32 (128 * r)), 0]) (j d : Fin 128) :
    v.readAt (Elt Ideal) (Rect.unit (s := S1024x128) off S128x128.size inb).toLoadRect f (show (Rect.unit (s := S1024x128) off S128x128.size inb).toLoadRect.shape.Idx from ix2 j d)
      = v.read (Elt Ideal) f (ix2 (pos (lo.toNat + r) j (by omega)) d) := by
  rw [kOff_eq (by omega) r (by omega)] at ho
  subst ho
  exact ld v f inb _ _ (fun a => by fin_cases a <;> simp <;> first | rfl | (symm; exact Nat.zero_add _))

theorem ldQ (v : View sig' κ' sp S1x1024x128 e) (f : v.ty.Contents (Elt Ideal)) {off : Fin 3 → ℕ} (inb) (t : Fin 8)
    (ho : off = ![0, (Scalar.indexCast (Scalar.muli (tW t) 128#32)).toNat, 0]) (j d : Fin 128) :
    v.readAt (Elt Ideal) (Rect.unit (s := S1x1024x128) off S1x128x128.size inb).toLoadRect f (show (Rect.unit (s := S1x1024x128) off S1x128x128.size inb).toLoadRect.shape.Idx from ix3 0 j d)
      = v.read (Elt Ideal) f (ix3 0 (pos t.val j t.isLt) d) := by
  rw [qOff_eq] at ho
  subst ho
  exact ld v f inb _ _ (fun a => by fin_cases a <;> simp <;> first | rfl | (symm; exact Nat.zero_add _))

theorem ldI (v : View sig' κ' sp S1x1x1024 e) (f : v.ty.Contents (Elt Ideal)) {off : Fin 3 → ℕ} (inb) (t : Fin 8)
    (ho : off = ![0, 0, (Scalar.indexCast (Scalar.muli (tW t) 128#32)).toNat]) (j : Fin 128) :
    v.readAt (Elt Ideal) (Rect.unit (s := S1x1x1024) off S1x1x128.size inb).toLoadRect f (show (Rect.unit (s := S1x1x1024) off S1x1x128.size inb).toLoadRect.shape.Idx from ix3 0 0 j)
      = v.read (Elt Ideal) f (ix3 0 0 (pos t.val j t.isLt)) := by
  rw [qOff_eq] at ho
  subst ho
  exact ld v f inb _ _ (fun a => by fin_cases a <;> simp <;> first | rfl | (symm; exact Nat.zero_add _))

theorem ldS (v : View sig' κ' sp S640x128 e) (f : v.ty.Contents (Elt Ideal)) {off : Fin 2 → ℕ} (inb) (lo : BitVec 32) (n r : ℕ) (h : lo.toNat + n ≤ 8) (hr : r < n) (t : Fin 8)
    (ho : off = ![sOff (tW t) lo (BitVec.ofNat 32 r), 0]) (j d : Fin 128) :
    v.readAt (Elt Ideal) (Rect.unit (s := S640x128) off S128x128.size inb).toLoadRect f (show (Rect.unit (s := S640x128) off S128x128.size inb).toLoadRect.shape.Idx from ix2 j d)
      = v.read (Elt Ideal) f (ix2 (strow (pos (lo.toNat + r) j (by omega)) (pos t.val d t.isLt)) (lane (pos t.val d t.isLt))) := by
  rw [sOff_eq t (by omega) r (by omega)] at ho
  subst ho
  rw [lane_pos]
  exact ld v f inb _ _ (fun a => by
    fin_cases a
    · exact strow_pos _ _ j d _ _
    · simp)

end Loads

/-- The trip's counts: the first key tile it needs, and one past the last. -/
abbrev LO : BitVec 32 := loW (trip.sl.r c i arg2 f2 k) (trip.sl.r_2 c i arg2 f2) (trip.sl.r_4 c i arg2 f2) (trip.sl.r_6 c i arg2 f2) (trip.sl.r_8 c i arg2 f2) (trip.sl.r_10 c i arg2 f2) (trip.sl.r_12 c i arg2 f2) (trip.sl.r_14 c i arg2 f2) (trip.sl.r_16 c i arg2 f2)
abbrev HI : BitVec 32 := hiW (trip.sl.r_1 c i arg2 f2 k) (trip.sl.r_3 c i arg2 f2) (trip.sl.r_5 c i arg2 f2) (trip.sl.r_7 c i arg2 f2) (trip.sl.r_9 c i arg2 f2) (trip.sl.r_11 c i arg2 f2) (trip.sl.r_13 c i arg2 f2) (trip.sl.r_15 c i arg2 f2) (trip.sl.r_17 c i arg2 f2)

theorem piece1_0 (hc : k0_cond3 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 1 ≤ 8) (j r : Fin 128) :
    (trip.sl.v1149 c i arg2 arg6 arg8 arg9 arg13 arg14 f2 f6 f8 f9 f13 f14 k hc) (ix2 j r) = Yk c arg6 arg8 arg9 arg13 arg14 f6 f8 f9 f13 f14 (pos ((LO c i arg2 f2 k).toNat + 0) j (by omega)) (pos k.val r k.isLt) := by
  simp only [trip.sl.cst_445, trip.sl.cst_452, trip.sl.v1124, trip.sl.v1127, trip.sl.v1131, trip.sl.v1132, trip.sl.v1133, trip.sl.v1142, trip.sl.v1143, trip.sl.v1145, trip.sl.v1146, trip.sl.v1147, trip.sl.v1148, trip.sl.v1149]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 1 0 h (by decide) rfl j r
  · exact ldI _ _ _ k rfl r
  · exact ldK _ _ _ (LO c i arg2 f2 k) 1 0 h (by decide) rfl j d
  · exact ldQ _ _ _ k rfl r d
  · exact ldS _ _ _ (LO c i arg2 f2 k) 1 0 h (by decide) k rfl j r

theorem cat1 (hc : k0_cond3 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 1 ≤ 8) (j r : Fin 128) :
    (trip.sl.v1149 c i arg2 arg6 arg8 arg9 arg13 arg14 f2 f6 f8 f9 f13 f14 k hc) (ix2 j r) = Yk c arg6 arg8 arg9 arg13 arg14 f6 f8 f9 f13 f14 ⟨128 * (LO c i arg2 f2 k).toNat + j.val, by have := j.isLt; omega⟩ (pos k.val r k.isLt) :=
  piece1_0 c i arg2 arg6 arg8 arg9 arg13 arg14 f2 f6 f8 f9 f13 f14 k hc h j r

theorem vt1 (hc : k0_cond3 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 1 ≤ 8) (d : Fin 128) (j : Fin 128) :
    (trip.sl.v1221 c i arg2 arg15 f2 f15 k hc) (ix2 d j) = arg15.view.read (Elt Ideal) f15 (ix2 d ⟨128 * (LO c i arg2 f2 k).toNat + j.val, by have := j.isLt; omega⟩) := by
  unfold trip.sl.v1221
  refine ld arg15.view f15 _ _ _ (fun a => ?_)
  fin_cases a
  · exact (Nat.zero_add _).symm
  · exact congrArg (· + j.val) (vOff_eq (lo := (LO c i arg2 f2 k)) (by omega)).symm

theorem piece2_0 (hc : k0_cond4 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 2 ≤ 8) (j r : Fin 128) :
    (trip.sl.v1149_1 c i arg2 arg6 arg8 arg9 arg13 arg14 f2 f6 f8 f9 f13 f14 k hc) (ix2 j r) = Yk c arg6 arg8 arg9 arg13 arg14 f6 f8 f9 f13 f14 (pos ((LO c i arg2 f2 k).toNat + 0) j (by omega)) (pos k.val r k.isLt) := by
  simp only [trip.sl.cst_445, trip.sl.cst_452, trip.sl.v1124_1, trip.sl.v1127_1, trip.sl.v1131_1, trip.sl.v1132_1, trip.sl.v1133_1, trip.sl.v1142_1, trip.sl.v1143_1, trip.sl.v1145_1, trip.sl.v1146_1, trip.sl.v1147_1, trip.sl.v1148, trip.sl.v1149_1]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 2 0 h (by decide) rfl j r
  · exact ldI _ _ _ k rfl r
  · exact ldK _ _ _ (LO c i arg2 f2 k) 2 0 h (by decide) rfl j d
  · exact ldQ _ _ _ k rfl r d
  · exact ldS _ _ _ (LO c i arg2 f2 k) 2 0 h (by decide) k rfl j r

theorem piece2_1 (hc : k0_cond4 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 2 ≤ 8) (j r : Fin 128) :
    (trip.sl.v1171_1 c i arg2 arg6 arg8 arg9 arg13 arg14 f2 f6 f8 f9 f13 f14 k hc) (ix2 j r) = Yk c arg6 arg8 arg9 arg13 arg14 f6 f8 f9 f13 f14 (pos ((LO c i arg2 f2 k).toNat + 1) j (by omega)) (pos k.val r k.isLt) := by
  simp only [trip.sl.cst_445, trip.sl.cst_452, trip.sl.v1124_1, trip.sl.v1127_1, trip.sl.v1146_1, trip.sl.v1148, trip.sl.v1153_1, trip.sl.v1154_1, trip.sl.v1155_1, trip.sl.v1164_1, trip.sl.v1165_1, trip.sl.v1167_1, trip.sl.v1169_1, trip.sl.v1171_1]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 2 1 h (by decide) rfl j r
  · exact ldI _ _ _ k rfl r
  · exact ldK _ _ _ (LO c i arg2 f2 k) 2 1 h (by decide) rfl j d
  · exact ldQ _ _ _ k rfl r d
  · exact ldS _ _ _ (LO c i arg2 f2 k) 2 1 h (by decide) k rfl j r

theorem lad2 (x0 x1 : S128x128.Idx → EReal) (h) (r : Fin 128) (Z : Fin 256 → EReal)
    (h0 : ∀ j : Fin 128, x0 (ix2 j r) = Z ⟨0 + j.val, by have := j.isLt; omega⟩) (h1 : ∀ j : Fin 128, x1 (ix2 j r) = Z ⟨128 + j.val, by have := j.isLt; omega⟩) (j : Fin 256) :
    concatenate S256x128 0 [⟨S128x128, x0⟩, ⟨S128x128, x1⟩] h (ix2 j r) = Z j := by
  have hj := j.isLt
  pointwise
  by_cases c0 : j.val < 128
  · rw [dif_pos c0]; rw [h0]; exact congrArg Z (Fin.ext (by simp only []; omega))
  rw [dif_neg c0]
  first
    | (rw [h1]; exact congrArg Z (Fin.ext (by simp only []; omega)))
    | (rw [dif_pos rfl]; rw [h1]; exact congrArg Z (Fin.ext (by simp only []; omega)))

theorem cat2 (hc : k0_cond4 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 2 ≤ 8) (j : Fin 256) (r : Fin 128) :
    (trip.sl.v1172_1 c i arg2 arg6 arg8 arg9 arg13 arg14 f2 f6 f8 f9 f13 f14 k hc) (ix2 j r) = Yk c arg6 arg8 arg9 arg13 arg14 f6 f8 f9 f13 f14 ⟨128 * (LO c i arg2 f2 k).toNat + j.val, by have := j.isLt; omega⟩ (pos k.val r k.isLt) := by
  unfold trip.sl.v1172_1
  exact lad2 _ _  _ r (fun j : Fin 256 => Yk c arg6 arg8 arg9 arg13 arg14 f6 f8 f9 f13 f14 ⟨128 * (LO c i arg2 f2 k).toNat + j.val, by have := j.isLt; omega⟩ (pos k.val r k.isLt))
    (fun j => (piece2_0 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece2_1 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) j

theorem vt2 (hc : k0_cond4 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 2 ≤ 8) (d : Fin 128) (j : Fin 256) :
    (trip.sl.v1244 c i arg2 arg15 f2 f15 k hc) (ix2 d j) = arg15.view.read (Elt Ideal) f15 (ix2 d ⟨128 * (LO c i arg2 f2 k).toNat + j.val, by have := j.isLt; omega⟩) := by
  unfold trip.sl.v1244
  refine ld arg15.view f15 _ _ _ (fun a => ?_)
  fin_cases a
  · exact (Nat.zero_add _).symm
  · exact congrArg (· + j.val) (vOff_eq (lo := (LO c i arg2 f2 k)) (by omega)).symm

theorem piece3_0 (hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 3 ≤ 8) (j r : Fin 128) :
    (trip.sl.v1149_2 c i arg2 arg6 arg8 arg9 arg13 arg14 f2 f6 f8 f9 f13 f14 k hc) (ix2 j r) = Yk c arg6 arg8 arg9 arg13 arg14 f6 f8 f9 f13 f14 (pos ((LO c i arg2 f2 k).toNat + 0) j (by omega)) (pos k.val r k.isLt) := by
  simp only [trip.sl.cst_445, trip.sl.cst_452, trip.sl.v1124_2, trip.sl.v1127_2, trip.sl.v1131_2, trip.sl.v1132_2, trip.sl.v1133_2, trip.sl.v1142_2, trip.sl.v1143_2, trip.sl.v1145_2, trip.sl.v1146_2, trip.sl.v1147_2, trip.sl.v1148, trip.sl.v1149_2]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 3 0 h (by decide) rfl j r
  · exact ldI _ _ _ k rfl r
  · exact ldK _ _ _ (LO c i arg2 f2 k) 3 0 h (by decide) rfl j d
  · exact ldQ _ _ _ k rfl r d
  · exact ldS _ _ _ (LO c i arg2 f2 k) 3 0 h (by decide) k rfl j r

theorem piece3_1 (hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 3 ≤ 8) (j r : Fin 128) :
    (trip.sl.v1171_2 c i arg2 arg6 arg8 arg9 arg13 arg14 f2 f6 f8 f9 f13 f14 k hc) (ix2 j r) = Yk c arg6 arg8 arg9 arg13 arg14 f6 f8 f9 f13 f14 (pos ((LO c i arg2 f2 k).toNat + 1) j (by omega)) (pos k.val r k.isLt) := by
  simp only [trip.sl.cst_445, trip.sl.cst_452, trip.sl.v1124_2, trip.sl.v1127_2, trip.sl.v1146_2, trip.sl.v1148, trip.sl.v1153_2, trip.sl.v1154_2, trip.sl.v1155_2, trip.sl.v1164_2, trip.sl.v1165_2, trip.sl.v1167_2, trip.sl.v1169_2, trip.sl.v1171_2]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 3 1 h (by decide) rfl j r
  · exact ldI _ _ _ k rfl r
  · exact ldK _ _ _ (LO c i arg2 f2 k) 3 1 h (by decide) rfl j d
  · exact ldQ _ _ _ k rfl r d
  · exact ldS _ _ _ (LO c i arg2 f2 k) 3 1 h (by decide) k rfl j r

theorem piece3_2 (hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 3 ≤ 8) (j r : Fin 128) :
    (trip.sl.v1193_2 c i arg2 arg6 arg8 arg9 arg13 arg14 f2 f6 f8 f9 f13 f14 k hc) (ix2 j r) = Yk c arg6 arg8 arg9 arg13 arg14 f6 f8 f9 f13 f14 (pos ((LO c i arg2 f2 k).toNat + 2) j (by omega)) (pos k.val r k.isLt) := by
  simp only [trip.sl.cst_445, trip.sl.cst_452, trip.sl.v1124_2, trip.sl.v1127_2, trip.sl.v1146_2, trip.sl.v1148, trip.sl.v1175_2, trip.sl.v1176_2, trip.sl.v1177_2, trip.sl.v1186_1, trip.sl.v1187_1, trip.sl.v1189_2, trip.sl.v1191_1, trip.sl.v1193_2]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 3 2 h (by decide) rfl j r
  · exact ldI _ _ _ k rfl r
  · exact ldK _ _ _ (LO c i arg2 f2 k) 3 2 h (by decide) rfl j d
  · exact ldQ _ _ _ k rfl r d
  · exact ldS _ _ _ (LO c i arg2 f2 k) 3 2 h (by decide) k rfl j r

theorem lad3 (x0 x1 x2 : S128x128.Idx → EReal) (h) (r : Fin 128) (Z : Fin 384 → EReal)
    (h0 : ∀ j : Fin 128, x0 (ix2 j r) = Z ⟨0 + j.val, by have := j.isLt; omega⟩) (h1 : ∀ j : Fin 128, x1 (ix2 j r) = Z ⟨128 + j.val, by have := j.isLt; omega⟩) (h2 : ∀ j : Fin 128, x2 (ix2 j r) = Z ⟨256 + j.val, by have := j.isLt; omega⟩) (j : Fin 384) :
    concatenate S384x128 0 [⟨S128x128, x0⟩, ⟨S128x128, x1⟩, ⟨S128x128, x2⟩] h (ix2 j r) = Z j := by
  have hj := j.isLt
  pointwise
  by_cases c0 : j.val < 128
  · rw [dif_pos c0]; rw [h0]; exact congrArg Z (Fin.ext (by simp only []; omega))
  rw [dif_neg c0]
  by_cases c1 : j.val - 128 < 128
  · rw [dif_pos c1]; rw [h1]; exact congrArg Z (Fin.ext (by simp only []; omega))
  rw [dif_neg c1]
  first
    | (rw [h2]; exact congrArg Z (Fin.ext (by simp only []; omega)))
    | (rw [dif_pos rfl]; rw [h2]; exact congrArg Z (Fin.ext (by simp only []; omega)))

theorem cat3 (hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 3 ≤ 8) (j : Fin 384) (r : Fin 128) :
    (trip.sl.v1194_2 c i arg2 arg6 arg8 arg9 arg13 arg14 f2 f6 f8 f9 f13 f14 k hc) (ix2 j r) = Yk c arg6 arg8 arg9 arg13 arg14 f6 f8 f9 f13 f14 ⟨128 * (LO c i arg2 f2 k).toNat + j.val, by have := j.isLt; omega⟩ (pos k.val r k.isLt) := by
  unfold trip.sl.v1194_2
  exact lad3 _ _ _  _ r (fun j : Fin 384 => Yk c arg6 arg8 arg9 arg13 arg14 f6 f8 f9 f13 f14 ⟨128 * (LO c i arg2 f2 k).toNat + j.val, by have := j.isLt; omega⟩ (pos k.val r k.isLt))
    (fun j => (piece3_0 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece3_1 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece3_2 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) j

theorem vt3 (hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 3 ≤ 8) (d : Fin 128) (j : Fin 384) :
    (trip.sl.v1266 c i arg2 arg15 f2 f15 k hc) (ix2 d j) = arg15.view.read (Elt Ideal) f15 (ix2 d ⟨128 * (LO c i arg2 f2 k).toNat + j.val, by have := j.isLt; omega⟩) := by
  unfold trip.sl.v1266
  refine ld arg15.view f15 _ _ _ (fun a => ?_)
  fin_cases a
  · exact (Nat.zero_add _).symm
  · exact congrArg (· + j.val) (vOff_eq (lo := (LO c i arg2 f2 k)) (by omega)).symm

theorem piece4_0 (hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 4 ≤ 8) (j r : Fin 128) :
    (trip.sl.v1149_3 c i arg2 arg6 arg8 arg9 arg13 arg14 f2 f6 f8 f9 f13 f14 k hc) (ix2 j r) = Yk c arg6 arg8 arg9 arg13 arg14 f6 f8 f9 f13 f14 (pos ((LO c i arg2 f2 k).toNat + 0) j (by omega)) (pos k.val r k.isLt) := by
  simp only [trip.sl.cst_445, trip.sl.cst_452, trip.sl.v1124_3, trip.sl.v1127_3, trip.sl.v1131_3, trip.sl.v1132_3, trip.sl.v1133_3, trip.sl.v1142_3, trip.sl.v1143_3, trip.sl.v1145_3, trip.sl.v1146_3, trip.sl.v1147_3, trip.sl.v1148, trip.sl.v1149_3]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 4 0 h (by decide) rfl j r
  · exact ldI _ _ _ k rfl r
  · exact ldK _ _ _ (LO c i arg2 f2 k) 4 0 h (by decide) rfl j d
  · exact ldQ _ _ _ k rfl r d
  · exact ldS _ _ _ (LO c i arg2 f2 k) 4 0 h (by decide) k rfl j r

theorem piece4_1 (hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 4 ≤ 8) (j r : Fin 128) :
    (trip.sl.v1171_3 c i arg2 arg6 arg8 arg9 arg13 arg14 f2 f6 f8 f9 f13 f14 k hc) (ix2 j r) = Yk c arg6 arg8 arg9 arg13 arg14 f6 f8 f9 f13 f14 (pos ((LO c i arg2 f2 k).toNat + 1) j (by omega)) (pos k.val r k.isLt) := by
  simp only [trip.sl.cst_445, trip.sl.cst_452, trip.sl.v1124_3, trip.sl.v1127_3, trip.sl.v1146_3, trip.sl.v1148, trip.sl.v1153_3, trip.sl.v1154_3, trip.sl.v1155_3, trip.sl.v1164_3, trip.sl.v1165_3, trip.sl.v1167_3, trip.sl.v1169_3, trip.sl.v1171_3]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 4 1 h (by decide) rfl j r
  · exact ldI _ _ _ k rfl r
  · exact ldK _ _ _ (LO c i arg2 f2 k) 4 1 h (by decide) rfl j d
  · exact ldQ _ _ _ k rfl r d
  · exact ldS _ _ _ (LO c i arg2 f2 k) 4 1 h (by decide) k rfl j r

theorem piece4_2 (hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 4 ≤ 8) (j r : Fin 128) :
    (trip.sl.v1193_3 c i arg2 arg6 arg8 arg9 arg13 arg14 f2 f6 f8 f9 f13 f14 k hc) (ix2 j r) = Yk c arg6 arg8 arg9 arg13 arg14 f6 f8 f9 f13 f14 (pos ((LO c i arg2 f2 k).toNat + 2) j (by omega)) (pos k.val r k.isLt) := by
  simp only [trip.sl.cst_445, trip.sl.cst_452, trip.sl.v1124_3, trip.sl.v1127_3, trip.sl.v1146_3, trip.sl.v1148, trip.sl.v1175_3, trip.sl.v1176_3, trip.sl.v1177_3, trip.sl.v1186_2, trip.sl.v1187_2, trip.sl.v1189_3, trip.sl.v1191_2, trip.sl.v1193_3]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 4 2 h (by decide) rfl j r
  · exact ldI _ _ _ k rfl r
  · exact ldK _ _ _ (LO c i arg2 f2 k) 4 2 h (by decide) rfl j d
  · exact ldQ _ _ _ k rfl r d
  · exact ldS _ _ _ (LO c i arg2 f2 k) 4 2 h (by decide) k rfl j r

theorem piece4_3 (hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 4 ≤ 8) (j r : Fin 128) :
    (trip.sl.v1215_1 c i arg2 arg6 arg8 arg9 arg13 arg14 f2 f6 f8 f9 f13 f14 k hc) (ix2 j r) = Yk c arg6 arg8 arg9 arg13 arg14 f6 f8 f9 f13 f14 (pos ((LO c i arg2 f2 k).toNat + 3) j (by omega)) (pos k.val r k.isLt) := by
  simp only [trip.sl.cst_445, trip.sl.cst_452, trip.sl.v1124_3, trip.sl.v1127_3, trip.sl.v1146_3, trip.sl.v1148, trip.sl.v1197_3, trip.sl.v1198_3, trip.sl.v1199_2, trip.sl.v1208_1, trip.sl.v1209_1, trip.sl.v1211_1, trip.sl.v1213_1, trip.sl.v1215_1]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 4 3 h (by decide) rfl j r
  · exact ldI _ _ _ k rfl r
  · exact ldK _ _ _ (LO c i arg2 f2 k) 4 3 h (by decide) rfl j d
  · exact ldQ _ _ _ k rfl r d
  · exact ldS _ _ _ (LO c i arg2 f2 k) 4 3 h (by decide) k rfl j r

theorem lad4 (x0 x1 x2 x3 : S128x128.Idx → EReal) (h) (r : Fin 128) (Z : Fin 512 → EReal)
    (h0 : ∀ j : Fin 128, x0 (ix2 j r) = Z ⟨0 + j.val, by have := j.isLt; omega⟩) (h1 : ∀ j : Fin 128, x1 (ix2 j r) = Z ⟨128 + j.val, by have := j.isLt; omega⟩) (h2 : ∀ j : Fin 128, x2 (ix2 j r) = Z ⟨256 + j.val, by have := j.isLt; omega⟩) (h3 : ∀ j : Fin 128, x3 (ix2 j r) = Z ⟨384 + j.val, by have := j.isLt; omega⟩) (j : Fin 512) :
    concatenate S512x128 0 [⟨S128x128, x0⟩, ⟨S128x128, x1⟩, ⟨S128x128, x2⟩, ⟨S128x128, x3⟩] h (ix2 j r) = Z j := by
  have hj := j.isLt
  pointwise
  by_cases c0 : j.val < 128
  · rw [dif_pos c0]; rw [h0]; exact congrArg Z (Fin.ext (by simp only []; omega))
  rw [dif_neg c0]
  by_cases c1 : j.val - 128 < 128
  · rw [dif_pos c1]; rw [h1]; exact congrArg Z (Fin.ext (by simp only []; omega))
  rw [dif_neg c1]
  by_cases c2 : j.val - 128 - 128 < 128
  · rw [dif_pos c2]; rw [h2]; exact congrArg Z (Fin.ext (by simp only []; omega))
  rw [dif_neg c2]
  first
    | (rw [h3]; exact congrArg Z (Fin.ext (by simp only []; omega)))
    | (rw [dif_pos rfl]; rw [h3]; exact congrArg Z (Fin.ext (by simp only []; omega)))

theorem cat4 (hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 4 ≤ 8) (j : Fin 512) (r : Fin 128) :
    (trip.sl.v1216_2 c i arg2 arg6 arg8 arg9 arg13 arg14 f2 f6 f8 f9 f13 f14 k hc) (ix2 j r) = Yk c arg6 arg8 arg9 arg13 arg14 f6 f8 f9 f13 f14 ⟨128 * (LO c i arg2 f2 k).toNat + j.val, by have := j.isLt; omega⟩ (pos k.val r k.isLt) := by
  unfold trip.sl.v1216_2
  exact lad4 _ _ _ _  _ r (fun j : Fin 512 => Yk c arg6 arg8 arg9 arg13 arg14 f6 f8 f9 f13 f14 ⟨128 * (LO c i arg2 f2 k).toNat + j.val, by have := j.isLt; omega⟩ (pos k.val r k.isLt))
    (fun j => (piece4_0 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece4_1 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece4_2 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece4_3 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) j

theorem vt4 (hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 4 ≤ 8) (d : Fin 128) (j : Fin 512) :
    (trip.sl.v1288 c i arg2 arg15 f2 f15 k hc) (ix2 d j) = arg15.view.read (Elt Ideal) f15 (ix2 d ⟨128 * (LO c i arg2 f2 k).toNat + j.val, by have := j.isLt; omega⟩) := by
  unfold trip.sl.v1288
  refine ld arg15.view f15 _ _ _ (fun a => ?_)
  fin_cases a
  · exact (Nat.zero_add _).symm
  · exact congrArg (· + j.val) (vOff_eq (lo := (LO c i arg2 f2 k)) (by omega)).symm

theorem piece5_0 (hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 5 ≤ 8) (j r : Fin 128) :
    (trip.sl.v1149_4 c i arg2 arg6 arg8 arg9 arg13 arg14 f2 f6 f8 f9 f13 f14 k hc) (ix2 j r) = Yk c arg6 arg8 arg9 arg13 arg14 f6 f8 f9 f13 f14 (pos ((LO c i arg2 f2 k).toNat + 0) j (by omega)) (pos k.val r k.isLt) := by
  simp only [trip.sl.cst_445, trip.sl.cst_452, trip.sl.v1124_4, trip.sl.v1127_4, trip.sl.v1131_4, trip.sl.v1132_4, trip.sl.v1133_4, trip.sl.v1142_4, trip.sl.v1143_4, trip.sl.v1145_4, trip.sl.v1146_4, trip.sl.v1147_4, trip.sl.v1148, trip.sl.v1149_4]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 5 0 h (by decide) rfl j r
  · exact ldI _ _ _ k rfl r
  · exact ldK _ _ _ (LO c i arg2 f2 k) 5 0 h (by decide) rfl j d
  · exact ldQ _ _ _ k rfl r d
  · exact ldS _ _ _ (LO c i arg2 f2 k) 5 0 h (by decide) k rfl j r

theorem piece5_1 (hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 5 ≤ 8) (j r : Fin 128) :
    (trip.sl.v1171_4 c i arg2 arg6 arg8 arg9 arg13 arg14 f2 f6 f8 f9 f13 f14 k hc) (ix2 j r) = Yk c arg6 arg8 arg9 arg13 arg14 f6 f8 f9 f13 f14 (pos ((LO c i arg2 f2 k).toNat + 1) j (by omega)) (pos k.val r k.isLt) := by
  simp only [trip.sl.cst_445, trip.sl.cst_452, trip.sl.v1124_4, trip.sl.v1127_4, trip.sl.v1146_4, trip.sl.v1148, trip.sl.v1153_4, trip.sl.v1154_4, trip.sl.v1155_4, trip.sl.v1164_4, trip.sl.v1165_4, trip.sl.v1167_4, trip.sl.v1169_4, trip.sl.v1171_4]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 5 1 h (by decide) rfl j r
  · exact ldI _ _ _ k rfl r
  · exact ldK _ _ _ (LO c i arg2 f2 k) 5 1 h (by decide) rfl j d
  · exact ldQ _ _ _ k rfl r d
  · exact ldS _ _ _ (LO c i arg2 f2 k) 5 1 h (by decide) k rfl j r

theorem piece5_2 (hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 5 ≤ 8) (j r : Fin 128) :
    (trip.sl.v1193_4 c i arg2 arg6 arg8 arg9 arg13 arg14 f2 f6 f8 f9 f13 f14 k hc) (ix2 j r) = Yk c arg6 arg8 arg9 arg13 arg14 f6 f8 f9 f13 f14 (pos ((LO c i arg2 f2 k).toNat + 2) j (by omega)) (pos k.val r k.isLt) := by
  simp only [trip.sl.cst_445, trip.sl.cst_452, trip.sl.v1124_4, trip.sl.v1127_4, trip.sl.v1146_4, trip.sl.v1148, trip.sl.v1175_4, trip.sl.v1176_4, trip.sl.v1177_4, trip.sl.v1186_3, trip.sl.v1187_3, trip.sl.v1189_4, trip.sl.v1191_3, trip.sl.v1193_4]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 5 2 h (by decide) rfl j r
  · exact ldI _ _ _ k rfl r
  · exact ldK _ _ _ (LO c i arg2 f2 k) 5 2 h (by decide) rfl j d
  · exact ldQ _ _ _ k rfl r d
  · exact ldS _ _ _ (LO c i arg2 f2 k) 5 2 h (by decide) k rfl j r

theorem piece5_3 (hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 5 ≤ 8) (j r : Fin 128) :
    (trip.sl.v1215_2 c i arg2 arg6 arg8 arg9 arg13 arg14 f2 f6 f8 f9 f13 f14 k hc) (ix2 j r) = Yk c arg6 arg8 arg9 arg13 arg14 f6 f8 f9 f13 f14 (pos ((LO c i arg2 f2 k).toNat + 3) j (by omega)) (pos k.val r k.isLt) := by
  simp only [trip.sl.cst_445, trip.sl.cst_452, trip.sl.v1124_4, trip.sl.v1127_4, trip.sl.v1146_4, trip.sl.v1148, trip.sl.v1197_4, trip.sl.v1198_4, trip.sl.v1199_3, trip.sl.v1208_2, trip.sl.v1209_2, trip.sl.v1211_2, trip.sl.v1213_2, trip.sl.v1215_2]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 5 3 h (by decide) rfl j r
  · exact ldI _ _ _ k rfl r
  · exact ldK _ _ _ (LO c i arg2 f2 k) 5 3 h (by decide) rfl j d
  · exact ldQ _ _ _ k rfl r d
  · exact ldS _ _ _ (LO c i arg2 f2 k) 5 3 h (by decide) k rfl j r

theorem piece5_4 (hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 5 ≤ 8) (j r : Fin 128) :
    (trip.sl.v1237_2 c i arg2 arg6 arg8 arg9 arg13 arg14 f2 f6 f8 f9 f13 f14 k hc) (ix2 j r) = Yk c arg6 arg8 arg9 arg13 arg14 f6 f8 f9 f13 f14 (pos ((LO c i arg2 f2 k).toNat + 4) j (by omega)) (pos k.val r k.isLt) := by
  simp only [trip.sl.cst_445, trip.sl.cst_452, trip.sl.v1124_4, trip.sl.v1127_4, trip.sl.v1146_4, trip.sl.v1148, trip.sl.v1219_2, trip.sl.v1220_3, trip.sl.v1221_3, trip.sl.v1230_2, trip.sl.v1231_2, trip.sl.v1233_2, trip.sl.v1235_2, trip.sl.v1237_2]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 5 4 h (by decide) rfl j r
  · exact ldI _ _ _ k rfl r
  · exact ldK _ _ _ (LO c i arg2 f2 k) 5 4 h (by decide) rfl j d
  · exact ldQ _ _ _ k rfl r d
  · exact ldS _ _ _ (LO c i arg2 f2 k) 5 4 h (by decide) k rfl j r

theorem lad5 (x0 x1 x2 x3 x4 : S128x128.Idx → EReal) (h) (r : Fin 128) (Z : Fin 640 → EReal)
    (h0 : ∀ j : Fin 128, x0 (ix2 j r) = Z ⟨0 + j.val, by have := j.isLt; omega⟩) (h1 : ∀ j : Fin 128, x1 (ix2 j r) = Z ⟨128 + j.val, by have := j.isLt; omega⟩) (h2 : ∀ j : Fin 128, x2 (ix2 j r) = Z ⟨256 + j.val, by have := j.isLt; omega⟩) (h3 : ∀ j : Fin 128, x3 (ix2 j r) = Z ⟨384 + j.val, by have := j.isLt; omega⟩) (h4 : ∀ j : Fin 128, x4 (ix2 j r) = Z ⟨512 + j.val, by have := j.isLt; omega⟩) (j : Fin 640) :
    concatenate S640x128 0 [⟨S128x128, x0⟩, ⟨S128x128, x1⟩, ⟨S128x128, x2⟩, ⟨S128x128, x3⟩, ⟨S128x128, x4⟩] h (ix2 j r) = Z j := by
  have hj := j.isLt
  pointwise
  by_cases c0 : j.val < 128
  · rw [dif_pos c0]; rw [h0]; exact congrArg Z (Fin.ext (by simp only []; omega))
  rw [dif_neg c0]
  by_cases c1 : j.val - 128 < 128
  · rw [dif_pos c1]; rw [h1]; exact congrArg Z (Fin.ext (by simp only []; omega))
  rw [dif_neg c1]
  by_cases c2 : j.val - 128 - 128 < 128
  · rw [dif_pos c2]; rw [h2]; exact congrArg Z (Fin.ext (by simp only []; omega))
  rw [dif_neg c2]
  by_cases c3 : j.val - 128 - 128 - 128 < 128
  · rw [dif_pos c3]; rw [h3]; exact congrArg Z (Fin.ext (by simp only []; omega))
  rw [dif_neg c3]
  first
    | (rw [h4]; exact congrArg Z (Fin.ext (by simp only []; omega)))
    | (rw [dif_pos rfl]; rw [h4]; exact congrArg Z (Fin.ext (by simp only []; omega)))

theorem cat5 (hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 5 ≤ 8) (j : Fin 640) (r : Fin 128) :
    (trip.sl.v1238_3 c i arg2 arg6 arg8 arg9 arg13 arg14 f2 f6 f8 f9 f13 f14 k hc) (ix2 j r) = Yk c arg6 arg8 arg9 arg13 arg14 f6 f8 f9 f13 f14 ⟨128 * (LO c i arg2 f2 k).toNat + j.val, by have := j.isLt; omega⟩ (pos k.val r k.isLt) := by
  unfold trip.sl.v1238_3
  exact lad5 _ _ _ _ _  _ r (fun j : Fin 640 => Yk c arg6 arg8 arg9 arg13 arg14 f6 f8 f9 f13 f14 ⟨128 * (LO c i arg2 f2 k).toNat + j.val, by have := j.isLt; omega⟩ (pos k.val r k.isLt))
    (fun j => (piece5_0 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece5_1 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece5_2 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece5_3 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece5_4 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) j

theorem vt5 (hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 5 ≤ 8) (d : Fin 128) (j : Fin 640) :
    (trip.sl.v1310 c i arg2 arg15 f2 f15 k hc) (ix2 d j) = arg15.view.read (Elt Ideal) f15 (ix2 d ⟨128 * (LO c i arg2 f2 k).toNat + j.val, by have := j.isLt; omega⟩) := by
  unfold trip.sl.v1310
  refine ld arg15.view f15 _ _ _ (fun a => ?_)
  fin_cases a
  · exact (Nat.zero_add _).symm
  · exact congrArg (· + j.val) (vOff_eq (lo := (LO c i arg2 f2 k)) (by omega)).symm

theorem piece6_0 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 6 ≤ 8) (j r : Fin 128) :
    (trip.sl.v1149_5 c i arg2 arg6 arg8 arg9 arg13 arg14 f2 f6 f8 f9 f13 f14 k hc) (ix2 j r) = Yk c arg6 arg8 arg9 arg13 arg14 f6 f8 f9 f13 f14 (pos ((LO c i arg2 f2 k).toNat + 0) j (by omega)) (pos k.val r k.isLt) := by
  simp only [trip.sl.cst_445, trip.sl.cst_452, trip.sl.v1124_5, trip.sl.v1127_5, trip.sl.v1131_5, trip.sl.v1132_5, trip.sl.v1133_5, trip.sl.v1142_5, trip.sl.v1143_5, trip.sl.v1145_5, trip.sl.v1146_5, trip.sl.v1147_5, trip.sl.v1148, trip.sl.v1149_5]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 6 0 h (by decide) rfl j r
  · exact ldI _ _ _ k rfl r
  · exact ldK _ _ _ (LO c i arg2 f2 k) 6 0 h (by decide) rfl j d
  · exact ldQ _ _ _ k rfl r d
  · exact ldS _ _ _ (LO c i arg2 f2 k) 6 0 h (by decide) k rfl j r

theorem piece6_1 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 6 ≤ 8) (j r : Fin 128) :
    (trip.sl.v1171_5 c i arg2 arg6 arg8 arg9 arg13 arg14 f2 f6 f8 f9 f13 f14 k hc) (ix2 j r) = Yk c arg6 arg8 arg9 arg13 arg14 f6 f8 f9 f13 f14 (pos ((LO c i arg2 f2 k).toNat + 1) j (by omega)) (pos k.val r k.isLt) := by
  simp only [trip.sl.cst_445, trip.sl.cst_452, trip.sl.v1124_5, trip.sl.v1127_5, trip.sl.v1146_5, trip.sl.v1148, trip.sl.v1153_5, trip.sl.v1154_5, trip.sl.v1155_5, trip.sl.v1164_5, trip.sl.v1165_5, trip.sl.v1167_5, trip.sl.v1169_5, trip.sl.v1171_5]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 6 1 h (by decide) rfl j r
  · exact ldI _ _ _ k rfl r
  · exact ldK _ _ _ (LO c i arg2 f2 k) 6 1 h (by decide) rfl j d
  · exact ldQ _ _ _ k rfl r d
  · exact ldS _ _ _ (LO c i arg2 f2 k) 6 1 h (by decide) k rfl j r

theorem piece6_2 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 6 ≤ 8) (j r : Fin 128) :
    (trip.sl.v1193_5 c i arg2 arg6 arg8 arg9 arg13 arg14 f2 f6 f8 f9 f13 f14 k hc) (ix2 j r) = Yk c arg6 arg8 arg9 arg13 arg14 f6 f8 f9 f13 f14 (pos ((LO c i arg2 f2 k).toNat + 2) j (by omega)) (pos k.val r k.isLt) := by
  simp only [trip.sl.cst_445, trip.sl.cst_452, trip.sl.v1124_5, trip.sl.v1127_5, trip.sl.v1146_5, trip.sl.v1148, trip.sl.v1175_5, trip.sl.v1176_5, trip.sl.v1177_5, trip.sl.v1186_4, trip.sl.v1187_4, trip.sl.v1189_5, trip.sl.v1191_4, trip.sl.v1193_5]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 6 2 h (by decide) rfl j r
  · exact ldI _ _ _ k rfl r
  · exact ldK _ _ _ (LO c i arg2 f2 k) 6 2 h (by decide) rfl j d
  · exact ldQ _ _ _ k rfl r d
  · exact ldS _ _ _ (LO c i arg2 f2 k) 6 2 h (by decide) k rfl j r

theorem piece6_3 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 6 ≤ 8) (j r : Fin 128) :
    (trip.sl.v1215_3 c i arg2 arg6 arg8 arg9 arg13 arg14 f2 f6 f8 f9 f13 f14 k hc) (ix2 j r) = Yk c arg6 arg8 arg9 arg13 arg14 f6 f8 f9 f13 f14 (pos ((LO c i arg2 f2 k).toNat + 3) j (by omega)) (pos k.val r k.isLt) := by
  simp only [trip.sl.cst_445, trip.sl.cst_452, trip.sl.v1124_5, trip.sl.v1127_5, trip.sl.v1146_5, trip.sl.v1148, trip.sl.v1197_5, trip.sl.v1198_5, trip.sl.v1199_4, trip.sl.v1208_3, trip.sl.v1209_3, trip.sl.v1211_3, trip.sl.v1213_3, trip.sl.v1215_3]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 6 3 h (by decide) rfl j r
  · exact ldI _ _ _ k rfl r
  · exact ldK _ _ _ (LO c i arg2 f2 k) 6 3 h (by decide) rfl j d
  · exact ldQ _ _ _ k rfl r d
  · exact ldS _ _ _ (LO c i arg2 f2 k) 6 3 h (by decide) k rfl j r

theorem piece6_4 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 6 ≤ 8) (j r : Fin 128) :
    (trip.sl.v1237_3 c i arg2 arg6 arg8 arg9 arg13 arg14 f2 f6 f8 f9 f13 f14 k hc) (ix2 j r) = Yk c arg6 arg8 arg9 arg13 arg14 f6 f8 f9 f13 f14 (pos ((LO c i arg2 f2 k).toNat + 4) j (by omega)) (pos k.val r k.isLt) := by
  simp only [trip.sl.cst_445, trip.sl.cst_452, trip.sl.v1124_5, trip.sl.v1127_5, trip.sl.v1146_5, trip.sl.v1148, trip.sl.v1219_3, trip.sl.v1220_4, trip.sl.v1221_4, trip.sl.v1230_3, trip.sl.v1231_3, trip.sl.v1233_3, trip.sl.v1235_3, trip.sl.v1237_3]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 6 4 h (by decide) rfl j r
  · exact ldI _ _ _ k rfl r
  · exact ldK _ _ _ (LO c i arg2 f2 k) 6 4 h (by decide) rfl j d
  · exact ldQ _ _ _ k rfl r d
  · exact ldS _ _ _ (LO c i arg2 f2 k) 6 4 h (by decide) k rfl j r

theorem piece6_5 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 6 ≤ 8) (j r : Fin 128) :
    (trip.sl.v1259_1 c i arg2 arg6 arg8 arg9 arg13 arg14 f2 f6 f8 f9 f13 f14 k hc) (ix2 j r) = Yk c arg6 arg8 arg9 arg13 arg14 f6 f8 f9 f13 f14 (pos ((LO c i arg2 f2 k).toNat + 5) j (by omega)) (pos k.val r k.isLt) := by
  simp only [trip.sl.cst_445, trip.sl.cst_452, trip.sl.v1124_5, trip.sl.v1127_5, trip.sl.v1146_5, trip.sl.v1148, trip.sl.v1241_3, trip.sl.v1242_3, trip.sl.v1243_2, trip.sl.v1252_1, trip.sl.v1253_1, trip.sl.v1255_1, trip.sl.v1257_1, trip.sl.v1259_1]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 6 5 h (by decide) rfl j r
  · exact ldI _ _ _ k rfl r
  · exact ldK _ _ _ (LO c i arg2 f2 k) 6 5 h (by decide) rfl j d
  · exact ldQ _ _ _ k rfl r d
  · exact ldS _ _ _ (LO c i arg2 f2 k) 6 5 h (by decide) k rfl j r

theorem lad6 (x0 x1 x2 x3 x4 x5 : S128x128.Idx → EReal) (h) (r : Fin 128) (Z : Fin 768 → EReal)
    (h0 : ∀ j : Fin 128, x0 (ix2 j r) = Z ⟨0 + j.val, by have := j.isLt; omega⟩) (h1 : ∀ j : Fin 128, x1 (ix2 j r) = Z ⟨128 + j.val, by have := j.isLt; omega⟩) (h2 : ∀ j : Fin 128, x2 (ix2 j r) = Z ⟨256 + j.val, by have := j.isLt; omega⟩) (h3 : ∀ j : Fin 128, x3 (ix2 j r) = Z ⟨384 + j.val, by have := j.isLt; omega⟩) (h4 : ∀ j : Fin 128, x4 (ix2 j r) = Z ⟨512 + j.val, by have := j.isLt; omega⟩) (h5 : ∀ j : Fin 128, x5 (ix2 j r) = Z ⟨640 + j.val, by have := j.isLt; omega⟩) (j : Fin 768) :
    concatenate S768x128 0 [⟨S128x128, x0⟩, ⟨S128x128, x1⟩, ⟨S128x128, x2⟩, ⟨S128x128, x3⟩, ⟨S128x128, x4⟩, ⟨S128x128, x5⟩] h (ix2 j r) = Z j := by
  have hj := j.isLt
  pointwise
  by_cases c0 : j.val < 128
  · rw [dif_pos c0]; rw [h0]; exact congrArg Z (Fin.ext (by simp only []; omega))
  rw [dif_neg c0]
  by_cases c1 : j.val - 128 < 128
  · rw [dif_pos c1]; rw [h1]; exact congrArg Z (Fin.ext (by simp only []; omega))
  rw [dif_neg c1]
  by_cases c2 : j.val - 128 - 128 < 128
  · rw [dif_pos c2]; rw [h2]; exact congrArg Z (Fin.ext (by simp only []; omega))
  rw [dif_neg c2]
  by_cases c3 : j.val - 128 - 128 - 128 < 128
  · rw [dif_pos c3]; rw [h3]; exact congrArg Z (Fin.ext (by simp only []; omega))
  rw [dif_neg c3]
  by_cases c4 : j.val - 128 - 128 - 128 - 128 < 128
  · rw [dif_pos c4]; rw [h4]; exact congrArg Z (Fin.ext (by simp only []; omega))
  rw [dif_neg c4]
  first
    | (rw [h5]; exact congrArg Z (Fin.ext (by simp only []; omega)))
    | (rw [dif_pos rfl]; rw [h5]; exact congrArg Z (Fin.ext (by simp only []; omega)))

theorem cat6 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 6 ≤ 8) (j : Fin 768) (r : Fin 128) :
    (trip.sl.v1260_2 c i arg2 arg6 arg8 arg9 arg13 arg14 f2 f6 f8 f9 f13 f14 k hc) (ix2 j r) = Yk c arg6 arg8 arg9 arg13 arg14 f6 f8 f9 f13 f14 ⟨128 * (LO c i arg2 f2 k).toNat + j.val, by have := j.isLt; omega⟩ (pos k.val r k.isLt) := by
  unfold trip.sl.v1260_2
  exact lad6 _ _ _ _ _ _  _ r (fun j : Fin 768 => Yk c arg6 arg8 arg9 arg13 arg14 f6 f8 f9 f13 f14 ⟨128 * (LO c i arg2 f2 k).toNat + j.val, by have := j.isLt; omega⟩ (pos k.val r k.isLt))
    (fun j => (piece6_0 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece6_1 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece6_2 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece6_3 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece6_4 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece6_5 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) j

theorem vt6 (hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 6 ≤ 8) (d : Fin 128) (j : Fin 768) :
    (trip.sl.v1332 c i arg2 arg15 f2 f15 k hc) (ix2 d j) = arg15.view.read (Elt Ideal) f15 (ix2 d ⟨128 * (LO c i arg2 f2 k).toNat + j.val, by have := j.isLt; omega⟩) := by
  unfold trip.sl.v1332
  refine ld arg15.view f15 _ _ _ (fun a => ?_)
  fin_cases a
  · exact (Nat.zero_add _).symm
  · exact congrArg (· + j.val) (vOff_eq (lo := (LO c i arg2 f2 k)) (by omega)).symm

theorem piece7_0 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (j r : Fin 128) :
    (trip.sl.v1149_6 c i arg2 arg6 arg8 arg9 arg13 arg14 f2 f6 f8 f9 f13 f14 k hc) (ix2 j r) = Yk c arg6 arg8 arg9 arg13 arg14 f6 f8 f9 f13 f14 (pos ((LO c i arg2 f2 k).toNat + 0) j (by omega)) (pos k.val r k.isLt) := by
  simp only [trip.sl.cst_445, trip.sl.cst_452, trip.sl.v1124_6, trip.sl.v1127_6, trip.sl.v1131_6, trip.sl.v1132_6, trip.sl.v1133_6, trip.sl.v1142_6, trip.sl.v1143_6, trip.sl.v1145_6, trip.sl.v1146_6, trip.sl.v1147_6, trip.sl.v1148, trip.sl.v1149_6]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 7 0 h (by decide) rfl j r
  · exact ldI _ _ _ k rfl r
  · exact ldK _ _ _ (LO c i arg2 f2 k) 7 0 h (by decide) rfl j d
  · exact ldQ _ _ _ k rfl r d
  · exact ldS _ _ _ (LO c i arg2 f2 k) 7 0 h (by decide) k rfl j r

theorem piece7_1 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (j r : Fin 128) :
    (trip.sl.v1171_6 c i arg2 arg6 arg8 arg9 arg13 arg14 f2 f6 f8 f9 f13 f14 k hc) (ix2 j r) = Yk c arg6 arg8 arg9 arg13 arg14 f6 f8 f9 f13 f14 (pos ((LO c i arg2 f2 k).toNat + 1) j (by omega)) (pos k.val r k.isLt) := by
  simp only [trip.sl.cst_445, trip.sl.cst_452, trip.sl.v1124_6, trip.sl.v1127_6, trip.sl.v1146_6, trip.sl.v1148, trip.sl.v1153_6, trip.sl.v1154_6, trip.sl.v1155_6, trip.sl.v1164_6, trip.sl.v1165_6, trip.sl.v1167_6, trip.sl.v1169_6, trip.sl.v1171_6]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 7 1 h (by decide) rfl j r
  · exact ldI _ _ _ k rfl r
  · exact ldK _ _ _ (LO c i arg2 f2 k) 7 1 h (by decide) rfl j d
  · exact ldQ _ _ _ k rfl r d
  · exact ldS _ _ _ (LO c i arg2 f2 k) 7 1 h (by decide) k rfl j r

theorem piece7_2 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (j r : Fin 128) :
    (trip.sl.v1193_6 c i arg2 arg6 arg8 arg9 arg13 arg14 f2 f6 f8 f9 f13 f14 k hc) (ix2 j r) = Yk c arg6 arg8 arg9 arg13 arg14 f6 f8 f9 f13 f14 (pos ((LO c i arg2 f2 k).toNat + 2) j (by omega)) (pos k.val r k.isLt) := by
  simp only [trip.sl.cst_445, trip.sl.cst_452, trip.sl.v1124_6, trip.sl.v1127_6, trip.sl.v1146_6, trip.sl.v1148, trip.sl.v1175_6, trip.sl.v1176_6, trip.sl.v1177_6, trip.sl.v1186_5, trip.sl.v1187_5, trip.sl.v1189_6, trip.sl.v1191_5, trip.sl.v1193_6]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 7 2 h (by decide) rfl j r
  · exact ldI _ _ _ k rfl r
  · exact ldK _ _ _ (LO c i arg2 f2 k) 7 2 h (by decide) rfl j d
  · exact ldQ _ _ _ k rfl r d
  · exact ldS _ _ _ (LO c i arg2 f2 k) 7 2 h (by decide) k rfl j r

theorem piece7_3 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (j r : Fin 128) :
    (trip.sl.v1215_4 c i arg2 arg6 arg8 arg9 arg13 arg14 f2 f6 f8 f9 f13 f14 k hc) (ix2 j r) = Yk c arg6 arg8 arg9 arg13 arg14 f6 f8 f9 f13 f14 (pos ((LO c i arg2 f2 k).toNat + 3) j (by omega)) (pos k.val r k.isLt) := by
  simp only [trip.sl.cst_445, trip.sl.cst_452, trip.sl.v1124_6, trip.sl.v1127_6, trip.sl.v1146_6, trip.sl.v1148, trip.sl.v1197_6, trip.sl.v1198_6, trip.sl.v1199_5, trip.sl.v1208_4, trip.sl.v1209_4, trip.sl.v1211_4, trip.sl.v1213_4, trip.sl.v1215_4]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 7 3 h (by decide) rfl j r
  · exact ldI _ _ _ k rfl r
  · exact ldK _ _ _ (LO c i arg2 f2 k) 7 3 h (by decide) rfl j d
  · exact ldQ _ _ _ k rfl r d
  · exact ldS _ _ _ (LO c i arg2 f2 k) 7 3 h (by decide) k rfl j r

theorem piece7_4 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (j r : Fin 128) :
    (trip.sl.v1237_4 c i arg2 arg6 arg8 arg9 arg13 arg14 f2 f6 f8 f9 f13 f14 k hc) (ix2 j r) = Yk c arg6 arg8 arg9 arg13 arg14 f6 f8 f9 f13 f14 (pos ((LO c i arg2 f2 k).toNat + 4) j (by omega)) (pos k.val r k.isLt) := by
  simp only [trip.sl.cst_445, trip.sl.cst_452, trip.sl.v1124_6, trip.sl.v1127_6, trip.sl.v1146_6, trip.sl.v1148, trip.sl.v1219_4, trip.sl.v1220_5, trip.sl.v1221_5, trip.sl.v1230_4, trip.sl.v1231_4, trip.sl.v1233_4, trip.sl.v1235_4, trip.sl.v1237_4]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 7 4 h (by decide) rfl j r
  · exact ldI _ _ _ k rfl r
  · exact ldK _ _ _ (LO c i arg2 f2 k) 7 4 h (by decide) rfl j d
  · exact ldQ _ _ _ k rfl r d
  · exact ldS _ _ _ (LO c i arg2 f2 k) 7 4 h (by decide) k rfl j r

theorem piece7_5 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (j r : Fin 128) :
    (trip.sl.v1259_2 c i arg2 arg6 arg8 arg9 arg13 arg14 f2 f6 f8 f9 f13 f14 k hc) (ix2 j r) = Yk c arg6 arg8 arg9 arg13 arg14 f6 f8 f9 f13 f14 (pos ((LO c i arg2 f2 k).toNat + 5) j (by omega)) (pos k.val r k.isLt) := by
  simp only [trip.sl.cst_445, trip.sl.cst_452, trip.sl.v1124_6, trip.sl.v1127_6, trip.sl.v1146_6, trip.sl.v1148, trip.sl.v1241_4, trip.sl.v1242_4, trip.sl.v1243_3, trip.sl.v1252_2, trip.sl.v1253_2, trip.sl.v1255_2, trip.sl.v1257_2, trip.sl.v1259_2]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 7 5 h (by decide) rfl j r
  · exact ldI _ _ _ k rfl r
  · exact ldK _ _ _ (LO c i arg2 f2 k) 7 5 h (by decide) rfl j d
  · exact ldQ _ _ _ k rfl r d
  · exact ldS _ _ _ (LO c i arg2 f2 k) 7 5 h (by decide) k rfl j r

theorem piece7_6 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (j r : Fin 128) :
    (trip.sl.v1281_2 c i arg2 arg6 arg8 arg9 arg13 arg14 f2 f6 f8 f9 f13 f14 k hc) (ix2 j r) = Yk c arg6 arg8 arg9 arg13 arg14 f6 f8 f9 f13 f14 (pos ((LO c i arg2 f2 k).toNat + 6) j (by omega)) (pos k.val r k.isLt) := by
  simp only [trip.sl.cst_445, trip.sl.cst_452, trip.sl.v1124_6, trip.sl.v1127_6, trip.sl.v1146_6, trip.sl.v1148, trip.sl.v1263_2, trip.sl.v1264_3, trip.sl.v1265_2, trip.sl.v1274_2, trip.sl.v1275_2, trip.sl.v1277_2, trip.sl.v1279_2, trip.sl.v1281_2]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 7 6 h (by decide) rfl j r
  · exact ldI _ _ _ k rfl r
  · exact ldK _ _ _ (LO c i arg2 f2 k) 7 6 h (by decide) rfl j d
  · exact ldQ _ _ _ k rfl r d
  · exact ldS _ _ _ (LO c i arg2 f2 k) 7 6 h (by decide) k rfl j r

theorem lad7 (x0 x1 x2 x3 x4 x5 x6 : S128x128.Idx → EReal) (h) (r : Fin 128) (Z : Fin 896 → EReal)
    (h0 : ∀ j : Fin 128, x0 (ix2 j r) = Z ⟨0 + j.val, by have := j.isLt; omega⟩) (h1 : ∀ j : Fin 128, x1 (ix2 j r) = Z ⟨128 + j.val, by have := j.isLt; omega⟩) (h2 : ∀ j : Fin 128, x2 (ix2 j r) = Z ⟨256 + j.val, by have := j.isLt; omega⟩) (h3 : ∀ j : Fin 128, x3 (ix2 j r) = Z ⟨384 + j.val, by have := j.isLt; omega⟩) (h4 : ∀ j : Fin 128, x4 (ix2 j r) = Z ⟨512 + j.val, by have := j.isLt; omega⟩) (h5 : ∀ j : Fin 128, x5 (ix2 j r) = Z ⟨640 + j.val, by have := j.isLt; omega⟩) (h6 : ∀ j : Fin 128, x6 (ix2 j r) = Z ⟨768 + j.val, by have := j.isLt; omega⟩) (j : Fin 896) :
    concatenate S896x128 0 [⟨S128x128, x0⟩, ⟨S128x128, x1⟩, ⟨S128x128, x2⟩, ⟨S128x128, x3⟩, ⟨S128x128, x4⟩, ⟨S128x128, x5⟩, ⟨S128x128, x6⟩] h (ix2 j r) = Z j := by
  have hj := j.isLt
  pointwise
  by_cases c0 : j.val < 128
  · rw [dif_pos c0]; rw [h0]; exact congrArg Z (Fin.ext (by simp only []; omega))
  rw [dif_neg c0]
  by_cases c1 : j.val - 128 < 128
  · rw [dif_pos c1]; rw [h1]; exact congrArg Z (Fin.ext (by simp only []; omega))
  rw [dif_neg c1]
  by_cases c2 : j.val - 128 - 128 < 128
  · rw [dif_pos c2]; rw [h2]; exact congrArg Z (Fin.ext (by simp only []; omega))
  rw [dif_neg c2]
  by_cases c3 : j.val - 128 - 128 - 128 < 128
  · rw [dif_pos c3]; rw [h3]; exact congrArg Z (Fin.ext (by simp only []; omega))
  rw [dif_neg c3]
  by_cases c4 : j.val - 128 - 128 - 128 - 128 < 128
  · rw [dif_pos c4]; rw [h4]; exact congrArg Z (Fin.ext (by simp only []; omega))
  rw [dif_neg c4]
  by_cases c5 : j.val - 128 - 128 - 128 - 128 - 128 < 128
  · rw [dif_pos c5]; rw [h5]; exact congrArg Z (Fin.ext (by simp only []; omega))
  rw [dif_neg c5]
  first
    | (rw [h6]; exact congrArg Z (Fin.ext (by simp only []; omega)))
    | (rw [dif_pos rfl]; rw [h6]; exact congrArg Z (Fin.ext (by simp only []; omega)))

theorem cat7 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (j : Fin 896) (r : Fin 128) :
    (trip.sl.v1282_1 c i arg2 arg6 arg8 arg9 arg13 arg14 f2 f6 f8 f9 f13 f14 k hc) (ix2 j r) = Yk c arg6 arg8 arg9 arg13 arg14 f6 f8 f9 f13 f14 ⟨128 * (LO c i arg2 f2 k).toNat + j.val, by have := j.isLt; omega⟩ (pos k.val r k.isLt) := by
  unfold trip.sl.v1282_1
  exact lad7 _ _ _ _ _ _ _  _ r (fun j : Fin 896 => Yk c arg6 arg8 arg9 arg13 arg14 f6 f8 f9 f13 f14 ⟨128 * (LO c i arg2 f2 k).toNat + j.val, by have := j.isLt; omega⟩ (pos k.val r k.isLt))
    (fun j => (piece7_0 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece7_1 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece7_2 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece7_3 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece7_4 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece7_5 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece7_6 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) j

theorem vt7 (hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 7 ≤ 8) (d : Fin 128) (j : Fin 896) :
    (trip.sl.v1354 c i arg2 arg15 f2 f15 k hc) (ix2 d j) = arg15.view.read (Elt Ideal) f15 (ix2 d ⟨128 * (LO c i arg2 f2 k).toNat + j.val, by have := j.isLt; omega⟩) := by
  unfold trip.sl.v1354
  refine ld arg15.view f15 _ _ _ (fun a => ?_)
  fin_cases a
  · exact (Nat.zero_add _).symm
  · exact congrArg (· + j.val) (vOff_eq (lo := (LO c i arg2 f2 k)) (by omega)).symm

theorem piece8_0 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j r : Fin 128) :
    (trip.sl.v1149_7 c i arg2 arg6 arg8 arg9 arg13 arg14 f2 f6 f8 f9 f13 f14 k hc) (ix2 j r) = Yk c arg6 arg8 arg9 arg13 arg14 f6 f8 f9 f13 f14 (pos ((LO c i arg2 f2 k).toNat + 0) j (by omega)) (pos k.val r k.isLt) := by
  simp only [trip.sl.cst_445, trip.sl.cst_452, trip.sl.v1124_7, trip.sl.v1127_7, trip.sl.v1131_7, trip.sl.v1132_7, trip.sl.v1133_7, trip.sl.v1142_7, trip.sl.v1143_7, trip.sl.v1145_7, trip.sl.v1146_7, trip.sl.v1147_7, trip.sl.v1148, trip.sl.v1149_7]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 8 0 h (by decide) rfl j r
  · exact ldI _ _ _ k rfl r
  · exact ldK _ _ _ (LO c i arg2 f2 k) 8 0 h (by decide) rfl j d
  · exact ldQ _ _ _ k rfl r d
  · exact ldS _ _ _ (LO c i arg2 f2 k) 8 0 h (by decide) k rfl j r

theorem piece8_1 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j r : Fin 128) :
    (trip.sl.v1171_7 c i arg2 arg6 arg8 arg9 arg13 arg14 f2 f6 f8 f9 f13 f14 k hc) (ix2 j r) = Yk c arg6 arg8 arg9 arg13 arg14 f6 f8 f9 f13 f14 (pos ((LO c i arg2 f2 k).toNat + 1) j (by omega)) (pos k.val r k.isLt) := by
  simp only [trip.sl.cst_445, trip.sl.cst_452, trip.sl.v1124_7, trip.sl.v1127_7, trip.sl.v1146_7, trip.sl.v1148, trip.sl.v1153_7, trip.sl.v1154_7, trip.sl.v1155_7, trip.sl.v1164_7, trip.sl.v1165_7, trip.sl.v1167_7, trip.sl.v1169_7, trip.sl.v1171_7]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 8 1 h (by decide) rfl j r
  · exact ldI _ _ _ k rfl r
  · exact ldK _ _ _ (LO c i arg2 f2 k) 8 1 h (by decide) rfl j d
  · exact ldQ _ _ _ k rfl r d
  · exact ldS _ _ _ (LO c i arg2 f2 k) 8 1 h (by decide) k rfl j r

theorem piece8_2 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j r : Fin 128) :
    (trip.sl.v1193_7 c i arg2 arg6 arg8 arg9 arg13 arg14 f2 f6 f8 f9 f13 f14 k hc) (ix2 j r) = Yk c arg6 arg8 arg9 arg13 arg14 f6 f8 f9 f13 f14 (pos ((LO c i arg2 f2 k).toNat + 2) j (by omega)) (pos k.val r k.isLt) := by
  simp only [trip.sl.cst_445, trip.sl.cst_452, trip.sl.v1124_7, trip.sl.v1127_7, trip.sl.v1146_7, trip.sl.v1148, trip.sl.v1175_7, trip.sl.v1176_7, trip.sl.v1177_7, trip.sl.v1186_6, trip.sl.v1187_6, trip.sl.v1189_7, trip.sl.v1191_6, trip.sl.v1193_7]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 8 2 h (by decide) rfl j r
  · exact ldI _ _ _ k rfl r
  · exact ldK _ _ _ (LO c i arg2 f2 k) 8 2 h (by decide) rfl j d
  · exact ldQ _ _ _ k rfl r d
  · exact ldS _ _ _ (LO c i arg2 f2 k) 8 2 h (by decide) k rfl j r

theorem piece8_3 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j r : Fin 128) :
    (trip.sl.v1215_5 c i arg2 arg6 arg8 arg9 arg13 arg14 f2 f6 f8 f9 f13 f14 k hc) (ix2 j r) = Yk c arg6 arg8 arg9 arg13 arg14 f6 f8 f9 f13 f14 (pos ((LO c i arg2 f2 k).toNat + 3) j (by omega)) (pos k.val r k.isLt) := by
  simp only [trip.sl.cst_445, trip.sl.cst_452, trip.sl.v1124_7, trip.sl.v1127_7, trip.sl.v1146_7, trip.sl.v1148, trip.sl.v1197_7, trip.sl.v1198_7, trip.sl.v1199_6, trip.sl.v1208_5, trip.sl.v1209_5, trip.sl.v1211_5, trip.sl.v1213_5, trip.sl.v1215_5]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 8 3 h (by decide) rfl j r
  · exact ldI _ _ _ k rfl r
  · exact ldK _ _ _ (LO c i arg2 f2 k) 8 3 h (by decide) rfl j d
  · exact ldQ _ _ _ k rfl r d
  · exact ldS _ _ _ (LO c i arg2 f2 k) 8 3 h (by decide) k rfl j r

theorem piece8_4 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j r : Fin 128) :
    (trip.sl.v1237_5 c i arg2 arg6 arg8 arg9 arg13 arg14 f2 f6 f8 f9 f13 f14 k hc) (ix2 j r) = Yk c arg6 arg8 arg9 arg13 arg14 f6 f8 f9 f13 f14 (pos ((LO c i arg2 f2 k).toNat + 4) j (by omega)) (pos k.val r k.isLt) := by
  simp only [trip.sl.cst_445, trip.sl.cst_452, trip.sl.v1124_7, trip.sl.v1127_7, trip.sl.v1146_7, trip.sl.v1148, trip.sl.v1219_5, trip.sl.v1220_6, trip.sl.v1221_6, trip.sl.v1230_5, trip.sl.v1231_5, trip.sl.v1233_5, trip.sl.v1235_5, trip.sl.v1237_5]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 8 4 h (by decide) rfl j r
  · exact ldI _ _ _ k rfl r
  · exact ldK _ _ _ (LO c i arg2 f2 k) 8 4 h (by decide) rfl j d
  · exact ldQ _ _ _ k rfl r d
  · exact ldS _ _ _ (LO c i arg2 f2 k) 8 4 h (by decide) k rfl j r

theorem piece8_5 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j r : Fin 128) :
    (trip.sl.v1259_3 c i arg2 arg6 arg8 arg9 arg13 arg14 f2 f6 f8 f9 f13 f14 k hc) (ix2 j r) = Yk c arg6 arg8 arg9 arg13 arg14 f6 f8 f9 f13 f14 (pos ((LO c i arg2 f2 k).toNat + 5) j (by omega)) (pos k.val r k.isLt) := by
  simp only [trip.sl.cst_445, trip.sl.cst_452, trip.sl.v1124_7, trip.sl.v1127_7, trip.sl.v1146_7, trip.sl.v1148, trip.sl.v1241_5, trip.sl.v1242_5, trip.sl.v1243_4, trip.sl.v1252_3, trip.sl.v1253_3, trip.sl.v1255_3, trip.sl.v1257_3, trip.sl.v1259_3]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 8 5 h (by decide) rfl j r
  · exact ldI _ _ _ k rfl r
  · exact ldK _ _ _ (LO c i arg2 f2 k) 8 5 h (by decide) rfl j d
  · exact ldQ _ _ _ k rfl r d
  · exact ldS _ _ _ (LO c i arg2 f2 k) 8 5 h (by decide) k rfl j r

theorem piece8_6 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j r : Fin 128) :
    (trip.sl.v1281_3 c i arg2 arg6 arg8 arg9 arg13 arg14 f2 f6 f8 f9 f13 f14 k hc) (ix2 j r) = Yk c arg6 arg8 arg9 arg13 arg14 f6 f8 f9 f13 f14 (pos ((LO c i arg2 f2 k).toNat + 6) j (by omega)) (pos k.val r k.isLt) := by
  simp only [trip.sl.cst_445, trip.sl.cst_452, trip.sl.v1124_7, trip.sl.v1127_7, trip.sl.v1146_7, trip.sl.v1148, trip.sl.v1263_3, trip.sl.v1264_4, trip.sl.v1265_3, trip.sl.v1274_3, trip.sl.v1275_3, trip.sl.v1277_3, trip.sl.v1279_3, trip.sl.v1281_3]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 8 6 h (by decide) rfl j r
  · exact ldI _ _ _ k rfl r
  · exact ldK _ _ _ (LO c i arg2 f2 k) 8 6 h (by decide) rfl j d
  · exact ldQ _ _ _ k rfl r d
  · exact ldS _ _ _ (LO c i arg2 f2 k) 8 6 h (by decide) k rfl j r

theorem piece8_7 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j r : Fin 128) :
    (trip.sl.v1303_1 c i arg2 arg6 arg8 arg9 arg13 arg14 f2 f6 f8 f9 f13 f14 k hc) (ix2 j r) = Yk c arg6 arg8 arg9 arg13 arg14 f6 f8 f9 f13 f14 (pos ((LO c i arg2 f2 k).toNat + 7) j (by omega)) (pos k.val r k.isLt) := by
  simp only [trip.sl.cst_445, trip.sl.cst_452, trip.sl.v1124_7, trip.sl.v1127_7, trip.sl.v1146_7, trip.sl.v1148, trip.sl.v1285_2, trip.sl.v1286_2, trip.sl.v1287_1, trip.sl.v1296_1, trip.sl.v1297_1, trip.sl.v1299_1, trip.sl.v1301_1, trip.sl.v1303_1]
  refine tile_eq c arg6 arg8 arg9 arg13 arg14 f6 f8 f9 f13 f14 _ _ _ _ _ _ _ _ _ j r _ _ ?_ ?_ (fun d => ?_) (fun d => ?_) ?_
  · rw [lane_pos k.val r k.isLt]; exact ldC _ _ _ (LO c i arg2 f2 k) 8 7 h (by decide) rfl j r
  · exact ldI _ _ _ k rfl r
  · exact ldK _ _ _ (LO c i arg2 f2 k) 8 7 h (by decide) rfl j d
  · exact ldQ _ _ _ k rfl r d
  · exact ldS _ _ _ (LO c i arg2 f2 k) 8 7 h (by decide) k rfl j r

theorem lad8 (x0 x1 x2 x3 x4 x5 x6 x7 : S128x128.Idx → EReal) (h) (r : Fin 128) (Z : Fin 1024 → EReal)
    (h0 : ∀ j : Fin 128, x0 (ix2 j r) = Z ⟨0 + j.val, by have := j.isLt; omega⟩) (h1 : ∀ j : Fin 128, x1 (ix2 j r) = Z ⟨128 + j.val, by have := j.isLt; omega⟩) (h2 : ∀ j : Fin 128, x2 (ix2 j r) = Z ⟨256 + j.val, by have := j.isLt; omega⟩) (h3 : ∀ j : Fin 128, x3 (ix2 j r) = Z ⟨384 + j.val, by have := j.isLt; omega⟩) (h4 : ∀ j : Fin 128, x4 (ix2 j r) = Z ⟨512 + j.val, by have := j.isLt; omega⟩) (h5 : ∀ j : Fin 128, x5 (ix2 j r) = Z ⟨640 + j.val, by have := j.isLt; omega⟩) (h6 : ∀ j : Fin 128, x6 (ix2 j r) = Z ⟨768 + j.val, by have := j.isLt; omega⟩) (h7 : ∀ j : Fin 128, x7 (ix2 j r) = Z ⟨896 + j.val, by have := j.isLt; omega⟩) (j : Fin 1024) :
    concatenate S1024x128 0 [⟨S128x128, x0⟩, ⟨S128x128, x1⟩, ⟨S128x128, x2⟩, ⟨S128x128, x3⟩, ⟨S128x128, x4⟩, ⟨S128x128, x5⟩, ⟨S128x128, x6⟩, ⟨S128x128, x7⟩] h (ix2 j r) = Z j := by
  have hj := j.isLt
  pointwise
  by_cases c0 : j.val < 128
  · rw [dif_pos c0]; rw [h0]; exact congrArg Z (Fin.ext (by simp only []; omega))
  rw [dif_neg c0]
  by_cases c1 : j.val - 128 < 128
  · rw [dif_pos c1]; rw [h1]; exact congrArg Z (Fin.ext (by simp only []; omega))
  rw [dif_neg c1]
  by_cases c2 : j.val - 128 - 128 < 128
  · rw [dif_pos c2]; rw [h2]; exact congrArg Z (Fin.ext (by simp only []; omega))
  rw [dif_neg c2]
  by_cases c3 : j.val - 128 - 128 - 128 < 128
  · rw [dif_pos c3]; rw [h3]; exact congrArg Z (Fin.ext (by simp only []; omega))
  rw [dif_neg c3]
  by_cases c4 : j.val - 128 - 128 - 128 - 128 < 128
  · rw [dif_pos c4]; rw [h4]; exact congrArg Z (Fin.ext (by simp only []; omega))
  rw [dif_neg c4]
  by_cases c5 : j.val - 128 - 128 - 128 - 128 - 128 < 128
  · rw [dif_pos c5]; rw [h5]; exact congrArg Z (Fin.ext (by simp only []; omega))
  rw [dif_neg c5]
  by_cases c6 : j.val - 128 - 128 - 128 - 128 - 128 - 128 < 128
  · rw [dif_pos c6]; rw [h6]; exact congrArg Z (Fin.ext (by simp only []; omega))
  rw [dif_neg c6]
  first
    | (rw [h7]; exact congrArg Z (Fin.ext (by simp only []; omega)))
    | (rw [dif_pos rfl]; rw [h7]; exact congrArg Z (Fin.ext (by simp only []; omega)))

theorem cat8 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (j : Fin 1024) (r : Fin 128) :
    (trip.sl.v1304_2 c i arg2 arg6 arg8 arg9 arg13 arg14 f2 f6 f8 f9 f13 f14 k hc) (ix2 j r) = Yk c arg6 arg8 arg9 arg13 arg14 f6 f8 f9 f13 f14 ⟨128 * (LO c i arg2 f2 k).toNat + j.val, by have := j.isLt; omega⟩ (pos k.val r k.isLt) := by
  unfold trip.sl.v1304_2
  exact lad8 _ _ _ _ _ _ _ _  _ r (fun j : Fin 1024 => Yk c arg6 arg8 arg9 arg13 arg14 f6 f8 f9 f13 f14 ⟨128 * (LO c i arg2 f2 k).toNat + j.val, by have := j.isLt; omega⟩ (pos k.val r k.isLt))
    (fun j => (piece8_0 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece8_1 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece8_2 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece8_3 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece8_4 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece8_5 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece8_6 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) (fun j => (piece8_7 c i arg2 arg6 arg8 arg9 arg13 arg14 f2 f6 f8 f9 f13 f14 k hc h j r).trans (congrArg (fun x => Yk c arg6 arg8 arg9 arg13 arg14 f6 f8 f9 f13 f14 x _) (Fin.ext (by simp only []; omega)))) j

theorem vt8 (hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1) (h : (LO c i arg2 f2 k).toNat + 8 ≤ 8) (d : Fin 128) (j : Fin 1024) :
    (trip.sl.v1376 c i arg2 arg15 f2 f15 k hc) (ix2 d j) = arg15.view.read (Elt Ideal) f15 (ix2 d ⟨128 * (LO c i arg2 f2 k).toNat + j.val, by have := j.isLt; omega⟩) := by
  unfold trip.sl.v1376
  refine ld arg15.view f15 _ _ _ (fun a => ?_)
  fin_cases a
  · exact (Nat.zero_add _).symm
  · exact congrArg (· + j.val) (vOff_eq (lo := (LO c i arg2 f2 k)) (by omega)).symm

end Cert.Proof.KernelIdeal
end
-- ==== Proof.RowMath.lean ====
/-
  The row function does not see masked keys: over any window holding every key that is not masked, it gives what it
  gives over all of them.
-/
module
public import proofs.«01_k».proof.Proof.Row
public import Idealize.ShloMosaic.Lib.IdealHost
@[expose] public section
set_option maxRecDepth 16384
noncomputable section
namespace Cert.Proof.Row
open Idealize.ShloMosaic

theorem ofBits_ninf : Ideal.ofBits FTy.f32 4286578688#32 = ⊥ := by
  simp [Ideal.ofBits, Ideal.ieee]

theorem mx_eq {N : ℕ} (y : Fin N → EReal) : mx y = Finset.sup Finset.univ y := by
  unfold mx; rw [ofBits_ninf]; rfl

theorem bot_sub (x : EReal) : (⊥ : EReal) - x = ⊥ := by
  rw [sub_eq_add_neg, EReal.bot_add]

theorem ee_bot {N : ℕ} (y : Fin N → EReal) (c : EReal) (hc : 0 < c) (k : Fin N) (hk : y k = ⊥) : ee y c k = 0 := by
  unfold ee
  rw [hk, bot_sub, EReal.bot_mul_of_pos hc]
  rfl

variable {M N : ℕ} (e : Fin M → Fin N) (he : Function.Injective e) (y : Fin N → EReal) (c : EReal) (hc : 0 < c) (v : Fin N → EReal) (vs : EReal)
  (hout : ∀ x, (∀ j, e j ≠ x) → y x = ⊥)

include hout in
theorem mx_window : mx (fun j => y (e j)) = mx y := by
  rw [mx_eq, mx_eq]
  apply le_antisymm
  · exact Finset.sup_le fun j _ => Finset.le_sup (f := y) (Finset.mem_univ (e j))
  · refine Finset.sup_le fun x _ => ?_
    by_cases h : ∃ j, e j = x
    · obtain ⟨j, rfl⟩ := h
      exact Finset.le_sup (f := fun j => y (e j)) (Finset.mem_univ j)
    · rw [hout x (fun j hj => h ⟨j, hj⟩)]; exact bot_le

include hout in
theorem ee_window (j : Fin M) : ee (fun j => y (e j)) c j = ee y c (e j) := by
  unfold ee; rw [mx_window e y hout]

include he in
theorem sum_window (g : Fin N → EReal) (h0 : ∀ x, (∀ j, e j ≠ x) → g x = 0) : ∑ j, g (e j) = ∑ x, g x := by
  refine (Finset.sum_map Finset.univ ⟨e, he⟩ g).symm.trans ?_
  refine Finset.sum_subset (Finset.subset_univ _) fun x _ hx => h0 x fun j hj => hx ?_
  exact Finset.mem_map.2 ⟨j, Finset.mem_univ _, hj⟩

include he hc hout in
theorem aa_window : aa (fun j => y (e j)) c = aa y c := by
  unfold aa
  simp only [ee_window e y c hout]
  rw [sum_window e he (fun x => ee y c x) (fun x hx => ee_bot y c hc x (hout x hx))]

include he hc hout in
theorem outAt_window : outAt (fun j => y (e j)) c (fun j => v (e j)) vs = outAt y c v vs := by
  unfold outAt
  simp only [ee_window e y c hout, aa_window e he y c hc hout]
  congr 1
  exact sum_window e he (fun x => v x * (ee y c x * _)) (fun x hx => by rw [ee_bot y c hc x (hout x hx), zero_mul, mul_zero])

end Cert.Proof.Row
end
-- ==== Proof.RefRow.lean ====
/-
  The reference, read at one entry of its result: the scores, the distance bucket, the bias it selects, the mask, the
  softmax of a row and the power-of-two rounding of its weights.
-/
module
public import proofs.«01_k».proof.Proof.RowMath
public import proofs.«01_k».proof.Proof.Gen.ReferenceIdeal.Value
public import Idealize.ShloMosaic.Lib.Pointwise
@[expose] public section
set_option maxRecDepth 16384
noncomputable section
namespace Cert.Proof.Ref
open Idealize.ShloMosaic Idealize.ShloMosaic.TcCoe Cert.ReferenceIdeal Cert.ReferenceIdeal.Gen

/-- The bucket of a signed distance, as a word. -/
def bktW (d : BitVec 32) : BitVec 32 :=
  IntOp.addi (Scalar.select (IntOp.cmpi .sgt d 0#32) 16#32 0#32)
    (Scalar.select (IntOp.cmpi .slt (IntOp.absi d) 8#32) (IntOp.absi d)
      (IntOp.addi 8#32 (IntOp.addi (IntOp.addi (IntOp.addi (IntOp.addi (IntOp.addi (IntOp.addi (IntOp.addi 0#32
        (BitVec.setWidth 32 (IntOp.cmpi .sge (IntOp.absi d) 12#32)))
        (BitVec.setWidth 32 (IntOp.cmpi .sge (IntOp.absi d) 16#32)))
        (BitVec.setWidth 32 (IntOp.cmpi .sge (IntOp.absi d) 23#32)))
        (BitVec.setWidth 32 (IntOp.cmpi .sge (IntOp.absi d) 32#32)))
        (BitVec.setWidth 32 (IntOp.cmpi .sge (IntOp.absi d) 46#32)))
        (BitVec.setWidth 32 (IntOp.cmpi .sge (IntOp.absi d) 64#32)))
        (BitVec.setWidth 32 (IntOp.cmpi .sge (IntOp.absi d) 91#32)))))

/-- The selections by bucket, one on top of another. -/
def chain (w : BitVec 32) (β : Fin 32 → EReal) (b : EReal) : EReal :=
  Scalar.select (IntOp.cmpi .eq w 31#32) (β 31) (Scalar.select (IntOp.cmpi .eq w 30#32) (β 30) (Scalar.select (IntOp.cmpi .eq w 29#32) (β 29) (Scalar.select (IntOp.cmpi .eq w 28#32) (β 28) (Scalar.select (IntOp.cmpi .eq w 27#32) (β 27) (Scalar.select (IntOp.cmpi .eq w 26#32) (β 26) (Scalar.select (IntOp.cmpi .eq w 25#32) (β 25) (Scalar.select (IntOp.cmpi .eq w 24#32) (β 24) (Scalar.select (IntOp.cmpi .eq w 23#32) (β 23) (Scalar.select (IntOp.cmpi .eq w 22#32) (β 22) (Scalar.select (IntOp.cmpi .eq w 21#32) (β 21) (Scalar.select (IntOp.cmpi .eq w 20#32) (β 20) (Scalar.select (IntOp.cmpi .eq w 19#32) (β 19) (Scalar.select (IntOp.cmpi .eq w 18#32) (β 18) (Scalar.select (IntOp.cmpi .eq w 17#32) (β 17) (Scalar.select (IntOp.cmpi .eq w 16#32) (β 16) (Scalar.select (IntOp.cmpi .eq w 15#32) (β 15) (Scalar.select (IntOp.cmpi .eq w 14#32) (β 14) (Scalar.select (IntOp.cmpi .eq w 13#32) (β 13) (Scalar.select (IntOp.cmpi .eq w 12#32) (β 12) (Scalar.select (IntOp.cmpi .eq w 11#32) (β 11) (Scalar.select (IntOp.cmpi .eq w 10#32) (β 10) (Scalar.select (IntOp.cmpi .eq w 9#32) (β 9) (Scalar.select (IntOp.cmpi .eq w 8#32) (β 8) (Scalar.select (IntOp.cmpi .eq w 7#32) (β 7) (Scalar.select (IntOp.cmpi .eq w 6#32) (β 6) (Scalar.select (IntOp.cmpi .eq w 5#32) (β 5) (Scalar.select (IntOp.cmpi .eq w 4#32) (β 4) (Scalar.select (IntOp.cmpi .eq w 3#32) (β 3) (Scalar.select (IntOp.cmpi .eq w 2#32) (β 2) (Scalar.select (IntOp.cmpi .eq w 1#32) (β 1) (Scalar.select (IntOp.cmpi .eq w 0#32) (β 0) (b))))))))))))))))))))))))))))))))

theorem chain_eq (j : Fin 32) (β : Fin 32 → EReal) (b : EReal) : chain (BitVec.ofNat 32 j.val) β b = β j := by
  fin_cases j <;> rfl

/-- The weights of a row of masked scores. -/
def rP (t : Fin 1024 → EReal) (k : Fin 1024) : EReal :=
  Ideal.div (Ideal.exp (t k - max (Ideal.ofBits .f32 4286578688#32) (Finset.fold max (Ideal.ofBits .f32 4286578688#32) t Finset.univ)))
    (∑ x, Ideal.exp (t x - max (Ideal.ofBits .f32 4286578688#32) (Finset.fold max (Ideal.ofBits .f32 4286578688#32) t Finset.univ)))

/-- The largest of them. -/
def rA (t : Fin 1024 → EReal) : EReal := Finset.fold max (Ideal.ofBits .f32 4286578688#32) (rP t) Finset.univ

/-- The exponent of the row's power of two. -/
def rE (a : EReal) : EReal :=
  Scalar.select (FloatOps.cmpf (F := Ideal) (φ := .f32) .oeq a (Ideal.ofBits .f32 0#32)) (0 : EReal)
    (Ideal.liftRound Int.floor (Ideal.div (Ideal.log (a * Ideal.ofBits .f32 991054117#32)) (Named.named (F := Ideal) κ "ln2" (φ := .f32) 1060205080#32)) + 1)

/-- One entry of the result, from the row of masked scores. -/
def refAt (t : Fin 1024 → EReal) (v : Fin 1024 → EReal) (vs : EReal) : EReal :=
  (∑ k, v k * min (Ideal.ofBits .f32 1138753536#32) (max (Ideal.ofBits .f32 3286237184#32) (rP t k * FloatOps.exp2 (F := Ideal) (φ := .f32) (0 - rE (rA t)))))
    * (FloatOps.exp2 (F := Ideal) (φ := .f32) (rE (rA t)) * vs)

/-- The bias after its last two selections. -/
def b437 (v52 : IVec S1024x1024 32) (v413 : FVec Ideal S24x1024x1024 .f32) (v416 : IVec S1x1024x1024 1) (v419 : FVec Ideal S24 .f32) (v429 : Vec Ideal S1x24 .bf16) : FVec Ideal S24x1024x1024 .f32 :=
  have v420 : FVec Ideal S24x1x1 .f32 := shapeCast S24x1x1 v419 shapeCasts_S24_S24x1x1
  have v421 : IVec S1x1024x1024 1 := shapeCast S1x1024x1024 v416 shapeCasts_S1x1024x1024_S1x1024x1024
  have v422 : IVec S24x1024x1024 1 := broadcastTo S24x1024x1024 v421 broadcasts_S1x1024x1024_S24x1024x1024
  have v423 : FVec Ideal S24x1x1 .f32 := shapeCast S24x1x1 v420 shapeCasts_S24x1x1_S24x1x1
  have v424 : FVec Ideal S24x1024x1024 .f32 := broadcastTo S24x1024x1024 v423 broadcasts_S24x1x1_S24x1024x1024
  have v425 : FVec Ideal S24x1024x1024 .f32 := select v422 v424 v413
  have v426 : IVec S1024x1024 32 := broadcast S1024x1024 31#32
  have v427 : IVec S1024x1024 1 := cmpi .eq v52 v426
  have v428 : IVec S1x1024x1024 1 := shapeCast S1x1024x1024 v427 shapeCasts_S1024x1024_S1x1024x1024
  have v430 : FVec Ideal S24 .bf16 := shapeCast S24 v429 shapeCasts_S1x24_S24
  have v431 : FVec Ideal S24 .f32 := extf .f32 v430 bitsLt_bf16_f32
  have v432 : FVec Ideal S24x1x1 .f32 := shapeCast S24x1x1 v431 shapeCasts_S24_S24x1x1
  have v433 : IVec S1x1024x1024 1 := shapeCast S1x1024x1024 v428 shapeCasts_S1x1024x1024_S1x1024x1024
  have v434 : IVec S24x1024x1024 1 := broadcastTo S24x1024x1024 v433 broadcasts_S1x1024x1024_S24x1024x1024
  have v435 : FVec Ideal S24x1x1 .f32 := shapeCast S24x1x1 v432 shapeCasts_S24x1x1_S24x1x1
  have v436 : FVec Ideal S24x1024x1024 .f32 := broadcastTo S24x1024x1024 v435 broadcasts_S24x1x1_S24x1024x1024
  have v437 : FVec Ideal S24x1024x1024 .f32 := select v434 v436 v425
  v437

/-- The masked scores. -/
def msk (v8 : FVec Ideal S2x24x1024x1024 .f32) (v437 : FVec Ideal S24x1024x1024 .f32) (v438 : Vec Ideal S2x1024 .i32) : FVec Ideal S2x24x1024x1024 .f32 :=
  have v439 : IVec S2x1024x1 32 := shapeCast S2x1024x1 v438 shapeCasts_S2x1024_S2x1024x1
  have v440 : IVec S2x1x1024 32 := shapeCast S2x1x1024 v438 shapeCasts_S2x1024_S2x1x1024
  have v441 : IVec S2x1024x1024 32 := broadcastTo S2x1024x1024 v439 broadcasts_S2x1024x1_S2x1024x1024
  have v442 : IVec S2x1024x1024 32 := broadcastTo S2x1024x1024 v440 broadcasts_S2x1x1024_S2x1024x1024
  have v443 : IVec S2x1024x1024 1 := cmpi .eq v441 v442
  have v444 : IVec S2x1x1024x1024 1 := shapeCast S2x1x1024x1024 v443 shapeCasts_S2x1024x1024_S2x1x1024x1024
  have v445 : FVec Ideal S1x24x1024x1024 .f32 := shapeCast S1x24x1024x1024 v437 shapeCasts_S24x1024x1024_S1x24x1024x1024
  have v446 : FVec Ideal S2x24x1024x1024 .f32 := broadcastTo S2x24x1024x1024 v445 broadcasts_S1x24x1024x1024_S2x24x1024x1024
  have v447 : FVec Ideal S2x24x1024x1024 .f32 := addf v8 v446
  have cst_56   : Ideal .f32 := Scalar.ofBits .f32 0xFF800000#32
  have v448 : IVec S2x1x1024x1024 1 := shapeCast S2x1x1024x1024 v444 shapeCasts_S2x1x1024x1024_S2x1x1024x1024
  have v449 : IVec S2x24x1024x1024 1 := broadcastTo S2x24x1024x1024 v448 broadcasts_S2x1x1024x1024_S2x24x1024x1024
  have v450 : FVec Ideal S2x24x1024x1024 .f32 := broadcast S2x24x1024x1024 cst_56
  have v451 : FVec Ideal S2x24x1024x1024 .f32 := select v449 v447 v450
  v451

/-- The softmax over the keys. -/
def smx (v451 : FVec Ideal S2x24x1024x1024 .f32) : FVec Ideal S2x24x1024x1024 .f32 :=
  have v452 : FVec Ideal S2x24x1024 .f32 := multiReduction .maximumf [3] S2x24x1024 v451 0xFF800000#32 reduces_S2x24x1024x1024_S2x24x1024 (.inl rfl) rfl
  have cst_58   : Ideal .f32 := Scalar.ofBits .f32 0xFF800000#32
  have v453 : FVec Ideal S2x24x1024 .f32 := broadcast S2x24x1024 cst_58
  have v454 : FVec Ideal S2x24x1024 .f32 := maximumf v453 v452
  have v455 : FVec Ideal S2x24x1024x1 .f32 := shapeCast S2x24x1024x1 v454 shapeCasts_S2x24x1024_S2x24x1024x1
  have v456 : FVec Ideal S2x24x1024x1024 .f32 := broadcastTo S2x24x1024x1024 v455 broadcasts_S2x24x1024x1_S2x24x1024x1024
  have v457 : FVec Ideal S2x24x1024x1024 .f32 := subf v451 v456
  have v458 : FVec Ideal S2x24x1024x1024 .f32 := exp v457
  have v459 : FVec Ideal S2x24x1024 .f32 := multiReduction .add [3] S2x24x1024 v458 0x00000000#32 reduces_S2x24x1024x1024_S2x24x1024 (.inl rfl) rfl
  have v460 : FVec Ideal S2x24x1024x1 .f32 := shapeCast S2x24x1024x1 v459 shapeCasts_S2x24x1024_S2x24x1024x1
  have v461 : FVec Ideal S2x24x1024x1024 .f32 := broadcastTo S2x24x1024x1024 v460 broadcasts_S2x24x1024x1_S2x24x1024x1024
  have v462 : FVec Ideal S2x24x1024x1024 .f32 := divf v458 v461
  v462

theorem pay32_eq (v8 : FVec Ideal S2x24x1024x1024 .f32) (v52 : IVec S1024x1024 32) (v413 : FVec Ideal S24x1024x1024 .f32) (v416 : IVec S1x1024x1024 1) (v419 : FVec Ideal S24 .f32) (v429 : Vec Ideal S1x24 .bf16) (v438 : Vec Ideal S2x1024 .i32) :
    k0_pay32 (F := Ideal) v8 v52 v413 v416 v419 v429 v438 = smx (msk v8 (b437 v52 v413 v416 v419 v429) v438) := rfl

theorem pay1_at (v0 v1 : Vec Ideal S2x1024x24x128 .fp8e4m3) (v3 v4 : Vec Ideal S2x24 .f32) (b : Fin 2) (q k : Fin 1024) (h : Fin 24) :
    k0_pay1 (F := Ideal) v0 v1 v3 v4 (ix4 b h q k) = ((∑ x : Fin 128, v0 (ix4 b q h x) * v1 (ix4 b k h x)) * (v3 (ix2 b h) * v4 (ix2 b h)) : EReal) := by
  pointwise [k0_pay1]

theorem pay7_at (q k : Fin 1024) :
    k0_pay7 k0_pay3 k0_pay4 k0_pay5 k0_pay6 (ix2 q k) = bktW (IntOp.subi (BitVec.ofNat 32 k.val) (BitVec.ofNat 32 q.val)) := by
  pointwise [k0_pay7, k0_pay3, k0_pay4, k0_pay5, k0_pay6, k0_pay2]
  rfl

theorem b437_at (v52 : IVec S1024x1024 32) (v413 : FVec Ideal S24x1024x1024 .f32) (v416 : IVec S1x1024x1024 1) (v419 : FVec Ideal S24 .f32) (v429 : Vec Ideal S1x24 .bf16) (q k : Fin 1024) (h : Fin 24) :
    b437 v52 v413 v416 v419 v429 (ix3 h q k) = Scalar.select (IntOp.cmpi .eq (v52 (ix2 q k)) 31#32) (v429 (ix2 0 h)) (Scalar.select (v416 (ix3 0 q k)) (v419 (ix1 h)) (v413 (ix3 h q k))) := by
  pointwise [b437]

theorem msk_at (v8 : FVec Ideal S2x24x1024x1024 .f32) (v437 : FVec Ideal S24x1024x1024 .f32) (v438 : Vec Ideal S2x1024 .i32) (b : Fin 2) (q k : Fin 1024) (h : Fin 24) :
    msk v8 v437 v438 (ix4 b h q k) = Scalar.select (IntOp.cmpi .eq (v438 (ix2 b q)) (v438 (ix2 b k))) ((v8 (ix4 b h q k) : EReal) + v437 (ix3 h q k)) (Ideal.ofBits .f32 4286578688#32) := by
  pointwise [msk]

theorem mred_at (v : FVec Ideal S2x24x1024x1024 .f32) (b : Fin 2) (q : Fin 1024) (h : Fin 24) :
    (multiReduction .maximumf [3] S2x24x1024 v 0xFF800000#32 reduces_S2x24x1024x1024_S2x24x1024 (.inl rfl) rfl : FVec Ideal S2x24x1024 .f32) (ix3 b h q)
      = Finset.fold max (Ideal.ofBits .f32 4286578688#32) (fun k => v (ix4 b h q k)) Finset.univ := by
  pointwise

theorem maxf_at (a b : FVec Ideal S2x24x1024 .f32) (i : S2x24x1024.Idx) : maximumf a b i = (max (a i) (b i) : EReal) := rfl
theorem cmpf_at (a b : FVec Ideal S2x24x1024 .f32) (i : S2x24x1024.Idx) : cmpf .oeq a b i = FloatOps.cmpf (F := Ideal) (φ := .f32) .oeq (a i) (b i) := rfl
theorem mulf_at (a b : FVec Ideal S2x24x1024 .f32) (i : S2x24x1024.Idx) : mulf a b i = (a i * b i : EReal) := rfl
theorem cst_at (w : BitVec 32) (i : S2x24x1024.Idx) : (broadcast S2x24x1024 (Scalar.ofBits .f32 w : Ideal .f32) : FVec Ideal S2x24x1024 .f32) i = Ideal.ofBits .f32 w := rfl

theorem mxV_at (v : FVec Ideal S2x24x1024x1024 .f32) (b : Fin 2) (q : Fin 1024) (h : Fin 24) :
    (maximumf (broadcast S2x24x1024 (Scalar.ofBits .f32 0xFF800000#32 : Ideal .f32)) (multiReduction .maximumf [3] S2x24x1024 v 0xFF800000#32 reduces_S2x24x1024x1024_S2x24x1024 (.inl rfl) rfl) : FVec Ideal S2x24x1024 .f32) (ix3 b h q)
      = max (Ideal.ofBits .f32 4286578688#32) (Finset.fold max (Ideal.ofBits .f32 4286578688#32) (fun k => v (ix4 b h q k)) Finset.univ) := by
  rw [maxf_at, mred_at, cst_at]

theorem exV_at (v : FVec Ideal S2x24x1024x1024 .f32) (m : FVec Ideal S2x24x1024 .f32) (b : Fin 2) (q k : Fin 1024) (h : Fin 24) :
    (exp (subf v (broadcastTo S2x24x1024x1024 (shapeCast S2x24x1024x1 m shapeCasts_S2x24x1024_S2x24x1024x1 : FVec Ideal S2x24x1024x1 .f32) broadcasts_S2x24x1024x1_S2x24x1024x1024)) : FVec Ideal S2x24x1024x1024 .f32) (ix4 b h q k)
      = Ideal.exp ((v (ix4 b h q k) : EReal) - m (ix3 b h q)) := by
  pointwise

theorem dvV_at (e : FVec Ideal S2x24x1024x1024 .f32) (b : Fin 2) (q k : Fin 1024) (h : Fin 24) :
    (divf e (broadcastTo S2x24x1024x1024 (shapeCast S2x24x1024x1 (multiReduction .add [3] S2x24x1024 e 0x00000000#32 reduces_S2x24x1024x1024_S2x24x1024 (.inl rfl) rfl : FVec Ideal S2x24x1024 .f32) shapeCasts_S2x24x1024_S2x24x1024x1 : FVec Ideal S2x24x1024x1 .f32) broadcasts_S2x24x1024x1_S2x24x1024x1024) : FVec Ideal S2x24x1024x1024 .f32) (ix4 b h q k)
      = Ideal.div (e (ix4 b h q k)) (∑ x, e (ix4 b h q x)) := by
  pointwise

theorem smx_at (v : FVec Ideal S2x24x1024x1024 .f32) (b : Fin 2) (q k : Fin 1024) (h : Fin 24) :
    smx v (ix4 b h q k) = rP (fun x => v (ix4 b h q x)) k := by
  unfold smx rP
  refine (dvV_at _ b q k h).trans ?_
  refine congrArg₂ Ideal.div ?_ (Finset.sum_congr rfl fun x _ => ?_)
  · rw [exV_at, mxV_at]
  · rw [exV_at, mxV_at]

theorem pay33_at (v8 : FVec Ideal S2x24x1024x1024 .f32) (v52 : IVec S1024x1024 32) (v413 : FVec Ideal S24x1024x1024 .f32) (v416 : IVec S1x1024x1024 1) (v419 : FVec Ideal S24 .f32) (v429 : Vec Ideal S1x24 .bf16) (v438 : Vec Ideal S2x1024 .i32) (b : Fin 2) (q : Fin 1024) (h : Fin 24) :
    k0_pay33 (F := Ideal) v8 v52 v413 v416 v419 v429 v438 (ix3 b h q) = Finset.fold max (Ideal.ofBits .f32 4286578688#32) (fun k => k0_pay32 (F := Ideal) v8 v52 v413 v416 v419 v429 v438 (ix4 b h q k)) Finset.univ := by
  unfold k0_pay33
  exact mred_at _ b q h

theorem pay34_at (v8 : FVec Ideal S2x24x1024x1024 .f32) (v52 : IVec S1024x1024 32) (v413 : FVec Ideal S24x1024x1024 .f32) (v416 : IVec S1x1024x1024 1) (v419 : FVec Ideal S24 .f32) (v429 : Vec Ideal S1x24 .bf16) (v438 : Vec Ideal S2x1024 .i32) (b : Fin 2) (q : Fin 1024) (h : Fin 24) :
    k0_pay34 (F := Ideal) v8 v52 v413 v416 v419 v429 v438 (ix3 b h q) = FloatOps.cmpf (F := Ideal) (φ := .f32) .oeq (k0_pay33 (F := Ideal) v8 v52 v413 v416 v419 v429 v438 (ix3 b h q)) (Ideal.ofBits .f32 0#32) := by
  unfold k0_pay34
  exact (cmpf_at _ _ _).trans (congrArg _ (cst_at _ _))

theorem pay35_at (v8 : FVec Ideal S2x24x1024x1024 .f32) (v52 : IVec S1024x1024 32) (v413 : FVec Ideal S24x1024x1024 .f32) (v416 : IVec S1x1024x1024 1) (v419 : FVec Ideal S24 .f32) (v429 : Vec Ideal S1x24 .bf16) (v438 : Vec Ideal S2x1024 .i32) (b : Fin 2) (q : Fin 1024) (h : Fin 24) :
    k0_pay35 (F := Ideal) v8 v52 v413 v416 v419 v429 v438 (ix3 b h q) = (k0_pay33 (F := Ideal) v8 v52 v413 v416 v419 v429 v438 (ix3 b h q) * Ideal.ofBits .f32 991054117#32 : EReal) := by
  unfold k0_pay35
  exact (mulf_at _ _ _).trans (congrArg _ (cst_at _ _))

/-- The exponent of a row, from whether its largest weight is zero and that weight over the largest representable one. -/
def rE2 (z : BitVec 1) (a : EReal) : EReal :=
  Scalar.select z (0 : EReal) (Ideal.liftRound Int.floor (Ideal.div (Ideal.log a) (Named.named (F := Ideal) κ "ln2" (φ := .f32) 1060205080#32)) + 1)

theorem pay36_at (p : FVec Ideal S2x24x1024x1024 .f32) (z : IVec S2x24x1024 1) (a : FVec Ideal S2x24x1024 .f32) (v : Vec Ideal S2x1024x24x128 .fp8e4m3) (vs : Vec Ideal S2x24 .f32) (b : Fin 2) (q : Fin 1024) (h : Fin 24) (d : Fin 128) :
    k0_pay36 (F := Ideal) p z a v vs (ix3 b q ⟨128 * h.val + d.val, by omega⟩)
      = ((∑ k : Fin 1024, v (ix4 b k h d) * min (Ideal.ofBits .f32 1138753536#32) (max (Ideal.ofBits .f32 3286237184#32) (p (ix4 b h q k) * FloatOps.exp2 (F := Ideal) (φ := .f32) (0 - rE2 (z (ix3 b h q)) (a (ix3 b h q))))))
        * (FloatOps.exp2 (F := Ideal) (φ := .f32) (rE2 (z (ix3 b h q)) (a (ix3 b h q))) * vs (ix2 b h)) : EReal) := by
  pointwise [k0_pay36]
  rfl

theorem pay8_at (v16 v17 v34 v37 : IVec S1024x1024 32) (y1 y2 : Vec Ideal S1x24 .bf16) (q k : Fin 1024) (h : Fin 24) :
    k0_pay8 (F := Ideal) v16 v17 v34 v37 y1 y2 (ix3 h q k) = Scalar.select (IntOp.cmpi .eq (k0_pay7 v16 v17 v34 v37 (ix2 q k)) 1#32) (y2 (ix2 0 h)) (Scalar.select (IntOp.cmpi .eq (k0_pay7 v16 v17 v34 v37 (ix2 q k)) 0#32) (y1 (ix2 0 h)) (Ideal.ofBits .f32 0#32)) := by
  pointwise [k0_pay8]

theorem pay9_at (v16 v17 v34 v37 : IVec S1024x1024 32) (q k : Fin 1024) : k0_pay9 v16 v17 v34 v37 (ix3 0 q k) = IntOp.cmpi .eq (k0_pay7 v16 v17 v34 v37 (ix2 q k)) 2#32 := by
  pointwise [k0_pay9]

theorem pay10_at (y : Vec Ideal S1x24 .bf16) (h : Fin 24) : k0_pay10 (F := Ideal) y (ix1 h) = y (ix2 0 h) := by
  pointwise [k0_pay10]

theorem pay11_at (v52 : IVec S1024x1024 32) (u : FVec Ideal S24x1024x1024 .f32) (z : IVec S1x1024x1024 1) (x : FVec Ideal S24 .f32) (y1 y2 y3 : Vec Ideal S1x24 .bf16) (q k : Fin 1024) (h : Fin 24) :
    k0_pay11 (F := Ideal) v52 u z x y1 y2 y3 (ix3 h q k) = Scalar.select (IntOp.cmpi .eq (v52 (ix2 q k)) 5#32) (y3 (ix2 0 h)) (Scalar.select (IntOp.cmpi .eq (v52 (ix2 q k)) 4#32) (y2 (ix2 0 h)) (Scalar.select (IntOp.cmpi .eq (v52 (ix2 q k)) 3#32) (y1 (ix2 0 h)) (Scalar.select (z (ix3 0 q k)) (x (ix1 h)) (u (ix3 h q k))))) := by
  pointwise [k0_pay11]

theorem pay12_at (v52 : IVec S1024x1024 32) (q k : Fin 1024) : k0_pay12 v52 (ix3 0 q k) = IntOp.cmpi .eq (v52 (ix2 q k)) 6#32 := by
  pointwise [k0_pay12]

theorem pay13_at (y : Vec Ideal S1x24 .bf16) (h : Fin 24) : k0_pay13 (F := Ideal) y (ix1 h) = y (ix2 0 h) := by
  pointwise [k0_pay13]

theorem pay14_at (v52 : IVec S1024x1024 32) (u : FVec Ideal S24x1024x1024 .f32) (z : IVec S1x1024x1024 1) (x : FVec Ideal S24 .f32) (y1 y2 y3 : Vec Ideal S1x24 .bf16) (q k : Fin 1024) (h : Fin 24) :
    k0_pay14 (F := Ideal) v52 u z x y1 y2 y3 (ix3 h q k) = Scalar.select (IntOp.cmpi .eq (v52 (ix2 q k)) 9#32) (y3 (ix2 0 h)) (Scalar.select (IntOp.cmpi .eq (v52 (ix2 q k)) 8#32) (y2 (ix2 0 h)) (Scalar.select (IntOp.cmpi .eq (v52 (ix2 q k)) 7#32) (y1 (ix2 0 h)) (Scalar.select (z (ix3 0 q k)) (x (ix1 h)) (u (ix3 h q k))))) := by
  pointwise [k0_pay14]

theorem pay15_at (v52 : IVec S1024x1024 32) (q k : Fin 1024) : k0_pay15 v52 (ix3 0 q k) = IntOp.cmpi .eq (v52 (ix2 q k)) 10#32 := by
  pointwise [k0_pay15]

theorem pay16_at (y : Vec Ideal S1x24 .bf16) (h : Fin 24) : k0_pay16 (F := Ideal) y (ix1 h) = y (ix2 0 h) := by
  pointwise [k0_pay16]

theorem pay17_at (v52 : IVec S1024x1024 32) (u : FVec Ideal S24x1024x1024 .f32) (z : IVec S1x1024x1024 1) (x : FVec Ideal S24 .f32) (y1 y2 y3 : Vec Ideal S1x24 .bf16) (q k : Fin 1024) (h : Fin 24) :
    k0_pay17 (F := Ideal) v52 u z x y1 y2 y3 (ix3 h q k) = Scalar.select (IntOp.cmpi .eq (v52 (ix2 q k)) 13#32) (y3 (ix2 0 h)) (Scalar.select (IntOp.cmpi .eq (v52 (ix2 q k)) 12#32) (y2 (ix2 0 h)) (Scalar.select (IntOp.cmpi .eq (v52 (ix2 q k)) 11#32) (y1 (ix2 0 h)) (Scalar.select (z (ix3 0 q k)) (x (ix1 h)) (u (ix3 h q k))))) := by
  pointwise [k0_pay17]

theorem pay18_at (v52 : IVec S1024x1024 32) (q k : Fin 1024) : k0_pay18 v52 (ix3 0 q k) = IntOp.cmpi .eq (v52 (ix2 q k)) 14#32 := by
  pointwise [k0_pay18]

theorem pay19_at (y : Vec Ideal S1x24 .bf16) (h : Fin 24) : k0_pay19 (F := Ideal) y (ix1 h) = y (ix2 0 h) := by
  pointwise [k0_pay19]

theorem pay20_at (v52 : IVec S1024x1024 32) (u : FVec Ideal S24x1024x1024 .f32) (z : IVec S1x1024x1024 1) (x : FVec Ideal S24 .f32) (y1 y2 y3 : Vec Ideal S1x24 .bf16) (q k : Fin 1024) (h : Fin 24) :
    k0_pay20 (F := Ideal) v52 u z x y1 y2 y3 (ix3 h q k) = Scalar.select (IntOp.cmpi .eq (v52 (ix2 q k)) 17#32) (y3 (ix2 0 h)) (Scalar.select (IntOp.cmpi .eq (v52 (ix2 q k)) 16#32) (y2 (ix2 0 h)) (Scalar.select (IntOp.cmpi .eq (v52 (ix2 q k)) 15#32) (y1 (ix2 0 h)) (Scalar.select (z (ix3 0 q k)) (x (ix1 h)) (u (ix3 h q k))))) := by
  pointwise [k0_pay20]

theorem pay21_at (v52 : IVec S1024x1024 32) (q k : Fin 1024) : k0_pay21 v52 (ix3 0 q k) = IntOp.cmpi .eq (v52 (ix2 q k)) 18#32 := by
  pointwise [k0_pay21]

theorem pay22_at (y : Vec Ideal S1x24 .bf16) (h : Fin 24) : k0_pay22 (F := Ideal) y (ix1 h) = y (ix2 0 h) := by
  pointwise [k0_pay22]

theorem pay23_at (v52 : IVec S1024x1024 32) (u : FVec Ideal S24x1024x1024 .f32) (z : IVec S1x1024x1024 1) (x : FVec Ideal S24 .f32) (y1 y2 y3 : Vec Ideal S1x24 .bf16) (q k : Fin 1024) (h : Fin 24) :
    k0_pay23 (F := Ideal) v52 u z x y1 y2 y3 (ix3 h q k) = Scalar.select (IntOp.cmpi .eq (v52 (ix2 q k)) 21#32) (y3 (ix2 0 h)) (Scalar.select (IntOp.cmpi .eq (v52 (ix2 q k)) 20#32) (y2 (ix2 0 h)) (Scalar.select (IntOp.cmpi .eq (v52 (ix2 q k)) 19#32) (y1 (ix2 0 h)) (Scalar.select (z (ix3 0 q k)) (x (ix1 h)) (u (ix3 h q k))))) := by
  pointwise [k0_pay23]

theorem pay24_at (v52 : IVec S1024x1024 32) (q k : Fin 1024) : k0_pay24 v52 (ix3 0 q k) = IntOp.cmpi .eq (v52 (ix2 q k)) 22#32 := by
  pointwise [k0_pay24]

theorem pay25_at (y : Vec Ideal S1x24 .bf16) (h : Fin 24) : k0_pay25 (F := Ideal) y (ix1 h) = y (ix2 0 h) := by
  pointwise [k0_pay25]

theorem pay26_at (v52 : IVec S1024x1024 32) (u : FVec Ideal S24x1024x1024 .f32) (z : IVec S1x1024x1024 1) (x : FVec Ideal S24 .f32) (y1 y2 y3 : Vec Ideal S1x24 .bf16) (q k : Fin 1024) (h : Fin 24) :
    k0_pay26 (F := Ideal) v52 u z x y1 y2 y3 (ix3 h q k) = Scalar.select (IntOp.cmpi .eq (v52 (ix2 q k)) 25#32) (y3 (ix2 0 h)) (Scalar.select (IntOp.cmpi .eq (v52 (ix2 q k)) 24#32) (y2 (ix2 0 h)) (Scalar.select (IntOp.cmpi .eq (v52 (ix2 q k)) 23#32) (y1 (ix2 0 h)) (Scalar.select (z (ix3 0 q k)) (x (ix1 h)) (u (ix3 h q k))))) := by
  pointwise [k0_pay26]

theorem pay27_at (v52 : IVec S1024x1024 32) (q k : Fin 1024) : k0_pay27 v52 (ix3 0 q k) = IntOp.cmpi .eq (v52 (ix2 q k)) 26#32 := by
  pointwise [k0_pay27]

theorem pay28_at (y : Vec Ideal S1x24 .bf16) (h : Fin 24) : k0_pay28 (F := Ideal) y (ix1 h) = y (ix2 0 h) := by
  pointwise [k0_pay28]

theorem pay29_at (v52 : IVec S1024x1024 32) (u : FVec Ideal S24x1024x1024 .f32) (z : IVec S1x1024x1024 1) (x : FVec Ideal S24 .f32) (y1 y2 y3 : Vec Ideal S1x24 .bf16) (q k : Fin 1024) (h : Fin 24) :
    k0_pay29 (F := Ideal) v52 u z x y1 y2 y3 (ix3 h q k) = Scalar.select (IntOp.cmpi .eq (v52 (ix2 q k)) 29#32) (y3 (ix2 0 h)) (Scalar.select (IntOp.cmpi .eq (v52 (ix2 q k)) 28#32) (y2 (ix2 0 h)) (Scalar.select (IntOp.cmpi .eq (v52 (ix2 q k)) 27#32) (y1 (ix2 0 h)) (Scalar.select (z (ix3 0 q k)) (x (ix1 h)) (u (ix3 h q k))))) := by
  pointwise [k0_pay29]

theorem pay30_at (v52 : IVec S1024x1024 32) (q k : Fin 1024) : k0_pay30 v52 (ix3 0 q k) = IntOp.cmpi .eq (v52 (ix2 q k)) 30#32 := by
  pointwise [k0_pay30]

theorem pay31_at (y : Vec Ideal S1x24 .bf16) (h : Fin 24) : k0_pay31 (F := Ideal) y (ix1 h) = y (ix2 0 h) := by
  pointwise [k0_pay31]

theorem ld0 (x : Vec Ideal S32x24 .bf16) (h : Fin 24) : View.ld x r0_2 (ix2 0 h) = x (ix2 0 h) :=
  congrArg x (funext fun a => by refine Fin.ext ?_; match a with
    | ⟨0, _⟩ => rfl
    | ⟨1, _⟩ => show 0 + 1 * h.val = h.val; omega)

theorem ld1 (x : Vec Ideal S32x24 .bf16) (h : Fin 24) : View.ld x r0_3 (ix2 0 h) = x (ix2 1 h) :=
  congrArg x (funext fun a => by refine Fin.ext ?_; match a with
    | ⟨0, _⟩ => rfl
    | ⟨1, _⟩ => show 0 + 1 * h.val = h.val; omega)

theorem ld2 (x : Vec Ideal S32x24 .bf16) (h : Fin 24) : View.ld x r0_4 (ix2 0 h) = x (ix2 2 h) :=
  congrArg x (funext fun a => by refine Fin.ext ?_; match a with
    | ⟨0, _⟩ => rfl
    | ⟨1, _⟩ => show 0 + 1 * h.val = h.val; omega)

theorem ld3 (x : Vec Ideal S32x24 .bf16) (h : Fin 24) : View.ld x r0_5 (ix2 0 h) = x (ix2 3 h) :=
  congrArg x (funext fun a => by refine Fin.ext ?_; match a with
    | ⟨0, _⟩ => rfl
    | ⟨1, _⟩ => show 0 + 1 * h.val = h.val; omega)

theorem ld4 (x : Vec Ideal S32x24 .bf16) (h : Fin 24) : View.ld x r0_6 (ix2 0 h) = x (ix2 4 h) :=
  congrArg x (funext fun a => by refine Fin.ext ?_; match a with
    | ⟨0, _⟩ => rfl
    | ⟨1, _⟩ => show 0 + 1 * h.val = h.val; omega)

theorem ld5 (x : Vec Ideal S32x24 .bf16) (h : Fin 24) : View.ld x r0_7 (ix2 0 h) = x (ix2 5 h) :=
  congrArg x (funext fun a => by refine Fin.ext ?_; match a with
    | ⟨0, _⟩ => rfl
    | ⟨1, _⟩ => show 0 + 1 * h.val = h.val; omega)

theorem ld6 (x : Vec Ideal S32x24 .bf16) (h : Fin 24) : View.ld x r0_8 (ix2 0 h) = x (ix2 6 h) :=
  congrArg x (funext fun a => by refine Fin.ext ?_; match a with
    | ⟨0, _⟩ => rfl
    | ⟨1, _⟩ => show 0 + 1 * h.val = h.val; omega)

theorem ld7 (x : Vec Ideal S32x24 .bf16) (h : Fin 24) : View.ld x r0_9 (ix2 0 h) = x (ix2 7 h) :=
  congrArg x (funext fun a => by refine Fin.ext ?_; match a with
    | ⟨0, _⟩ => rfl
    | ⟨1, _⟩ => show 0 + 1 * h.val = h.val; omega)

theorem ld8 (x : Vec Ideal S32x24 .bf16) (h : Fin 24) : View.ld x r0_10 (ix2 0 h) = x (ix2 8 h) :=
  congrArg x (funext fun a => by refine Fin.ext ?_; match a with
    | ⟨0, _⟩ => rfl
    | ⟨1, _⟩ => show 0 + 1 * h.val = h.val; omega)

theorem ld9 (x : Vec Ideal S32x24 .bf16) (h : Fin 24) : View.ld x r0_11 (ix2 0 h) = x (ix2 9 h) :=
  congrArg x (funext fun a => by refine Fin.ext ?_; match a with
    | ⟨0, _⟩ => rfl
    | ⟨1, _⟩ => show 0 + 1 * h.val = h.val; omega)

theorem ld10 (x : Vec Ideal S32x24 .bf16) (h : Fin 24) : View.ld x r0_12 (ix2 0 h) = x (ix2 10 h) :=
  congrArg x (funext fun a => by refine Fin.ext ?_; match a with
    | ⟨0, _⟩ => rfl
    | ⟨1, _⟩ => show 0 + 1 * h.val = h.val; omega)

theorem ld11 (x : Vec Ideal S32x24 .bf16) (h : Fin 24) : View.ld x r0_13 (ix2 0 h) = x (ix2 11 h) :=
  congrArg x (funext fun a => by refine Fin.ext ?_; match a with
    | ⟨0, _⟩ => rfl
    | ⟨1, _⟩ => show 0 + 1 * h.val = h.val; omega)

theorem ld12 (x : Vec Ideal S32x24 .bf16) (h : Fin 24) : View.ld x r0_14 (ix2 0 h) = x (ix2 12 h) :=
  congrArg x (funext fun a => by refine Fin.ext ?_; match a with
    | ⟨0, _⟩ => rfl
    | ⟨1, _⟩ => show 0 + 1 * h.val = h.val; omega)

theorem ld13 (x : Vec Ideal S32x24 .bf16) (h : Fin 24) : View.ld x r0_15 (ix2 0 h) = x (ix2 13 h) :=
  congrArg x (funext fun a => by refine Fin.ext ?_; match a with
    | ⟨0, _⟩ => rfl
    | ⟨1, _⟩ => show 0 + 1 * h.val = h.val; omega)

theorem ld14 (x : Vec Ideal S32x24 .bf16) (h : Fin 24) : View.ld x r0_16 (ix2 0 h) = x (ix2 14 h) :=
  congrArg x (funext fun a => by refine Fin.ext ?_; match a with
    | ⟨0, _⟩ => rfl
    | ⟨1, _⟩ => show 0 + 1 * h.val = h.val; omega)

theorem ld15 (x : Vec Ideal S32x24 .bf16) (h : Fin 24) : View.ld x r0_17 (ix2 0 h) = x (ix2 15 h) :=
  congrArg x (funext fun a => by refine Fin.ext ?_; match a with
    | ⟨0, _⟩ => rfl
    | ⟨1, _⟩ => show 0 + 1 * h.val = h.val; omega)

theorem ld16 (x : Vec Ideal S32x24 .bf16) (h : Fin 24) : View.ld x r0_18 (ix2 0 h) = x (ix2 16 h) :=
  congrArg x (funext fun a => by refine Fin.ext ?_; match a with
    | ⟨0, _⟩ => rfl
    | ⟨1, _⟩ => show 0 + 1 * h.val = h.val; omega)

theorem ld17 (x : Vec Ideal S32x24 .bf16) (h : Fin 24) : View.ld x r0_19 (ix2 0 h) = x (ix2 17 h) :=
  congrArg x (funext fun a => by refine Fin.ext ?_; match a with
    | ⟨0, _⟩ => rfl
    | ⟨1, _⟩ => show 0 + 1 * h.val = h.val; omega)

theorem ld18 (x : Vec Ideal S32x24 .bf16) (h : Fin 24) : View.ld x r0_20 (ix2 0 h) = x (ix2 18 h) :=
  congrArg x (funext fun a => by refine Fin.ext ?_; match a with
    | ⟨0, _⟩ => rfl
    | ⟨1, _⟩ => show 0 + 1 * h.val = h.val; omega)

theorem ld19 (x : Vec Ideal S32x24 .bf16) (h : Fin 24) : View.ld x r0_21 (ix2 0 h) = x (ix2 19 h) :=
  congrArg x (funext fun a => by refine Fin.ext ?_; match a with
    | ⟨0, _⟩ => rfl
    | ⟨1, _⟩ => show 0 + 1 * h.val = h.val; omega)

theorem ld20 (x : Vec Ideal S32x24 .bf16) (h : Fin 24) : View.ld x r0_22 (ix2 0 h) = x (ix2 20 h) :=
  congrArg x (funext fun a => by refine Fin.ext ?_; match a with
    | ⟨0, _⟩ => rfl
    | ⟨1, _⟩ => show 0 + 1 * h.val = h.val; omega)

theorem ld21 (x : Vec Ideal S32x24 .bf16) (h : Fin 24) : View.ld x r0_23 (ix2 0 h) = x (ix2 21 h) :=
  congrArg x (funext fun a => by refine Fin.ext ?_; match a with
    | ⟨0, _⟩ => rfl
    | ⟨1, _⟩ => show 0 + 1 * h.val = h.val; omega)

theorem ld22 (x : Vec Ideal S32x24 .bf16) (h : Fin 24) : View.ld x r0_24 (ix2 0 h) = x (ix2 22 h) :=
  congrArg x (funext fun a => by refine Fin.ext ?_; match a with
    | ⟨0, _⟩ => rfl
    | ⟨1, _⟩ => show 0 + 1 * h.val = h.val; omega)

theorem ld23 (x : Vec Ideal S32x24 .bf16) (h : Fin 24) : View.ld x r0_25 (ix2 0 h) = x (ix2 23 h) :=
  congrArg x (funext fun a => by refine Fin.ext ?_; match a with
    | ⟨0, _⟩ => rfl
    | ⟨1, _⟩ => show 0 + 1 * h.val = h.val; omega)

theorem ld24 (x : Vec Ideal S32x24 .bf16) (h : Fin 24) : View.ld x r0_26 (ix2 0 h) = x (ix2 24 h) :=
  congrArg x (funext fun a => by refine Fin.ext ?_; match a with
    | ⟨0, _⟩ => rfl
    | ⟨1, _⟩ => show 0 + 1 * h.val = h.val; omega)

theorem ld25 (x : Vec Ideal S32x24 .bf16) (h : Fin 24) : View.ld x r0_27 (ix2 0 h) = x (ix2 25 h) :=
  congrArg x (funext fun a => by refine Fin.ext ?_; match a with
    | ⟨0, _⟩ => rfl
    | ⟨1, _⟩ => show 0 + 1 * h.val = h.val; omega)

theorem ld26 (x : Vec Ideal S32x24 .bf16) (h : Fin 24) : View.ld x r0_28 (ix2 0 h) = x (ix2 26 h) :=
  congrArg x (funext fun a => by refine Fin.ext ?_; match a with
    | ⟨0, _⟩ => rfl
    | ⟨1, _⟩ => show 0 + 1 * h.val = h.val; omega)

theorem ld27 (x : Vec Ideal S32x24 .bf16) (h : Fin 24) : View.ld x r0_29 (ix2 0 h) = x (ix2 27 h) :=
  congrArg x (funext fun a => by refine Fin.ext ?_; match a with
    | ⟨0, _⟩ => rfl
    | ⟨1, _⟩ => show 0 + 1 * h.val = h.val; omega)

theorem ld28 (x : Vec Ideal S32x24 .bf16) (h : Fin 24) : View.ld x r0_30 (ix2 0 h) = x (ix2 28 h) :=
  congrArg x (funext fun a => by refine Fin.ext ?_; match a with
    | ⟨0, _⟩ => rfl
    | ⟨1, _⟩ => show 0 + 1 * h.val = h.val; omega)

theorem ld29 (x : Vec Ideal S32x24 .bf16) (h : Fin 24) : View.ld x r0_31 (ix2 0 h) = x (ix2 29 h) :=
  congrArg x (funext fun a => by refine Fin.ext ?_; match a with
    | ⟨0, _⟩ => rfl
    | ⟨1, _⟩ => show 0 + 1 * h.val = h.val; omega)

theorem ld30 (x : Vec Ideal S32x24 .bf16) (h : Fin 24) : View.ld x r0_32 (ix2 0 h) = x (ix2 30 h) :=
  congrArg x (funext fun a => by refine Fin.ext ?_; match a with
    | ⟨0, _⟩ => rfl
    | ⟨1, _⟩ => show 0 + 1 * h.val = h.val; omega)

theorem ld31 (x : Vec Ideal S32x24 .bf16) (h : Fin 24) : View.ld x r0_33 (ix2 0 h) = x (ix2 31 h) :=
  congrArg x (funext fun a => by refine Fin.ext ?_; match a with
    | ⟨0, _⟩ => rfl
    | ⟨1, _⟩ => show 0 + 1 * h.val = h.val; omega)

end Cert.Proof.Ref
-- ==== Proof.KernelIdealScratch.lean ====
/-
  What a point's body leaves in its scratches: the table of buckets by distance, the ids down a column, the strip of
  biases by distance over the scores' scale, and the values transposed.
-/
module
public import proofs.«01_k».proof.Proof.KernelIdealTile
public import proofs.«01_k».proof.Proof.RefRow
public import Idealize.ShloMosaic.Lib.WritesUnit
@[expose] public section
set_option maxRecDepth 16384
noncomputable section
namespace Cert.Proof.KernelIdeal
open Cert.KernelIdeal
open Idealize.ShloMosaic Idealize.ShloMosaic.TcCoe
open Cert.Proof.Row Cert.Proof.Ref Cert.Proof.Words

/-! ### The bucket of a distance -/

theorem bkt_lt : ∀ n : Fin 2047, (bktW (BitVec.ofNat 32 n.val - 1023#32)).toNat < 32 := by decide +kernel
theorem bkt_hi : ∀ n : Fin 2047, 1114 ≤ n.val → bktW (BitVec.ofNat 32 n.val - 1023#32) = 31#32 := by decide +kernel
theorem bkt_lo : ∀ n : Fin 2047, n.val ≤ 932 → bktW (BitVec.ofNat 32 n.val - 1023#32) = 15#32 := by decide +kernel

theorem word_sub (a b : ℕ) (h : b ≤ a + 1023) (ha : a < 4096) (hb : b < 4096) : BitVec.ofNat 32 (a + 1023 - b) - 1023#32 = BitVec.ofNat 32 a - BitVec.ofNat 32 b := by
  apply BitVec.eq_of_toNat_eq
  simp only [BitVec.toNat_sub, BitVec.toNat_ofNat]
  omega

/-- The strip's distance of a position, and the bucket there: the bucket of the keys' true distance. -/
theorem word_strip (R l : ℕ) (hR : R < 640) (hl : l < 128) : IntOp.subi (IntOp.subi (BitVec.ofNat 32 R) 256#32) (BitVec.ofNat 32 l) = BitVec.ofNat 32 (R + 767 - l) - 1023#32 := by
  apply BitVec.eq_of_toNat_eq
  show (BitVec.ofNat 32 R - 256#32 - BitVec.ofNat 32 l).toNat = _
  simp only [BitVec.toNat_sub, BitVec.toNat_ofNat]
  omega

theorem bkt_strip_lt (R : Fin 640) (l : Fin 128) : (bktW (IntOp.subi (IntOp.subi (BitVec.ofNat 32 R.val) 256#32) (BitVec.ofNat 32 l.val))).toNat < 32 := by
  have := R.isLt; have := l.isLt
  rw [word_strip R.val l.val R.isLt l.isLt]
  exact bkt_lt ⟨R.val + 767 - l.val, by omega⟩

theorem bkt_dist_lt (κ ρ : Fin 1024) : (bktW (IntOp.subi (BitVec.ofNat 32 κ.val) (BitVec.ofNat 32 ρ.val))).toNat < 32 := by
  have := κ.isLt; have := ρ.isLt
  have h := bkt_lt ⟨κ.val + 1023 - ρ.val, by omega⟩
  rw [word_sub κ.val ρ.val (by omega) (by omega) (by omega)] at h
  exact h

theorem bkt_strow (κ ρ : Fin 1024) : bktW (IntOp.subi (IntOp.subi (BitVec.ofNat 32 (strow κ ρ).val) 256#32) (BitVec.ofNat 32 (lane ρ).val))
    = bktW (IntOp.subi (BitVec.ofNat 32 κ.val) (BitVec.ofNat 32 ρ.val)) := by
  have hκ := κ.isLt; have hρ := ρ.isLt
  rw [word_strip _ _ (strow κ ρ).isLt (lane ρ).isLt]
  have e2 : IntOp.subi (BitVec.ofNat 32 κ.val) (BitVec.ofNat 32 ρ.val) = BitVec.ofNat 32 (κ.val + 1023 - ρ.val) - 1023#32 := (word_sub κ.val ρ.val (by omega) (by omega) (by omega)).symm
  rw [e2]
  have hs : (strow κ ρ).val = 128 * stripBlk (κ.val / 128) (ρ.val / 128) + κ.val % 128 := rfl
  have hl : (lane ρ).val = ρ.val % 128 := rfl
  have hb := stripBlk_le (κ.val / 128) (ρ.val / 128)
  have hcase : (strow κ ρ).val + 767 - (lane ρ).val = κ.val + 1023 - ρ.val
      ∨ (1114 ≤ (strow κ ρ).val + 767 - (lane ρ).val ∧ 1114 ≤ κ.val + 1023 - ρ.val)
      ∨ ((strow κ ρ).val + 767 - (lane ρ).val ≤ 932 ∧ κ.val + 1023 - ρ.val ≤ 932) := by
    clear hb; rw [hs, hl]; unfold stripBlk; split_ifs <;> omega
  rcases hcase with h | ⟨h, h'⟩ | ⟨h, h'⟩
  · rw [h]
  · exact (bkt_hi ⟨(strow κ ρ).val + 767 - (lane ρ).val, by omega⟩ h).trans (bkt_hi ⟨κ.val + 1023 - ρ.val, by omega⟩ h').symm
  · exact (bkt_lo ⟨(strow κ ρ).val + 767 - (lane ρ).val, by omega⟩ h).trans (bkt_lo ⟨κ.val + 1023 - ρ.val, by omega⟩ h').symm

variable (c : Dev nD) (i : grid0.Coords) (arg2 : Memref sig .tc .smem S2x1024 .i32) (arg3 : Memref sig .tc .smem S2x24 .f32) (arg4 : Memref sig .tc .smem S2x24 .f32) (arg5 : Memref sig .tc .smem S2x24 .f32) (arg6 : Memref sig .tc .vmem S1x1x1024 .i32) (arg7 : Memref sig .tc .vmem S1x1x128 .f32) (arg8 : Memref sig .tc .vmem S1x1024x128 .fp8e4m3) (arg9 : Memref sig .tc .vmem S1x1024x128 .fp8e4m3) (arg10 : Memref sig .tc .vmem S1x1024x128 .fp8e4m3) (arg11 : Memref sig .tc .vmem S1x1024x128 .bf16) (arg12 : Memref sig .tc .vmem S640x128 .i32) (arg13 : Memref sig .tc .vmem S1024x128 .i32) (arg14 : Memref sig .tc .vmem S640x128 .f32) (arg15 : Memref sig .tc .vmem S128x1024 .fp8e4m3)
  (f2 : Bf (F := Ideal) c arg2) (f3 : Bf (F := Ideal) c arg3) (f4 : Bf (F := Ideal) c arg4) (f5 : Bf (F := Ideal) c arg5) (f6 : Bf (F := Ideal) c arg6)
  (f7 : Bf (F := Ideal) c arg7) (f8 : Bf (F := Ideal) c arg8) (f9 : Bf (F := Ideal) c arg9) (f10 : Bf (F := Ideal) c arg10) (f11 : Bf (F := Ideal) c arg11)
  (f12 : Bf (F := Ideal) c arg12) (f13 : Bf (F := Ideal) c arg13) (f14 : Bf (F := Ideal) c arg14) (f15 : Bf (F := Ideal) c arg15)

/-! ### The bucket table -/

/-- The table's buffer after the body. -/
def G12 : Bf (F := Ideal) c arg12 := if hc : bodyRun.sl.v4 i = 1#1 then arg12.view.writes (Elt Ideal) f12 [⟨Rect.unit ![0, 0] S640x128.size (by decide), bodyRun.sl.v1040⟩] else f12

/-- A buffer holding the bucket table. -/
def IsTab (f : Bf (F := Ideal) c arg12) : Prop := ∀ (R : Fin 640) (l : Fin 128), arg12.view.read (Elt Ideal) f (ix2 R l) = bktW (IntOp.subi (IntOp.subi (BitVec.ofNat 32 R.val) 256#32) (BitVec.ofNat 32 l.val))

theorem v1040_at (R : Fin 640) (l : Fin 128) : bodyRun.sl.v1040 (ix2 R l) = bktW (IntOp.subi (IntOp.subi (BitVec.ofNat 32 R.val) 256#32) (BitVec.ofNat 32 l.val)) := by
  pointwise [bodyRun.sl.v1040, bodyRun.sl.v1036, bodyRun.sl.v1027, bodyRun.sl.v1026, bodyRun.sl.v1025, bodyRun.sl.v998, bodyRun.sl.v995, bodyRun.sl.v996, bodyRun.sl.v994, bodyRun.sl.v1024, bodyRun.sl.v1023, bodyRun.sl.v1022, bodyRun.sl.v1021, bodyRun.sl.v1019, bodyRun.sl.v1018, bodyRun.sl.v1017, bodyRun.sl.v1016, bodyRun.sl.v1015, bodyRun.sl.v1014, bodyRun.sl.v1013, bodyRun.sl.v1011, bodyRun.sl.v1010, bodyRun.sl.v1009, bodyRun.sl.v1008, bodyRun.sl.v1007, bodyRun.sl.v1006, bodyRun.sl.v1005, bodyRun.sl.v1003, bodyRun.sl.v1002, bodyRun.sl.v1001, bodyRun.sl.v1000, bodyRun.sl.v1035, bodyRun.sl.v1033, bodyRun.sl.v1029]
  unfold bktW
  generalize IntOp.subi (IntOp.subi (BitVec.ofNat 32 R.val) 256#32) (BitVec.ofNat 32 l.val) = x
  unfold IntOp.addi
  simp only [BitVec.zero_add, BitVec.add_assoc]

theorem G12_tab (h : bodyRun.sl.v4 i = 1#1 ∨ IsTab c arg12 f12) : IsTab c arg12 (G12 c i arg12 f12) := by
  unfold G12
  by_cases hc : bodyRun.sl.v4 i = 1#1
  · rw [dif_pos hc]
    intro R l
    refine (View.read_writes_apply_of_pieces (Val := Elt Ideal) arg12.view f12 (fun x : S640x128.Idx => bktW (IntOp.subi (IntOp.subi (BitVec.ofNat 32 (x 0).val) 256#32) (BitVec.ofNat 32 (x 1).val))) _ ?_ (ix2 R l) ?_)
    · refine List.forall_mem_singleton.mpr fun x => ?_
      have hx : (Rect.unit (s := S640x128) ![0, 0] S640x128.size (by decide)).emb x = (ix2 (x 0) (x 1) : S640x128.Idx) := by
        funext a; refine Fin.ext ?_
        match a with
        | ⟨0, _⟩ => show 0 + 1 * (x 0).val = (x 0).val; omega
        | ⟨1, _⟩ => show 0 + 1 * (x 1).val = (x 1).val; omega
      show bodyRun.sl.v1040 x = _
      rw [hx]
      refine Eq.trans (congrArg bodyRun.sl.v1040 ?_) (v1040_at (x 0) (x 1))
      funext a
      match a with
      | ⟨0, _⟩ => rfl
      | ⟨1, _⟩ => rfl
    · refine ⟨_, List.mem_singleton.mpr rfl, ?_⟩
      refine (Rect.mem_set_unit (s := S640x128) (off := ![0, 0]) (size := S640x128.size) (inb := by decide)).mpr ?_
      intro a
      match a with
      | ⟨0, _⟩ => exact ⟨Nat.zero_le _, by show R.val < 0 + 640; have := R.isLt; omega⟩
      | ⟨1, _⟩ => exact ⟨Nat.zero_le _, by show l.val < 0 + 128; have := l.isLt; omega⟩
  · rw [dif_neg hc]; exact h.resolve_left hc

/-! ### The ids down a column -/

/-- A buffer holding the ids of `f6` down a column. -/
def IsSeg (f6 : Bf (F := Ideal) c arg6) (f : Bf (F := Ideal) c arg13) : Prop := ∀ (κ : Fin 1024) (l : Fin 128), arg13.view.read (Elt Ideal) f (ix2 κ l) = arg6.view.read (Elt Ideal) f6 (ix3 0 0 κ)

def L13 : List (View.Piece (Elt Ideal) S1024x128 .i32) := [⟨Rect.unit ![896, 0] S128x128.size (by decide), bodyRun.sl.v1057 c arg6 f6⟩, ⟨Rect.unit ![768, 0] S128x128.size (by decide), bodyRun.sl.v1049 c arg6 f6⟩, ⟨Rect.unit ![640, 0] S128x128.size (by decide), bodyRun.sl.v1041 c arg6 f6⟩, ⟨Rect.unit ![512, 0] S128x128.size (by decide), bodyRun.sl.v1033_1 c arg6 f6⟩, ⟨Rect.unit ![384, 0] S128x128.size (by decide), bodyRun.sl.v1025_1 c arg6 f6⟩, ⟨Rect.unit ![256, 0] S128x128.size (by decide), bodyRun.sl.v1017_1 c arg6 f6⟩, ⟨Rect.unit ![128, 0] S128x128.size (by decide), bodyRun.sl.v1009_1 c arg6 f6⟩, ⟨Rect.unit ![0, 0] S128x128.size (by decide), bodyRun.sl.v1001_1 c arg6 f6⟩]

/-- The column's buffer after the body. -/
def G13 : Bf (F := Ideal) c arg13 := if hc : bodyRun.sl.v7 i = 1#1 then arg13.view.writes (Elt Ideal) f13 (L13 c arg6 f6) else f13

theorem v1057_at (κ l : Fin 128) : bodyRun.sl.v1057 c arg6 f6 (ix2 κ l) = arg6.view.read (Elt Ideal) f6 (ix3 0 0 ⟨896 + κ.val, by omega⟩) := by
  refine Eq.trans ?_ (ld arg6.view f6 (off := ![0, 0, 896]) (size := S1x1x128.size) (by decide) (show (Rect.unit (s := S1x1x1024) ![0, 0, 896] S1x1x128.size (by decide)).toLoadRect.shape.Idx from ix3 0 0 κ) (ix3 0 0 ⟨896 + κ.val, by omega⟩) (fun a => by match a with | ⟨0, _⟩ => rfl | ⟨1, _⟩ => rfl | ⟨2, _⟩ => rfl))
  pointwise [bodyRun.sl.v1057, bodyRun.sl.v1054, bodyRun.sl.v1053, bodyRun.sl.v1052, bodyRun.sl.v1051]

theorem v1049_at (κ l : Fin 128) : bodyRun.sl.v1049 c arg6 f6 (ix2 κ l) = arg6.view.read (Elt Ideal) f6 (ix3 0 0 ⟨768 + κ.val, by omega⟩) := by
  refine Eq.trans ?_ (ld arg6.view f6 (off := ![0, 0, 768]) (size := S1x1x128.size) (by decide) (show (Rect.unit (s := S1x1x1024) ![0, 0, 768] S1x1x128.size (by decide)).toLoadRect.shape.Idx from ix3 0 0 κ) (ix3 0 0 ⟨768 + κ.val, by omega⟩) (fun a => by match a with | ⟨0, _⟩ => rfl | ⟨1, _⟩ => rfl | ⟨2, _⟩ => rfl))
  pointwise [bodyRun.sl.v1049, bodyRun.sl.v1046, bodyRun.sl.v1045, bodyRun.sl.v1044, bodyRun.sl.v1043]

theorem v1041_at (κ l : Fin 128) : bodyRun.sl.v1041 c arg6 f6 (ix2 κ l) = arg6.view.read (Elt Ideal) f6 (ix3 0 0 ⟨640 + κ.val, by omega⟩) := by
  refine Eq.trans ?_ (ld arg6.view f6 (off := ![0, 0, 640]) (size := S1x1x128.size) (by decide) (show (Rect.unit (s := S1x1x1024) ![0, 0, 640] S1x1x128.size (by decide)).toLoadRect.shape.Idx from ix3 0 0 κ) (ix3 0 0 ⟨640 + κ.val, by omega⟩) (fun a => by match a with | ⟨0, _⟩ => rfl | ⟨1, _⟩ => rfl | ⟨2, _⟩ => rfl))
  pointwise [bodyRun.sl.v1041, bodyRun.sl.v1038, bodyRun.sl.v1037, bodyRun.sl.v1036_1, bodyRun.sl.v1035_1]

theorem v1033_1_at (κ l : Fin 128) : bodyRun.sl.v1033_1 c arg6 f6 (ix2 κ l) = arg6.view.read (Elt Ideal) f6 (ix3 0 0 ⟨512 + κ.val, by omega⟩) := by
  refine Eq.trans ?_ (ld arg6.view f6 (off := ![0, 0, 512]) (size := S1x1x128.size) (by decide) (show (Rect.unit (s := S1x1x1024) ![0, 0, 512] S1x1x128.size (by decide)).toLoadRect.shape.Idx from ix3 0 0 κ) (ix3 0 0 ⟨512 + κ.val, by omega⟩) (fun a => by match a with | ⟨0, _⟩ => rfl | ⟨1, _⟩ => rfl | ⟨2, _⟩ => rfl))
  pointwise [bodyRun.sl.v1033_1, bodyRun.sl.v1030, bodyRun.sl.v1029_1, bodyRun.sl.v1028, bodyRun.sl.v1027_1, bodyRun.sl.r_1]

theorem v1025_1_at (κ l : Fin 128) : bodyRun.sl.v1025_1 c arg6 f6 (ix2 κ l) = arg6.view.read (Elt Ideal) f6 (ix3 0 0 ⟨384 + κ.val, by omega⟩) := by
  refine Eq.trans ?_ (ld arg6.view f6 (off := ![0, 0, 384]) (size := S1x1x128.size) (by decide) (show (Rect.unit (s := S1x1x1024) ![0, 0, 384] S1x1x128.size (by decide)).toLoadRect.shape.Idx from ix3 0 0 κ) (ix3 0 0 ⟨384 + κ.val, by omega⟩) (fun a => by match a with | ⟨0, _⟩ => rfl | ⟨1, _⟩ => rfl | ⟨2, _⟩ => rfl))
  pointwise [bodyRun.sl.v1025_1, bodyRun.sl.v1022_1, bodyRun.sl.v1021_1, bodyRun.sl.v1020, bodyRun.sl.v1019_1]

theorem v1017_1_at (κ l : Fin 128) : bodyRun.sl.v1017_1 c arg6 f6 (ix2 κ l) = arg6.view.read (Elt Ideal) f6 (ix3 0 0 ⟨256 + κ.val, by omega⟩) := by
  refine Eq.trans ?_ (ld arg6.view f6 (off := ![0, 0, 256]) (size := S1x1x128.size) (by decide) (show (Rect.unit (s := S1x1x1024) ![0, 0, 256] S1x1x128.size (by decide)).toLoadRect.shape.Idx from ix3 0 0 κ) (ix3 0 0 ⟨256 + κ.val, by omega⟩) (fun a => by match a with | ⟨0, _⟩ => rfl | ⟨1, _⟩ => rfl | ⟨2, _⟩ => rfl))
  pointwise [bodyRun.sl.v1017_1, bodyRun.sl.v1014_1, bodyRun.sl.v1013_1, bodyRun.sl.v1012, bodyRun.sl.v1011_1]

theorem v1009_1_at (κ l : Fin 128) : bodyRun.sl.v1009_1 c arg6 f6 (ix2 κ l) = arg6.view.read (Elt Ideal) f6 (ix3 0 0 ⟨128 + κ.val, by omega⟩) := by
  refine Eq.trans ?_ (ld arg6.view f6 (off := ![0, 0, 128]) (size := S1x1x128.size) (by decide) (show (Rect.unit (s := S1x1x1024) ![0, 0, 128] S1x1x128.size (by decide)).toLoadRect.shape.Idx from ix3 0 0 κ) (ix3 0 0 ⟨128 + κ.val, by omega⟩) (fun a => by match a with | ⟨0, _⟩ => rfl | ⟨1, _⟩ => rfl | ⟨2, _⟩ => rfl))
  pointwise [bodyRun.sl.v1009_1, bodyRun.sl.v1006_1, bodyRun.sl.v1005_1, bodyRun.sl.v1004, bodyRun.sl.v1003_1]

theorem v1001_1_at (κ l : Fin 128) : bodyRun.sl.v1001_1 c arg6 f6 (ix2 κ l) = arg6.view.read (Elt Ideal) f6 (ix3 0 0 ⟨0 + κ.val, by omega⟩) := by
  refine Eq.trans ?_ (ld arg6.view f6 (off := ![0, 0, 0]) (size := S1x1x128.size) (by decide) (show (Rect.unit (s := S1x1x1024) ![0, 0, 0] S1x1x128.size (by decide)).toLoadRect.shape.Idx from ix3 0 0 κ) (ix3 0 0 ⟨0 + κ.val, by omega⟩) (fun a => by match a with | ⟨0, _⟩ => rfl | ⟨1, _⟩ => rfl | ⟨2, _⟩ => rfl))
  pointwise [bodyRun.sl.v1001_1, bodyRun.sl.v998_1, bodyRun.sl.v997, bodyRun.sl.v996_1, bodyRun.sl.v995_1]

/-- One 128-row piece of the column. -/
theorem seg_piece (o : ℕ) (ho : o + 128 ≤ 1024) (h : ∀ a, (![o, 0] : Fin 2 → ℕ) a + S128x128.size a ≤ S1024x128.size a) (w : Vec Ideal S128x128 .i32)
    (hw : ∀ κ l : Fin 128, w (ix2 κ l) = arg6.view.read (Elt Ideal) f6 (ix3 0 0 ⟨o + κ.val, by omega⟩)) (x : (Rect.unit (s := S1024x128) ![o, 0] S128x128.size h).shape.Idx) :
    w x = arg6.view.read (Elt Ideal) f6 (ix3 0 0 ((Rect.unit (s := S1024x128) ![o, 0] S128x128.size h).emb x 0)) := by
  have e : (x : S128x128.Idx) = ix2 (x 0) (x 1) := by
    funext a
    match a with
    | ⟨0, _⟩ => rfl
    | ⟨1, _⟩ => rfl
  refine ((congrArg w e).trans (hw (x 0) (x 1))).trans ?_
  refine congrArg (fun z => arg6.view.read (Elt Ideal) f6 (ix3 0 0 z)) (Fin.ext ?_)
  show o + (x 0).val = o + 1 * (x 0).val
  omega

theorem G13_seg (h : bodyRun.sl.v7 i = 1#1 ∨ IsSeg c arg6 arg13 f6 f13) : IsSeg c arg6 arg13 f6 (G13 c i arg6 arg13 f6 f13) := by
  unfold G13
  by_cases hc : bodyRun.sl.v7 i = 1#1
  · rw [dif_pos hc]
    intro κ l
    refine (View.read_writes_apply_of_pieces (Val := Elt Ideal) arg13.view f13 (fun x : S1024x128.Idx => arg6.view.read (Elt Ideal) f6 (ix3 0 0 (x 0))) (L13 c arg6 f6) ?_ (ix2 κ l) ?_)
    · unfold L13
      refine List.forall_mem_cons.mpr ⟨seg_piece c arg6 f6 896 (by decide) (by decide) _ (v1057_at c arg6 f6), ?_⟩
      refine List.forall_mem_cons.mpr ⟨seg_piece c arg6 f6 768 (by decide) (by decide) _ (v1049_at c arg6 f6), ?_⟩
      refine List.forall_mem_cons.mpr ⟨seg_piece c arg6 f6 640 (by decide) (by decide) _ (v1041_at c arg6 f6), ?_⟩
      refine List.forall_mem_cons.mpr ⟨seg_piece c arg6 f6 512 (by decide) (by decide) _ (v1033_1_at c arg6 f6), ?_⟩
      refine List.forall_mem_cons.mpr ⟨seg_piece c arg6 f6 384 (by decide) (by decide) _ (v1025_1_at c arg6 f6), ?_⟩
      refine List.forall_mem_cons.mpr ⟨seg_piece c arg6 f6 256 (by decide) (by decide) _ (v1017_1_at c arg6 f6), ?_⟩
      refine List.forall_mem_cons.mpr ⟨seg_piece c arg6 f6 128 (by decide) (by decide) _ (v1009_1_at c arg6 f6), ?_⟩
      exact List.forall_mem_singleton.mpr (seg_piece c arg6 f6 0 (by decide) (by decide) _ (v1001_1_at c arg6 f6))
    · have hκ := κ.isLt; have hl := l.isLt
      have key : ∀ (o : ℕ) (h : ∀ a, (![o, 0] : Fin 2 → ℕ) a + S128x128.size a ≤ S1024x128.size a), o ≤ κ.val → κ.val < o + 128 → (ix2 κ l : S1024x128.Idx) ∈ (Rect.unit (s := S1024x128) ![o, 0] S128x128.size h).set := fun o h h1 h2 => by
        refine (Rect.mem_set_unit (s := S1024x128) (off := ![o, 0]) (size := S128x128.size) (inb := h)).mpr fun a => ?_
        match a with
        | ⟨0, _⟩ => exact ⟨h1, h2⟩
        | ⟨1, _⟩ => exact ⟨Nat.zero_le _, by show l.val < 0 + 128; omega⟩
      unfold L13
      simp only [List.exists_mem_cons_iff]
      rcases lt_or_ge κ.val 128 with g0 | g0
      · exact Or.inr (Or.inr (Or.inr (Or.inr (Or.inr (Or.inr (Or.inr (Or.inl (key 0 _ (by omega) (by omega)))))))))
      rcases lt_or_ge κ.val 256 with g1 | g1
      · exact Or.inr (Or.inr (Or.inr (Or.inr (Or.inr (Or.inr (Or.inl (key 128 _ (by omega) (by omega))))))))
      rcases lt_or_ge κ.val 384 with g2 | g2
      · exact Or.inr (Or.inr (Or.inr (Or.inr (Or.inr (Or.inl (key 256 _ (by omega) (by omega)))))))
      rcases lt_or_ge κ.val 512 with g3 | g3
      · exact Or.inr (Or.inr (Or.inr (Or.inr (Or.inl (key 384 _ (by omega) (by omega))))))
      rcases lt_or_ge κ.val 640 with g4 | g4
      · exact Or.inr (Or.inr (Or.inr (Or.inl (key 512 _ (by omega) (by omega)))))
      rcases lt_or_ge κ.val 768 with g5 | g5
      · exact Or.inr (Or.inr (Or.inl (key 640 _ (by omega) (by omega))))
      rcases lt_or_ge κ.val 896 with g6 | g6
      · exact Or.inr (Or.inl (key 768 _ (by omega) (by omega)))
      · exact Or.inl (key 896 _ (by omega) (by omega))
  · rw [dif_neg hc]; exact h.resolve_left hc

/-! ### The values, transposed -/

/-- The transposed values' buffer after the body. -/
def G15 : Bf (F := Ideal) c arg15 := arg15.view.writes (Elt Ideal) arg15.view.junk (bodyRun.sl.H15_1 c arg10 f10)

theorem r5_at (κ : Fin 1024) (d : Fin 128) : bodyRun.sl.r_5 c arg10 f10 (ix3 0 κ d) = arg10.view.read (Elt Ideal) f10 (ix3 0 κ d) := by
  unfold bodyRun.sl.r_5
  exact ld arg10.view f10 (off := ![0, 0, 0]) (size := S1x1024x128.size) (by decide) (show (Rect.unit (s := S1x1024x128) ![0, 0, 0] S1x1024x128.size (by decide)).toLoadRect.shape.Idx from ix3 0 κ d) (ix3 0 κ d) (fun a => by match a with | ⟨0, _⟩ => rfl | ⟨1, _⟩ => exact (Nat.zero_add _).symm | ⟨2, _⟩ => exact (Nat.zero_add _).symm)

theorem vt_at (x : Vec Ideal S1x1024x128 .fp8e4m3) (d : Fin 128) (κ : Fin 1024) : Gen.k0_pay1 (F := Ideal) x (ix2 d κ) = x (ix3 0 κ d) := by
  pointwise [Gen.k0_pay1]

theorem G15_at (d : Fin 128) (κ : Fin 1024) : arg15.view.read (Elt Ideal) (G15 c arg10 arg15 f10) (ix2 d κ) = arg10.view.read (Elt Ideal) f10 (ix3 0 κ d) := by
  unfold G15 bodyRun.sl.H15_1
  refine (View.read_writes_apply_of_pieces (Val := Elt Ideal) arg15.view _ (fun x : S128x1024.Idx => arg10.view.read (Elt Ideal) f10 (ix3 0 (x 1) (x 0))) _ ?_ (ix2 d κ) ?_)
  · refine List.forall_mem_singleton.mpr fun x => ?_
    have e : (x : S128x1024.Idx) = ix2 (x 0) (x 1) := by
      funext a
      match a with
      | ⟨0, _⟩ => rfl
      | ⟨1, _⟩ => rfl
    show Gen.k0_pay1 (F := Ideal) _ x = _
    rw [e]
    refine (vt_at _ _ _).trans ((r5_at c arg10 f10 _ _).trans ?_)
    refine congrArg (arg10.view.read (Elt Ideal) f10) ?_
    refine congrArg₂ (ix3 0) (Fin.ext ?_) (Fin.ext ?_)
    · show (x 1).val = 0 + 1 * (x 1).val; omega
    · show (x 0).val = 0 + 1 * (x 0).val; omega
  · refine ⟨_, List.mem_singleton.mpr rfl, ?_⟩
    refine (Rect.mem_set_unit (s := S128x1024) (off := ![0, 0]) (size := S128x1024.size) (inb := by decide)).mpr fun a => ?_
    match a with
    | ⟨0, _⟩ => exact ⟨Nat.zero_le _, by show d.val < 0 + 128; have := d.isLt; omega⟩
    | ⟨1, _⟩ => exact ⟨Nat.zero_le _, by show κ.val < 0 + 1024; have := κ.isLt; omega⟩

/-! ### The strip -/

/-- The strip's entry: the bias of the bucket there, over the scores' scale. -/
def stripV (q : EReal) (x : S640x128.Idx) : EReal :=
  Ideal.div (arg7.view.read (Elt Ideal) f7 (ix3 0 0 ⟨(bktW (IntOp.subi (IntOp.subi (BitVec.ofNat 32 (x 0).val) 256#32) (BitVec.ofNat 32 (x 1).val))).toNat % 128, Nat.mod_lt _ (by decide)⟩)) q

theorem v23_at (r : Fin 8) (j : Fin 128) : bodyRun.sl.v23 c i arg3 arg4 arg7 f3 f4 f7 (ix2 r j) = Ideal.div (arg7.view.read (Elt Ideal) f7 (ix3 0 0 j)) (bodyRun.sl.v14 c i arg3 arg4 f3 f4) := by
  have e : View.readAt (Elt Ideal) arg7.view (Rect.unit (s := S1x1x128) ![0, 0, 0] S1x1x128.size (by decide)).toLoadRect f7 (show (Rect.unit (s := S1x1x128) ![0, 0, 0] S1x1x128.size (by decide)).toLoadRect.shape.Idx from ix3 0 0 j) = arg7.view.read (Elt Ideal) f7 (ix3 0 0 j) :=
    ld arg7.view f7 (off := ![0, 0, 0]) (size := S1x1x128.size) (by decide) _ (ix3 0 0 j) (fun a => by match a with | ⟨0, _⟩ => rfl | ⟨1, _⟩ => rfl | ⟨2, _⟩ => exact (Nat.zero_add _).symm)
  refine Eq.trans ?_ (congrArg (fun z : EReal => Ideal.div z (bodyRun.sl.v14 c i arg3 arg4 f3 f4)) e)
  pointwise [bodyRun.sl.v23, bodyRun.sl.v22, bodyRun.sl.v21, bodyRun.sl.v20, bodyRun.sl.v19]

theorem gather_at (tab : Vec Ideal S8x128 .f32) (x : IVec S8x128 32) (p1 p2 p3) (r : Fin 8) (l : Fin 128) (hx : (x (ix2 r l)).toNat < 32) :
    (shapeCast S8x128 (dynamicGather 1 tab (shapeCast S8x128 (shapeCast S8x128x1 (select (cmpi .slt x (broadcast S8x128 0#32)) (addi x (broadcast S8x128 128#32)) x) p1 : IVec S8x128x1 32) p2 : IVec S8x128 32)) p3 : Vec Ideal S8x128 .f32) (ix2 r l)
      = tab (ix2 r ⟨(x (ix2 r l)).toNat % 128, Nat.mod_lt _ (by decide)⟩) := by
  pointwise
  have h0 : IntOp.cmpi .slt (x (ix2 r l)) 0#32 = 0#1 := by
    show BitVec.ofBool (BitVec.slt (x (ix2 r l)) 0#32) = 0#1
    have : BitVec.slt (x (ix2 r l)) 0#32 = false := by
      rw [BitVec.slt_eq_decide, BitVec.toInt_eq_toNat_of_lt (by omega)]
      exact decide_eq_false (by simp)
    rw [this]; rfl
  refine congrArg (fun z => tab (ix2 r z)) (Fin.ext ?_)
  show (Scalar.select (IntOp.cmpi .slt (x (ix2 r l)) 0#32) (IntOp.addi (x (ix2 r l)) 128#32) (x (ix2 r l))).toNat % 128 = (x (ix2 r l)).toNat % 128
  rw [h0]; rfl

/-- A list of 8-row pieces of the strip: they agree with its entries, and cover its first `8 n` rows. -/
def Ok (q : EReal) (L : List (View.Piece (Elt Ideal) S640x128 .f32)) (n : ℕ) : Prop :=
  (∀ p ∈ L, ∀ x : p.1.shape.Idx, p.2 x = stripV c arg7 f7 q (p.1.emb x)) ∧ ∀ y : S640x128.Idx, (y 0).val < 8 * n → ∃ p ∈ L, y ∈ p.1.set

theorem ok_cons (q : EReal) (L : List (View.Piece (Elt Ideal) S640x128 .f32)) (n o : ℕ) (ho : o = 8 * n) (hn : n < 80) (h : ∀ a, (![o, 0] : Fin 2 → ℕ) a + S8x128.size a ≤ S640x128.size a)
    (w : Vec Ideal S8x128 .f32) (hL : Ok c arg7 f7 q L n) (hw : ∀ (r : Fin 8) (l : Fin 128), w (ix2 r l) = stripV c arg7 f7 q (ix2 ⟨o + r.val, by omega⟩ l)) :
    Ok c arg7 f7 q (⟨Rect.unit (s := S640x128) ![o, 0] S8x128.size h, w⟩ :: L) (n + 1) := by
  refine ⟨List.forall_mem_cons.mpr ⟨fun x => ?_, hL.1⟩, fun y hy => ?_⟩
  · have e : (x : S8x128.Idx) = ix2 (x 0) (x 1) := by
      funext a
      match a with
      | ⟨0, _⟩ => rfl
      | ⟨1, _⟩ => rfl
    refine ((congrArg w e).trans (hw (x 0) (x 1))).trans ?_
    refine congrArg (stripV c arg7 f7 q) ?_
    funext a; refine Fin.ext ?_
    match a with
    | ⟨0, _⟩ => show o + (x 0).val = o + 1 * (x 0).val; omega
    | ⟨1, _⟩ => show (x 1).val = 0 + 1 * (x 1).val; omega
  · by_cases hy' : (y 0).val < 8 * n
    · obtain ⟨p, hp, hm⟩ := hL.2 y hy'
      exact ⟨p, List.mem_cons_of_mem _ hp, hm⟩
    · refine ⟨_, List.mem_cons_self, ?_⟩
      refine (Rect.mem_set_unit (s := S640x128) (off := ![o, 0]) (size := S8x128.size) (inb := h)).mpr fun a => ?_
      match a with
      | ⟨0, _⟩ => exact ⟨by show o ≤ (y 0).val; omega, by show (y 0).val < o + 8; omega⟩
      | ⟨1, _⟩ => exact ⟨Nat.zero_le _, by show (y 1).val < 0 + 128; have := (y 1).isLt; have e : S640x128.size 1 = 128 := rfl; omega⟩

/-- One piece: the gather of the biases at the table's buckets. -/
theorem piece_at (hT : IsTab c arg12 (G12 c i arg12 f12)) (o : ℕ) (ho : o + 8 ≤ 640) (x : IVec S8x128 32) (p1 p2 p3)
    (hx : ∀ (r : Fin 8) (l : Fin 128), x (ix2 r l) = arg12.view.read (Elt Ideal) (G12 c i arg12 f12) (ix2 ⟨o + r.val, by omega⟩ l)) (r : Fin 8) (l : Fin 128) :
    (shapeCast S8x128 (dynamicGather 1 (bodyRun.sl.v23 c i arg3 arg4 arg7 f3 f4 f7) (shapeCast S8x128 (shapeCast S8x128x1 (select (cmpi .slt x (broadcast S8x128 0#32)) (addi x (broadcast S8x128 128#32)) x) p1 : IVec S8x128x1 32) p2 : IVec S8x128 32)) p3 : Vec Ideal S8x128 .f32) (ix2 r l)
      = stripV c arg7 f7 (bodyRun.sl.v14 c i arg3 arg4 f3 f4) (ix2 ⟨o + r.val, by omega⟩ l) := by
  have e : x (ix2 r l) = bktW (IntOp.subi (IntOp.subi (BitVec.ofNat 32 (o + r.val)) 256#32) (BitVec.ofNat 32 l.val)) := (hx r l).trans (hT ⟨o + r.val, by omega⟩ l)
  refine (gather_at _ x p1 p2 p3 r l (by rw [e]; exact bkt_strip_lt ⟨o + r.val, by omega⟩ l)).trans ?_
  refine (v23_at c i arg3 arg4 arg7 f3 f4 f7 r _).trans ?_
  unfold stripV
  refine congrArg (fun z => Ideal.div (arg7.view.read (Elt Ideal) f7 (ix3 0 0 z)) _) (Fin.ext ?_)
  show (x (ix2 r l)).toNat % 128 = _
  rw [e]; rfl

theorem pc0 (hT : IsTab c arg12 (G12 c i arg12 f12)) (r : Fin 8) (l : Fin 128) : bodyRun.sl.v35 c i arg3 arg4 arg7 arg12 f3 f4 f7 f12 (ix2 r l) = stripV c arg7 f7 (bodyRun.sl.v14 c i arg3 arg4 f3 f4) (ix2 ⟨0 + r.val, by omega⟩ l) := by
  unfold bodyRun.sl.v35 bodyRun.sl.v32 bodyRun.sl.v31 bodyRun.sl.v30 bodyRun.sl.v29 bodyRun.sl.v28 bodyRun.sl.v27 bodyRun.sl.v26 bodyRun.sl.v25
  refine piece_at c i arg3 arg4 arg7 arg12 f3 f4 f7 f12 hT 0 (by decide) _ _ _ _ (fun r l => ?_) r l
  unfold bodyRun.sl.v24
  exact ld arg12.view (G12 c i arg12 f12) (off := ![0, 0]) (size := S8x128.size) (by decide) (show (Rect.unit (s := S640x128) ![0, 0] S8x128.size (by decide)).toLoadRect.shape.Idx from ix2 r l) (ix2 ⟨0 + r.val, by omega⟩ l) (fun a => by match a with | ⟨0, _⟩ => rfl | ⟨1, _⟩ => exact (Nat.zero_add _).symm)

theorem pc3 (hT : IsTab c arg12 (G12 c i arg12 f12)) (r : Fin 8) (l : Fin 128) : bodyRun.sl.v71 c i arg3 arg4 arg7 arg12 f3 f4 f7 f12 (ix2 r l) = stripV c arg7 f7 (bodyRun.sl.v14 c i arg3 arg4 f3 f4) (ix2 ⟨24 + r.val, by omega⟩ l) := by
  unfold bodyRun.sl.v71 bodyRun.sl.v68 bodyRun.sl.v67 bodyRun.sl.v66 bodyRun.sl.v65 bodyRun.sl.v64 bodyRun.sl.v27 bodyRun.sl.v62 bodyRun.sl.v25
  refine piece_at c i arg3 arg4 arg7 arg12 f3 f4 f7 f12 hT 24 (by decide) _ _ _ _ (fun r l => ?_) r l
  unfold bodyRun.sl.v60
  exact ld arg12.view (G12 c i arg12 f12) (off := ![24, 0]) (size := S8x128.size) (by decide) (show (Rect.unit (s := S640x128) ![24, 0] S8x128.size (by decide)).toLoadRect.shape.Idx from ix2 r l) (ix2 ⟨24 + r.val, by omega⟩ l) (fun a => by match a with | ⟨0, _⟩ => rfl | ⟨1, _⟩ => exact (Nat.zero_add _).symm)

theorem pc2 (hT : IsTab c arg12 (G12 c i arg12 f12)) (r : Fin 8) (l : Fin 128) : bodyRun.sl.v59 c i arg3 arg4 arg7 arg12 f3 f4 f7 f12 (ix2 r l) = stripV c arg7 f7 (bodyRun.sl.v14 c i arg3 arg4 f3 f4) (ix2 ⟨16 + r.val, by omega⟩ l) := by
  unfold bodyRun.sl.v59 bodyRun.sl.v56 bodyRun.sl.v55 bodyRun.sl.v54 bodyRun.sl.v53 bodyRun.sl.v52 bodyRun.sl.v27 bodyRun.sl.v50 bodyRun.sl.v25
  refine piece_at c i arg3 arg4 arg7 arg12 f3 f4 f7 f12 hT 16 (by decide) _ _ _ _ (fun r l => ?_) r l
  unfold bodyRun.sl.v48
  exact ld arg12.view (G12 c i arg12 f12) (off := ![16, 0]) (size := S8x128.size) (by decide) (show (Rect.unit (s := S640x128) ![16, 0] S8x128.size (by decide)).toLoadRect.shape.Idx from ix2 r l) (ix2 ⟨16 + r.val, by omega⟩ l) (fun a => by match a with | ⟨0, _⟩ => rfl | ⟨1, _⟩ => exact (Nat.zero_add _).symm)

theorem pc1 (hT : IsTab c arg12 (G12 c i arg12 f12)) (r : Fin 8) (l : Fin 128) : bodyRun.sl.v47 c i arg3 arg4 arg7 arg12 f3 f4 f7 f12 (ix2 r l) = stripV c arg7 f7 (bodyRun.sl.v14 c i arg3 arg4 f3 f4) (ix2 ⟨8 + r.val, by omega⟩ l) := by
  unfold bodyRun.sl.v47 bodyRun.sl.v44 bodyRun.sl.v43 bodyRun.sl.v42 bodyRun.sl.v41 bodyRun.sl.v40 bodyRun.sl.v27 bodyRun.sl.v38 bodyRun.sl.v25
  refine piece_at c i arg3 arg4 arg7 arg12 f3 f4 f7 f12 hT 8 (by decide) _ _ _ _ (fun r l => ?_) r l
  unfold bodyRun.sl.v36
  exact ld arg12.view (G12 c i arg12 f12) (off := ![8, 0]) (size := S8x128.size) (by decide) (show (Rect.unit (s := S640x128) ![8, 0] S8x128.size (by decide)).toLoadRect.shape.Idx from ix2 r l) (ix2 ⟨8 + r.val, by omega⟩ l) (fun a => by match a with | ⟨0, _⟩ => rfl | ⟨1, _⟩ => exact (Nat.zero_add _).symm)

theorem pc6 (hT : IsTab c arg12 (G12 c i arg12 f12)) (r : Fin 8) (l : Fin 128) : bodyRun.sl.v107 c i arg3 arg4 arg7 arg12 f3 f4 f7 f12 (ix2 r l) = stripV c arg7 f7 (bodyRun.sl.v14 c i arg3 arg4 f3 f4) (ix2 ⟨48 + r.val, by omega⟩ l) := by
  unfold bodyRun.sl.v107 bodyRun.sl.v104 bodyRun.sl.v103 bodyRun.sl.v102 bodyRun.sl.v101 bodyRun.sl.v100 bodyRun.sl.v27 bodyRun.sl.v98 bodyRun.sl.v25
  refine piece_at c i arg3 arg4 arg7 arg12 f3 f4 f7 f12 hT 48 (by decide) _ _ _ _ (fun r l => ?_) r l
  unfold bodyRun.sl.v96
  exact ld arg12.view (G12 c i arg12 f12) (off := ![48, 0]) (size := S8x128.size) (by decide) (show (Rect.unit (s := S640x128) ![48, 0] S8x128.size (by decide)).toLoadRect.shape.Idx from ix2 r l) (ix2 ⟨48 + r.val, by omega⟩ l) (fun a => by match a with | ⟨0, _⟩ => rfl | ⟨1, _⟩ => exact (Nat.zero_add _).symm)

theorem pc5 (hT : IsTab c arg12 (G12 c i arg12 f12)) (r : Fin 8) (l : Fin 128) : bodyRun.sl.v95 c i arg3 arg4 arg7 arg12 f3 f4 f7 f12 (ix2 r l) = stripV c arg7 f7 (bodyRun.sl.v14 c i arg3 arg4 f3 f4) (ix2 ⟨40 + r.val, by omega⟩ l) := by
  unfold bodyRun.sl.v95 bodyRun.sl.v92 bodyRun.sl.v91 bodyRun.sl.v90 bodyRun.sl.v89 bodyRun.sl.v88 bodyRun.sl.v27 bodyRun.sl.v86 bodyRun.sl.v25
  refine piece_at c i arg3 arg4 arg7 arg12 f3 f4 f7 f12 hT 40 (by decide) _ _ _ _ (fun r l => ?_) r l
  unfold bodyRun.sl.v84
  exact ld arg12.view (G12 c i arg12 f12) (off := ![40, 0]) (size := S8x128.size) (by decide) (show (Rect.unit (s := S640x128) ![40, 0] S8x128.size (by decide)).toLoadRect.shape.Idx from ix2 r l) (ix2 ⟨40 + r.val, by omega⟩ l) (fun a => by match a with | ⟨0, _⟩ => rfl | ⟨1, _⟩ => exact (Nat.zero_add _).symm)

theorem pc4 (hT : IsTab c arg12 (G12 c i arg12 f12)) (r : Fin 8) (l : Fin 128) : bodyRun.sl.v83 c i arg3 arg4 arg7 arg12 f3 f4 f7 f12 (ix2 r l) = stripV c arg7 f7 (bodyRun.sl.v14 c i arg3 arg4 f3 f4) (ix2 ⟨32 + r.val, by omega⟩ l) := by
  unfold bodyRun.sl.v83 bodyRun.sl.v80 bodyRun.sl.v79 bodyRun.sl.v78 bodyRun.sl.v77 bodyRun.sl.v76 bodyRun.sl.v27 bodyRun.sl.v74 bodyRun.sl.v25
  refine piece_at c i arg3 arg4 arg7 arg12 f3 f4 f7 f12 hT 32 (by decide) _ _ _ _ (fun r l => ?_) r l
  unfold bodyRun.sl.v72
  exact ld arg12.view (G12 c i arg12 f12) (off := ![32, 0]) (size := S8x128.size) (by decide) (show (Rect.unit (s := S640x128) ![32, 0] S8x128.size (by decide)).toLoadRect.shape.Idx from ix2 r l) (ix2 ⟨32 + r.val, by omega⟩ l) (fun a => by match a with | ⟨0, _⟩ => rfl | ⟨1, _⟩ => exact (Nat.zero_add _).symm)

theorem pc9 (hT : IsTab c arg12 (G12 c i arg12 f12)) (r : Fin 8) (l : Fin 128) : bodyRun.sl.v143 c i arg3 arg4 arg7 arg12 f3 f4 f7 f12 (ix2 r l) = stripV c arg7 f7 (bodyRun.sl.v14 c i arg3 arg4 f3 f4) (ix2 ⟨72 + r.val, by omega⟩ l) := by
  unfold bodyRun.sl.v143 bodyRun.sl.v140 bodyRun.sl.v139 bodyRun.sl.v138 bodyRun.sl.v137 bodyRun.sl.v136 bodyRun.sl.v27 bodyRun.sl.v134 bodyRun.sl.v25
  refine piece_at c i arg3 arg4 arg7 arg12 f3 f4 f7 f12 hT 72 (by decide) _ _ _ _ (fun r l => ?_) r l
  unfold bodyRun.sl.v132
  exact ld arg12.view (G12 c i arg12 f12) (off := ![72, 0]) (size := S8x128.size) (by decide) (show (Rect.unit (s := S640x128) ![72, 0] S8x128.size (by decide)).toLoadRect.shape.Idx from ix2 r l) (ix2 ⟨72 + r.val, by omega⟩ l) (fun a => by match a with | ⟨0, _⟩ => rfl | ⟨1, _⟩ => exact (Nat.zero_add _).symm)

theorem pc8 (hT : IsTab c arg12 (G12 c i arg12 f12)) (r : Fin 8) (l : Fin 128) : bodyRun.sl.v131 c i arg3 arg4 arg7 arg12 f3 f4 f7 f12 (ix2 r l) = stripV c arg7 f7 (bodyRun.sl.v14 c i arg3 arg4 f3 f4) (ix2 ⟨64 + r.val, by omega⟩ l) := by
  unfold bodyRun.sl.v131 bodyRun.sl.v128 bodyRun.sl.v127 bodyRun.sl.v126 bodyRun.sl.v125 bodyRun.sl.v124 bodyRun.sl.v27 bodyRun.sl.v122 bodyRun.sl.v25
  refine piece_at c i arg3 arg4 arg7 arg12 f3 f4 f7 f12 hT 64 (by decide) _ _ _ _ (fun r l => ?_) r l
  unfold bodyRun.sl.v120
  exact ld arg12.view (G12 c i arg12 f12) (off := ![64, 0]) (size := S8x128.size) (by decide) (show (Rect.unit (s := S640x128) ![64, 0] S8x128.size (by decide)).toLoadRect.shape.Idx from ix2 r l) (ix2 ⟨64 + r.val, by omega⟩ l) (fun a => by match a with | ⟨0, _⟩ => rfl | ⟨1, _⟩ => exact (Nat.zero_add _).symm)

theorem pc7 (hT : IsTab c arg12 (G12 c i arg12 f12)) (r : Fin 8) (l : Fin 128) : bodyRun.sl.v119 c i arg3 arg4 arg7 arg12 f3 f4 f7 f12 (ix2 r l) = stripV c arg7 f7 (bodyRun.sl.v14 c i arg3 arg4 f3 f4) (ix2 ⟨56 + r.val, by omega⟩ l) := by
  unfold bodyRun.sl.v119 bodyRun.sl.v116 bodyRun.sl.v115 bodyRun.sl.v114 bodyRun.sl.v113 bodyRun.sl.v112 bodyRun.sl.v27 bodyRun.sl.v110 bodyRun.sl.v25
  refine piece_at c i arg3 arg4 arg7 arg12 f3 f4 f7 f12 hT 56 (by decide) _ _ _ _ (fun r l => ?_) r l
  unfold bodyRun.sl.v108
  exact ld arg12.view (G12 c i arg12 f12) (off := ![56, 0]) (size := S8x128.size) (by decide) (show (Rect.unit (s := S640x128) ![56, 0] S8x128.size (by decide)).toLoadRect.shape.Idx from ix2 r l) (ix2 ⟨56 + r.val, by omega⟩ l) (fun a => by match a with | ⟨0, _⟩ => rfl | ⟨1, _⟩ => exact (Nat.zero_add _).symm)

theorem pc12 (hT : IsTab c arg12 (G12 c i arg12 f12)) (r : Fin 8) (l : Fin 128) : bodyRun.sl.v179 c i arg3 arg4 arg7 arg12 f3 f4 f7 f12 (ix2 r l) = stripV c arg7 f7 (bodyRun.sl.v14 c i arg3 arg4 f3 f4) (ix2 ⟨96 + r.val, by omega⟩ l) := by
  unfold bodyRun.sl.v179 bodyRun.sl.v176 bodyRun.sl.v175 bodyRun.sl.v174 bodyRun.sl.v173 bodyRun.sl.v172 bodyRun.sl.v27 bodyRun.sl.v170 bodyRun.sl.v25
  refine piece_at c i arg3 arg4 arg7 arg12 f3 f4 f7 f12 hT 96 (by decide) _ _ _ _ (fun r l => ?_) r l
  unfold bodyRun.sl.v168
  exact ld arg12.view (G12 c i arg12 f12) (off := ![96, 0]) (size := S8x128.size) (by decide) (show (Rect.unit (s := S640x128) ![96, 0] S8x128.size (by decide)).toLoadRect.shape.Idx from ix2 r l) (ix2 ⟨96 + r.val, by omega⟩ l) (fun a => by match a with | ⟨0, _⟩ => rfl | ⟨1, _⟩ => exact (Nat.zero_add _).symm)

theorem pc11 (hT : IsTab c arg12 (G12 c i arg12 f12)) (r : Fin 8) (l : Fin 128) : bodyRun.sl.v167 c i arg3 arg4 arg7 arg12 f3 f4 f7 f12 (ix2 r l) = stripV c arg7 f7 (bodyRun.sl.v14 c i arg3 arg4 f3 f4) (ix2 ⟨88 + r.val, by omega⟩ l) := by
  unfold bodyRun.sl.v167 bodyRun.sl.v164 bodyRun.sl.v163 bodyRun.sl.v162 bodyRun.sl.v161 bodyRun.sl.v160 bodyRun.sl.v27 bodyRun.sl.v158 bodyRun.sl.v25
  refine piece_at c i arg3 arg4 arg7 arg12 f3 f4 f7 f12 hT 88 (by decide) _ _ _ _ (fun r l => ?_) r l
  unfold bodyRun.sl.v156
  exact ld arg12.view (G12 c i arg12 f12) (off := ![88, 0]) (size := S8x128.size) (by decide) (show (Rect.unit (s := S640x128) ![88, 0] S8x128.size (by decide)).toLoadRect.shape.Idx from ix2 r l) (ix2 ⟨88 + r.val, by omega⟩ l) (fun a => by match a with | ⟨0, _⟩ => rfl | ⟨1, _⟩ => exact (Nat.zero_add _).symm)

theorem pc10 (hT : IsTab c arg12 (G12 c i arg12 f12)) (r : Fin 8) (l : Fin 128) : bodyRun.sl.v155 c i arg3 arg4 arg7 arg12 f3 f4 f7 f12 (ix2 r l) = stripV c arg7 f7 (bodyRun.sl.v14 c i arg3 arg4 f3 f4) (ix2 ⟨80 + r.val, by omega⟩ l) := by
  unfold bodyRun.sl.v155 bodyRun.sl.v152 bodyRun.sl.v151 bodyRun.sl.v150 bodyRun.sl.v149 bodyRun.sl.v148 bodyRun.sl.v27 bodyRun.sl.v146 bodyRun.sl.v25
  refine piece_at c i arg3 arg4 arg7 arg12 f3 f4 f7 f12 hT 80 (by decide) _ _ _ _ (fun r l => ?_) r l
  unfold bodyRun.sl.v144
  exact ld arg12.view (G12 c i arg12 f12) (off := ![80, 0]) (size := S8x128.size) (by decide) (show (Rect.unit (s := S640x128) ![80, 0] S8x128.size (by decide)).toLoadRect.shape.Idx from ix2 r l) (ix2 ⟨80 + r.val, by omega⟩ l) (fun a => by match a with | ⟨0, _⟩ => rfl | ⟨1, _⟩ => exact (Nat.zero_add _).symm)

theorem pc16 (hT : IsTab c arg12 (G12 c i arg12 f12)) (r : Fin 8) (l : Fin 128) : bodyRun.sl.v227 c i arg3 arg4 arg7 arg12 f3 f4 f7 f12 (ix2 r l) = stripV c arg7 f7 (bodyRun.sl.v14 c i arg3 arg4 f3 f4) (ix2 ⟨128 + r.val, by omega⟩ l) := by
  unfold bodyRun.sl.v227 bodyRun.sl.v224 bodyRun.sl.v223 bodyRun.sl.v222 bodyRun.sl.v221 bodyRun.sl.v220 bodyRun.sl.v27 bodyRun.sl.v218 bodyRun.sl.v25
  refine piece_at c i arg3 arg4 arg7 arg12 f3 f4 f7 f12 hT 128 (by decide) _ _ _ _ (fun r l => ?_) r l
  unfold bodyRun.sl.v216
  exact ld arg12.view (G12 c i arg12 f12) (off := ![128, 0]) (size := S8x128.size) (by decide) (show (Rect.unit (s := S640x128) ![128, 0] S8x128.size (by decide)).toLoadRect.shape.Idx from ix2 r l) (ix2 ⟨128 + r.val, by omega⟩ l) (fun a => by match a with | ⟨0, _⟩ => rfl | ⟨1, _⟩ => exact (Nat.zero_add _).symm)

theorem pc15 (hT : IsTab c arg12 (G12 c i arg12 f12)) (r : Fin 8) (l : Fin 128) : bodyRun.sl.v215 c i arg3 arg4 arg7 arg12 f3 f4 f7 f12 (ix2 r l) = stripV c arg7 f7 (bodyRun.sl.v14 c i arg3 arg4 f3 f4) (ix2 ⟨120 + r.val, by omega⟩ l) := by
  unfold bodyRun.sl.v215 bodyRun.sl.v212 bodyRun.sl.v211 bodyRun.sl.v210 bodyRun.sl.v209 bodyRun.sl.v208 bodyRun.sl.v27 bodyRun.sl.v206 bodyRun.sl.v25
  refine piece_at c i arg3 arg4 arg7 arg12 f3 f4 f7 f12 hT 120 (by decide) _ _ _ _ (fun r l => ?_) r l
  unfold bodyRun.sl.v204
  exact ld arg12.view (G12 c i arg12 f12) (off := ![120, 0]) (size := S8x128.size) (by decide) (show (Rect.unit (s := S640x128) ![120, 0] S8x128.size (by decide)).toLoadRect.shape.Idx from ix2 r l) (ix2 ⟨120 + r.val, by omega⟩ l) (fun a => by match a with | ⟨0, _⟩ => rfl | ⟨1, _⟩ => exact (Nat.zero_add _).symm)

theorem pc14 (hT : IsTab c arg12 (G12 c i arg12 f12)) (r : Fin 8) (l : Fin 128) : bodyRun.sl.v203 c i arg3 arg4 arg7 arg12 f3 f4 f7 f12 (ix2 r l) = stripV c arg7 f7 (bodyRun.sl.v14 c i arg3 arg4 f3 f4) (ix2 ⟨112 + r.val, by omega⟩ l) := by
  unfold bodyRun.sl.v203 bodyRun.sl.v200 bodyRun.sl.v199 bodyRun.sl.v198 bodyRun.sl.v197 bodyRun.sl.v196 bodyRun.sl.v27 bodyRun.sl.v194 bodyRun.sl.v25
  refine piece_at c i arg3 arg4 arg7 arg12 f3 f4 f7 f12 hT 112 (by decide) _ _ _ _ (fun r l => ?_) r l
  unfold bodyRun.sl.v192
  exact ld arg12.view (G12 c i arg12 f12) (off := ![112, 0]) (size := S8x128.size) (by decide) (show (Rect.unit (s := S640x128) ![112, 0] S8x128.size (by decide)).toLoadRect.shape.Idx from ix2 r l) (ix2 ⟨112 + r.val, by omega⟩ l) (fun a => by match a with | ⟨0, _⟩ => rfl | ⟨1, _⟩ => exact (Nat.zero_add _).symm)

theorem pc13 (hT : IsTab c arg12 (G12 c i arg12 f12)) (r : Fin 8) (l : Fin 128) : bodyRun.sl.v191 c i arg3 arg4 arg7 arg12 f3 f4 f7 f12 (ix2 r l) = stripV c arg7 f7 (bodyRun.sl.v14 c i arg3 arg4 f3 f4) (ix2 ⟨104 + r.val, by omega⟩ l) := by
  unfold bodyRun.sl.v191 bodyRun.sl.v188 bodyRun.sl.v187 bodyRun.sl.v186 bodyRun.sl.v185 bodyRun.sl.v184 bodyRun.sl.v27 bodyRun.sl.v182 bodyRun.sl.v25
  refine piece_at c i arg3 arg4 arg7 arg12 f3 f4 f7 f12 hT 104 (by decide) _ _ _ _ (fun r l => ?_) r l
  unfold bodyRun.sl.v180
  exact ld arg12.view (G12 c i arg12 f12) (off := ![104, 0]) (size := S8x128.size) (by decide) (show (Rect.unit (s := S640x128) ![104, 0] S8x128.size (by decide)).toLoadRect.shape.Idx from ix2 r l) (ix2 ⟨104 + r.val, by omega⟩ l) (fun a => by match a with | ⟨0, _⟩ => rfl | ⟨1, _⟩ => exact (Nat.zero_add _).symm)

theorem pc19 (hT : IsTab c arg12 (G12 c i arg12 f12)) (r : Fin 8) (l : Fin 128) : bodyRun.sl.v263 c i arg3 arg4 arg7 arg12 f3 f4 f7 f12 (ix2 r l) = stripV c arg7 f7 (bodyRun.sl.v14 c i arg3 arg4 f3 f4) (ix2 ⟨152 + r.val, by omega⟩ l) := by
  unfold bodyRun.sl.v263 bodyRun.sl.v260 bodyRun.sl.v259 bodyRun.sl.v258 bodyRun.sl.v257 bodyRun.sl.v256 bodyRun.sl.v27 bodyRun.sl.v254 bodyRun.sl.v25
  refine piece_at c i arg3 arg4 arg7 arg12 f3 f4 f7 f12 hT 152 (by decide) _ _ _ _ (fun r l => ?_) r l
  unfold bodyRun.sl.v252
  exact ld arg12.view (G12 c i arg12 f12) (off := ![152, 0]) (size := S8x128.size) (by decide) (show (Rect.unit (s := S640x128) ![152, 0] S8x128.size (by decide)).toLoadRect.shape.Idx from ix2 r l) (ix2 ⟨152 + r.val, by omega⟩ l) (fun a => by match a with | ⟨0, _⟩ => rfl | ⟨1, _⟩ => exact (Nat.zero_add _).symm)

theorem pc18 (hT : IsTab c arg12 (G12 c i arg12 f12)) (r : Fin 8) (l : Fin 128) : bodyRun.sl.v251 c i arg3 arg4 arg7 arg12 f3 f4 f7 f12 (ix2 r l) = stripV c arg7 f7 (bodyRun.sl.v14 c i arg3 arg4 f3 f4) (ix2 ⟨144 + r.val, by omega⟩ l) := by
  unfold bodyRun.sl.v251 bodyRun.sl.v248 bodyRun.sl.v247 bodyRun.sl.v246 bodyRun.sl.v245 bodyRun.sl.v244 bodyRun.sl.v27 bodyRun.sl.v242 bodyRun.sl.v25
  refine piece_at c i arg3 arg4 arg7 arg12 f3 f4 f7 f12 hT 144 (by decide) _ _ _ _ (fun r l => ?_) r l
  unfold bodyRun.sl.v240
  exact ld arg12.view (G12 c i arg12 f12) (off := ![144, 0]) (size := S8x128.size) (by decide) (show (Rect.unit (s := S640x128) ![144, 0] S8x128.size (by decide)).toLoadRect.shape.Idx from ix2 r l) (ix2 ⟨144 + r.val, by omega⟩ l) (fun a => by match a with | ⟨0, _⟩ => rfl | ⟨1, _⟩ => exact (Nat.zero_add _).symm)

theorem pc17 (hT : IsTab c arg12 (G12 c i arg12 f12)) (r : Fin 8) (l : Fin 128) : bodyRun.sl.v239 c i arg3 arg4 arg7 arg12 f3 f4 f7 f12 (ix2 r l) = stripV c arg7 f7 (bodyRun.sl.v14 c i arg3 arg4 f3 f4) (ix2 ⟨136 + r.val, by omega⟩ l) := by
  unfold bodyRun.sl.v239 bodyRun.sl.v236 bodyRun.sl.v235 bodyRun.sl.v234 bodyRun.sl.v233 bodyRun.sl.v232 bodyRun.sl.v27 bodyRun.sl.v230 bodyRun.sl.v25
  refine piece_at c i arg3 arg4 arg7 arg12 f3 f4 f7 f12 hT 136 (by decide) _ _ _ _ (fun r l => ?_) r l
  unfold bodyRun.sl.v228
  exact ld arg12.view (G12 c i arg12 f12) (off := ![136, 0]) (size := S8x128.size) (by decide) (show (Rect.unit (s := S640x128) ![136, 0] S8x128.size (by decide)).toLoadRect.shape.Idx from ix2 r l) (ix2 ⟨136 + r.val, by omega⟩ l) (fun a => by match a with | ⟨0, _⟩ => rfl | ⟨1, _⟩ => exact (Nat.zero_add _).symm)

theorem pc22 (hT : IsTab c arg12 (G12 c i arg12 f12)) (r : Fin 8) (l : Fin 128) : bodyRun.sl.v299 c i arg3 arg4 arg7 arg12 f3 f4 f7 f12 (ix2 r l) = stripV c arg7 f7 (bodyRun.sl.v14 c i arg3 arg4 f3 f4) (ix2 ⟨176 + r.val, by omega⟩ l) := by
  unfold bodyRun.sl.v299 bodyRun.sl.v296 bodyRun.sl.v295 bodyRun.sl.v294 bodyRun.sl.v293 bodyRun.sl.v292 bodyRun.sl.v27 bodyRun.sl.v290 bodyRun.sl.v25
  refine piece_at c i arg3 arg4 arg7 arg12 f3 f4 f7 f12 hT 176 (by decide) _ _ _ _ (fun r l => ?_) r l
  unfold bodyRun.sl.v288
  exact ld arg12.view (G12 c i arg12 f12) (off := ![176, 0]) (size := S8x128.size) (by decide) (show (Rect.unit (s := S640x128) ![176, 0] S8x128.size (by decide)).toLoadRect.shape.Idx from ix2 r l) (ix2 ⟨176 + r.val, by omega⟩ l) (fun a => by match a with | ⟨0, _⟩ => rfl | ⟨1, _⟩ => exact (Nat.zero_add _).symm)

theorem pc21 (hT : IsTab c arg12 (G12 c i arg12 f12)) (r : Fin 8) (l : Fin 128) : bodyRun.sl.v287 c i arg3 arg4 arg7 arg12 f3 f4 f7 f12 (ix2 r l) = stripV c arg7 f7 (bodyRun.sl.v14 c i arg3 arg4 f3 f4) (ix2 ⟨168 + r.val, by omega⟩ l) := by
  unfold bodyRun.sl.v287 bodyRun.sl.v284 bodyRun.sl.v283 bodyRun.sl.v282 bodyRun.sl.v281 bodyRun.sl.v280 bodyRun.sl.v27 bodyRun.sl.v278 bodyRun.sl.v25
  refine piece_at c i arg3 arg4 arg7 arg12 f3 f4 f7 f12 hT 168 (by decide) _ _ _ _ (fun r l => ?_) r l
  unfold bodyRun.sl.v276
  exact ld arg12.view (G12 c i arg12 f12) (off := ![168, 0]) (size := S8x128.size) (by decide) (show (Rect.unit (s := S640x128) ![168, 0] S8x128.size (by decide)).toLoadRect.shape.Idx from ix2 r l) (ix2 ⟨168 + r.val, by omega⟩ l) (fun a => by match a with | ⟨0, _⟩ => rfl | ⟨1, _⟩ => exact (Nat.zero_add _).symm)

theorem pc20 (hT : IsTab c arg12 (G12 c i arg12 f12)) (r : Fin 8) (l : Fin 128) : bodyRun.sl.v275 c i arg3 arg4 arg7 arg12 f3 f4 f7 f12 (ix2 r l) = stripV c arg7 f7 (bodyRun.sl.v14 c i arg3 arg4 f3 f4) (ix2 ⟨160 + r.val, by omega⟩ l) := by
  unfold bodyRun.sl.v275 bodyRun.sl.v272 bodyRun.sl.v271 bodyRun.sl.v270 bodyRun.sl.v269 bodyRun.sl.v268 bodyRun.sl.v27 bodyRun.sl.v266 bodyRun.sl.v25
  refine piece_at c i arg3 arg4 arg7 arg12 f3 f4 f7 f12 hT 160 (by decide) _ _ _ _ (fun r l => ?_) r l
  unfold bodyRun.sl.v264
  exact ld arg12.view (G12 c i arg12 f12) (off := ![160, 0]) (size := S8x128.size) (by decide) (show (Rect.unit (s := S640x128) ![160, 0] S8x128.size (by decide)).toLoadRect.shape.Idx from ix2 r l) (ix2 ⟨160 + r.val, by omega⟩ l) (fun a => by match a with | ⟨0, _⟩ => rfl | ⟨1, _⟩ => exact (Nat.zero_add _).symm)

theorem pc25 (hT : IsTab c arg12 (G12 c i arg12 f12)) (r : Fin 8) (l : Fin 128) : bodyRun.sl.v335 c i arg3 arg4 arg7 arg12 f3 f4 f7 f12 (ix2 r l) = stripV c arg7 f7 (bodyRun.sl.v14 c i arg3 arg4 f3 f4) (ix2 ⟨200 + r.val, by omega⟩ l) := by
  unfold bodyRun.sl.v335 bodyRun.sl.v332 bodyRun.sl.v331 bodyRun.sl.v330 bodyRun.sl.v329 bodyRun.sl.v328 bodyRun.sl.v27 bodyRun.sl.v326 bodyRun.sl.v25
  refine piece_at c i arg3 arg4 arg7 arg12 f3 f4 f7 f12 hT 200 (by decide) _ _ _ _ (fun r l => ?_) r l
  unfold bodyRun.sl.v324
  exact ld arg12.view (G12 c i arg12 f12) (off := ![200, 0]) (size := S8x128.size) (by decide) (show (Rect.unit (s := S640x128) ![200, 0] S8x128.size (by decide)).toLoadRect.shape.Idx from ix2 r l) (ix2 ⟨200 + r.val, by omega⟩ l) (fun a => by match a with | ⟨0, _⟩ => rfl | ⟨1, _⟩ => exact (Nat.zero_add _).symm)

theorem pc24 (hT : IsTab c arg12 (G12 c i arg12 f12)) (r : Fin 8) (l : Fin 128) : bodyRun.sl.v323 c i arg3 arg4 arg7 arg12 f3 f4 f7 f12 (ix2 r l) = stripV c arg7 f7 (bodyRun.sl.v14 c i arg3 arg4 f3 f4) (ix2 ⟨192 + r.val, by omega⟩ l) := by
  unfold bodyRun.sl.v323 bodyRun.sl.v320 bodyRun.sl.v319 bodyRun.sl.v318 bodyRun.sl.v317 bodyRun.sl.v316 bodyRun.sl.v27 bodyRun.sl.v314 bodyRun.sl.v25
  refine piece_at c i arg3 arg4 arg7 arg12 f3 f4 f7 f12 hT 192 (by decide) _ _ _ _ (fun r l => ?_) r l
  unfold bodyRun.sl.v312
  exact ld arg12.view (G12 c i arg12 f12) (off := ![192, 0]) (size := S8x128.size) (by decide) (show (Rect.unit (s := S640x128) ![192, 0] S8x128.size (by decide)).toLoadRect.shape.Idx from ix2 r l) (ix2 ⟨192 + r.val, by omega⟩ l) (fun a => by match a with | ⟨0, _⟩ => rfl | ⟨1, _⟩ => exact (Nat.zero_add _).symm)

theorem pc23 (hT : IsTab c arg12 (G12 c i arg12 f12)) (r : Fin 8) (l : Fin 128) : bodyRun.sl.v311 c i arg3 arg4 arg7 arg12 f3 f4 f7 f12 (ix2 r l) = stripV c arg7 f7 (bodyRun.sl.v14 c i arg3 arg4 f3 f4) (ix2 ⟨184 + r.val, by omega⟩ l) := by
  unfold bodyRun.sl.v311 bodyRun.sl.v308 bodyRun.sl.v307 bodyRun.sl.v306 bodyRun.sl.v305 bodyRun.sl.v304 bodyRun.sl.v27 bodyRun.sl.v302 bodyRun.sl.v25
  refine piece_at c i arg3 arg4 arg7 arg12 f3 f4 f7 f12 hT 184 (by decide) _ _ _ _ (fun r l => ?_) r l
  unfold bodyRun.sl.v300
  exact ld arg12.view (G12 c i arg12 f12) (off := ![184, 0]) (size := S8x128.size) (by decide) (show (Rect.unit (s := S640x128) ![184, 0] S8x128.size (by decide)).toLoadRect.shape.Idx from ix2 r l) (ix2 ⟨184 + r.val, by omega⟩ l) (fun a => by match a with | ⟨0, _⟩ => rfl | ⟨1, _⟩ => exact (Nat.zero_add _).symm)

theorem pc28 (hT : IsTab c arg12 (G12 c i arg12 f12)) (r : Fin 8) (l : Fin 128) : bodyRun.sl.v371 c i arg3 arg4 arg7 arg12 f3 f4 f7 f12 (ix2 r l) = stripV c arg7 f7 (bodyRun.sl.v14 c i arg3 arg4 f3 f4) (ix2 ⟨224 + r.val, by omega⟩ l) := by
  unfold bodyRun.sl.v371 bodyRun.sl.v368 bodyRun.sl.v367 bodyRun.sl.v366 bodyRun.sl.v365 bodyRun.sl.v364 bodyRun.sl.v27 bodyRun.sl.v362 bodyRun.sl.v25
  refine piece_at c i arg3 arg4 arg7 arg12 f3 f4 f7 f12 hT 224 (by decide) _ _ _ _ (fun r l => ?_) r l
  unfold bodyRun.sl.v360
  exact ld arg12.view (G12 c i arg12 f12) (off := ![224, 0]) (size := S8x128.size) (by decide) (show (Rect.unit (s := S640x128) ![224, 0] S8x128.size (by decide)).toLoadRect.shape.Idx from ix2 r l) (ix2 ⟨224 + r.val, by omega⟩ l) (fun a => by match a with | ⟨0, _⟩ => rfl | ⟨1, _⟩ => exact (Nat.zero_add _).symm)

theorem pc27 (hT : IsTab c arg12 (G12 c i arg12 f12)) (r : Fin 8) (l : Fin 128) : bodyRun.sl.v359 c i arg3 arg4 arg7 arg12 f3 f4 f7 f12 (ix2 r l) = stripV c arg7 f7 (bodyRun.sl.v14 c i arg3 arg4 f3 f4) (ix2 ⟨216 + r.val, by omega⟩ l) := by
  unfold bodyRun.sl.v359 bodyRun.sl.v356 bodyRun.sl.v355 bodyRun.sl.v354 bodyRun.sl.v353 bodyRun.sl.v352 bodyRun.sl.v27 bodyRun.sl.v350 bodyRun.sl.v25
  refine piece_at c i arg3 arg4 arg7 arg12 f3 f4 f7 f12 hT 216 (by decide) _ _ _ _ (fun r l => ?_) r l
  unfold bodyRun.sl.v348
  exact ld arg12.view (G12 c i arg12 f12) (off := ![216, 0]) (size := S8x128.size) (by decide) (show (Rect.unit (s := S640x128) ![216, 0] S8x128.size (by decide)).toLoadRect.shape.Idx from ix2 r l) (ix2 ⟨216 + r.val, by omega⟩ l) (fun a => by match a with | ⟨0, _⟩ => rfl | ⟨1, _⟩ => exact (Nat.zero_add _).symm)

theorem pc26 (hT : IsTab c arg12 (G12 c i arg12 f12)) (r : Fin 8) (l : Fin 128) : bodyRun.sl.v347 c i arg3 arg4 arg7 arg12 f3 f4 f7 f12 (ix2 r l) = stripV c arg7 f7 (bodyRun.sl.v14 c i arg3 arg4 f3 f4) (ix2 ⟨208 + r.val, by omega⟩ l) := by
  unfold bodyRun.sl.v347 bodyRun.sl.v344 bodyRun.sl.v343 bodyRun.sl.v342 bodyRun.sl.v341 bodyRun.sl.v340 bodyRun.sl.v27 bodyRun.sl.v338 bodyRun.sl.v25
  refine piece_at c i arg3 arg4 arg7 arg12 f3 f4 f7 f12 hT 208 (by decide) _ _ _ _ (fun r l => ?_) r l
  unfold bodyRun.sl.v336
  exact ld arg12.view (G12 c i arg12 f12) (off := ![208, 0]) (size := S8x128.size) (by decide) (show (Rect.unit (s := S640x128) ![208, 0] S8x128.size (by decide)).toLoadRect.shape.Idx from ix2 r l) (ix2 ⟨208 + r.val, by omega⟩ l) (fun a => by match a with | ⟨0, _⟩ => rfl | ⟨1, _⟩ => exact (Nat.zero_add _).symm)

theorem pc31 (hT : IsTab c arg12 (G12 c i arg12 f12)) (r : Fin 8) (l : Fin 128) : bodyRun.sl.v407 c i arg3 arg4 arg7 arg12 f3 f4 f7 f12 (ix2 r l) = stripV c arg7 f7 (bodyRun.sl.v14 c i arg3 arg4 f3 f4) (ix2 ⟨248 + r.val, by omega⟩ l) := by
  unfold bodyRun.sl.v407 bodyRun.sl.v404 bodyRun.sl.v403 bodyRun.sl.v402 bodyRun.sl.v401 bodyRun.sl.v400 bodyRun.sl.v27 bodyRun.sl.v398 bodyRun.sl.v25
  refine piece_at c i arg3 arg4 arg7 arg12 f3 f4 f7 f12 hT 248 (by decide) _ _ _ _ (fun r l => ?_) r l
  unfold bodyRun.sl.v396
  exact ld arg12.view (G12 c i arg12 f12) (off := ![248, 0]) (size := S8x128.size) (by decide) (show (Rect.unit (s := S640x128) ![248, 0] S8x128.size (by decide)).toLoadRect.shape.Idx from ix2 r l) (ix2 ⟨248 + r.val, by omega⟩ l) (fun a => by match a with | ⟨0, _⟩ => rfl | ⟨1, _⟩ => exact (Nat.zero_add _).symm)

theorem pc30 (hT : IsTab c arg12 (G12 c i arg12 f12)) (r : Fin 8) (l : Fin 128) : bodyRun.sl.v395 c i arg3 arg4 arg7 arg12 f3 f4 f7 f12 (ix2 r l) = stripV c arg7 f7 (bodyRun.sl.v14 c i arg3 arg4 f3 f4) (ix2 ⟨240 + r.val, by omega⟩ l) := by
  unfold bodyRun.sl.v395 bodyRun.sl.v392 bodyRun.sl.v391 bodyRun.sl.v390 bodyRun.sl.v389 bodyRun.sl.v388 bodyRun.sl.v27 bodyRun.sl.v386 bodyRun.sl.v25
  refine piece_at c i arg3 arg4 arg7 arg12 f3 f4 f7 f12 hT 240 (by decide) _ _ _ _ (fun r l => ?_) r l
  unfold bodyRun.sl.v384
  exact ld arg12.view (G12 c i arg12 f12) (off := ![240, 0]) (size := S8x128.size) (by decide) (show (Rect.unit (s := S640x128) ![240, 0] S8x128.size (by decide)).toLoadRect.shape.Idx from ix2 r l) (ix2 ⟨240 + r.val, by omega⟩ l) (fun a => by match a with | ⟨0, _⟩ => rfl | ⟨1, _⟩ => exact (Nat.zero_add _).symm)

theorem pc29 (hT : IsTab c arg12 (G12 c i arg12 f12)) (r : Fin 8) (l : Fin 128) : bodyRun.sl.v383 c i arg3 arg4 arg7 arg12 f3 f4 f7 f12 (ix2 r l) = stripV c arg7 f7 (bodyRun.sl.v14 c i arg3 arg4 f3 f4) (ix2 ⟨232 + r.val, by omega⟩ l) := by
  unfold bodyRun.sl.v383 bodyRun.sl.v380 bodyRun.sl.v379 bodyRun.sl.v378 bodyRun.sl.v377 bodyRun.sl.v376 bodyRun.sl.v27 bodyRun.sl.v374 bodyRun.sl.v25
  refine piece_at c i arg3 arg4 arg7 arg12 f3 f4 f7 f12 hT 232 (by decide) _ _ _ _ (fun r l => ?_) r l
  unfold bodyRun.sl.v372
  exact ld arg12.view (G12 c i arg12 f12) (off := ![232, 0]) (size := S8x128.size) (by decide) (show (Rect.unit (s := S640x128) ![232, 0] S8x128.size (by decide)).toLoadRect.shape.Idx from ix2 r l) (ix2 ⟨232 + r.val, by omega⟩ l) (fun a => by match a with | ⟨0, _⟩ => rfl | ⟨1, _⟩ => exact (Nat.zero_add _).symm)

theorem pc35 (hT : IsTab c arg12 (G12 c i arg12 f12)) (r : Fin 8) (l : Fin 128) : bodyRun.sl.v455 c i arg3 arg4 arg7 arg12 f3 f4 f7 f12 (ix2 r l) = stripV c arg7 f7 (bodyRun.sl.v14 c i arg3 arg4 f3 f4) (ix2 ⟨280 + r.val, by omega⟩ l) := by
  unfold bodyRun.sl.v455 bodyRun.sl.v452 bodyRun.sl.v451 bodyRun.sl.v450 bodyRun.sl.v449 bodyRun.sl.v448 bodyRun.sl.v27 bodyRun.sl.v446 bodyRun.sl.v25
  refine piece_at c i arg3 arg4 arg7 arg12 f3 f4 f7 f12 hT 280 (by decide) _ _ _ _ (fun r l => ?_) r l
  unfold bodyRun.sl.v444
  exact ld arg12.view (G12 c i arg12 f12) (off := ![280, 0]) (size := S8x128.size) (by decide) (show (Rect.unit (s := S640x128) ![280, 0] S8x128.size (by decide)).toLoadRect.shape.Idx from ix2 r l) (ix2 ⟨280 + r.val, by omega⟩ l) (fun a => by match a with | ⟨0, _⟩ => rfl | ⟨1, _⟩ => exact (Nat.zero_add _).symm)

theorem pc34 (hT : IsTab c arg12 (G12 c i arg12 f12)) (r : Fin 8) (l : Fin 128) : bodyRun.sl.v443 c i arg3 arg4 arg7 arg12 f3 f4 f7 f12 (ix2 r l) = stripV c arg7 f7 (bodyRun.sl.v14 c i arg3 arg4 f3 f4) (ix2 ⟨272 + r.val, by omega⟩ l) := by
  unfold bodyRun.sl.v443 bodyRun.sl.v440 bodyRun.sl.v439 bodyRun.sl.v438 bodyRun.sl.v437 bodyRun.sl.v436 bodyRun.sl.v27 bodyRun.sl.v434 bodyRun.sl.v25
  refine piece_at c i arg3 arg4 arg7 arg12 f3 f4 f7 f12 hT 272 (by decide) _ _ _ _ (fun r l => ?_) r l
  unfold bodyRun.sl.v432
  exact ld arg12.view (G12 c i arg12 f12) (off := ![272, 0]) (size := S8x128.size) (by decide) (show (Rect.unit (s := S640x128) ![272, 0] S8x128.size (by decide)).toLoadRect.shape.Idx from ix2 r l) (ix2 ⟨272 + r.val, by omega⟩ l) (fun a => by match a with | ⟨0, _⟩ => rfl | ⟨1, _⟩ => exact (Nat.zero_add _).symm)

theorem pc33 (hT : IsTab c arg12 (G12 c i arg12 f12)) (r : Fin 8) (l : Fin 128) : bodyRun.sl.v431 c i arg3 arg4 arg7 arg12 f3 f4 f7 f12 (ix2 r l) = stripV c arg7 f7 (bodyRun.sl.v14 c i arg3 arg4 f3 f4) (ix2 ⟨264 + r.val, by omega⟩ l) := by
  unfold bodyRun.sl.v431 bodyRun.sl.v428 bodyRun.sl.v427 bodyRun.sl.v426 bodyRun.sl.v425 bodyRun.sl.v424 bodyRun.sl.v27 bodyRun.sl.v422 bodyRun.sl.v25
  refine piece_at c i arg3 arg4 arg7 arg12 f3 f4 f7 f12 hT 264 (by decide) _ _ _ _ (fun r l => ?_) r l
  unfold bodyRun.sl.v420
  exact ld arg12.view (G12 c i arg12 f12) (off := ![264, 0]) (size := S8x128.size) (by decide) (show (Rect.unit (s := S640x128) ![264, 0] S8x128.size (by decide)).toLoadRect.shape.Idx from ix2 r l) (ix2 ⟨264 + r.val, by omega⟩ l) (fun a => by match a with | ⟨0, _⟩ => rfl | ⟨1, _⟩ => exact (Nat.zero_add _).symm)

theorem pc32 (hT : IsTab c arg12 (G12 c i arg12 f12)) (r : Fin 8) (l : Fin 128) : bodyRun.sl.v419 c i arg3 arg4 arg7 arg12 f3 f4 f7 f12 (ix2 r l) = stripV c arg7 f7 (bodyRun.sl.v14 c i arg3 arg4 f3 f4) (ix2 ⟨256 + r.val, by omega⟩ l) := by
  unfold bodyRun.sl.v419 bodyRun.sl.v416 bodyRun.sl.v415 bodyRun.sl.v414 bodyRun.sl.v413 bodyRun.sl.v412 bodyRun.sl.v27 bodyRun.sl.v410 bodyRun.sl.v25
  refine piece_at c i arg3 arg4 arg7 arg12 f3 f4 f7 f12 hT 256 (by decide) _ _ _ _ (fun r l => ?_) r l
  unfold bodyRun.sl.v408
  exact ld arg12.view (G12 c i arg12 f12) (off := ![256, 0]) (size := S8x128.size) (by decide) (show (Rect.unit (s := S640x128) ![256, 0] S8x128.size (by decide)).toLoadRect.shape.Idx from ix2 r l) (ix2 ⟨256 + r.val, by omega⟩ l) (fun a => by match a with | ⟨0, _⟩ => rfl | ⟨1, _⟩ => exact (Nat.zero_add _).symm)

theorem pc38 (hT : IsTab c arg12 (G12 c i arg12 f12)) (r : Fin 8) (l : Fin 128) : bodyRun.sl.v491 c i arg3 arg4 arg7 arg12 f3 f4 f7 f12 (ix2 r l) = stripV c arg7 f7 (bodyRun.sl.v14 c i arg3 arg4 f3 f4) (ix2 ⟨304 + r.val, by omega⟩ l) := by
  unfold bodyRun.sl.v491 bodyRun.sl.v488 bodyRun.sl.v487 bodyRun.sl.v486 bodyRun.sl.v485 bodyRun.sl.v484 bodyRun.sl.v27 bodyRun.sl.v482 bodyRun.sl.v25
  refine piece_at c i arg3 arg4 arg7 arg12 f3 f4 f7 f12 hT 304 (by decide) _ _ _ _ (fun r l => ?_) r l
  unfold bodyRun.sl.v480
  exact ld arg12.view (G12 c i arg12 f12) (off := ![304, 0]) (size := S8x128.size) (by decide) (show (Rect.unit (s := S640x128) ![304, 0] S8x128.size (by decide)).toLoadRect.shape.Idx from ix2 r l) (ix2 ⟨304 + r.val, by omega⟩ l) (fun a => by match a with | ⟨0, _⟩ => rfl | ⟨1, _⟩ => exact (Nat.zero_add _).symm)

theorem pc37 (hT : IsTab c arg12 (G12 c i arg12 f12)) (r : Fin 8) (l : Fin 128) : bodyRun.sl.v479 c i arg3 arg4 arg7 arg12 f3 f4 f7 f12 (ix2 r l) = stripV c arg7 f7 (bodyRun.sl.v14 c i arg3 arg4 f3 f4) (ix2 ⟨296 + r.val, by omega⟩ l) := by
  unfold bodyRun.sl.v479 bodyRun.sl.v476 bodyRun.sl.v475 bodyRun.sl.v474 bodyRun.sl.v473 bodyRun.sl.v472 bodyRun.sl.v27 bodyRun.sl.v470 bodyRun.sl.v25
  refine piece_at c i arg3 arg4 arg7 arg12 f3 f4 f7 f12 hT 296 (by decide) _ _ _ _ (fun r l => ?_) r l
  unfold bodyRun.sl.v468
  exact ld arg12.view (G12 c i arg12 f12) (off := ![296, 0]) (size := S8x128.size) (by decide) (show (Rect.unit (s := S640x128) ![296, 0] S8x128.size (by decide)).toLoadRect.shape.Idx from ix2 r l) (ix2 ⟨296 + r.val, by omega⟩ l) (fun a => by match a with | ⟨0, _⟩ => rfl | ⟨1, _⟩ => exact (Nat.zero_add _).symm)

theorem pc36 (hT : IsTab c arg12 (G12 c i arg12 f12)) (r : Fin 8) (l : Fin 128) : bodyRun.sl.v467 c i arg3 arg4 arg7 arg12 f3 f4 f7 f12 (ix2 r l) = stripV c arg7 f7 (bodyRun.sl.v14 c i arg3 arg4 f3 f4) (ix2 ⟨288 + r.val, by omega⟩ l) := by
  unfold bodyRun.sl.v467 bodyRun.sl.v464 bodyRun.sl.v463 bodyRun.sl.v462 bodyRun.sl.v461 bodyRun.sl.v460 bodyRun.sl.v27 bodyRun.sl.v458 bodyRun.sl.v25
  refine piece_at c i arg3 arg4 arg7 arg12 f3 f4 f7 f12 hT 288 (by decide) _ _ _ _ (fun r l => ?_) r l
  unfold bodyRun.sl.v456
  exact ld arg12.view (G12 c i arg12 f12) (off := ![288, 0]) (size := S8x128.size) (by decide) (show (Rect.unit (s := S640x128) ![288, 0] S8x128.size (by decide)).toLoadRect.shape.Idx from ix2 r l) (ix2 ⟨288 + r.val, by omega⟩ l) (fun a => by match a with | ⟨0, _⟩ => rfl | ⟨1, _⟩ => exact (Nat.zero_add _).symm)

theorem pc41 (hT : IsTab c arg12 (G12 c i arg12 f12)) (r : Fin 8) (l : Fin 128) : bodyRun.sl.v527 c i arg3 arg4 arg7 arg12 f3 f4 f7 f12 (ix2 r l) = stripV c arg7 f7 (bodyRun.sl.v14 c i arg3 arg4 f3 f4) (ix2 ⟨328 + r.val, by omega⟩ l) := by
  unfold bodyRun.sl.v527 bodyRun.sl.v524 bodyRun.sl.v523 bodyRun.sl.v522 bodyRun.sl.v521 bodyRun.sl.v520 bodyRun.sl.v27 bodyRun.sl.v518 bodyRun.sl.v25
  refine piece_at c i arg3 arg4 arg7 arg12 f3 f4 f7 f12 hT 328 (by decide) _ _ _ _ (fun r l => ?_) r l
  unfold bodyRun.sl.v516
  exact ld arg12.view (G12 c i arg12 f12) (off := ![328, 0]) (size := S8x128.size) (by decide) (show (Rect.unit (s := S640x128) ![328, 0] S8x128.size (by decide)).toLoadRect.shape.Idx from ix2 r l) (ix2 ⟨328 + r.val, by omega⟩ l) (fun a => by match a with | ⟨0, _⟩ => rfl | ⟨1, _⟩ => exact (Nat.zero_add _).symm)

theorem pc40 (hT : IsTab c arg12 (G12 c i arg12 f12)) (r : Fin 8) (l : Fin 128) : bodyRun.sl.v515 c i arg3 arg4 arg7 arg12 f3 f4 f7 f12 (ix2 r l) = stripV c arg7 f7 (bodyRun.sl.v14 c i arg3 arg4 f3 f4) (ix2 ⟨320 + r.val, by omega⟩ l) := by
  unfold bodyRun.sl.v515 bodyRun.sl.v512 bodyRun.sl.v511 bodyRun.sl.v510 bodyRun.sl.v509 bodyRun.sl.v508 bodyRun.sl.v27 bodyRun.sl.v506 bodyRun.sl.v25
  refine piece_at c i arg3 arg4 arg7 arg12 f3 f4 f7 f12 hT 320 (by decide) _ _ _ _ (fun r l => ?_) r l
  unfold bodyRun.sl.v504
  exact ld arg12.view (G12 c i arg12 f12) (off := ![320, 0]) (size := S8x128.size) (by decide) (show (Rect.unit (s := S640x128) ![320, 0] S8x128.size (by decide)).toLoadRect.shape.Idx from ix2 r l) (ix2 ⟨320 + r.val, by omega⟩ l) (fun a => by match a with | ⟨0, _⟩ => rfl | ⟨1, _⟩ => exact (Nat.zero_add _).symm)

theorem pc39 (hT : IsTab c arg12 (G12 c i arg12 f12)) (r : Fin 8) (l : Fin 128) : bodyRun.sl.v503 c i arg3 arg4 arg7 arg12 f3 f4 f7 f12 (ix2 r l) = stripV c arg7 f7 (bodyRun.sl.v14 c i arg3 arg4 f3 f4) (ix2 ⟨312 + r.val, by omega⟩ l) := by
  unfold bodyRun.sl.v503 bodyRun.sl.v500 bodyRun.sl.v499 bodyRun.sl.v498 bodyRun.sl.v497 bodyRun.sl.v496 bodyRun.sl.v27 bodyRun.sl.v494 bodyRun.sl.v25
  refine piece_at c i arg3 arg4 arg7 arg12 f3 f4 f7 f12 hT 312 (by decide) _ _ _ _ (fun r l => ?_) r l
  unfold bodyRun.sl.v
  exact ld arg12.view (G12 c i arg12 f12) (off := ![312, 0]) (size := S8x128.size) (by decide) (show (Rect.unit (s := S640x128) ![312, 0] S8x128.size (by decide)).toLoadRect.shape.Idx from ix2 r l) (ix2 ⟨312 + r.val, by omega⟩ l) (fun a => by match a with | ⟨0, _⟩ => rfl | ⟨1, _⟩ => exact (Nat.zero_add _).symm)

theorem pc44 (hT : IsTab c arg12 (G12 c i arg12 f12)) (r : Fin 8) (l : Fin 128) : bodyRun.sl.v563 c i arg3 arg4 arg7 arg12 f3 f4 f7 f12 (ix2 r l) = stripV c arg7 f7 (bodyRun.sl.v14 c i arg3 arg4 f3 f4) (ix2 ⟨352 + r.val, by omega⟩ l) := by
  unfold bodyRun.sl.v563 bodyRun.sl.v560 bodyRun.sl.v559 bodyRun.sl.v558 bodyRun.sl.v557 bodyRun.sl.v556 bodyRun.sl.v27 bodyRun.sl.v554 bodyRun.sl.v25
  refine piece_at c i arg3 arg4 arg7 arg12 f3 f4 f7 f12 hT 352 (by decide) _ _ _ _ (fun r l => ?_) r l
  unfold bodyRun.sl.v552
  exact ld arg12.view (G12 c i arg12 f12) (off := ![352, 0]) (size := S8x128.size) (by decide) (show (Rect.unit (s := S640x128) ![352, 0] S8x128.size (by decide)).toLoadRect.shape.Idx from ix2 r l) (ix2 ⟨352 + r.val, by omega⟩ l) (fun a => by match a with | ⟨0, _⟩ => rfl | ⟨1, _⟩ => exact (Nat.zero_add _).symm)

theorem pc43 (hT : IsTab c arg12 (G12 c i arg12 f12)) (r : Fin 8) (l : Fin 128) : bodyRun.sl.v551 c i arg3 arg4 arg7 arg12 f3 f4 f7 f12 (ix2 r l) = stripV c arg7 f7 (bodyRun.sl.v14 c i arg3 arg4 f3 f4) (ix2 ⟨344 + r.val, by omega⟩ l) := by
  unfold bodyRun.sl.v551 bodyRun.sl.v548 bodyRun.sl.v547 bodyRun.sl.v546 bodyRun.sl.v545 bodyRun.sl.v544 bodyRun.sl.v27 bodyRun.sl.v542 bodyRun.sl.v25
  refine piece_at c i arg3 arg4 arg7 arg12 f3 f4 f7 f12 hT 344 (by decide) _ _ _ _ (fun r l => ?_) r l
  unfold bodyRun.sl.v540
  exact ld arg12.view (G12 c i arg12 f12) (off := ![344, 0]) (size := S8x128.size) (by decide) (show (Rect.unit (s := S640x128) ![344, 0] S8x128.size (by decide)).toLoadRect.shape.Idx from ix2 r l) (ix2 ⟨344 + r.val, by omega⟩ l) (fun a => by match a with | ⟨0, _⟩ => rfl | ⟨1, _⟩ => exact (Nat.zero_add _).symm)

theorem pc42 (hT : IsTab c arg12 (G12 c i arg12 f12)) (r : Fin 8) (l : Fin 128) : bodyRun.sl.v539 c i arg3 arg4 arg7 arg12 f3 f4 f7 f12 (ix2 r l) = stripV c arg7 f7 (bodyRun.sl.v14 c i arg3 arg4 f3 f4) (ix2 ⟨336 + r.val, by omega⟩ l) := by
  unfold bodyRun.sl.v539 bodyRun.sl.v536 bodyRun.sl.v535 bodyRun.sl.v534 bodyRun.sl.v533 bodyRun.sl.v532 bodyRun.sl.v27 bodyRun.sl.v530 bodyRun.sl.v25
  refine piece_at c i arg3 arg4 arg7 arg12 f3 f4 f7 f12 hT 336 (by decide) _ _ _ _ (fun r l => ?_) r l
  unfold bodyRun.sl.v528
  exact ld arg12.view (G12 c i arg12 f12) (off := ![336, 0]) (size := S8x128.size) (by decide) (show (Rect.unit (s := S640x128) ![336, 0] S8x128.size (by decide)).toLoadRect.shape.Idx from ix2 r l) (ix2 ⟨336 + r.val, by omega⟩ l) (fun a => by match a with | ⟨0, _⟩ => rfl | ⟨1, _⟩ => exact (Nat.zero_add _).symm)

theorem pc47 (hT : IsTab c arg12 (G12 c i arg12 f12)) (r : Fin 8) (l : Fin 128) : bodyRun.sl.v599 c i arg3 arg4 arg7 arg12 f3 f4 f7 f12 (ix2 r l) = stripV c arg7 f7 (bodyRun.sl.v14 c i arg3 arg4 f3 f4) (ix2 ⟨376 + r.val, by omega⟩ l) := by
  unfold bodyRun.sl.v599 bodyRun.sl.v596 bodyRun.sl.v595 bodyRun.sl.v594 bodyRun.sl.v593 bodyRun.sl.v592 bodyRun.sl.v27 bodyRun.sl.v590 bodyRun.sl.v25
  refine piece_at c i arg3 arg4 arg7 arg12 f3 f4 f7 f12 hT 376 (by decide) _ _ _ _ (fun r l => ?_) r l
  unfold bodyRun.sl.v588
  exact ld arg12.view (G12 c i arg12 f12) (off := ![376, 0]) (size := S8x128.size) (by decide) (show (Rect.unit (s := S640x128) ![376, 0] S8x128.size (by decide)).toLoadRect.shape.Idx from ix2 r l) (ix2 ⟨376 + r.val, by omega⟩ l) (fun a => by match a with | ⟨0, _⟩ => rfl | ⟨1, _⟩ => exact (Nat.zero_add _).symm)

theorem pc46 (hT : IsTab c arg12 (G12 c i arg12 f12)) (r : Fin 8) (l : Fin 128) : bodyRun.sl.v587 c i arg3 arg4 arg7 arg12 f3 f4 f7 f12 (ix2 r l) = stripV c arg7 f7 (bodyRun.sl.v14 c i arg3 arg4 f3 f4) (ix2 ⟨368 + r.val, by omega⟩ l) := by
  unfold bodyRun.sl.v587 bodyRun.sl.v584 bodyRun.sl.v583 bodyRun.sl.v582 bodyRun.sl.v581 bodyRun.sl.v580 bodyRun.sl.v27 bodyRun.sl.v578 bodyRun.sl.v25
  refine piece_at c i arg3 arg4 arg7 arg12 f3 f4 f7 f12 hT 368 (by decide) _ _ _ _ (fun r l => ?_) r l
  unfold bodyRun.sl.v576
  exact ld arg12.view (G12 c i arg12 f12) (off := ![368, 0]) (size := S8x128.size) (by decide) (show (Rect.unit (s := S640x128) ![368, 0] S8x128.size (by decide)).toLoadRect.shape.Idx from ix2 r l) (ix2 ⟨368 + r.val, by omega⟩ l) (fun a => by match a with | ⟨0, _⟩ => rfl | ⟨1, _⟩ => exact (Nat.zero_add _).symm)

theorem pc45 (hT : IsTab c arg12 (G12 c i arg12 f12)) (r : Fin 8) (l : Fin 128) : bodyRun.sl.v575 c i arg3 arg4 arg7 arg12 f3 f4 f7 f12 (ix2 r l) = stripV c arg7 f7 (bodyRun.sl.v14 c i arg3 arg4 f3 f4) (ix2 ⟨360 + r.val, by omega⟩ l) := by
  unfold bodyRun.sl.v575 bodyRun.sl.v572 bodyRun.sl.v571 bodyRun.sl.v570 bodyRun.sl.v569 bodyRun.sl.v568 bodyRun.sl.v27 bodyRun.sl.v566 bodyRun.sl.v25
  refine piece_at c i arg3 arg4 arg7 arg12 f3 f4 f7 f12 hT 360 (by decide) _ _ _ _ (fun r l => ?_) r l
  unfold bodyRun.sl.v564
  exact ld arg12.view (G12 c i arg12 f12) (off := ![360, 0]) (size := S8x128.size) (by decide) (show (Rect.unit (s := S640x128) ![360, 0] S8x128.size (by decide)).toLoadRect.shape.Idx from ix2 r l) (ix2 ⟨360 + r.val, by omega⟩ l) (fun a => by match a with | ⟨0, _⟩ => rfl | ⟨1, _⟩ => exact (Nat.zero_add _).symm)

theorem pc50 (hT : IsTab c arg12 (G12 c i arg12 f12)) (r : Fin 8) (l : Fin 128) : bodyRun.sl.v635 c i arg3 arg4 arg7 arg12 f3 f4 f7 f12 (ix2 r l) = stripV c arg7 f7 (bodyRun.sl.v14 c i arg3 arg4 f3 f4) (ix2 ⟨400 + r.val, by omega⟩ l) := by
  unfold bodyRun.sl.v635 bodyRun.sl.v632 bodyRun.sl.v631 bodyRun.sl.v630 bodyRun.sl.v629 bodyRun.sl.v628 bodyRun.sl.v27 bodyRun.sl.v626 bodyRun.sl.v25
  refine piece_at c i arg3 arg4 arg7 arg12 f3 f4 f7 f12 hT 400 (by decide) _ _ _ _ (fun r l => ?_) r l
  unfold bodyRun.sl.v624
  exact ld arg12.view (G12 c i arg12 f12) (off := ![400, 0]) (size := S8x128.size) (by decide) (show (Rect.unit (s := S640x128) ![400, 0] S8x128.size (by decide)).toLoadRect.shape.Idx from ix2 r l) (ix2 ⟨400 + r.val, by omega⟩ l) (fun a => by match a with | ⟨0, _⟩ => rfl | ⟨1, _⟩ => exact (Nat.zero_add _).symm)

theorem pc49 (hT : IsTab c arg12 (G12 c i arg12 f12)) (r : Fin 8) (l : Fin 128) : bodyRun.sl.v623 c i arg3 arg4 arg7 arg12 f3 f4 f7 f12 (ix2 r l) = stripV c arg7 f7 (bodyRun.sl.v14 c i arg3 arg4 f3 f4) (ix2 ⟨392 + r.val, by omega⟩ l) := by
  unfold bodyRun.sl.v623 bodyRun.sl.v620 bodyRun.sl.v619 bodyRun.sl.v618 bodyRun.sl.v617 bodyRun.sl.v616 bodyRun.sl.v27 bodyRun.sl.v614 bodyRun.sl.v25
  refine piece_at c i arg3 arg4 arg7 arg12 f3 f4 f7 f12 hT 392 (by decide) _ _ _ _ (fun r l => ?_) r l
  unfold bodyRun.sl.v612
  exact ld arg12.view (G12 c i arg12 f12) (off := ![392, 0]) (size := S8x128.size) (by decide) (show (Rect.unit (s := S640x128) ![392, 0] S8x128.size (by decide)).toLoadRect.shape.Idx from ix2 r l) (ix2 ⟨392 + r.val, by omega⟩ l) (fun a => by match a with | ⟨0, _⟩ => rfl | ⟨1, _⟩ => exact (Nat.zero_add _).symm)

theorem pc48 (hT : IsTab c arg12 (G12 c i arg12 f12)) (r : Fin 8) (l : Fin 128) : bodyRun.sl.v611 c i arg3 arg4 arg7 arg12 f3 f4 f7 f12 (ix2 r l) = stripV c arg7 f7 (bodyRun.sl.v14 c i arg3 arg4 f3 f4) (ix2 ⟨384 + r.val, by omega⟩ l) := by
  unfold bodyRun.sl.v611 bodyRun.sl.v608 bodyRun.sl.v607 bodyRun.sl.v606 bodyRun.sl.v605 bodyRun.sl.v604 bodyRun.sl.v27 bodyRun.sl.v602 bodyRun.sl.v25
  refine piece_at c i arg3 arg4 arg7 arg12 f3 f4 f7 f12 hT 384 (by decide) _ _ _ _ (fun r l => ?_) r l
  unfold bodyRun.sl.v600
  exact ld arg12.view (G12 c i arg12 f12) (off := ![384, 0]) (size := S8x128.size) (by decide) (show (Rect.unit (s := S640x128) ![384, 0] S8x128.size (by decide)).toLoadRect.shape.Idx from ix2 r l) (ix2 ⟨384 + r.val, by omega⟩ l) (fun a => by match a with | ⟨0, _⟩ => rfl | ⟨1, _⟩ => exact (Nat.zero_add _).symm)

theorem pc53 (hT : IsTab c arg12 (G12 c i arg12 f12)) (r : Fin 8) (l : Fin 128) : bodyRun.sl.v671 c i arg3 arg4 arg7 arg12 f3 f4 f7 f12 (ix2 r l) = stripV c arg7 f7 (bodyRun.sl.v14 c i arg3 arg4 f3 f4) (ix2 ⟨424 + r.val, by omega⟩ l) := by
  unfold bodyRun.sl.v671 bodyRun.sl.v668 bodyRun.sl.v667 bodyRun.sl.v666 bodyRun.sl.v665 bodyRun.sl.v664 bodyRun.sl.v27 bodyRun.sl.v662 bodyRun.sl.v25
  refine piece_at c i arg3 arg4 arg7 arg12 f3 f4 f7 f12 hT 424 (by decide) _ _ _ _ (fun r l => ?_) r l
  unfold bodyRun.sl.v660
  exact ld arg12.view (G12 c i arg12 f12) (off := ![424, 0]) (size := S8x128.size) (by decide) (show (Rect.unit (s := S640x128) ![424, 0] S8x128.size (by decide)).toLoadRect.shape.Idx from ix2 r l) (ix2 ⟨424 + r.val, by omega⟩ l) (fun a => by match a with | ⟨0, _⟩ => rfl | ⟨1, _⟩ => exact (Nat.zero_add _).symm)

theorem pc52 (hT : IsTab c arg12 (G12 c i arg12 f12)) (r : Fin 8) (l : Fin 128) : bodyRun.sl.v659 c i arg3 arg4 arg7 arg12 f3 f4 f7 f12 (ix2 r l) = stripV c arg7 f7 (bodyRun.sl.v14 c i arg3 arg4 f3 f4) (ix2 ⟨416 + r.val, by omega⟩ l) := by
  unfold bodyRun.sl.v659 bodyRun.sl.v656 bodyRun.sl.v655 bodyRun.sl.v654 bodyRun.sl.v653 bodyRun.sl.v652 bodyRun.sl.v27 bodyRun.sl.v650 bodyRun.sl.v25
  refine piece_at c i arg3 arg4 arg7 arg12 f3 f4 f7 f12 hT 416 (by decide) _ _ _ _ (fun r l => ?_) r l
  unfold bodyRun.sl.v648
  exact ld arg12.view (G12 c i arg12 f12) (off := ![416, 0]) (size := S8x128.size) (by decide) (show (Rect.unit (s := S640x128) ![416, 0] S8x128.size (by decide)).toLoadRect.shape.Idx from ix2 r l) (ix2 ⟨416 + r.val, by omega⟩ l) (fun a => by match a with | ⟨0, _⟩ => rfl | ⟨1, _⟩ => exact (Nat.zero_add _).symm)

theorem pc51 (hT : IsTab c arg12 (G12 c i arg12 f12)) (r : Fin 8) (l : Fin 128) : bodyRun.sl.v647 c i arg3 arg4 arg7 arg12 f3 f4 f7 f12 (ix2 r l) = stripV c arg7 f7 (bodyRun.sl.v14 c i arg3 arg4 f3 f4) (ix2 ⟨408 + r.val, by omega⟩ l) := by
  unfold bodyRun.sl.v647 bodyRun.sl.v644 bodyRun.sl.v643 bodyRun.sl.v642 bodyRun.sl.v641 bodyRun.sl.v640 bodyRun.sl.v27 bodyRun.sl.v638 bodyRun.sl.v25
  refine piece_at c i arg3 arg4 arg7 arg12 f3 f4 f7 f12 hT 408 (by decide) _ _ _ _ (fun r l => ?_) r l
  unfold bodyRun.sl.v636
  exact ld arg12.view (G12 c i arg12 f12) (off := ![408, 0]) (size := S8x128.size) (by decide) (show (Rect.unit (s := S640x128) ![408, 0] S8x128.size (by decide)).toLoadRect.shape.Idx from ix2 r l) (ix2 ⟨408 + r.val, by omega⟩ l) (fun a => by match a with | ⟨0, _⟩ => rfl | ⟨1, _⟩ => exact (Nat.zero_add _).symm)

theorem pc57 (hT : IsTab c arg12 (G12 c i arg12 f12)) (r : Fin 8) (l : Fin 128) : bodyRun.sl.v719 c i arg3 arg4 arg7 arg12 f3 f4 f7 f12 (ix2 r l) = stripV c arg7 f7 (bodyRun.sl.v14 c i arg3 arg4 f3 f4) (ix2 ⟨456 + r.val, by omega⟩ l) := by
  unfold bodyRun.sl.v719 bodyRun.sl.v716 bodyRun.sl.v715 bodyRun.sl.v714 bodyRun.sl.v713 bodyRun.sl.v712 bodyRun.sl.v27 bodyRun.sl.v710 bodyRun.sl.v25
  refine piece_at c i arg3 arg4 arg7 arg12 f3 f4 f7 f12 hT 456 (by decide) _ _ _ _ (fun r l => ?_) r l
  unfold bodyRun.sl.v708
  exact ld arg12.view (G12 c i arg12 f12) (off := ![456, 0]) (size := S8x128.size) (by decide) (show (Rect.unit (s := S640x128) ![456, 0] S8x128.size (by decide)).toLoadRect.shape.Idx from ix2 r l) (ix2 ⟨456 + r.val, by omega⟩ l) (fun a => by match a with | ⟨0, _⟩ => rfl | ⟨1, _⟩ => exact (Nat.zero_add _).symm)

theorem pc56 (hT : IsTab c arg12 (G12 c i arg12 f12)) (r : Fin 8) (l : Fin 128) : bodyRun.sl.v707 c i arg3 arg4 arg7 arg12 f3 f4 f7 f12 (ix2 r l) = stripV c arg7 f7 (bodyRun.sl.v14 c i arg3 arg4 f3 f4) (ix2 ⟨448 + r.val, by omega⟩ l) := by
  unfold bodyRun.sl.v707 bodyRun.sl.v704 bodyRun.sl.v703 bodyRun.sl.v702 bodyRun.sl.v701 bodyRun.sl.v700 bodyRun.sl.v27 bodyRun.sl.v698 bodyRun.sl.v25
  refine piece_at c i arg3 arg4 arg7 arg12 f3 f4 f7 f12 hT 448 (by decide) _ _ _ _ (fun r l => ?_) r l
  unfold bodyRun.sl.v696
  exact ld arg12.view (G12 c i arg12 f12) (off := ![448, 0]) (size := S8x128.size) (by decide) (show (Rect.unit (s := S640x128) ![448, 0] S8x128.size (by decide)).toLoadRect.shape.Idx from ix2 r l) (ix2 ⟨448 + r.val, by omega⟩ l) (fun a => by match a with | ⟨0, _⟩ => rfl | ⟨1, _⟩ => exact (Nat.zero_add _).symm)

theorem pc55 (hT : IsTab c arg12 (G12 c i arg12 f12)) (r : Fin 8) (l : Fin 128) : bodyRun.sl.v695 c i arg3 arg4 arg7 arg12 f3 f4 f7 f12 (ix2 r l) = stripV c arg7 f7 (bodyRun.sl.v14 c i arg3 arg4 f3 f4) (ix2 ⟨440 + r.val, by omega⟩ l) := by
  unfold bodyRun.sl.v695 bodyRun.sl.v692 bodyRun.sl.v691 bodyRun.sl.v690 bodyRun.sl.v689 bodyRun.sl.v688 bodyRun.sl.v27 bodyRun.sl.v686 bodyRun.sl.v25
  refine piece_at c i arg3 arg4 arg7 arg12 f3 f4 f7 f12 hT 440 (by decide) _ _ _ _ (fun r l => ?_) r l
  unfold bodyRun.sl.v684
  exact ld arg12.view (G12 c i arg12 f12) (off := ![440, 0]) (size := S8x128.size) (by decide) (show (Rect.unit (s := S640x128) ![440, 0] S8x128.size (by decide)).toLoadRect.shape.Idx from ix2 r l) (ix2 ⟨440 + r.val, by omega⟩ l) (fun a => by match a with | ⟨0, _⟩ => rfl | ⟨1, _⟩ => exact (Nat.zero_add _).symm)

theorem pc54 (hT : IsTab c arg12 (G12 c i arg12 f12)) (r : Fin 8) (l : Fin 128) : bodyRun.sl.v683 c i arg3 arg4 arg7 arg12 f3 f4 f7 f12 (ix2 r l) = stripV c arg7 f7 (bodyRun.sl.v14 c i arg3 arg4 f3 f4) (ix2 ⟨432 + r.val, by omega⟩ l) := by
  unfold bodyRun.sl.v683 bodyRun.sl.v680 bodyRun.sl.v679 bodyRun.sl.v678 bodyRun.sl.v677 bodyRun.sl.v676 bodyRun.sl.v27 bodyRun.sl.v674 bodyRun.sl.v25
  refine piece_at c i arg3 arg4 arg7 arg12 f3 f4 f7 f12 hT 432 (by decide) _ _ _ _ (fun r l => ?_) r l
  unfold bodyRun.sl.v672
  exact ld arg12.view (G12 c i arg12 f12) (off := ![432, 0]) (size := S8x128.size) (by decide) (show (Rect.unit (s := S640x128) ![432, 0] S8x128.size (by decide)).toLoadRect.shape.Idx from ix2 r l) (ix2 ⟨432 + r.val, by omega⟩ l) (fun a => by match a with | ⟨0, _⟩ => rfl | ⟨1, _⟩ => exact (Nat.zero_add _).symm)

theorem pc60 (hT : IsTab c arg12 (G12 c i arg12 f12)) (r : Fin 8) (l : Fin 128) : bodyRun.sl.v755 c i arg3 arg4 arg7 arg12 f3 f4 f7 f12 (ix2 r l) = stripV c arg7 f7 (bodyRun.sl.v14 c i arg3 arg4 f3 f4) (ix2 ⟨480 + r.val, by omega⟩ l) := by
  unfold bodyRun.sl.v755 bodyRun.sl.v752 bodyRun.sl.v751 bodyRun.sl.v750 bodyRun.sl.v749 bodyRun.sl.v748 bodyRun.sl.v27 bodyRun.sl.v746 bodyRun.sl.v25
  refine piece_at c i arg3 arg4 arg7 arg12 f3 f4 f7 f12 hT 480 (by decide) _ _ _ _ (fun r l => ?_) r l
  unfold bodyRun.sl.v744
  exact ld arg12.view (G12 c i arg12 f12) (off := ![480, 0]) (size := S8x128.size) (by decide) (show (Rect.unit (s := S640x128) ![480, 0] S8x128.size (by decide)).toLoadRect.shape.Idx from ix2 r l) (ix2 ⟨480 + r.val, by omega⟩ l) (fun a => by match a with | ⟨0, _⟩ => rfl | ⟨1, _⟩ => exact (Nat.zero_add _).symm)

theorem pc59 (hT : IsTab c arg12 (G12 c i arg12 f12)) (r : Fin 8) (l : Fin 128) : bodyRun.sl.v743 c i arg3 arg4 arg7 arg12 f3 f4 f7 f12 (ix2 r l) = stripV c arg7 f7 (bodyRun.sl.v14 c i arg3 arg4 f3 f4) (ix2 ⟨472 + r.val, by omega⟩ l) := by
  unfold bodyRun.sl.v743 bodyRun.sl.v740 bodyRun.sl.v739 bodyRun.sl.v738 bodyRun.sl.v737 bodyRun.sl.v736 bodyRun.sl.v27 bodyRun.sl.v734 bodyRun.sl.v25
  refine piece_at c i arg3 arg4 arg7 arg12 f3 f4 f7 f12 hT 472 (by decide) _ _ _ _ (fun r l => ?_) r l
  unfold bodyRun.sl.v732
  exact ld arg12.view (G12 c i arg12 f12) (off := ![472, 0]) (size := S8x128.size) (by decide) (show (Rect.unit (s := S640x128) ![472, 0] S8x128.size (by decide)).toLoadRect.shape.Idx from ix2 r l) (ix2 ⟨472 + r.val, by omega⟩ l) (fun a => by match a with | ⟨0, _⟩ => rfl | ⟨1, _⟩ => exact (Nat.zero_add _).symm)

theorem pc58 (hT : IsTab c arg12 (G12 c i arg12 f12)) (r : Fin 8) (l : Fin 128) : bodyRun.sl.v731 c i arg3 arg4 arg7 arg12 f3 f4 f7 f12 (ix2 r l) = stripV c arg7 f7 (bodyRun.sl.v14 c i arg3 arg4 f3 f4) (ix2 ⟨464 + r.val, by omega⟩ l) := by
  unfold bodyRun.sl.v731 bodyRun.sl.v728 bodyRun.sl.v727 bodyRun.sl.v726 bodyRun.sl.v725 bodyRun.sl.v724 bodyRun.sl.v27 bodyRun.sl.v722 bodyRun.sl.v25
  refine piece_at c i arg3 arg4 arg7 arg12 f3 f4 f7 f12 hT 464 (by decide) _ _ _ _ (fun r l => ?_) r l
  unfold bodyRun.sl.v720
  exact ld arg12.view (G12 c i arg12 f12) (off := ![464, 0]) (size := S8x128.size) (by decide) (show (Rect.unit (s := S640x128) ![464, 0] S8x128.size (by decide)).toLoadRect.shape.Idx from ix2 r l) (ix2 ⟨464 + r.val, by omega⟩ l) (fun a => by match a with | ⟨0, _⟩ => rfl | ⟨1, _⟩ => exact (Nat.zero_add _).symm)

theorem pc63 (hT : IsTab c arg12 (G12 c i arg12 f12)) (r : Fin 8) (l : Fin 128) : bodyRun.sl.v791 c i arg3 arg4 arg7 arg12 f3 f4 f7 f12 (ix2 r l) = stripV c arg7 f7 (bodyRun.sl.v14 c i arg3 arg4 f3 f4) (ix2 ⟨504 + r.val, by omega⟩ l) := by
  unfold bodyRun.sl.v791 bodyRun.sl.v788 bodyRun.sl.v787 bodyRun.sl.v786 bodyRun.sl.v785 bodyRun.sl.v784 bodyRun.sl.v27 bodyRun.sl.v782 bodyRun.sl.v25
  refine piece_at c i arg3 arg4 arg7 arg12 f3 f4 f7 f12 hT 504 (by decide) _ _ _ _ (fun r l => ?_) r l
  unfold bodyRun.sl.v780
  exact ld arg12.view (G12 c i arg12 f12) (off := ![504, 0]) (size := S8x128.size) (by decide) (show (Rect.unit (s := S640x128) ![504, 0] S8x128.size (by decide)).toLoadRect.shape.Idx from ix2 r l) (ix2 ⟨504 + r.val, by omega⟩ l) (fun a => by match a with | ⟨0, _⟩ => rfl | ⟨1, _⟩ => exact (Nat.zero_add _).symm)

theorem pc62 (hT : IsTab c arg12 (G12 c i arg12 f12)) (r : Fin 8) (l : Fin 128) : bodyRun.sl.v779 c i arg3 arg4 arg7 arg12 f3 f4 f7 f12 (ix2 r l) = stripV c arg7 f7 (bodyRun.sl.v14 c i arg3 arg4 f3 f4) (ix2 ⟨496 + r.val, by omega⟩ l) := by
  unfold bodyRun.sl.v779 bodyRun.sl.v776 bodyRun.sl.v775 bodyRun.sl.v774 bodyRun.sl.v773 bodyRun.sl.v772 bodyRun.sl.v27 bodyRun.sl.v770 bodyRun.sl.v25
  refine piece_at c i arg3 arg4 arg7 arg12 f3 f4 f7 f12 hT 496 (by decide) _ _ _ _ (fun r l => ?_) r l
  unfold bodyRun.sl.v768
  exact ld arg12.view (G12 c i arg12 f12) (off := ![496, 0]) (size := S8x128.size) (by decide) (show (Rect.unit (s := S640x128) ![496, 0] S8x128.size (by decide)).toLoadRect.shape.Idx from ix2 r l) (ix2 ⟨496 + r.val, by omega⟩ l) (fun a => by match a with | ⟨0, _⟩ => rfl | ⟨1, _⟩ => exact (Nat.zero_add _).symm)

theorem pc61 (hT : IsTab c arg12 (G12 c i arg12 f12)) (r : Fin 8) (l : Fin 128) : bodyRun.sl.v767 c i arg3 arg4 arg7 arg12 f3 f4 f7 f12 (ix2 r l) = stripV c arg7 f7 (bodyRun.sl.v14 c i arg3 arg4 f3 f4) (ix2 ⟨488 + r.val, by omega⟩ l) := by
  unfold bodyRun.sl.v767 bodyRun.sl.v764 bodyRun.sl.v763 bodyRun.sl.v762 bodyRun.sl.v761 bodyRun.sl.v760 bodyRun.sl.v27 bodyRun.sl.v758 bodyRun.sl.v25
  refine piece_at c i arg3 arg4 arg7 arg12 f3 f4 f7 f12 hT 488 (by decide) _ _ _ _ (fun r l => ?_) r l
  unfold bodyRun.sl.v756
  exact ld arg12.view (G12 c i arg12 f12) (off := ![488, 0]) (size := S8x128.size) (by decide) (show (Rect.unit (s := S640x128) ![488, 0] S8x128.size (by decide)).toLoadRect.shape.Idx from ix2 r l) (ix2 ⟨488 + r.val, by omega⟩ l) (fun a => by match a with | ⟨0, _⟩ => rfl | ⟨1, _⟩ => exact (Nat.zero_add _).symm)

theorem pc66 (hT : IsTab c arg12 (G12 c i arg12 f12)) (r : Fin 8) (l : Fin 128) : bodyRun.sl.v827 c i arg3 arg4 arg7 arg12 f3 f4 f7 f12 (ix2 r l) = stripV c arg7 f7 (bodyRun.sl.v14 c i arg3 arg4 f3 f4) (ix2 ⟨528 + r.val, by omega⟩ l) := by
  unfold bodyRun.sl.v827 bodyRun.sl.v824 bodyRun.sl.v823 bodyRun.sl.v822 bodyRun.sl.v821 bodyRun.sl.v820 bodyRun.sl.v27 bodyRun.sl.v818 bodyRun.sl.v25
  refine piece_at c i arg3 arg4 arg7 arg12 f3 f4 f7 f12 hT 528 (by decide) _ _ _ _ (fun r l => ?_) r l
  unfold bodyRun.sl.v816
  exact ld arg12.view (G12 c i arg12 f12) (off := ![528, 0]) (size := S8x128.size) (by decide) (show (Rect.unit (s := S640x128) ![528, 0] S8x128.size (by decide)).toLoadRect.shape.Idx from ix2 r l) (ix2 ⟨528 + r.val, by omega⟩ l) (fun a => by match a with | ⟨0, _⟩ => rfl | ⟨1, _⟩ => exact (Nat.zero_add _).symm)

theorem pc65 (hT : IsTab c arg12 (G12 c i arg12 f12)) (r : Fin 8) (l : Fin 128) : bodyRun.sl.v815 c i arg3 arg4 arg7 arg12 f3 f4 f7 f12 (ix2 r l) = stripV c arg7 f7 (bodyRun.sl.v14 c i arg3 arg4 f3 f4) (ix2 ⟨520 + r.val, by omega⟩ l) := by
  unfold bodyRun.sl.v815 bodyRun.sl.v812 bodyRun.sl.v811 bodyRun.sl.v810 bodyRun.sl.v809 bodyRun.sl.v808 bodyRun.sl.v27 bodyRun.sl.v806 bodyRun.sl.v25
  refine piece_at c i arg3 arg4 arg7 arg12 f3 f4 f7 f12 hT 520 (by decide) _ _ _ _ (fun r l => ?_) r l
  unfold bodyRun.sl.v804
  exact ld arg12.view (G12 c i arg12 f12) (off := ![520, 0]) (size := S8x128.size) (by decide) (show (Rect.unit (s := S640x128) ![520, 0] S8x128.size (by decide)).toLoadRect.shape.Idx from ix2 r l) (ix2 ⟨520 + r.val, by omega⟩ l) (fun a => by match a with | ⟨0, _⟩ => rfl | ⟨1, _⟩ => exact (Nat.zero_add _).symm)

theorem pc64 (hT : IsTab c arg12 (G12 c i arg12 f12)) (r : Fin 8) (l : Fin 128) : bodyRun.sl.v803 c i arg3 arg4 arg7 arg12 f3 f4 f7 f12 (ix2 r l) = stripV c arg7 f7 (bodyRun.sl.v14 c i arg3 arg4 f3 f4) (ix2 ⟨512 + r.val, by omega⟩ l) := by
  unfold bodyRun.sl.v803 bodyRun.sl.v800 bodyRun.sl.v799 bodyRun.sl.v798 bodyRun.sl.v797 bodyRun.sl.v796 bodyRun.sl.v27 bodyRun.sl.v794 bodyRun.sl.v25
  refine piece_at c i arg3 arg4 arg7 arg12 f3 f4 f7 f12 hT 512 (by decide) _ _ _ _ (fun r l => ?_) r l
  unfold bodyRun.sl.v792
  exact ld arg12.view (G12 c i arg12 f12) (off := ![512, 0]) (size := S8x128.size) (by decide) (show (Rect.unit (s := S640x128) ![512, 0] S8x128.size (by decide)).toLoadRect.shape.Idx from ix2 r l) (ix2 ⟨512 + r.val, by omega⟩ l) (fun a => by match a with | ⟨0, _⟩ => rfl | ⟨1, _⟩ => exact (Nat.zero_add _).symm)

theorem pc69 (hT : IsTab c arg12 (G12 c i arg12 f12)) (r : Fin 8) (l : Fin 128) : bodyRun.sl.v863 c i arg3 arg4 arg7 arg12 f3 f4 f7 f12 (ix2 r l) = stripV c arg7 f7 (bodyRun.sl.v14 c i arg3 arg4 f3 f4) (ix2 ⟨552 + r.val, by omega⟩ l) := by
  unfold bodyRun.sl.v863 bodyRun.sl.v860 bodyRun.sl.v859 bodyRun.sl.v858 bodyRun.sl.v857 bodyRun.sl.v856 bodyRun.sl.v27 bodyRun.sl.v854 bodyRun.sl.v25
  refine piece_at c i arg3 arg4 arg7 arg12 f3 f4 f7 f12 hT 552 (by decide) _ _ _ _ (fun r l => ?_) r l
  unfold bodyRun.sl.v852
  exact ld arg12.view (G12 c i arg12 f12) (off := ![552, 0]) (size := S8x128.size) (by decide) (show (Rect.unit (s := S640x128) ![552, 0] S8x128.size (by decide)).toLoadRect.shape.Idx from ix2 r l) (ix2 ⟨552 + r.val, by omega⟩ l) (fun a => by match a with | ⟨0, _⟩ => rfl | ⟨1, _⟩ => exact (Nat.zero_add _).symm)

theorem pc68 (hT : IsTab c arg12 (G12 c i arg12 f12)) (r : Fin 8) (l : Fin 128) : bodyRun.sl.v851 c i arg3 arg4 arg7 arg12 f3 f4 f7 f12 (ix2 r l) = stripV c arg7 f7 (bodyRun.sl.v14 c i arg3 arg4 f3 f4) (ix2 ⟨544 + r.val, by omega⟩ l) := by
  unfold bodyRun.sl.v851 bodyRun.sl.v848 bodyRun.sl.v847 bodyRun.sl.v846 bodyRun.sl.v845 bodyRun.sl.v844 bodyRun.sl.v27 bodyRun.sl.v842 bodyRun.sl.v25
  refine piece_at c i arg3 arg4 arg7 arg12 f3 f4 f7 f12 hT 544 (by decide) _ _ _ _ (fun r l => ?_) r l
  unfold bodyRun.sl.v840
  exact ld arg12.view (G12 c i arg12 f12) (off := ![544, 0]) (size := S8x128.size) (by decide) (show (Rect.unit (s := S640x128) ![544, 0] S8x128.size (by decide)).toLoadRect.shape.Idx from ix2 r l) (ix2 ⟨544 + r.val, by omega⟩ l) (fun a => by match a with | ⟨0, _⟩ => rfl | ⟨1, _⟩ => exact (Nat.zero_add _).symm)

theorem pc67 (hT : IsTab c arg12 (G12 c i arg12 f12)) (r : Fin 8) (l : Fin 128) : bodyRun.sl.v839 c i arg3 arg4 arg7 arg12 f3 f4 f7 f12 (ix2 r l) = stripV c arg7 f7 (bodyRun.sl.v14 c i arg3 arg4 f3 f4) (ix2 ⟨536 + r.val, by omega⟩ l) := by
  unfold bodyRun.sl.v839 bodyRun.sl.v836 bodyRun.sl.v835 bodyRun.sl.v834 bodyRun.sl.v833 bodyRun.sl.v832 bodyRun.sl.v27 bodyRun.sl.v830 bodyRun.sl.v25
  refine piece_at c i arg3 arg4 arg7 arg12 f3 f4 f7 f12 hT 536 (by decide) _ _ _ _ (fun r l => ?_) r l
  unfold bodyRun.sl.v828
  exact ld arg12.view (G12 c i arg12 f12) (off := ![536, 0]) (size := S8x128.size) (by decide) (show (Rect.unit (s := S640x128) ![536, 0] S8x128.size (by decide)).toLoadRect.shape.Idx from ix2 r l) (ix2 ⟨536 + r.val, by omega⟩ l) (fun a => by match a with | ⟨0, _⟩ => rfl | ⟨1, _⟩ => exact (Nat.zero_add _).symm)

theorem pc72 (hT : IsTab c arg12 (G12 c i arg12 f12)) (r : Fin 8) (l : Fin 128) : bodyRun.sl.v899 c i arg3 arg4 arg7 arg12 f3 f4 f7 f12 (ix2 r l) = stripV c arg7 f7 (bodyRun.sl.v14 c i arg3 arg4 f3 f4) (ix2 ⟨576 + r.val, by omega⟩ l) := by
  unfold bodyRun.sl.v899 bodyRun.sl.v896 bodyRun.sl.v895 bodyRun.sl.v894 bodyRun.sl.v893 bodyRun.sl.v892 bodyRun.sl.v27 bodyRun.sl.v890 bodyRun.sl.v25
  refine piece_at c i arg3 arg4 arg7 arg12 f3 f4 f7 f12 hT 576 (by decide) _ _ _ _ (fun r l => ?_) r l
  unfold bodyRun.sl.v888
  exact ld arg12.view (G12 c i arg12 f12) (off := ![576, 0]) (size := S8x128.size) (by decide) (show (Rect.unit (s := S640x128) ![576, 0] S8x128.size (by decide)).toLoadRect.shape.Idx from ix2 r l) (ix2 ⟨576 + r.val, by omega⟩ l) (fun a => by match a with | ⟨0, _⟩ => rfl | ⟨1, _⟩ => exact (Nat.zero_add _).symm)

theorem pc71 (hT : IsTab c arg12 (G12 c i arg12 f12)) (r : Fin 8) (l : Fin 128) : bodyRun.sl.v887 c i arg3 arg4 arg7 arg12 f3 f4 f7 f12 (ix2 r l) = stripV c arg7 f7 (bodyRun.sl.v14 c i arg3 arg4 f3 f4) (ix2 ⟨568 + r.val, by omega⟩ l) := by
  unfold bodyRun.sl.v887 bodyRun.sl.v884 bodyRun.sl.v883 bodyRun.sl.v882 bodyRun.sl.v881 bodyRun.sl.v880 bodyRun.sl.v27 bodyRun.sl.v878 bodyRun.sl.v25
  refine piece_at c i arg3 arg4 arg7 arg12 f3 f4 f7 f12 hT 568 (by decide) _ _ _ _ (fun r l => ?_) r l
  unfold bodyRun.sl.v876
  exact ld arg12.view (G12 c i arg12 f12) (off := ![568, 0]) (size := S8x128.size) (by decide) (show (Rect.unit (s := S640x128) ![568, 0] S8x128.size (by decide)).toLoadRect.shape.Idx from ix2 r l) (ix2 ⟨568 + r.val, by omega⟩ l) (fun a => by match a with | ⟨0, _⟩ => rfl | ⟨1, _⟩ => exact (Nat.zero_add _).symm)

theorem pc70 (hT : IsTab c arg12 (G12 c i arg12 f12)) (r : Fin 8) (l : Fin 128) : bodyRun.sl.v875 c i arg3 arg4 arg7 arg12 f3 f4 f7 f12 (ix2 r l) = stripV c arg7 f7 (bodyRun.sl.v14 c i arg3 arg4 f3 f4) (ix2 ⟨560 + r.val, by omega⟩ l) := by
  unfold bodyRun.sl.v875 bodyRun.sl.v872 bodyRun.sl.v871 bodyRun.sl.v870 bodyRun.sl.v869 bodyRun.sl.v868 bodyRun.sl.v27 bodyRun.sl.v866 bodyRun.sl.v25
  refine piece_at c i arg3 arg4 arg7 arg12 f3 f4 f7 f12 hT 560 (by decide) _ _ _ _ (fun r l => ?_) r l
  unfold bodyRun.sl.v864
  exact ld arg12.view (G12 c i arg12 f12) (off := ![560, 0]) (size := S8x128.size) (by decide) (show (Rect.unit (s := S640x128) ![560, 0] S8x128.size (by decide)).toLoadRect.shape.Idx from ix2 r l) (ix2 ⟨560 + r.val, by omega⟩ l) (fun a => by match a with | ⟨0, _⟩ => rfl | ⟨1, _⟩ => exact (Nat.zero_add _).symm)

theorem pc76 (hT : IsTab c arg12 (G12 c i arg12 f12)) (r : Fin 8) (l : Fin 128) : bodyRun.sl.v947 c i arg3 arg4 arg7 arg12 f3 f4 f7 f12 (ix2 r l) = stripV c arg7 f7 (bodyRun.sl.v14 c i arg3 arg4 f3 f4) (ix2 ⟨608 + r.val, by omega⟩ l) := by
  unfold bodyRun.sl.v947 bodyRun.sl.v944 bodyRun.sl.v943 bodyRun.sl.v942 bodyRun.sl.v941 bodyRun.sl.v940 bodyRun.sl.v27 bodyRun.sl.v938 bodyRun.sl.v25
  refine piece_at c i arg3 arg4 arg7 arg12 f3 f4 f7 f12 hT 608 (by decide) _ _ _ _ (fun r l => ?_) r l
  unfold bodyRun.sl.v936
  exact ld arg12.view (G12 c i arg12 f12) (off := ![608, 0]) (size := S8x128.size) (by decide) (show (Rect.unit (s := S640x128) ![608, 0] S8x128.size (by decide)).toLoadRect.shape.Idx from ix2 r l) (ix2 ⟨608 + r.val, by omega⟩ l) (fun a => by match a with | ⟨0, _⟩ => rfl | ⟨1, _⟩ => exact (Nat.zero_add _).symm)

theorem pc75 (hT : IsTab c arg12 (G12 c i arg12 f12)) (r : Fin 8) (l : Fin 128) : bodyRun.sl.v935 c i arg3 arg4 arg7 arg12 f3 f4 f7 f12 (ix2 r l) = stripV c arg7 f7 (bodyRun.sl.v14 c i arg3 arg4 f3 f4) (ix2 ⟨600 + r.val, by omega⟩ l) := by
  unfold bodyRun.sl.v935 bodyRun.sl.v932 bodyRun.sl.v931 bodyRun.sl.v930 bodyRun.sl.v929 bodyRun.sl.v928 bodyRun.sl.v27 bodyRun.sl.v926 bodyRun.sl.v25
  refine piece_at c i arg3 arg4 arg7 arg12 f3 f4 f7 f12 hT 600 (by decide) _ _ _ _ (fun r l => ?_) r l
  unfold bodyRun.sl.v924
  exact ld arg12.view (G12 c i arg12 f12) (off := ![600, 0]) (size := S8x128.size) (by decide) (show (Rect.unit (s := S640x128) ![600, 0] S8x128.size (by decide)).toLoadRect.shape.Idx from ix2 r l) (ix2 ⟨600 + r.val, by omega⟩ l) (fun a => by match a with | ⟨0, _⟩ => rfl | ⟨1, _⟩ => exact (Nat.zero_add _).symm)

theorem pc74 (hT : IsTab c arg12 (G12 c i arg12 f12)) (r : Fin 8) (l : Fin 128) : bodyRun.sl.v923 c i arg3 arg4 arg7 arg12 f3 f4 f7 f12 (ix2 r l) = stripV c arg7 f7 (bodyRun.sl.v14 c i arg3 arg4 f3 f4) (ix2 ⟨592 + r.val, by omega⟩ l) := by
  unfold bodyRun.sl.v923 bodyRun.sl.v920 bodyRun.sl.v919 bodyRun.sl.v918 bodyRun.sl.v917 bodyRun.sl.v916 bodyRun.sl.v27 bodyRun.sl.v914 bodyRun.sl.v25
  refine piece_at c i arg3 arg4 arg7 arg12 f3 f4 f7 f12 hT 592 (by decide) _ _ _ _ (fun r l => ?_) r l
  unfold bodyRun.sl.v912
  exact ld arg12.view (G12 c i arg12 f12) (off := ![592, 0]) (size := S8x128.size) (by decide) (show (Rect.unit (s := S640x128) ![592, 0] S8x128.size (by decide)).toLoadRect.shape.Idx from ix2 r l) (ix2 ⟨592 + r.val, by omega⟩ l) (fun a => by match a with | ⟨0, _⟩ => rfl | ⟨1, _⟩ => exact (Nat.zero_add _).symm)

theorem pc73 (hT : IsTab c arg12 (G12 c i arg12 f12)) (r : Fin 8) (l : Fin 128) : bodyRun.sl.v911 c i arg3 arg4 arg7 arg12 f3 f4 f7 f12 (ix2 r l) = stripV c arg7 f7 (bodyRun.sl.v14 c i arg3 arg4 f3 f4) (ix2 ⟨584 + r.val, by omega⟩ l) := by
  unfold bodyRun.sl.v911 bodyRun.sl.v908 bodyRun.sl.v907 bodyRun.sl.v906 bodyRun.sl.v905 bodyRun.sl.v904 bodyRun.sl.v27 bodyRun.sl.v902 bodyRun.sl.v25
  refine piece_at c i arg3 arg4 arg7 arg12 f3 f4 f7 f12 hT 584 (by decide) _ _ _ _ (fun r l => ?_) r l
  unfold bodyRun.sl.v900
  exact ld arg12.view (G12 c i arg12 f12) (off := ![584, 0]) (size := S8x128.size) (by decide) (show (Rect.unit (s := S640x128) ![584, 0] S8x128.size (by decide)).toLoadRect.shape.Idx from ix2 r l) (ix2 ⟨584 + r.val, by omega⟩ l) (fun a => by match a with | ⟨0, _⟩ => rfl | ⟨1, _⟩ => exact (Nat.zero_add _).symm)

theorem pc79 (hT : IsTab c arg12 (G12 c i arg12 f12)) (r : Fin 8) (l : Fin 128) : bodyRun.sl.v983 c i arg3 arg4 arg7 arg12 f3 f4 f7 f12 (ix2 r l) = stripV c arg7 f7 (bodyRun.sl.v14 c i arg3 arg4 f3 f4) (ix2 ⟨632 + r.val, by omega⟩ l) := by
  unfold bodyRun.sl.v983 bodyRun.sl.v980 bodyRun.sl.v979 bodyRun.sl.v978 bodyRun.sl.v977 bodyRun.sl.v976 bodyRun.sl.v27 bodyRun.sl.v974 bodyRun.sl.v25
  refine piece_at c i arg3 arg4 arg7 arg12 f3 f4 f7 f12 hT 632 (by decide) _ _ _ _ (fun r l => ?_) r l
  unfold bodyRun.sl.v972
  exact ld arg12.view (G12 c i arg12 f12) (off := ![632, 0]) (size := S8x128.size) (by decide) (show (Rect.unit (s := S640x128) ![632, 0] S8x128.size (by decide)).toLoadRect.shape.Idx from ix2 r l) (ix2 ⟨632 + r.val, by omega⟩ l) (fun a => by match a with | ⟨0, _⟩ => rfl | ⟨1, _⟩ => exact (Nat.zero_add _).symm)

theorem pc78 (hT : IsTab c arg12 (G12 c i arg12 f12)) (r : Fin 8) (l : Fin 128) : bodyRun.sl.v971 c i arg3 arg4 arg7 arg12 f3 f4 f7 f12 (ix2 r l) = stripV c arg7 f7 (bodyRun.sl.v14 c i arg3 arg4 f3 f4) (ix2 ⟨624 + r.val, by omega⟩ l) := by
  unfold bodyRun.sl.v971 bodyRun.sl.v968 bodyRun.sl.v967 bodyRun.sl.v966 bodyRun.sl.v965 bodyRun.sl.v964 bodyRun.sl.v27 bodyRun.sl.v962 bodyRun.sl.v25
  refine piece_at c i arg3 arg4 arg7 arg12 f3 f4 f7 f12 hT 624 (by decide) _ _ _ _ (fun r l => ?_) r l
  unfold bodyRun.sl.v960
  exact ld arg12.view (G12 c i arg12 f12) (off := ![624, 0]) (size := S8x128.size) (by decide) (show (Rect.unit (s := S640x128) ![624, 0] S8x128.size (by decide)).toLoadRect.shape.Idx from ix2 r l) (ix2 ⟨624 + r.val, by omega⟩ l) (fun a => by match a with | ⟨0, _⟩ => rfl | ⟨1, _⟩ => exact (Nat.zero_add _).symm)

theorem pc77 (hT : IsTab c arg12 (G12 c i arg12 f12)) (r : Fin 8) (l : Fin 128) : bodyRun.sl.v959 c i arg3 arg4 arg7 arg12 f3 f4 f7 f12 (ix2 r l) = stripV c arg7 f7 (bodyRun.sl.v14 c i arg3 arg4 f3 f4) (ix2 ⟨616 + r.val, by omega⟩ l) := by
  unfold bodyRun.sl.v959 bodyRun.sl.v956 bodyRun.sl.v955 bodyRun.sl.v954 bodyRun.sl.v953 bodyRun.sl.v952 bodyRun.sl.v27 bodyRun.sl.v950 bodyRun.sl.v25
  refine piece_at c i arg3 arg4 arg7 arg12 f3 f4 f7 f12 hT 616 (by decide) _ _ _ _ (fun r l => ?_) r l
  unfold bodyRun.sl.v948
  exact ld arg12.view (G12 c i arg12 f12) (off := ![616, 0]) (size := S8x128.size) (by decide) (show (Rect.unit (s := S640x128) ![616, 0] S8x128.size (by decide)).toLoadRect.shape.Idx from ix2 r l) (ix2 ⟨616 + r.val, by omega⟩ l) (fun a => by match a with | ⟨0, _⟩ => rfl | ⟨1, _⟩ => exact (Nat.zero_add _).symm)

theorem ok1 (hT : IsTab c arg12 (G12 c i arg12 f12)) : Ok c arg7 f7 (bodyRun.sl.v14 c i arg3 arg4 f3 f4) (bodyRun.sl.H14_1 c i arg3 arg4 arg7 arg12 f3 f4 f7 f12) 1 := by
  unfold bodyRun.sl.H14_1
  exact (ok_cons c arg7 f7 _ _ 0 0 (by decide) (by decide) (by decide) _ ⟨fun p hp => absurd hp List.not_mem_nil, fun y hy => absurd hy (Nat.not_lt_zero _)⟩ (pc0 c i arg3 arg4 arg7 arg12 f3 f4 f7 f12 hT))

theorem ok4 (hT : IsTab c arg12 (G12 c i arg12 f12)) : Ok c arg7 f7 (bodyRun.sl.v14 c i arg3 arg4 f3 f4) (bodyRun.sl.H14_4 c i arg3 arg4 arg7 arg12 f3 f4 f7 f12) 4 := by
  unfold bodyRun.sl.H14_4
  exact (ok_cons c arg7 f7 _ _ 3 24 (by decide) (by decide) (by decide) _ (ok_cons c arg7 f7 _ _ 2 16 (by decide) (by decide) (by decide) _ (ok_cons c arg7 f7 _ _ 1 8 (by decide) (by decide) (by decide) _ (ok1 c i arg3 arg4 arg7 arg12 f3 f4 f7 f12 hT) (pc1 c i arg3 arg4 arg7 arg12 f3 f4 f7 f12 hT)) (pc2 c i arg3 arg4 arg7 arg12 f3 f4 f7 f12 hT)) (pc3 c i arg3 arg4 arg7 arg12 f3 f4 f7 f12 hT))

theorem ok7 (hT : IsTab c arg12 (G12 c i arg12 f12)) : Ok c arg7 f7 (bodyRun.sl.v14 c i arg3 arg4 f3 f4) (bodyRun.sl.H14_7 c i arg3 arg4 arg7 arg12 f3 f4 f7 f12) 7 := by
  unfold bodyRun.sl.H14_7
  exact (ok_cons c arg7 f7 _ _ 6 48 (by decide) (by decide) (by decide) _ (ok_cons c arg7 f7 _ _ 5 40 (by decide) (by decide) (by decide) _ (ok_cons c arg7 f7 _ _ 4 32 (by decide) (by decide) (by decide) _ (ok4 c i arg3 arg4 arg7 arg12 f3 f4 f7 f12 hT) (pc4 c i arg3 arg4 arg7 arg12 f3 f4 f7 f12 hT)) (pc5 c i arg3 arg4 arg7 arg12 f3 f4 f7 f12 hT)) (pc6 c i arg3 arg4 arg7 arg12 f3 f4 f7 f12 hT))

theorem ok10 (hT : IsTab c arg12 (G12 c i arg12 f12)) : Ok c arg7 f7 (bodyRun.sl.v14 c i arg3 arg4 f3 f4) (bodyRun.sl.H14_10 c i arg3 arg4 arg7 arg12 f3 f4 f7 f12) 10 := by
  unfold bodyRun.sl.H14_10
  exact (ok_cons c arg7 f7 _ _ 9 72 (by decide) (by decide) (by decide) _ (ok_cons c arg7 f7 _ _ 8 64 (by decide) (by decide) (by decide) _ (ok_cons c arg7 f7 _ _ 7 56 (by decide) (by decide) (by decide) _ (ok7 c i arg3 arg4 arg7 arg12 f3 f4 f7 f12 hT) (pc7 c i arg3 arg4 arg7 arg12 f3 f4 f7 f12 hT)) (pc8 c i arg3 arg4 arg7 arg12 f3 f4 f7 f12 hT)) (pc9 c i arg3 arg4 arg7 arg12 f3 f4 f7 f12 hT))

theorem ok13 (hT : IsTab c arg12 (G12 c i arg12 f12)) : Ok c arg7 f7 (bodyRun.sl.v14 c i arg3 arg4 f3 f4) (bodyRun.sl.H14_13 c i arg3 arg4 arg7 arg12 f3 f4 f7 f12) 13 := by
  unfold bodyRun.sl.H14_13
  exact (ok_cons c arg7 f7 _ _ 12 96 (by decide) (by decide) (by decide) _ (ok_cons c arg7 f7 _ _ 11 88 (by decide) (by decide) (by decide) _ (ok_cons c arg7 f7 _ _ 10 80 (by decide) (by decide) (by decide) _ (ok10 c i arg3 arg4 arg7 arg12 f3 f4 f7 f12 hT) (pc10 c i arg3 arg4 arg7 arg12 f3 f4 f7 f12 hT)) (pc11 c i arg3 arg4 arg7 arg12 f3 f4 f7 f12 hT)) (pc12 c i arg3 arg4 arg7 arg12 f3 f4 f7 f12 hT))

theorem ok17 (hT : IsTab c arg12 (G12 c i arg12 f12)) : Ok c arg7 f7 (bodyRun.sl.v14 c i arg3 arg4 f3 f4) (bodyRun.sl.H14_17 c i arg3 arg4 arg7 arg12 f3 f4 f7 f12) 17 := by
  unfold bodyRun.sl.H14_17
  exact (ok_cons c arg7 f7 _ _ 16 128 (by decide) (by decide) (by decide) _ (ok_cons c arg7 f7 _ _ 15 120 (by decide) (by decide) (by decide) _ (ok_cons c arg7 f7 _ _ 14 112 (by decide) (by decide) (by decide) _ (ok_cons c arg7 f7 _ _ 13 104 (by decide) (by decide) (by decide) _ (ok13 c i arg3 arg4 arg7 arg12 f3 f4 f7 f12 hT) (pc13 c i arg3 arg4 arg7 arg12 f3 f4 f7 f12 hT)) (pc14 c i arg3 arg4 arg7 arg12 f3 f4 f7 f12 hT)) (pc15 c i arg3 arg4 arg7 arg12 f3 f4 f7 f12 hT)) (pc16 c i arg3 arg4 arg7 arg12 f3 f4 f7 f12 hT))

theorem ok20 (hT : IsTab c arg12 (G12 c i arg12 f12)) : Ok c arg7 f7 (bodyRun.sl.v14 c i arg3 arg4 f3 f4) (bodyRun.sl.H14_20 c i arg3 arg4 arg7 arg12 f3 f4 f7 f12) 20 := by
  unfold bodyRun.sl.H14_20
  exact (ok_cons c arg7 f7 _ _ 19 152 (by decide) (by decide) (by decide) _ (ok_cons c arg7 f7 _ _ 18 144 (by decide) (by decide) (by decide) _ (ok_cons c arg7 f7 _ _ 17 136 (by decide) (by decide) (by decide) _ (ok17 c i arg3 arg4 arg7 arg12 f3 f4 f7 f12 hT) (pc17 c i arg3 arg4 arg7 arg12 f3 f4 f7 f12 hT)) (pc18 c i arg3 arg4 arg7 arg12 f3 f4 f7 f12 hT)) (pc19 c i arg3 arg4 arg7 arg12 f3 f4 f7 f12 hT))

theorem ok23 (hT : IsTab c arg12 (G12 c i arg12 f12)) : Ok c arg7 f7 (bodyRun.sl.v14 c i arg3 arg4 f3 f4) (bodyRun.sl.H14_23 c i arg3 arg4 arg7 arg12 f3 f4 f7 f12) 23 := by
  unfold bodyRun.sl.H14_23
  exact (ok_cons c arg7 f7 _ _ 22 176 (by decide) (by decide) (by decide) _ (ok_cons c arg7 f7 _ _ 21 168 (by decide) (by decide) (by decide) _ (ok_cons c arg7 f7 _ _ 20 160 (by decide) (by decide) (by decide) _ (ok20 c i arg3 arg4 arg7 arg12 f3 f4 f7 f12 hT) (pc20 c i arg3 arg4 arg7 arg12 f3 f4 f7 f12 hT)) (pc21 c i arg3 arg4 arg7 arg12 f3 f4 f7 f12 hT)) (pc22 c i arg3 arg4 arg7 arg12 f3 f4 f7 f12 hT))

theorem ok26 (hT : IsTab c arg12 (G12 c i arg12 f12)) : Ok c arg7 f7 (bodyRun.sl.v14 c i arg3 arg4 f3 f4) (bodyRun.sl.H14_26 c i arg3 arg4 arg7 arg12 f3 f4 f7 f12) 26 := by
  unfold bodyRun.sl.H14_26
  exact (ok_cons c arg7 f7 _ _ 25 200 (by decide) (by decide) (by decide) _ (ok_cons c arg7 f7 _ _ 24 192 (by decide) (by decide) (by decide) _ (ok_cons c arg7 f7 _ _ 23 184 (by decide) (by decide) (by decide) _ (ok23 c i arg3 arg4 arg7 arg12 f3 f4 f7 f12 hT) (pc23 c i arg3 arg4 arg7 arg12 f3 f4 f7 f12 hT)) (pc24 c i arg3 arg4 arg7 arg12 f3 f4 f7 f12 hT)) (pc25 c i arg3 arg4 arg7 arg12 f3 f4 f7 f12 hT))

theorem ok29 (hT : IsTab c arg12 (G12 c i arg12 f12)) : Ok c arg7 f7 (bodyRun.sl.v14 c i arg3 arg4 f3 f4) (bodyRun.sl.H14_29 c i arg3 arg4 arg7 arg12 f3 f4 f7 f12) 29 := by
  unfold bodyRun.sl.H14_29
  exact (ok_cons c arg7 f7 _ _ 28 224 (by decide) (by decide) (by decide) _ (ok_cons c arg7 f7 _ _ 27 216 (by decide) (by decide) (by decide) _ (ok_cons c arg7 f7 _ _ 26 208 (by decide) (by decide) (by decide) _ (ok26 c i arg3 arg4 arg7 arg12 f3 f4 f7 f12 hT) (pc26 c i arg3 arg4 arg7 arg12 f3 f4 f7 f12 hT)) (pc27 c i arg3 arg4 arg7 arg12 f3 f4 f7 f12 hT)) (pc28 c i arg3 arg4 arg7 arg12 f3 f4 f7 f12 hT))

theorem ok32 (hT : IsTab c arg12 (G12 c i arg12 f12)) : Ok c arg7 f7 (bodyRun.sl.v14 c i arg3 arg4 f3 f4) (bodyRun.sl.H14_32 c i arg3 arg4 arg7 arg12 f3 f4 f7 f12) 32 := by
  unfold bodyRun.sl.H14_32
  exact (ok_cons c arg7 f7 _ _ 31 248 (by decide) (by decide) (by decide) _ (ok_cons c arg7 f7 _ _ 30 240 (by decide) (by decide) (by decide) _ (ok_cons c arg7 f7 _ _ 29 232 (by decide) (by decide) (by decide) _ (ok29 c i arg3 arg4 arg7 arg12 f3 f4 f7 f12 hT) (pc29 c i arg3 arg4 arg7 arg12 f3 f4 f7 f12 hT)) (pc30 c i arg3 arg4 arg7 arg12 f3 f4 f7 f12 hT)) (pc31 c i arg3 arg4 arg7 arg12 f3 f4 f7 f12 hT))

theorem ok36 (hT : IsTab c arg12 (G12 c i arg12 f12)) : Ok c arg7 f7 (bodyRun.sl.v14 c i arg3 arg4 f3 f4) (bodyRun.sl.H14_36 c i arg3 arg4 arg7 arg12 f3 f4 f7 f12) 36 := by
  unfold bodyRun.sl.H14_36
  exact (ok_cons c arg7 f7 _ _ 35 280 (by decide) (by decide) (by decide) _ (ok_cons c arg7 f7 _ _ 34 272 (by decide) (by decide) (by decide) _ (ok_cons c arg7 f7 _ _ 33 264 (by decide) (by decide) (by decide) _ (ok_cons c arg7 f7 _ _ 32 256 (by decide) (by decide) (by decide) _ (ok32 c i arg3 arg4 arg7 arg12 f3 f4 f7 f12 hT) (pc32 c i arg3 arg4 arg7 arg12 f3 f4 f7 f12 hT)) (pc33 c i arg3 arg4 arg7 arg12 f3 f4 f7 f12 hT)) (pc34 c i arg3 arg4 arg7 arg12 f3 f4 f7 f12 hT)) (pc35 c i arg3 arg4 arg7 arg12 f3 f4 f7 f12 hT))

theorem ok39 (hT : IsTab c arg12 (G12 c i arg12 f12)) : Ok c arg7 f7 (bodyRun.sl.v14 c i arg3 arg4 f3 f4) (bodyRun.sl.H14_39 c i arg3 arg4 arg7 arg12 f3 f4 f7 f12) 39 := by
  unfold bodyRun.sl.H14_39
  exact (ok_cons c arg7 f7 _ _ 38 304 (by decide) (by decide) (by decide) _ (ok_cons c arg7 f7 _ _ 37 296 (by decide) (by decide) (by decide) _ (ok_cons c arg7 f7 _ _ 36 288 (by decide) (by decide) (by decide) _ (ok36 c i arg3 arg4 arg7 arg12 f3 f4 f7 f12 hT) (pc36 c i arg3 arg4 arg7 arg12 f3 f4 f7 f12 hT)) (pc37 c i arg3 arg4 arg7 arg12 f3 f4 f7 f12 hT)) (pc38 c i arg3 arg4 arg7 arg12 f3 f4 f7 f12 hT))

theorem ok42 (hT : IsTab c arg12 (G12 c i arg12 f12)) : Ok c arg7 f7 (bodyRun.sl.v14 c i arg3 arg4 f3 f4) (bodyRun.sl.H14_42 c i arg3 arg4 arg7 arg12 f3 f4 f7 f12) 42 := by
  unfold bodyRun.sl.H14_42
  exact (ok_cons c arg7 f7 _ _ 41 328 (by decide) (by decide) (by decide) _ (ok_cons c arg7 f7 _ _ 40 320 (by decide) (by decide) (by decide) _ (ok_cons c arg7 f7 _ _ 39 312 (by decide) (by decide) (by decide) _ (ok39 c i arg3 arg4 arg7 arg12 f3 f4 f7 f12 hT) (pc39 c i arg3 arg4 arg7 arg12 f3 f4 f7 f12 hT)) (pc40 c i arg3 arg4 arg7 arg12 f3 f4 f7 f12 hT)) (pc41 c i arg3 arg4 arg7 arg12 f3 f4 f7 f12 hT))

theorem ok45 (hT : IsTab c arg12 (G12 c i arg12 f12)) : Ok c arg7 f7 (bodyRun.sl.v14 c i arg3 arg4 f3 f4) (bodyRun.sl.H14_45 c i arg3 arg4 arg7 arg12 f3 f4 f7 f12) 45 := by
  unfold bodyRun.sl.H14_45
  exact (ok_cons c arg7 f7 _ _ 44 352 (by decide) (by decide) (by decide) _ (ok_cons c arg7 f7 _ _ 43 344 (by decide) (by decide) (by decide) _ (ok_cons c arg7 f7 _ _ 42 336 (by decide) (by decide) (by decide) _ (ok42 c i arg3 arg4 arg7 arg12 f3 f4 f7 f12 hT) (pc42 c i arg3 arg4 arg7 arg12 f3 f4 f7 f12 hT)) (pc43 c i arg3 arg4 arg7 arg12 f3 f4 f7 f12 hT)) (pc44 c i arg3 arg4 arg7 arg12 f3 f4 f7 f12 hT))

theorem ok48 (hT : IsTab c arg12 (G12 c i arg12 f12)) : Ok c arg7 f7 (bodyRun.sl.v14 c i arg3 arg4 f3 f4) (bodyRun.sl.H14_48 c i arg3 arg4 arg7 arg12 f3 f4 f7 f12) 48 := by
  unfold bodyRun.sl.H14_48
  exact (ok_cons c arg7 f7 _ _ 47 376 (by decide) (by decide) (by decide) _ (ok_cons c arg7 f7 _ _ 46 368 (by decide) (by decide) (by decide) _ (ok_cons c arg7 f7 _ _ 45 360 (by decide) (by decide) (by decide) _ (ok45 c i arg3 arg4 arg7 arg12 f3 f4 f7 f12 hT) (pc45 c i arg3 arg4 arg7 arg12 f3 f4 f7 f12 hT)) (pc46 c i arg3 arg4 arg7 arg12 f3 f4 f7 f12 hT)) (pc47 c i arg3 arg4 arg7 arg12 f3 f4 f7 f12 hT))

theorem ok51 (hT : IsTab c arg12 (G12 c i arg12 f12)) : Ok c arg7 f7 (bodyRun.sl.v14 c i arg3 arg4 f3 f4) (bodyRun.sl.H14_51 c i arg3 arg4 arg7 arg12 f3 f4 f7 f12) 51 := by
  unfold bodyRun.sl.H14_51
  exact (ok_cons c arg7 f7 _ _ 50 400 (by decide) (by decide) (by decide) _ (ok_cons c arg7 f7 _ _ 49 392 (by decide) (by decide) (by decide) _ (ok_cons c arg7 f7 _ _ 48 384 (by decide) (by decide) (by decide) _ (ok48 c i arg3 arg4 arg7 arg12 f3 f4 f7 f12 hT) (pc48 c i arg3 arg4 arg7 arg12 f3 f4 f7 f12 hT)) (pc49 c i arg3 arg4 arg7 arg12 f3 f4 f7 f12 hT)) (pc50 c i arg3 arg4 arg7 arg12 f3 f4 f7 f12 hT))

theorem ok54 (hT : IsTab c arg12 (G12 c i arg12 f12)) : Ok c arg7 f7 (bodyRun.sl.v14 c i arg3 arg4 f3 f4) (bodyRun.sl.H14_54 c i arg3 arg4 arg7 arg12 f3 f4 f7 f12) 54 := by
  unfold bodyRun.sl.H14_54
  exact (ok_cons c arg7 f7 _ _ 53 424 (by decide) (by decide) (by decide) _ (ok_cons c arg7 f7 _ _ 52 416 (by decide) (by decide) (by decide) _ (ok_cons c arg7 f7 _ _ 51 408 (by decide) (by decide) (by decide) _ (ok51 c i arg3 arg4 arg7 arg12 f3 f4 f7 f12 hT) (pc51 c i arg3 arg4 arg7 arg12 f3 f4 f7 f12 hT)) (pc52 c i arg3 arg4 arg7 arg12 f3 f4 f7 f12 hT)) (pc53 c i arg3 arg4 arg7 arg12 f3 f4 f7 f12 hT))

theorem ok58 (hT : IsTab c arg12 (G12 c i arg12 f12)) : Ok c arg7 f7 (bodyRun.sl.v14 c i arg3 arg4 f3 f4) (bodyRun.sl.H14_58 c i arg3 arg4 arg7 arg12 f3 f4 f7 f12) 58 := by
  unfold bodyRun.sl.H14_58
  exact (ok_cons c arg7 f7 _ _ 57 456 (by decide) (by decide) (by decide) _ (ok_cons c arg7 f7 _ _ 56 448 (by decide) (by decide) (by decide) _ (ok_cons c arg7 f7 _ _ 55 440 (by decide) (by decide) (by decide) _ (ok_cons c arg7 f7 _ _ 54 432 (by decide) (by decide) (by decide) _ (ok54 c i arg3 arg4 arg7 arg12 f3 f4 f7 f12 hT) (pc54 c i arg3 arg4 arg7 arg12 f3 f4 f7 f12 hT)) (pc55 c i arg3 arg4 arg7 arg12 f3 f4 f7 f12 hT)) (pc56 c i arg3 arg4 arg7 arg12 f3 f4 f7 f12 hT)) (pc57 c i arg3 arg4 arg7 arg12 f3 f4 f7 f12 hT))

theorem ok61 (hT : IsTab c arg12 (G12 c i arg12 f12)) : Ok c arg7 f7 (bodyRun.sl.v14 c i arg3 arg4 f3 f4) (bodyRun.sl.H14_61 c i arg3 arg4 arg7 arg12 f3 f4 f7 f12) 61 := by
  unfold bodyRun.sl.H14_61
  exact (ok_cons c arg7 f7 _ _ 60 480 (by decide) (by decide) (by decide) _ (ok_cons c arg7 f7 _ _ 59 472 (by decide) (by decide) (by decide) _ (ok_cons c arg7 f7 _ _ 58 464 (by decide) (by decide) (by decide) _ (ok58 c i arg3 arg4 arg7 arg12 f3 f4 f7 f12 hT) (pc58 c i arg3 arg4 arg7 arg12 f3 f4 f7 f12 hT)) (pc59 c i arg3 arg4 arg7 arg12 f3 f4 f7 f12 hT)) (pc60 c i arg3 arg4 arg7 arg12 f3 f4 f7 f12 hT))

theorem ok64 (hT : IsTab c arg12 (G12 c i arg12 f12)) : Ok c arg7 f7 (bodyRun.sl.v14 c i arg3 arg4 f3 f4) (bodyRun.sl.H14_64 c i arg3 arg4 arg7 arg12 f3 f4 f7 f12) 64 := by
  unfold bodyRun.sl.H14_64
  exact (ok_cons c arg7 f7 _ _ 63 504 (by decide) (by decide) (by decide) _ (ok_cons c arg7 f7 _ _ 62 496 (by decide) (by decide) (by decide) _ (ok_cons c arg7 f7 _ _ 61 488 (by decide) (by decide) (by decide) _ (ok61 c i arg3 arg4 arg7 arg12 f3 f4 f7 f12 hT) (pc61 c i arg3 arg4 arg7 arg12 f3 f4 f7 f12 hT)) (pc62 c i arg3 arg4 arg7 arg12 f3 f4 f7 f12 hT)) (pc63 c i arg3 arg4 arg7 arg12 f3 f4 f7 f12 hT))

theorem ok67 (hT : IsTab c arg12 (G12 c i arg12 f12)) : Ok c arg7 f7 (bodyRun.sl.v14 c i arg3 arg4 f3 f4) (bodyRun.sl.H14_67 c i arg3 arg4 arg7 arg12 f3 f4 f7 f12) 67 := by
  unfold bodyRun.sl.H14_67
  exact (ok_cons c arg7 f7 _ _ 66 528 (by decide) (by decide) (by decide) _ (ok_cons c arg7 f7 _ _ 65 520 (by decide) (by decide) (by decide) _ (ok_cons c arg7 f7 _ _ 64 512 (by decide) (by decide) (by decide) _ (ok64 c i arg3 arg4 arg7 arg12 f3 f4 f7 f12 hT) (pc64 c i arg3 arg4 arg7 arg12 f3 f4 f7 f12 hT)) (pc65 c i arg3 arg4 arg7 arg12 f3 f4 f7 f12 hT)) (pc66 c i arg3 arg4 arg7 arg12 f3 f4 f7 f12 hT))

theorem ok70 (hT : IsTab c arg12 (G12 c i arg12 f12)) : Ok c arg7 f7 (bodyRun.sl.v14 c i arg3 arg4 f3 f4) (bodyRun.sl.H14_70 c i arg3 arg4 arg7 arg12 f3 f4 f7 f12) 70 := by
  unfold bodyRun.sl.H14_70
  exact (ok_cons c arg7 f7 _ _ 69 552 (by decide) (by decide) (by decide) _ (ok_cons c arg7 f7 _ _ 68 544 (by decide) (by decide) (by decide) _ (ok_cons c arg7 f7 _ _ 67 536 (by decide) (by decide) (by decide) _ (ok67 c i arg3 arg4 arg7 arg12 f3 f4 f7 f12 hT) (pc67 c i arg3 arg4 arg7 arg12 f3 f4 f7 f12 hT)) (pc68 c i arg3 arg4 arg7 arg12 f3 f4 f7 f12 hT)) (pc69 c i arg3 arg4 arg7 arg12 f3 f4 f7 f12 hT))

theorem ok73 (hT : IsTab c arg12 (G12 c i arg12 f12)) : Ok c arg7 f7 (bodyRun.sl.v14 c i arg3 arg4 f3 f4) (bodyRun.sl.H14_73 c i arg3 arg4 arg7 arg12 f3 f4 f7 f12) 73 := by
  unfold bodyRun.sl.H14_73
  exact (ok_cons c arg7 f7 _ _ 72 576 (by decide) (by decide) (by decide) _ (ok_cons c arg7 f7 _ _ 71 568 (by decide) (by decide) (by decide) _ (ok_cons c arg7 f7 _ _ 70 560 (by decide) (by decide) (by decide) _ (ok70 c i arg3 arg4 arg7 arg12 f3 f4 f7 f12 hT) (pc70 c i arg3 arg4 arg7 arg12 f3 f4 f7 f12 hT)) (pc71 c i arg3 arg4 arg7 arg12 f3 f4 f7 f12 hT)) (pc72 c i arg3 arg4 arg7 arg12 f3 f4 f7 f12 hT))

theorem ok77 (hT : IsTab c arg12 (G12 c i arg12 f12)) : Ok c arg7 f7 (bodyRun.sl.v14 c i arg3 arg4 f3 f4) (bodyRun.sl.H14_77 c i arg3 arg4 arg7 arg12 f3 f4 f7 f12) 77 := by
  unfold bodyRun.sl.H14_77
  exact (ok_cons c arg7 f7 _ _ 76 608 (by decide) (by decide) (by decide) _ (ok_cons c arg7 f7 _ _ 75 600 (by decide) (by decide) (by decide) _ (ok_cons c arg7 f7 _ _ 74 592 (by decide) (by decide) (by decide) _ (ok_cons c arg7 f7 _ _ 73 584 (by decide) (by decide) (by decide) _ (ok73 c i arg3 arg4 arg7 arg12 f3 f4 f7 f12 hT) (pc73 c i arg3 arg4 arg7 arg12 f3 f4 f7 f12 hT)) (pc74 c i arg3 arg4 arg7 arg12 f3 f4 f7 f12 hT)) (pc75 c i arg3 arg4 arg7 arg12 f3 f4 f7 f12 hT)) (pc76 c i arg3 arg4 arg7 arg12 f3 f4 f7 f12 hT))

theorem ok80 (hT : IsTab c arg12 (G12 c i arg12 f12)) : Ok c arg7 f7 (bodyRun.sl.v14 c i arg3 arg4 f3 f4) (bodyRun.sl.H14_80 c i arg3 arg4 arg7 arg12 f3 f4 f7 f12) 80 := by
  unfold bodyRun.sl.H14_80
  exact (ok_cons c arg7 f7 _ _ 79 632 (by decide) (by decide) (by decide) _ (ok_cons c arg7 f7 _ _ 78 624 (by decide) (by decide) (by decide) _ (ok_cons c arg7 f7 _ _ 77 616 (by decide) (by decide) (by decide) _ (ok77 c i arg3 arg4 arg7 arg12 f3 f4 f7 f12 hT) (pc77 c i arg3 arg4 arg7 arg12 f3 f4 f7 f12 hT)) (pc78 c i arg3 arg4 arg7 arg12 f3 f4 f7 f12 hT)) (pc79 c i arg3 arg4 arg7 arg12 f3 f4 f7 f12 hT))

/-- The strip's buffer after the body. -/
def G14 : Bf (F := Ideal) c arg14 := arg14.view.writes (Elt Ideal) arg14.view.junk (bodyRun.sl.H14_80 c i arg3 arg4 arg7 arg12 f3 f4 f7 f12)

theorem G14_at (hT : IsTab c arg12 (G12 c i arg12 f12)) (R : Fin 640) (l : Fin 128) :
    arg14.view.read (Elt Ideal) (G14 c i arg3 arg4 arg7 arg12 arg14 f3 f4 f7 f12) (ix2 R l) = stripV c arg7 f7 (bodyRun.sl.v14 c i arg3 arg4 f3 f4) (ix2 R l) := by
  have h := ok80 c i arg3 arg4 arg7 arg12 f3 f4 f7 f12 hT
  unfold G14
  exact View.read_writes_apply_of_pieces (Val := Elt Ideal) arg14.view _ _ _ h.1 (ix2 R l) (h.2 _ R.isLt)

end Cert.Proof.KernelIdeal

end
-- ==== Proof.KernelIdealTrip.lean ====
/-
  A trip's result: the row function at the trip's rows, every other row as it was.
-/
module
public import proofs.«01_k».proof.Proof.KernelIdealTile
public import Idealize.ShloMosaic.Lib.WritesUnit
@[expose] public section
set_option maxRecDepth 16384
noncomputable section
namespace Cert.Proof.KernelIdeal
open Cert.KernelIdeal
open Idealize.ShloMosaic Idealize.ShloMosaic.TcCoe
open Cert.Proof.Row Cert.Proof.Words

theorem st_inb (t : Fin 8) (off : Fin 3 → ℕ) (ho : off = ![0, (Scalar.indexCast (Scalar.muli (tW t) 128#32)).toNat, 0]) :
    ∀ a, off a + (![1, 128, 128] : Fin 3 → ℕ) a ≤ S1x1024x128.size a := by
  rw [qOff_eq] at ho
  subst ho
  have := t.isLt
  intro a
  fin_cases a
  · simp
  · show 128 * t.val + 128 ≤ 1024; omega
  · simp

section Step
variable {sig' : RefSig} {κ' : Kind} {sp : Space}

/-- A guarded store of one tile of rows, read at a row of the tile where the guard holds, -/
theorem st_hit (v : View sig' κ' sp S1x1024x128 .bf16) (f : v.ty.Contents (Elt Ideal)) {C : Prop} [Decidable C] {off : Fin 3 → ℕ} (inb)
    (pay : C → (Rect.unit (s := S1x1024x128) off ![1, 128, 128] inb).shape.Idx → Elt Ideal .bf16) (hC : C) (t : Fin 8)
    (ho : off = ![0, (Scalar.indexCast (Scalar.muli (tW t) 128#32)).toNat, 0]) (r d : Fin 128) :
    v.read (Elt Ideal) (if hc : C then v.writes (Elt Ideal) f [⟨Rect.unit (s := S1x1024x128) off ![1, 128, 128] inb, pay hc⟩] else f) (ix3 0 (pos t.val r t.isLt) d)
      = pay hC (show (Rect.unit (s := S1x1024x128) off ![1, 128, 128] inb).shape.Idx from ix3 0 r d) := by
  rw [qOff_eq] at ho
  rw [dif_pos hC]
  exact View.read_writes_cons_unit_of_mem v f inb _ [] _ _ ho (fun a => by fin_cases a <;> simp <;> first | rfl | (symm; exact Nat.zero_add _))

/-- where it does not, -/
theorem st_not (v : View sig' κ' sp S1x1024x128 .bf16) (f : v.ty.Contents (Elt Ideal)) {C : Prop} [Decidable C] {off : Fin 3 → ℕ} (inb)
    (pay : C → (Rect.unit (s := S1x1024x128) off ![1, 128, 128] inb).shape.Idx → Elt Ideal .bf16) (hC : ¬ C) (y) :
    v.read (Elt Ideal) (if hc : C then v.writes (Elt Ideal) f [⟨Rect.unit (s := S1x1024x128) off ![1, 128, 128] inb, pay hc⟩] else f) y
      = v.read (Elt Ideal) f y := by
  rw [dif_neg hC]

/-- and at a row of another tile. -/
theorem st_miss (v : View sig' κ' sp S1x1024x128 .bf16) (f : v.ty.Contents (Elt Ideal)) {C : Prop} [Decidable C] {off : Fin 3 → ℕ} (inb)
    (pay : C → (Rect.unit (s := S1x1024x128) off ![1, 128, 128] inb).shape.Idx → Elt Ideal .bf16) (t : Fin 8)
    (ho : off = ![0, (Scalar.indexCast (Scalar.muli (tW t) 128#32)).toNat, 0]) (ρ : Fin 1024) (hρ : ρ.val / 128 ≠ t.val) (d : Fin 128) :
    v.read (Elt Ideal) (if hc : C then v.writes (Elt Ideal) f [⟨Rect.unit (s := S1x1024x128) off ![1, 128, 128] inb, pay hc⟩] else f) (ix3 0 ρ d)
      = v.read (Elt Ideal) f (ix3 0 ρ d) := by
  rw [qOff_eq] at ho
  split_ifs with hC
  · exact View.read_writes_cons_unit_of_not_mem v f inb _ [] _ ho 1 (by show ρ.val < 128 * t.val ∨ 128 * t.val + 128 ≤ ρ.val; omega)
  · rfl

end Step

theorem cond1_iff (a z l0 h0 l1 h1 l2 h2 l3 h3 l4 h4 l5 h5 l6 h6 l7 h7 : BitVec 32) : k0_cond3 a z l0 h0 l1 h1 l2 h2 l3 h3 l4 h4 l5 h5 l6 h6 l7 h7 = 1#1 ↔ hiW z h0 h1 h2 h3 h4 h5 h6 h7 - loW a l0 l1 l2 l3 l4 l5 l6 l7 = BitVec.ofNat 32 1 := condW_iff _ _ _

theorem cond2_iff (a z l0 h0 l1 h1 l2 h2 l3 h3 l4 h4 l5 h5 l6 h6 l7 h7 : BitVec 32) : k0_cond4 a z l0 h0 l1 h1 l2 h2 l3 h3 l4 h4 l5 h5 l6 h6 l7 h7 = 1#1 ↔ hiW z h0 h1 h2 h3 h4 h5 h6 h7 - loW a l0 l1 l2 l3 l4 l5 l6 l7 = BitVec.ofNat 32 2 := condW_iff _ _ _

theorem cond3_iff (a z l0 h0 l1 h1 l2 h2 l3 h3 l4 h4 l5 h5 l6 h6 l7 h7 : BitVec 32) : k0_cond5 a z l0 h0 l1 h1 l2 h2 l3 h3 l4 h4 l5 h5 l6 h6 l7 h7 = 1#1 ↔ hiW z h0 h1 h2 h3 h4 h5 h6 h7 - loW a l0 l1 l2 l3 l4 l5 l6 l7 = BitVec.ofNat 32 3 := condW_iff _ _ _

theorem cond4_iff (a z l0 h0 l1 h1 l2 h2 l3 h3 l4 h4 l5 h5 l6 h6 l7 h7 : BitVec 32) : k0_cond6 a z l0 h0 l1 h1 l2 h2 l3 h3 l4 h4 l5 h5 l6 h6 l7 h7 = 1#1 ↔ hiW z h0 h1 h2 h3 h4 h5 h6 h7 - loW a l0 l1 l2 l3 l4 l5 l6 l7 = BitVec.ofNat 32 4 := condW_iff _ _ _

theorem cond5_iff (a z l0 h0 l1 h1 l2 h2 l3 h3 l4 h4 l5 h5 l6 h6 l7 h7 : BitVec 32) : k0_cond7 a z l0 h0 l1 h1 l2 h2 l3 h3 l4 h4 l5 h5 l6 h6 l7 h7 = 1#1 ↔ hiW z h0 h1 h2 h3 h4 h5 h6 h7 - loW a l0 l1 l2 l3 l4 l5 l6 l7 = BitVec.ofNat 32 5 := condW_iff _ _ _

theorem cond6_iff (a z l0 h0 l1 h1 l2 h2 l3 h3 l4 h4 l5 h5 l6 h6 l7 h7 : BitVec 32) : k0_cond8 a z l0 h0 l1 h1 l2 h2 l3 h3 l4 h4 l5 h5 l6 h6 l7 h7 = 1#1 ↔ hiW z h0 h1 h2 h3 h4 h5 h6 h7 - loW a l0 l1 l2 l3 l4 l5 l6 l7 = BitVec.ofNat 32 6 := condW_iff _ _ _

theorem cond7_iff (a z l0 h0 l1 h1 l2 h2 l3 h3 l4 h4 l5 h5 l6 h6 l7 h7 : BitVec 32) : k0_cond9 a z l0 h0 l1 h1 l2 h2 l3 h3 l4 h4 l5 h5 l6 h6 l7 h7 = 1#1 ↔ hiW z h0 h1 h2 h3 h4 h5 h6 h7 - loW a l0 l1 l2 l3 l4 l5 l6 l7 = BitVec.ofNat 32 7 := condW_iff _ _ _

theorem cond8_iff (a z l0 h0 l1 h1 l2 h2 l3 h3 l4 h4 l5 h5 l6 h6 l7 h7 : BitVec 32) : k0_cond10 a z l0 h0 l1 h1 l2 h2 l3 h3 l4 h4 l5 h5 l6 h6 l7 h7 = 1#1 ↔ hiW z h0 h1 h2 h3 h4 h5 h6 h7 - loW a l0 l1 l2 l3 l4 l5 l6 l7 = BitVec.ofNat 32 8 := condW_iff _ _ _

variable (c : Dev nD) (i : grid0.Coords) (arg2 : Memref sig .tc .smem S2x1024 .i32) (harg2 : arg2.IsWhole) (arg3 : Memref sig .tc .smem S2x24 .f32) (harg3 : arg3.IsWhole) (arg4 : Memref sig .tc .smem S2x24 .f32) (harg4 : arg4.IsWhole) (arg5 : Memref sig .tc .smem S2x24 .f32) (harg5 : arg5.IsWhole) (arg6 : Memref sig .tc .vmem S1x1x1024 .i32) (harg6 : arg6.IsWhole) (arg7 : Memref sig .tc .vmem S1x1x128 .f32) (harg7 : arg7.IsWhole) (arg8 : Memref sig .tc .vmem S1x1024x128 .fp8e4m3) (harg8 : arg8.IsWhole) (arg9 : Memref sig .tc .vmem S1x1024x128 .fp8e4m3) (harg9 : arg9.IsWhole) (arg10 : Memref sig .tc .vmem S1x1024x128 .fp8e4m3) (harg10 : arg10.IsWhole) (arg11 : Memref sig .tc .vmem S1x1024x128 .bf16) (harg11 : arg11.IsWhole) (arg12 : Memref sig .tc .vmem S640x128 .i32) (harg12 : arg12.IsWhole) (arg13 : Memref sig .tc .vmem S1024x128 .i32) (harg13 : arg13.IsWhole) (arg14 : Memref sig .tc .vmem S640x128 .f32) (harg14 : arg14.IsWhole) (arg15 : Memref sig .tc .vmem S128x1024 .fp8e4m3) (harg15 : arg15.IsWhole) (arg0 : BitVec 32) (v14 : Ideal .f32) (v17 : Elt Ideal .f32)
  (f2 : Bf (F := Ideal) c arg2) (f6 : Bf (F := Ideal) c arg6) (f8 : Bf (F := Ideal) c arg8) (f9 : Bf (F := Ideal) c arg9)
  (f13 : Bf (F := Ideal) c arg13) (f14 : Bf (F := Ideal) c arg14) (f15 : Bf (F := Ideal) c arg15) (k : Fin k0_t1_loop.trips)

/-- The result after the first `n` guarded stores of a trip. -/
def G0 (f11 : Bf (F := Ideal) c arg11) : Bf (F := Ideal) c arg11 := f11
def G1 (f11 : Bf (F := Ideal) c arg11) : Bf (F := Ideal) c arg11 :=
  if hc : k0_cond3 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) f11 [⟨Rect.unit (s := S1x1024x128) (k0_off20 k) ![1, 128, 128] (st_inb k _ rfl), Gen.k0_pay3 v17 (trip.sl.v1156 c i arg2 arg6 arg8 arg9 arg13 arg14 v14 f2 f6 f8 f9 f13 f14 k hc) (trip.sl.v1160 c i arg2 arg6 arg8 arg9 arg13 arg14 v14 f2 f6 f8 f9 f13 f14 k hc) (trip.sl.v1203 c i arg2 arg6 arg8 arg9 arg13 arg14 v14 f2 f6 f8 f9 f13 f14 k hc) (127#32) (trip.sl.v1221 c i arg2 arg15 f2 f15 k hc)⟩] else f11
def G2 (f11 : Bf (F := Ideal) c arg11) : Bf (F := Ideal) c arg11 :=
  if hc : k0_cond4 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G1 c i arg2 arg6 arg8 arg9 arg11 arg13 arg14 arg15 v14 v17 f2 f6 f8 f9 f13 f14 f15 k f11) [⟨Rect.unit (s := S1x1024x128) (k0_off26 k) ![1, 128, 128] (st_inb k _ rfl), Gen.k0_pay4 v17 (trip.sl.v1231 c i arg2 arg6 arg8 arg9 arg13 arg14 v14 f2 f6 f8 f9 f13 f14 k hc) (trip.sl.v1245 c i arg2 arg6 arg8 arg9 arg13 arg14 arg15 v14 f2 f6 f8 f9 f13 f14 f15 k hc)⟩] else (G1 c i arg2 arg6 arg8 arg9 arg11 arg13 arg14 arg15 v14 v17 f2 f6 f8 f9 f13 f14 f15 k f11)
def G3 (f11 : Bf (F := Ideal) c arg11) : Bf (F := Ideal) c arg11 :=
  if hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G2 c i arg2 arg6 arg8 arg9 arg11 arg13 arg14 arg15 v14 v17 f2 f6 f8 f9 f13 f14 f15 k f11) [⟨Rect.unit (s := S1x1024x128) (k0_off32 k) ![1, 128, 128] (st_inb k _ rfl), Gen.k0_pay5 v17 (trip.sl.v1201_2 c i arg2 arg6 arg8 arg9 arg13 arg14 v14 f2 f6 f8 f9 f13 f14 k hc) (trip.sl.v1205_1 c i arg2 arg6 arg8 arg9 arg13 arg14 v14 f2 f6 f8 f9 f13 f14 k hc) (trip.sl.v1207 c i arg2 arg6 arg8 arg9 arg13 arg14 v14 f2 f6 f8 f9 f13 f14 k hc) (trip.sl.v1240_1 c i arg2 arg6 arg8 arg9 arg13 arg14 v14 f2 f6 f8 f9 f13 f14 k hc) trip.sl.v1196 (trip.sl.v1266 c i arg2 arg15 f2 f15 k hc)⟩] else (G2 c i arg2 arg6 arg8 arg9 arg11 arg13 arg14 arg15 v14 v17 f2 f6 f8 f9 f13 f14 f15 k f11)
def G4 (f11 : Bf (F := Ideal) c arg11) : Bf (F := Ideal) c arg11 :=
  if hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G3 c i arg2 arg6 arg8 arg9 arg11 arg13 arg14 arg15 v14 v17 f2 f6 f8 f9 f13 f14 f15 k f11) [⟨Rect.unit (s := S1x1024x128) (k0_off38 k) ![1, 128, 128] (st_inb k _ rfl), Gen.k0_pay6 v17 (trip.sl.v1223_1 c i arg2 arg6 arg8 arg9 arg13 arg14 v14 f2 f6 f8 f9 f13 f14 k hc) (trip.sl.v1275 c i arg2 arg6 arg8 arg9 arg13 arg14 v14 f2 f6 f8 f9 f13 f14 k hc) (trip.sl.v1283 c i arg2 arg6 arg8 arg9 arg13 arg14 v14 f2 f6 f8 f9 f13 f14 k hc) (trip.sl.v1288 c i arg2 arg15 f2 f15 k hc)⟩] else (G3 c i arg2 arg6 arg8 arg9 arg11 arg13 arg14 arg15 v14 v17 f2 f6 f8 f9 f13 f14 f15 k f11)
def G5 (f11 : Bf (F := Ideal) c arg11) : Bf (F := Ideal) c arg11 :=
  if hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G4 c i arg2 arg6 arg8 arg9 arg11 arg13 arg14 arg15 v14 v17 f2 f6 f8 f9 f13 f14 f15 k f11) [⟨Rect.unit (s := S1x1024x128) (k0_off44 k) ![1, 128, 128] (st_inb k _ rfl), Gen.k0_pay7 v17 (trip.sl.v1245_2 c i arg2 arg6 arg8 arg9 arg13 arg14 v14 f2 f6 f8 f9 f13 f14 k hc) (trip.sl.v1249_1 c i arg2 arg6 arg8 arg9 arg13 arg14 v14 f2 f6 f8 f9 f13 f14 k hc) (trip.sl.v1251 c i arg2 arg6 arg8 arg9 arg13 arg14 v14 f2 f6 f8 f9 f13 f14 k hc) (trip.sl.v1276 c i arg2 arg6 arg8 arg9 arg13 arg14 v14 f2 f6 f8 f9 f13 f14 k hc) (trip.sl.v1279_1 c i arg2 arg6 arg8 arg9 arg13 arg14 v14 f2 f6 f8 f9 f13 f14 k hc) (trip.sl.v1310 c i arg2 arg15 f2 f15 k hc)⟩] else (G4 c i arg2 arg6 arg8 arg9 arg11 arg13 arg14 arg15 v14 v17 f2 f6 f8 f9 f13 f14 f15 k f11)
def G6 (f11 : Bf (F := Ideal) c arg11) : Bf (F := Ideal) c arg11 :=
  if hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G5 c i arg2 arg6 arg8 arg9 arg11 arg13 arg14 arg15 v14 v17 f2 f6 f8 f9 f13 f14 f15 k f11) [⟨Rect.unit (s := S1x1024x128) (k0_off50 k) ![1, 128, 128] (st_inb k _ rfl), Gen.k0_pay8 v17 (trip.sl.v1267_1 c i arg2 arg6 arg8 arg9 arg13 arg14 v14 f2 f6 f8 f9 f13 f14 k hc) (trip.sl.v1271_1 c i arg2 arg6 arg8 arg9 arg13 arg14 v14 f2 f6 f8 f9 f13 f14 k hc) (trip.sl.v1319 c i arg2 arg6 arg8 arg9 arg13 arg14 v14 f2 f6 f8 f9 f13 f14 k hc) (trip.sl.v1321 c i arg2 arg6 arg8 arg9 arg13 arg14 v14 f2 f6 f8 f9 f13 f14 k hc) (trip.sl.v1332 c i arg2 arg15 f2 f15 k hc)⟩] else (G5 c i arg2 arg6 arg8 arg9 arg11 arg13 arg14 arg15 v14 v17 f2 f6 f8 f9 f13 f14 f15 k f11)
def G7 (f11 : Bf (F := Ideal) c arg11) : Bf (F := Ideal) c arg11 :=
  if hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G6 c i arg2 arg6 arg8 arg9 arg11 arg13 arg14 arg15 v14 v17 f2 f6 f8 f9 f13 f14 f15 k f11) [⟨Rect.unit (s := S1x1024x128) (k0_off56 k) ![1, 128, 128] (st_inb k _ rfl), Gen.k0_pay9 (trip.sl.v1361 c i arg2 arg6 arg8 arg9 arg13 arg14 arg15 v14 v17 f2 f6 f8 f9 f13 f14 f15 k hc)⟩] else (G6 c i arg2 arg6 arg8 arg9 arg11 arg13 arg14 arg15 v14 v17 f2 f6 f8 f9 f13 f14 f15 k f11)
def G8 (f11 : Bf (F := Ideal) c arg11) : Bf (F := Ideal) c arg11 :=
  if hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G7 c i arg2 arg6 arg8 arg9 arg11 arg13 arg14 arg15 v14 v17 f2 f6 f8 f9 f13 f14 f15 k f11) [⟨Rect.unit (s := S1x1024x128) (k0_off62 k) ![1, 128, 128] (st_inb k _ rfl), Gen.k0_pay10 v17 (trip.sl.v1311_1 c i arg2 arg6 arg8 arg9 arg13 arg14 v14 f2 f6 f8 f9 f13 f14 k hc) (trip.sl.v1315_1 c i arg2 arg6 arg8 arg9 arg13 arg14 v14 f2 f6 f8 f9 f13 f14 k hc) (trip.sl.v1358_1 c i arg2 arg6 arg8 arg9 arg13 arg14 v14 f2 f6 f8 f9 f13 f14 k hc) trip.sl.v1227 (trip.sl.v1376 c i arg2 arg15 f2 f15 k hc)⟩] else (G7 c i arg2 arg6 arg8 arg9 arg11 arg13 arg14 arg15 v14 v17 f2 f6 f8 f9 f13 f14 f15 k f11)
theorem G1_def (f11 : Bf (F := Ideal) c arg11) :
  (if hc : k0_cond3 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) f11 [⟨Rect.unit (s := S1x1024x128) (k0_off20 k) ![1, 128, 128] (st_inb k _ rfl), Gen.k0_pay3 v17 (trip.sl.v1156 c i arg2 arg6 arg8 arg9 arg13 arg14 v14 f2 f6 f8 f9 f13 f14 k hc) (trip.sl.v1160 c i arg2 arg6 arg8 arg9 arg13 arg14 v14 f2 f6 f8 f9 f13 f14 k hc) (trip.sl.v1203 c i arg2 arg6 arg8 arg9 arg13 arg14 v14 f2 f6 f8 f9 f13 f14 k hc) (127#32) (trip.sl.v1221 c i arg2 arg15 f2 f15 k hc)⟩] else f11) = G1 c i arg2 arg6 arg8 arg9 arg11 arg13 arg14 arg15 v14 v17 f2 f6 f8 f9 f13 f14 f15 k f11 := rfl
theorem G2_def (f11 : Bf (F := Ideal) c arg11) :
  (if hc : k0_cond4 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G1 c i arg2 arg6 arg8 arg9 arg11 arg13 arg14 arg15 v14 v17 f2 f6 f8 f9 f13 f14 f15 k f11) [⟨Rect.unit (s := S1x1024x128) (k0_off26 k) ![1, 128, 128] (st_inb k _ rfl), Gen.k0_pay4 v17 (trip.sl.v1231 c i arg2 arg6 arg8 arg9 arg13 arg14 v14 f2 f6 f8 f9 f13 f14 k hc) (trip.sl.v1245 c i arg2 arg6 arg8 arg9 arg13 arg14 arg15 v14 f2 f6 f8 f9 f13 f14 f15 k hc)⟩] else (G1 c i arg2 arg6 arg8 arg9 arg11 arg13 arg14 arg15 v14 v17 f2 f6 f8 f9 f13 f14 f15 k f11)) = G2 c i arg2 arg6 arg8 arg9 arg11 arg13 arg14 arg15 v14 v17 f2 f6 f8 f9 f13 f14 f15 k f11 := rfl
theorem G3_def (f11 : Bf (F := Ideal) c arg11) :
  (if hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G2 c i arg2 arg6 arg8 arg9 arg11 arg13 arg14 arg15 v14 v17 f2 f6 f8 f9 f13 f14 f15 k f11) [⟨Rect.unit (s := S1x1024x128) (k0_off32 k) ![1, 128, 128] (st_inb k _ rfl), Gen.k0_pay5 v17 (trip.sl.v1201_2 c i arg2 arg6 arg8 arg9 arg13 arg14 v14 f2 f6 f8 f9 f13 f14 k hc) (trip.sl.v1205_1 c i arg2 arg6 arg8 arg9 arg13 arg14 v14 f2 f6 f8 f9 f13 f14 k hc) (trip.sl.v1207 c i arg2 arg6 arg8 arg9 arg13 arg14 v14 f2 f6 f8 f9 f13 f14 k hc) (trip.sl.v1240_1 c i arg2 arg6 arg8 arg9 arg13 arg14 v14 f2 f6 f8 f9 f13 f14 k hc) trip.sl.v1196 (trip.sl.v1266 c i arg2 arg15 f2 f15 k hc)⟩] else (G2 c i arg2 arg6 arg8 arg9 arg11 arg13 arg14 arg15 v14 v17 f2 f6 f8 f9 f13 f14 f15 k f11)) = G3 c i arg2 arg6 arg8 arg9 arg11 arg13 arg14 arg15 v14 v17 f2 f6 f8 f9 f13 f14 f15 k f11 := rfl
theorem G4_def (f11 : Bf (F := Ideal) c arg11) :
  (if hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G3 c i arg2 arg6 arg8 arg9 arg11 arg13 arg14 arg15 v14 v17 f2 f6 f8 f9 f13 f14 f15 k f11) [⟨Rect.unit (s := S1x1024x128) (k0_off38 k) ![1, 128, 128] (st_inb k _ rfl), Gen.k0_pay6 v17 (trip.sl.v1223_1 c i arg2 arg6 arg8 arg9 arg13 arg14 v14 f2 f6 f8 f9 f13 f14 k hc) (trip.sl.v1275 c i arg2 arg6 arg8 arg9 arg13 arg14 v14 f2 f6 f8 f9 f13 f14 k hc) (trip.sl.v1283 c i arg2 arg6 arg8 arg9 arg13 arg14 v14 f2 f6 f8 f9 f13 f14 k hc) (trip.sl.v1288 c i arg2 arg15 f2 f15 k hc)⟩] else (G3 c i arg2 arg6 arg8 arg9 arg11 arg13 arg14 arg15 v14 v17 f2 f6 f8 f9 f13 f14 f15 k f11)) = G4 c i arg2 arg6 arg8 arg9 arg11 arg13 arg14 arg15 v14 v17 f2 f6 f8 f9 f13 f14 f15 k f11 := rfl
theorem G5_def (f11 : Bf (F := Ideal) c arg11) :
  (if hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G4 c i arg2 arg6 arg8 arg9 arg11 arg13 arg14 arg15 v14 v17 f2 f6 f8 f9 f13 f14 f15 k f11) [⟨Rect.unit (s := S1x1024x128) (k0_off44 k) ![1, 128, 128] (st_inb k _ rfl), Gen.k0_pay7 v17 (trip.sl.v1245_2 c i arg2 arg6 arg8 arg9 arg13 arg14 v14 f2 f6 f8 f9 f13 f14 k hc) (trip.sl.v1249_1 c i arg2 arg6 arg8 arg9 arg13 arg14 v14 f2 f6 f8 f9 f13 f14 k hc) (trip.sl.v1251 c i arg2 arg6 arg8 arg9 arg13 arg14 v14 f2 f6 f8 f9 f13 f14 k hc) (trip.sl.v1276 c i arg2 arg6 arg8 arg9 arg13 arg14 v14 f2 f6 f8 f9 f13 f14 k hc) (trip.sl.v1279_1 c i arg2 arg6 arg8 arg9 arg13 arg14 v14 f2 f6 f8 f9 f13 f14 k hc) (trip.sl.v1310 c i arg2 arg15 f2 f15 k hc)⟩] else (G4 c i arg2 arg6 arg8 arg9 arg11 arg13 arg14 arg15 v14 v17 f2 f6 f8 f9 f13 f14 f15 k f11)) = G5 c i arg2 arg6 arg8 arg9 arg11 arg13 arg14 arg15 v14 v17 f2 f6 f8 f9 f13 f14 f15 k f11 := rfl
theorem G6_def (f11 : Bf (F := Ideal) c arg11) :
  (if hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G5 c i arg2 arg6 arg8 arg9 arg11 arg13 arg14 arg15 v14 v17 f2 f6 f8 f9 f13 f14 f15 k f11) [⟨Rect.unit (s := S1x1024x128) (k0_off50 k) ![1, 128, 128] (st_inb k _ rfl), Gen.k0_pay8 v17 (trip.sl.v1267_1 c i arg2 arg6 arg8 arg9 arg13 arg14 v14 f2 f6 f8 f9 f13 f14 k hc) (trip.sl.v1271_1 c i arg2 arg6 arg8 arg9 arg13 arg14 v14 f2 f6 f8 f9 f13 f14 k hc) (trip.sl.v1319 c i arg2 arg6 arg8 arg9 arg13 arg14 v14 f2 f6 f8 f9 f13 f14 k hc) (trip.sl.v1321 c i arg2 arg6 arg8 arg9 arg13 arg14 v14 f2 f6 f8 f9 f13 f14 k hc) (trip.sl.v1332 c i arg2 arg15 f2 f15 k hc)⟩] else (G5 c i arg2 arg6 arg8 arg9 arg11 arg13 arg14 arg15 v14 v17 f2 f6 f8 f9 f13 f14 f15 k f11)) = G6 c i arg2 arg6 arg8 arg9 arg11 arg13 arg14 arg15 v14 v17 f2 f6 f8 f9 f13 f14 f15 k f11 := rfl
theorem G7_def (f11 : Bf (F := Ideal) c arg11) :
  (if hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G6 c i arg2 arg6 arg8 arg9 arg11 arg13 arg14 arg15 v14 v17 f2 f6 f8 f9 f13 f14 f15 k f11) [⟨Rect.unit (s := S1x1024x128) (k0_off56 k) ![1, 128, 128] (st_inb k _ rfl), Gen.k0_pay9 (trip.sl.v1361 c i arg2 arg6 arg8 arg9 arg13 arg14 arg15 v14 v17 f2 f6 f8 f9 f13 f14 f15 k hc)⟩] else (G6 c i arg2 arg6 arg8 arg9 arg11 arg13 arg14 arg15 v14 v17 f2 f6 f8 f9 f13 f14 f15 k f11)) = G7 c i arg2 arg6 arg8 arg9 arg11 arg13 arg14 arg15 v14 v17 f2 f6 f8 f9 f13 f14 f15 k f11 := rfl
theorem G8_def (f11 : Bf (F := Ideal) c arg11) :
  (if hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 then arg11.view.writes (Elt Ideal) (G7 c i arg2 arg6 arg8 arg9 arg11 arg13 arg14 arg15 v14 v17 f2 f6 f8 f9 f13 f14 f15 k f11) [⟨Rect.unit (s := S1x1024x128) (k0_off62 k) ![1, 128, 128] (st_inb k _ rfl), Gen.k0_pay10 v17 (trip.sl.v1311_1 c i arg2 arg6 arg8 arg9 arg13 arg14 v14 f2 f6 f8 f9 f13 f14 k hc) (trip.sl.v1315_1 c i arg2 arg6 arg8 arg9 arg13 arg14 v14 f2 f6 f8 f9 f13 f14 k hc) (trip.sl.v1358_1 c i arg2 arg6 arg8 arg9 arg13 arg14 v14 f2 f6 f8 f9 f13 f14 k hc) trip.sl.v1227 (trip.sl.v1376 c i arg2 arg15 f2 f15 k hc)⟩] else (G7 c i arg2 arg6 arg8 arg9 arg11 arg13 arg14 arg15 v14 v17 f2 f6 f8 f9 f13 f14 f15 k f11)) = G8 c i arg2 arg6 arg8 arg9 arg11 arg13 arg14 arg15 v14 v17 f2 f6 f8 f9 f13 f14 f15 k f11 := rfl

theorem trip_eq (f11) : (trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11 = G8 c i arg2 arg6 arg8 arg9 arg11 arg13 arg14 arg15 v14 v17 f2 f6 f8 f9 f13 f14 f15 k f11 := by
  unfold trip
  dsimp only []
  rw [G1_def c i arg2 arg6 arg8 arg9 arg11 arg13 arg14 arg15 v14 v17 f2 f6 f8 f9 f13 f14 f15 k f11, G2_def c i arg2 arg6 arg8 arg9 arg11 arg13 arg14 arg15 v14 v17 f2 f6 f8 f9 f13 f14 f15 k f11, G3_def c i arg2 arg6 arg8 arg9 arg11 arg13 arg14 arg15 v14 v17 f2 f6 f8 f9 f13 f14 f15 k f11, G4_def c i arg2 arg6 arg8 arg9 arg11 arg13 arg14 arg15 v14 v17 f2 f6 f8 f9 f13 f14 f15 k f11, G5_def c i arg2 arg6 arg8 arg9 arg11 arg13 arg14 arg15 v14 v17 f2 f6 f8 f9 f13 f14 f15 k f11, G6_def c i arg2 arg6 arg8 arg9 arg11 arg13 arg14 arg15 v14 v17 f2 f6 f8 f9 f13 f14 f15 k f11, G7_def c i arg2 arg6 arg8 arg9 arg11 arg13 arg14 arg15 v14 v17 f2 f6 f8 f9 f13 f14 f15 k f11, G8_def c i arg2 arg6 arg8 arg9 arg11 arg13 arg14 arg15 v14 v17 f2 f6 f8 f9 f13 f14 f15 k f11]

theorem G1_hit (hn : HI c i arg2 f2 k - LO c i arg2 f2 k = BitVec.ofNat 32 1) (h : (LO c i arg2 f2 k).toNat + 1 ≤ 8) (f11) (r d : Fin 128) :
    arg11.view.read (Elt Ideal) (G1 c i arg2 arg6 arg8 arg9 arg11 arg13 arg14 arg15 v14 v17 f2 f6 f8 f9 f13 f14 f15 k f11) (ix3 0 (pos k.val r k.isLt) d)
      = outAt (fun j : Fin 128 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 128 => arg15.view.read (Elt Ideal) f15 (ix2 d ⟨128 * (LO c i arg2 f2 k).toNat + j.val, by have := j.isLt; omega⟩)) v17 := by
  have hc : k0_cond3 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 := (cond1_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).2 hn
  unfold G1
  refine (st_hit arg11.view _ _ _ hc k rfl r d).trans ?_
  refine (pay1 c i arg2 arg6 arg8 arg9 arg13 arg14 arg15 v14 v17 f2 f6 f8 f9 f13 f14 f15 k hc r d).trans ?_
  rw [funext fun j => cat1 c i arg2 arg6 arg8 arg9 arg13 arg14 f2 f6 f8 f9 f13 f14 k hc h j r, funext fun j => vt1 c i arg2 arg15 f2 f15 k hc h d j]

theorem G1_not (n : ℕ) (hn : HI c i arg2 f2 k - LO c i arg2 f2 k = BitVec.ofNat 32 n) (h : BitVec.ofNat 32 n ≠ BitVec.ofNat 32 1) (f11) :
    G1 c i arg2 arg6 arg8 arg9 arg11 arg13 arg14 arg15 v14 v17 f2 f6 f8 f9 f13 f14 f15 k f11 = f11 := by
  unfold G1
  exact dif_neg (fun e => h (hn.symm.trans ((cond1_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).1 e)))

theorem G1_miss (f11) (ρ : Fin 1024) (hρ : ρ.val / 128 ≠ k.val) (d : Fin 128) :
    arg11.view.read (Elt Ideal) (G1 c i arg2 arg6 arg8 arg9 arg11 arg13 arg14 arg15 v14 v17 f2 f6 f8 f9 f13 f14 f15 k f11) (ix3 0 ρ d) = arg11.view.read (Elt Ideal) f11 (ix3 0 ρ d) := by
  unfold G1
  exact st_miss arg11.view _ _ _ k rfl ρ hρ d

theorem G2_hit (hn : HI c i arg2 f2 k - LO c i arg2 f2 k = BitVec.ofNat 32 2) (h : (LO c i arg2 f2 k).toNat + 2 ≤ 8) (f11) (r d : Fin 128) :
    arg11.view.read (Elt Ideal) (G2 c i arg2 arg6 arg8 arg9 arg11 arg13 arg14 arg15 v14 v17 f2 f6 f8 f9 f13 f14 f15 k f11) (ix3 0 (pos k.val r k.isLt) d)
      = outAt (fun j : Fin 256 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 256 => arg15.view.read (Elt Ideal) f15 (ix2 d ⟨128 * (LO c i arg2 f2 k).toNat + j.val, by have := j.isLt; omega⟩)) v17 := by
  have hc : k0_cond4 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 := (cond2_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).2 hn
  unfold G2
  refine (st_hit arg11.view _ _ _ hc k rfl r d).trans ?_
  refine (pay2 c i arg2 arg6 arg8 arg9 arg13 arg14 arg15 v14 v17 f2 f6 f8 f9 f13 f14 f15 k hc r d).trans ?_
  rw [funext fun j => cat2 c i arg2 arg6 arg8 arg9 arg13 arg14 f2 f6 f8 f9 f13 f14 k hc h j r, funext fun j => vt2 c i arg2 arg15 f2 f15 k hc h d j]

theorem G2_not (n : ℕ) (hn : HI c i arg2 f2 k - LO c i arg2 f2 k = BitVec.ofNat 32 n) (h : BitVec.ofNat 32 n ≠ BitVec.ofNat 32 2) (f11) :
    G2 c i arg2 arg6 arg8 arg9 arg11 arg13 arg14 arg15 v14 v17 f2 f6 f8 f9 f13 f14 f15 k f11 = (G1 c i arg2 arg6 arg8 arg9 arg11 arg13 arg14 arg15 v14 v17 f2 f6 f8 f9 f13 f14 f15 k f11) := by
  unfold G2
  exact dif_neg (fun e => h (hn.symm.trans ((cond2_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).1 e)))

theorem G2_miss (f11) (ρ : Fin 1024) (hρ : ρ.val / 128 ≠ k.val) (d : Fin 128) :
    arg11.view.read (Elt Ideal) (G2 c i arg2 arg6 arg8 arg9 arg11 arg13 arg14 arg15 v14 v17 f2 f6 f8 f9 f13 f14 f15 k f11) (ix3 0 ρ d) = arg11.view.read (Elt Ideal) (G1 c i arg2 arg6 arg8 arg9 arg11 arg13 arg14 arg15 v14 v17 f2 f6 f8 f9 f13 f14 f15 k f11) (ix3 0 ρ d) := by
  unfold G2
  exact st_miss arg11.view _ _ _ k rfl ρ hρ d

theorem G3_hit (hn : HI c i arg2 f2 k - LO c i arg2 f2 k = BitVec.ofNat 32 3) (h : (LO c i arg2 f2 k).toNat + 3 ≤ 8) (f11) (r d : Fin 128) :
    arg11.view.read (Elt Ideal) (G3 c i arg2 arg6 arg8 arg9 arg11 arg13 arg14 arg15 v14 v17 f2 f6 f8 f9 f13 f14 f15 k f11) (ix3 0 (pos k.val r k.isLt) d)
      = outAt (fun j : Fin 384 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 384 => arg15.view.read (Elt Ideal) f15 (ix2 d ⟨128 * (LO c i arg2 f2 k).toNat + j.val, by have := j.isLt; omega⟩)) v17 := by
  have hc : k0_cond5 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 := (cond3_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).2 hn
  unfold G3
  refine (st_hit arg11.view _ _ _ hc k rfl r d).trans ?_
  refine (pay3 c i arg2 arg6 arg8 arg9 arg13 arg14 arg15 v14 v17 f2 f6 f8 f9 f13 f14 f15 k hc r d).trans ?_
  rw [funext fun j => cat3 c i arg2 arg6 arg8 arg9 arg13 arg14 f2 f6 f8 f9 f13 f14 k hc h j r, funext fun j => vt3 c i arg2 arg15 f2 f15 k hc h d j]

theorem G3_not (n : ℕ) (hn : HI c i arg2 f2 k - LO c i arg2 f2 k = BitVec.ofNat 32 n) (h : BitVec.ofNat 32 n ≠ BitVec.ofNat 32 3) (f11) :
    G3 c i arg2 arg6 arg8 arg9 arg11 arg13 arg14 arg15 v14 v17 f2 f6 f8 f9 f13 f14 f15 k f11 = (G2 c i arg2 arg6 arg8 arg9 arg11 arg13 arg14 arg15 v14 v17 f2 f6 f8 f9 f13 f14 f15 k f11) := by
  unfold G3
  exact dif_neg (fun e => h (hn.symm.trans ((cond3_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).1 e)))

theorem G3_miss (f11) (ρ : Fin 1024) (hρ : ρ.val / 128 ≠ k.val) (d : Fin 128) :
    arg11.view.read (Elt Ideal) (G3 c i arg2 arg6 arg8 arg9 arg11 arg13 arg14 arg15 v14 v17 f2 f6 f8 f9 f13 f14 f15 k f11) (ix3 0 ρ d) = arg11.view.read (Elt Ideal) (G2 c i arg2 arg6 arg8 arg9 arg11 arg13 arg14 arg15 v14 v17 f2 f6 f8 f9 f13 f14 f15 k f11) (ix3 0 ρ d) := by
  unfold G3
  exact st_miss arg11.view _ _ _ k rfl ρ hρ d

theorem G4_hit (hn : HI c i arg2 f2 k - LO c i arg2 f2 k = BitVec.ofNat 32 4) (h : (LO c i arg2 f2 k).toNat + 4 ≤ 8) (f11) (r d : Fin 128) :
    arg11.view.read (Elt Ideal) (G4 c i arg2 arg6 arg8 arg9 arg11 arg13 arg14 arg15 v14 v17 f2 f6 f8 f9 f13 f14 f15 k f11) (ix3 0 (pos k.val r k.isLt) d)
      = outAt (fun j : Fin 512 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 512 => arg15.view.read (Elt Ideal) f15 (ix2 d ⟨128 * (LO c i arg2 f2 k).toNat + j.val, by have := j.isLt; omega⟩)) v17 := by
  have hc : k0_cond6 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 := (cond4_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).2 hn
  unfold G4
  refine (st_hit arg11.view _ _ _ hc k rfl r d).trans ?_
  refine (pay4 c i arg2 arg6 arg8 arg9 arg13 arg14 arg15 v14 v17 f2 f6 f8 f9 f13 f14 f15 k hc r d).trans ?_
  rw [funext fun j => cat4 c i arg2 arg6 arg8 arg9 arg13 arg14 f2 f6 f8 f9 f13 f14 k hc h j r, funext fun j => vt4 c i arg2 arg15 f2 f15 k hc h d j]

theorem G4_not (n : ℕ) (hn : HI c i arg2 f2 k - LO c i arg2 f2 k = BitVec.ofNat 32 n) (h : BitVec.ofNat 32 n ≠ BitVec.ofNat 32 4) (f11) :
    G4 c i arg2 arg6 arg8 arg9 arg11 arg13 arg14 arg15 v14 v17 f2 f6 f8 f9 f13 f14 f15 k f11 = (G3 c i arg2 arg6 arg8 arg9 arg11 arg13 arg14 arg15 v14 v17 f2 f6 f8 f9 f13 f14 f15 k f11) := by
  unfold G4
  exact dif_neg (fun e => h (hn.symm.trans ((cond4_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).1 e)))

theorem G4_miss (f11) (ρ : Fin 1024) (hρ : ρ.val / 128 ≠ k.val) (d : Fin 128) :
    arg11.view.read (Elt Ideal) (G4 c i arg2 arg6 arg8 arg9 arg11 arg13 arg14 arg15 v14 v17 f2 f6 f8 f9 f13 f14 f15 k f11) (ix3 0 ρ d) = arg11.view.read (Elt Ideal) (G3 c i arg2 arg6 arg8 arg9 arg11 arg13 arg14 arg15 v14 v17 f2 f6 f8 f9 f13 f14 f15 k f11) (ix3 0 ρ d) := by
  unfold G4
  exact st_miss arg11.view _ _ _ k rfl ρ hρ d

theorem G5_hit (hn : HI c i arg2 f2 k - LO c i arg2 f2 k = BitVec.ofNat 32 5) (h : (LO c i arg2 f2 k).toNat + 5 ≤ 8) (f11) (r d : Fin 128) :
    arg11.view.read (Elt Ideal) (G5 c i arg2 arg6 arg8 arg9 arg11 arg13 arg14 arg15 v14 v17 f2 f6 f8 f9 f13 f14 f15 k f11) (ix3 0 (pos k.val r k.isLt) d)
      = outAt (fun j : Fin 640 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 640 => arg15.view.read (Elt Ideal) f15 (ix2 d ⟨128 * (LO c i arg2 f2 k).toNat + j.val, by have := j.isLt; omega⟩)) v17 := by
  have hc : k0_cond7 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 := (cond5_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).2 hn
  unfold G5
  refine (st_hit arg11.view _ _ _ hc k rfl r d).trans ?_
  refine (pay5 c i arg2 arg6 arg8 arg9 arg13 arg14 arg15 v14 v17 f2 f6 f8 f9 f13 f14 f15 k hc r d).trans ?_
  rw [funext fun j => cat5 c i arg2 arg6 arg8 arg9 arg13 arg14 f2 f6 f8 f9 f13 f14 k hc h j r, funext fun j => vt5 c i arg2 arg15 f2 f15 k hc h d j]

theorem G5_not (n : ℕ) (hn : HI c i arg2 f2 k - LO c i arg2 f2 k = BitVec.ofNat 32 n) (h : BitVec.ofNat 32 n ≠ BitVec.ofNat 32 5) (f11) :
    G5 c i arg2 arg6 arg8 arg9 arg11 arg13 arg14 arg15 v14 v17 f2 f6 f8 f9 f13 f14 f15 k f11 = (G4 c i arg2 arg6 arg8 arg9 arg11 arg13 arg14 arg15 v14 v17 f2 f6 f8 f9 f13 f14 f15 k f11) := by
  unfold G5
  exact dif_neg (fun e => h (hn.symm.trans ((cond5_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).1 e)))

theorem G5_miss (f11) (ρ : Fin 1024) (hρ : ρ.val / 128 ≠ k.val) (d : Fin 128) :
    arg11.view.read (Elt Ideal) (G5 c i arg2 arg6 arg8 arg9 arg11 arg13 arg14 arg15 v14 v17 f2 f6 f8 f9 f13 f14 f15 k f11) (ix3 0 ρ d) = arg11.view.read (Elt Ideal) (G4 c i arg2 arg6 arg8 arg9 arg11 arg13 arg14 arg15 v14 v17 f2 f6 f8 f9 f13 f14 f15 k f11) (ix3 0 ρ d) := by
  unfold G5
  exact st_miss arg11.view _ _ _ k rfl ρ hρ d

theorem G6_hit (hn : HI c i arg2 f2 k - LO c i arg2 f2 k = BitVec.ofNat 32 6) (h : (LO c i arg2 f2 k).toNat + 6 ≤ 8) (f11) (r d : Fin 128) :
    arg11.view.read (Elt Ideal) (G6 c i arg2 arg6 arg8 arg9 arg11 arg13 arg14 arg15 v14 v17 f2 f6 f8 f9 f13 f14 f15 k f11) (ix3 0 (pos k.val r k.isLt) d)
      = outAt (fun j : Fin 768 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 768 => arg15.view.read (Elt Ideal) f15 (ix2 d ⟨128 * (LO c i arg2 f2 k).toNat + j.val, by have := j.isLt; omega⟩)) v17 := by
  have hc : k0_cond8 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 := (cond6_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).2 hn
  unfold G6
  refine (st_hit arg11.view _ _ _ hc k rfl r d).trans ?_
  refine (pay6 c i arg2 arg6 arg8 arg9 arg13 arg14 arg15 v14 v17 f2 f6 f8 f9 f13 f14 f15 k hc r d).trans ?_
  rw [funext fun j => cat6 c i arg2 arg6 arg8 arg9 arg13 arg14 f2 f6 f8 f9 f13 f14 k hc h j r, funext fun j => vt6 c i arg2 arg15 f2 f15 k hc h d j]

theorem G6_not (n : ℕ) (hn : HI c i arg2 f2 k - LO c i arg2 f2 k = BitVec.ofNat 32 n) (h : BitVec.ofNat 32 n ≠ BitVec.ofNat 32 6) (f11) :
    G6 c i arg2 arg6 arg8 arg9 arg11 arg13 arg14 arg15 v14 v17 f2 f6 f8 f9 f13 f14 f15 k f11 = (G5 c i arg2 arg6 arg8 arg9 arg11 arg13 arg14 arg15 v14 v17 f2 f6 f8 f9 f13 f14 f15 k f11) := by
  unfold G6
  exact dif_neg (fun e => h (hn.symm.trans ((cond6_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).1 e)))

theorem G6_miss (f11) (ρ : Fin 1024) (hρ : ρ.val / 128 ≠ k.val) (d : Fin 128) :
    arg11.view.read (Elt Ideal) (G6 c i arg2 arg6 arg8 arg9 arg11 arg13 arg14 arg15 v14 v17 f2 f6 f8 f9 f13 f14 f15 k f11) (ix3 0 ρ d) = arg11.view.read (Elt Ideal) (G5 c i arg2 arg6 arg8 arg9 arg11 arg13 arg14 arg15 v14 v17 f2 f6 f8 f9 f13 f14 f15 k f11) (ix3 0 ρ d) := by
  unfold G6
  exact st_miss arg11.view _ _ _ k rfl ρ hρ d

theorem G7_hit (hn : HI c i arg2 f2 k - LO c i arg2 f2 k = BitVec.ofNat 32 7) (h : (LO c i arg2 f2 k).toNat + 7 ≤ 8) (f11) (r d : Fin 128) :
    arg11.view.read (Elt Ideal) (G7 c i arg2 arg6 arg8 arg9 arg11 arg13 arg14 arg15 v14 v17 f2 f6 f8 f9 f13 f14 f15 k f11) (ix3 0 (pos k.val r k.isLt) d)
      = outAt (fun j : Fin 896 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 896 => arg15.view.read (Elt Ideal) f15 (ix2 d ⟨128 * (LO c i arg2 f2 k).toNat + j.val, by have := j.isLt; omega⟩)) v17 := by
  have hc : k0_cond9 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 := (cond7_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).2 hn
  unfold G7
  refine (st_hit arg11.view _ _ _ hc k rfl r d).trans ?_
  refine (pay7 c i arg2 arg6 arg8 arg9 arg13 arg14 arg15 v14 v17 f2 f6 f8 f9 f13 f14 f15 k hc r d).trans ?_
  rw [funext fun j => cat7 c i arg2 arg6 arg8 arg9 arg13 arg14 f2 f6 f8 f9 f13 f14 k hc h j r, funext fun j => vt7 c i arg2 arg15 f2 f15 k hc h d j]

theorem G7_not (n : ℕ) (hn : HI c i arg2 f2 k - LO c i arg2 f2 k = BitVec.ofNat 32 n) (h : BitVec.ofNat 32 n ≠ BitVec.ofNat 32 7) (f11) :
    G7 c i arg2 arg6 arg8 arg9 arg11 arg13 arg14 arg15 v14 v17 f2 f6 f8 f9 f13 f14 f15 k f11 = (G6 c i arg2 arg6 arg8 arg9 arg11 arg13 arg14 arg15 v14 v17 f2 f6 f8 f9 f13 f14 f15 k f11) := by
  unfold G7
  exact dif_neg (fun e => h (hn.symm.trans ((cond7_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).1 e)))

theorem G7_miss (f11) (ρ : Fin 1024) (hρ : ρ.val / 128 ≠ k.val) (d : Fin 128) :
    arg11.view.read (Elt Ideal) (G7 c i arg2 arg6 arg8 arg9 arg11 arg13 arg14 arg15 v14 v17 f2 f6 f8 f9 f13 f14 f15 k f11) (ix3 0 ρ d) = arg11.view.read (Elt Ideal) (G6 c i arg2 arg6 arg8 arg9 arg11 arg13 arg14 arg15 v14 v17 f2 f6 f8 f9 f13 f14 f15 k f11) (ix3 0 ρ d) := by
  unfold G7
  exact st_miss arg11.view _ _ _ k rfl ρ hρ d

theorem G8_hit (hn : HI c i arg2 f2 k - LO c i arg2 f2 k = BitVec.ofNat 32 8) (h : (LO c i arg2 f2 k).toNat + 8 ≤ 8) (f11) (r d : Fin 128) :
    arg11.view.read (Elt Ideal) (G8 c i arg2 arg6 arg8 arg9 arg11 arg13 arg14 arg15 v14 v17 f2 f6 f8 f9 f13 f14 f15 k f11) (ix3 0 (pos k.val r k.isLt) d)
      = outAt (fun j : Fin 1024 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 1024 => arg15.view.read (Elt Ideal) f15 (ix2 d ⟨128 * (LO c i arg2 f2 k).toNat + j.val, by have := j.isLt; omega⟩)) v17 := by
  have hc : k0_cond10 (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2) = 1#1 := (cond8_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).2 hn
  unfold G8
  refine (st_hit arg11.view _ _ _ hc k rfl r d).trans ?_
  refine (pay8 c i arg2 arg6 arg8 arg9 arg13 arg14 arg15 v14 v17 f2 f6 f8 f9 f13 f14 f15 k hc r d).trans ?_
  rw [funext fun j => cat8 c i arg2 arg6 arg8 arg9 arg13 arg14 f2 f6 f8 f9 f13 f14 k hc h j r, funext fun j => vt8 c i arg2 arg15 f2 f15 k hc h d j]

theorem G8_not (n : ℕ) (hn : HI c i arg2 f2 k - LO c i arg2 f2 k = BitVec.ofNat 32 n) (h : BitVec.ofNat 32 n ≠ BitVec.ofNat 32 8) (f11) :
    G8 c i arg2 arg6 arg8 arg9 arg11 arg13 arg14 arg15 v14 v17 f2 f6 f8 f9 f13 f14 f15 k f11 = (G7 c i arg2 arg6 arg8 arg9 arg11 arg13 arg14 arg15 v14 v17 f2 f6 f8 f9 f13 f14 f15 k f11) := by
  unfold G8
  exact dif_neg (fun e => h (hn.symm.trans ((cond8_iff (trip.sl.r c i arg2 f2 k) (trip.sl.r_1 c i arg2 f2 k) (trip.sl.r_2 c i arg2 f2) (trip.sl.r_3 c i arg2 f2) (trip.sl.r_4 c i arg2 f2) (trip.sl.r_5 c i arg2 f2) (trip.sl.r_6 c i arg2 f2) (trip.sl.r_7 c i arg2 f2) (trip.sl.r_8 c i arg2 f2) (trip.sl.r_9 c i arg2 f2) (trip.sl.r_10 c i arg2 f2) (trip.sl.r_11 c i arg2 f2) (trip.sl.r_12 c i arg2 f2) (trip.sl.r_13 c i arg2 f2) (trip.sl.r_14 c i arg2 f2) (trip.sl.r_15 c i arg2 f2) (trip.sl.r_16 c i arg2 f2) (trip.sl.r_17 c i arg2 f2)).1 e)))

theorem G8_miss (f11) (ρ : Fin 1024) (hρ : ρ.val / 128 ≠ k.val) (d : Fin 128) :
    arg11.view.read (Elt Ideal) (G8 c i arg2 arg6 arg8 arg9 arg11 arg13 arg14 arg15 v14 v17 f2 f6 f8 f9 f13 f14 f15 k f11) (ix3 0 ρ d) = arg11.view.read (Elt Ideal) (G7 c i arg2 arg6 arg8 arg9 arg11 arg13 arg14 arg15 v14 v17 f2 f6 f8 f9 f13 f14 f15 k f11) (ix3 0 ρ d) := by
  unfold G8
  exact st_miss arg11.view _ _ _ k rfl ρ hρ d

theorem trip_hit1 (hn : HI c i arg2 f2 k - LO c i arg2 f2 k = BitVec.ofNat 32 1) (h : (LO c i arg2 f2 k).toNat + 1 ≤ 8) (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun j : Fin 128 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 128 => arg15.view.read (Elt Ideal) f15 (ix2 d ⟨128 * (LO c i arg2 f2 k).toNat + j.val, by have := j.isLt; omega⟩)) v17 := by
  rw [trip_eq, G8_not c i arg2 arg6 arg8 arg9 arg11 arg13 arg14 arg15 v14 v17 f2 f6 f8 f9 f13 f14 f15 k 1 hn (by decide) f11, G7_not c i arg2 arg6 arg8 arg9 arg11 arg13 arg14 arg15 v14 v17 f2 f6 f8 f9 f13 f14 f15 k 1 hn (by decide) f11, G6_not c i arg2 arg6 arg8 arg9 arg11 arg13 arg14 arg15 v14 v17 f2 f6 f8 f9 f13 f14 f15 k 1 hn (by decide) f11, G5_not c i arg2 arg6 arg8 arg9 arg11 arg13 arg14 arg15 v14 v17 f2 f6 f8 f9 f13 f14 f15 k 1 hn (by decide) f11, G4_not c i arg2 arg6 arg8 arg9 arg11 arg13 arg14 arg15 v14 v17 f2 f6 f8 f9 f13 f14 f15 k 1 hn (by decide) f11, G3_not c i arg2 arg6 arg8 arg9 arg11 arg13 arg14 arg15 v14 v17 f2 f6 f8 f9 f13 f14 f15 k 1 hn (by decide) f11, G2_not c i arg2 arg6 arg8 arg9 arg11 arg13 arg14 arg15 v14 v17 f2 f6 f8 f9 f13 f14 f15 k 1 hn (by decide) f11]
  exact G1_hit c i arg2 arg6 arg8 arg9 arg11 arg13 arg14 arg15 v14 v17 f2 f6 f8 f9 f13 f14 f15 k hn h f11 r d

theorem trip_hit2 (hn : HI c i arg2 f2 k - LO c i arg2 f2 k = BitVec.ofNat 32 2) (h : (LO c i arg2 f2 k).toNat + 2 ≤ 8) (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun j : Fin 256 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 256 => arg15.view.read (Elt Ideal) f15 (ix2 d ⟨128 * (LO c i arg2 f2 k).toNat + j.val, by have := j.isLt; omega⟩)) v17 := by
  rw [trip_eq, G8_not c i arg2 arg6 arg8 arg9 arg11 arg13 arg14 arg15 v14 v17 f2 f6 f8 f9 f13 f14 f15 k 2 hn (by decide) f11, G7_not c i arg2 arg6 arg8 arg9 arg11 arg13 arg14 arg15 v14 v17 f2 f6 f8 f9 f13 f14 f15 k 2 hn (by decide) f11, G6_not c i arg2 arg6 arg8 arg9 arg11 arg13 arg14 arg15 v14 v17 f2 f6 f8 f9 f13 f14 f15 k 2 hn (by decide) f11, G5_not c i arg2 arg6 arg8 arg9 arg11 arg13 arg14 arg15 v14 v17 f2 f6 f8 f9 f13 f14 f15 k 2 hn (by decide) f11, G4_not c i arg2 arg6 arg8 arg9 arg11 arg13 arg14 arg15 v14 v17 f2 f6 f8 f9 f13 f14 f15 k 2 hn (by decide) f11, G3_not c i arg2 arg6 arg8 arg9 arg11 arg13 arg14 arg15 v14 v17 f2 f6 f8 f9 f13 f14 f15 k 2 hn (by decide) f11]
  exact G2_hit c i arg2 arg6 arg8 arg9 arg11 arg13 arg14 arg15 v14 v17 f2 f6 f8 f9 f13 f14 f15 k hn h f11 r d

theorem trip_hit3 (hn : HI c i arg2 f2 k - LO c i arg2 f2 k = BitVec.ofNat 32 3) (h : (LO c i arg2 f2 k).toNat + 3 ≤ 8) (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun j : Fin 384 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 384 => arg15.view.read (Elt Ideal) f15 (ix2 d ⟨128 * (LO c i arg2 f2 k).toNat + j.val, by have := j.isLt; omega⟩)) v17 := by
  rw [trip_eq, G8_not c i arg2 arg6 arg8 arg9 arg11 arg13 arg14 arg15 v14 v17 f2 f6 f8 f9 f13 f14 f15 k 3 hn (by decide) f11, G7_not c i arg2 arg6 arg8 arg9 arg11 arg13 arg14 arg15 v14 v17 f2 f6 f8 f9 f13 f14 f15 k 3 hn (by decide) f11, G6_not c i arg2 arg6 arg8 arg9 arg11 arg13 arg14 arg15 v14 v17 f2 f6 f8 f9 f13 f14 f15 k 3 hn (by decide) f11, G5_not c i arg2 arg6 arg8 arg9 arg11 arg13 arg14 arg15 v14 v17 f2 f6 f8 f9 f13 f14 f15 k 3 hn (by decide) f11, G4_not c i arg2 arg6 arg8 arg9 arg11 arg13 arg14 arg15 v14 v17 f2 f6 f8 f9 f13 f14 f15 k 3 hn (by decide) f11]
  exact G3_hit c i arg2 arg6 arg8 arg9 arg11 arg13 arg14 arg15 v14 v17 f2 f6 f8 f9 f13 f14 f15 k hn h f11 r d

theorem trip_hit4 (hn : HI c i arg2 f2 k - LO c i arg2 f2 k = BitVec.ofNat 32 4) (h : (LO c i arg2 f2 k).toNat + 4 ≤ 8) (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun j : Fin 512 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 512 => arg15.view.read (Elt Ideal) f15 (ix2 d ⟨128 * (LO c i arg2 f2 k).toNat + j.val, by have := j.isLt; omega⟩)) v17 := by
  rw [trip_eq, G8_not c i arg2 arg6 arg8 arg9 arg11 arg13 arg14 arg15 v14 v17 f2 f6 f8 f9 f13 f14 f15 k 4 hn (by decide) f11, G7_not c i arg2 arg6 arg8 arg9 arg11 arg13 arg14 arg15 v14 v17 f2 f6 f8 f9 f13 f14 f15 k 4 hn (by decide) f11, G6_not c i arg2 arg6 arg8 arg9 arg11 arg13 arg14 arg15 v14 v17 f2 f6 f8 f9 f13 f14 f15 k 4 hn (by decide) f11, G5_not c i arg2 arg6 arg8 arg9 arg11 arg13 arg14 arg15 v14 v17 f2 f6 f8 f9 f13 f14 f15 k 4 hn (by decide) f11]
  exact G4_hit c i arg2 arg6 arg8 arg9 arg11 arg13 arg14 arg15 v14 v17 f2 f6 f8 f9 f13 f14 f15 k hn h f11 r d

theorem trip_hit5 (hn : HI c i arg2 f2 k - LO c i arg2 f2 k = BitVec.ofNat 32 5) (h : (LO c i arg2 f2 k).toNat + 5 ≤ 8) (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun j : Fin 640 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 640 => arg15.view.read (Elt Ideal) f15 (ix2 d ⟨128 * (LO c i arg2 f2 k).toNat + j.val, by have := j.isLt; omega⟩)) v17 := by
  rw [trip_eq, G8_not c i arg2 arg6 arg8 arg9 arg11 arg13 arg14 arg15 v14 v17 f2 f6 f8 f9 f13 f14 f15 k 5 hn (by decide) f11, G7_not c i arg2 arg6 arg8 arg9 arg11 arg13 arg14 arg15 v14 v17 f2 f6 f8 f9 f13 f14 f15 k 5 hn (by decide) f11, G6_not c i arg2 arg6 arg8 arg9 arg11 arg13 arg14 arg15 v14 v17 f2 f6 f8 f9 f13 f14 f15 k 5 hn (by decide) f11]
  exact G5_hit c i arg2 arg6 arg8 arg9 arg11 arg13 arg14 arg15 v14 v17 f2 f6 f8 f9 f13 f14 f15 k hn h f11 r d

theorem trip_hit6 (hn : HI c i arg2 f2 k - LO c i arg2 f2 k = BitVec.ofNat 32 6) (h : (LO c i arg2 f2 k).toNat + 6 ≤ 8) (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun j : Fin 768 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 768 => arg15.view.read (Elt Ideal) f15 (ix2 d ⟨128 * (LO c i arg2 f2 k).toNat + j.val, by have := j.isLt; omega⟩)) v17 := by
  rw [trip_eq, G8_not c i arg2 arg6 arg8 arg9 arg11 arg13 arg14 arg15 v14 v17 f2 f6 f8 f9 f13 f14 f15 k 6 hn (by decide) f11, G7_not c i arg2 arg6 arg8 arg9 arg11 arg13 arg14 arg15 v14 v17 f2 f6 f8 f9 f13 f14 f15 k 6 hn (by decide) f11]
  exact G6_hit c i arg2 arg6 arg8 arg9 arg11 arg13 arg14 arg15 v14 v17 f2 f6 f8 f9 f13 f14 f15 k hn h f11 r d

theorem trip_hit7 (hn : HI c i arg2 f2 k - LO c i arg2 f2 k = BitVec.ofNat 32 7) (h : (LO c i arg2 f2 k).toNat + 7 ≤ 8) (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun j : Fin 896 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 896 => arg15.view.read (Elt Ideal) f15 (ix2 d ⟨128 * (LO c i arg2 f2 k).toNat + j.val, by have := j.isLt; omega⟩)) v17 := by
  rw [trip_eq, G8_not c i arg2 arg6 arg8 arg9 arg11 arg13 arg14 arg15 v14 v17 f2 f6 f8 f9 f13 f14 f15 k 7 hn (by decide) f11]
  exact G7_hit c i arg2 arg6 arg8 arg9 arg11 arg13 arg14 arg15 v14 v17 f2 f6 f8 f9 f13 f14 f15 k hn h f11 r d

theorem trip_hit8 (hn : HI c i arg2 f2 k - LO c i arg2 f2 k = BitVec.ofNat 32 8) (h : (LO c i arg2 f2 k).toNat + 8 ≤ 8) (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun j : Fin 1024 => Yk c arg6 arg8 arg9 arg13 arg14 f6 f8 f9 f13 f14 ⟨128 * (LO c i arg2 f2 k).toNat + j.val, by have := j.isLt; omega⟩ (pos k.val r k.isLt))
          ((v14 : EReal) * (Named.named (F := Ideal) κ "log2e" (φ := .f32) 1069066811#32 : EReal))
          (fun j : Fin 1024 => arg15.view.read (Elt Ideal) f15 (ix2 d ⟨128 * (LO c i arg2 f2 k).toNat + j.val, by have := j.isLt; omega⟩)) v17 := by
  rw [trip_eq]
  exact G8_hit c i arg2 arg6 arg8 arg9 arg11 arg13 arg14 arg15 v14 v17 f2 f6 f8 f9 f13 f14 f15 k hn h f11 r d

theorem trip_miss (f11) (ρ : Fin 1024) (hρ : ρ.val / 128 ≠ k.val) (d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 ρ d) = arg11.view.read (Elt Ideal) f11 (ix3 0 ρ d) := by
  rw [trip_eq, G8_miss c i arg2 arg6 arg8 arg9 arg11 arg13 arg14 arg15 v14 v17 f2 f6 f8 f9 f13 f14 f15 k f11 ρ hρ d, G7_miss c i arg2 arg6 arg8 arg9 arg11 arg13 arg14 arg15 v14 v17 f2 f6 f8 f9 f13 f14 f15 k f11 ρ hρ d, G6_miss c i arg2 arg6 arg8 arg9 arg11 arg13 arg14 arg15 v14 v17 f2 f6 f8 f9 f13 f14 f15 k f11 ρ hρ d, G5_miss c i arg2 arg6 arg8 arg9 arg11 arg13 arg14 arg15 v14 v17 f2 f6 f8 f9 f13 f14 f15 k f11 ρ hρ d, G4_miss c i arg2 arg6 arg8 arg9 arg11 arg13 arg14 arg15 v14 v17 f2 f6 f8 f9 f13 f14 f15 k f11 ρ hρ d, G3_miss c i arg2 arg6 arg8 arg9 arg11 arg13 arg14 arg15 v14 v17 f2 f6 f8 f9 f13 f14 f15 k f11 ρ hρ d, G2_miss c i arg2 arg6 arg8 arg9 arg11 arg13 arg14 arg15 v14 v17 f2 f6 f8 f9 f13 f14 f15 k f11 ρ hρ d, G1_miss c i arg2 arg6 arg8 arg9 arg11 arg13 arg14 arg15 v14 v17 f2 f6 f8 f9 f13 f14 f15 k f11 ρ hρ d]

end Cert.Proof.KernelIdeal
end
-- ==== Proof.KernelIdealRow.lean ====
/-
  Every row of the result after the eight trips: over sorted ids, the keys outside a trip's window are masked, so the
  trip's rows are the row function over all the keys.
-/
module
public import proofs.«01_k».proof.Proof.KernelIdealTrip
public import proofs.«01_k».proof.Proof.RowMath
@[expose] public section
set_option maxRecDepth 16384
noncomputable section
namespace Cert.Proof.KernelIdeal
open Cert.KernelIdeal
open Idealize.ShloMosaic Idealize.ShloMosaic.TcCoe
open Cert.Proof.Row Cert.Proof.Words

/-- Of bits that, once zero, stay zero, the set ones are the first so many. -/
theorem cnt_iff : ∀ b0 b1 b2 b3 b4 b5 b6 b7 : BitVec 1, (b1 = 1#1 → b0 = 1#1) → (b2 = 1#1 → b1 = 1#1) → (b3 = 1#1 → b2 = 1#1) → (b4 = 1#1 → b3 = 1#1)
    → (b5 = 1#1 → b4 = 1#1) → (b6 = 1#1 → b5 = 1#1) → (b7 = 1#1 → b6 = 1#1) → ∀ t : Fin 8, (![b0, b1, b2, b3, b4, b5, b6, b7] t = 1#1 ↔ t.val < (cntW b0 b1 b2 b3 b4 b5 b6 b7).toNat) := by
  decide +kernel

theorem slt_iff (a b : BitVec 32) : Scalar.cmpi .slt a b = 1#1 ↔ a.toInt < b.toInt := by
  show BitVec.ofBool (a.slt b) = 1#1 ↔ _
  rw [BitVec.slt]
  by_cases h : a.toInt < b.toInt <;> simp [h]

theorem sle_iff (a b : BitVec 32) : Scalar.cmpi .sle a b = 1#1 ↔ a.toInt ≤ b.toInt := by
  show BitVec.ofBool (a.sle b) = 1#1 ↔ _
  rw [BitVec.sle]
  by_cases h : a.toInt ≤ b.toInt <;> simp [h]

section Count
variable (S : Fin 1024 → BitVec 32) (mono : ∀ a b : Fin 1024, a.val ≤ b.val → (S a).toInt ≤ (S b).toInt)
include mono

theorem lo_iff (a : BitVec 32) (t : Fin 8) : (S ⟨128 * t.val + 127, by omega⟩).toInt < a.toInt
    ↔ t.val < (loW a (S 127) (S 255) (S 383) (S 511) (S 639) (S 767) (S 895) (S 1023)).toNat := by
  have h := cnt_iff (Scalar.cmpi .slt (S 127) a) (Scalar.cmpi .slt (S 255) a) (Scalar.cmpi .slt (S 383) a) (Scalar.cmpi .slt (S 511) a) (Scalar.cmpi .slt (S 639) a) (Scalar.cmpi .slt (S 767) a) (Scalar.cmpi .slt (S 895) a) (Scalar.cmpi .slt (S 1023) a)
    (by rw [slt_iff, slt_iff]; exact lt_of_le_of_lt (mono _ _ (by decide))) (by rw [slt_iff, slt_iff]; exact lt_of_le_of_lt (mono _ _ (by decide))) (by rw [slt_iff, slt_iff]; exact lt_of_le_of_lt (mono _ _ (by decide))) (by rw [slt_iff, slt_iff]; exact lt_of_le_of_lt (mono _ _ (by decide))) (by rw [slt_iff, slt_iff]; exact lt_of_le_of_lt (mono _ _ (by decide))) (by rw [slt_iff, slt_iff]; exact lt_of_le_of_lt (mono _ _ (by decide))) (by rw [slt_iff, slt_iff]; exact lt_of_le_of_lt (mono _ _ (by decide))) t
  rw [← h, ← slt_iff]
  fin_cases t <;> rfl

theorem hi_iff (z : BitVec 32) (t : Fin 8) : (S ⟨128 * t.val, by omega⟩).toInt ≤ z.toInt
    ↔ t.val < (hiW z (S 0) (S 128) (S 256) (S 384) (S 512) (S 640) (S 768) (S 896)).toNat := by
  have h := cnt_iff (Scalar.cmpi .sle (S 0) z) (Scalar.cmpi .sle (S 128) z) (Scalar.cmpi .sle (S 256) z) (Scalar.cmpi .sle (S 384) z) (Scalar.cmpi .sle (S 512) z) (Scalar.cmpi .sle (S 640) z) (Scalar.cmpi .sle (S 768) z) (Scalar.cmpi .sle (S 896) z)
    (by rw [sle_iff, sle_iff]; exact le_trans (mono _ _ (by decide))) (by rw [sle_iff, sle_iff]; exact le_trans (mono _ _ (by decide))) (by rw [sle_iff, sle_iff]; exact le_trans (mono _ _ (by decide))) (by rw [sle_iff, sle_iff]; exact le_trans (mono _ _ (by decide))) (by rw [sle_iff, sle_iff]; exact le_trans (mono _ _ (by decide))) (by rw [sle_iff, sle_iff]; exact le_trans (mono _ _ (by decide))) (by rw [sle_iff, sle_iff]; exact le_trans (mono _ _ (by decide))) t
  rw [← h, ← sle_iff]
  fin_cases t <;> rfl

/-- The window of a query tile: inside the keys, and every key outside it in another segment. -/
theorem window (k : Fin 8) (lo hi : BitVec 32)
    (hlo : lo = loW (S ⟨128 * k.val, by omega⟩) (S 127) (S 255) (S 383) (S 511) (S 639) (S 767) (S 895) (S 1023))
    (hhi : hi = hiW (S ⟨128 * k.val + 127, by omega⟩) (S 0) (S 128) (S 256) (S 384) (S 512) (S 640) (S 768) (S 896)) :
    lo.toNat + 1 ≤ hi.toNat ∧ hi.toNat ≤ 8 ∧ ∀ (r : Fin 128) (κ : Fin 1024), (κ.val < 128 * lo.toNat ∨ 128 * hi.toNat ≤ κ.val) → S κ ≠ S (pos k.val r k.isLt) := by
  have hl := lo_iff S mono (S ⟨128 * k.val, by omega⟩)
  have hh := hi_iff S mono (S ⟨128 * k.val + 127, by omega⟩)
  rw [← hlo] at hl
  rw [← hhi] at hh
  have h8 : hi.toNat ≤ 8 := by rw [hhi]; exact cntW_le _ _ _ _ _ _ _ _
  have l1 : ¬ k.val < lo.toNat := fun h => by
    have := (hl k).2 h
    have := mono ⟨128 * k.val, by omega⟩ ⟨128 * k.val + 127, by omega⟩ (by simp)
    omega
  have h1 : k.val < hi.toNat := (hh k).1 (mono _ _ (by simp))
  refine ⟨by omega, h8, fun r κ hκ e => ?_⟩
  have hr := r.isLt
  have hκl := κ.isLt
  have e' := congrArg BitVec.toInt e
  rcases hκ with h | h
  · have a := (hl ⟨κ.val / 128, by omega⟩).2 (by show κ.val / 128 < _; omega)
    have b := mono κ ⟨128 * (κ.val / 128) + 127, by omega⟩ (by show κ.val ≤ 128 * (κ.val / 128) + 127; omega)
    have d := mono ⟨128 * k.val, by omega⟩ (pos k.val r k.isLt) (by show 128 * k.val ≤ 128 * k.val + r.val; omega)
    simp only at a
    omega
  · have a := (not_congr (hh ⟨κ.val / 128, by omega⟩)).2 (by show ¬ κ.val / 128 < _; omega)
    have b := mono ⟨128 * (κ.val / 128), by omega⟩ κ (by show 128 * (κ.val / 128) ≤ κ.val; omega)
    have d := mono (pos k.val r k.isLt) ⟨128 * k.val + 127, by omega⟩ (by show 128 * k.val + r.val ≤ 128 * k.val + 127; omega)
    simp only at a
    omega
end Count

/-- A row function over a window of whole tiles, every score outside it masked, is the one over all the keys. -/
theorem out_window (lo n N : ℕ) (h : lo + n ≤ 8) (hN : N = 128 * n) (y v : Fin 1024 → EReal) (c vs : EReal) (hc : 0 < c)
    (hout : ∀ x : Fin 1024, (x.val < 128 * lo ∨ 128 * (lo + n) ≤ x.val) → y x = ⊥) :
    outAt (fun j : Fin N => y ⟨128 * lo + j.val, by have := j.isLt; omega⟩) c (fun j : Fin N => v ⟨128 * lo + j.val, by have := j.isLt; omega⟩) vs = outAt y c v vs := by
  refine outAt_window (fun j : Fin N => (⟨128 * lo + j.val, by have := j.isLt; omega⟩ : Fin 1024)) ?_ y c hc v vs ?_
  · intro j j' h
    have := congrArg Fin.val h
    simp only at this
    exact Fin.ext (by omega)
  · intro x hx
    refine hout x ?_
    by_contra hcon
    exact hx ⟨x.val - 128 * lo, by omega⟩ (Fin.ext (by show 128 * _ + (x.val - _) = x.val; omega))

theorem tile_word : ∀ t : Fin 8, (Scalar.indexCast (Scalar.muli (tW t) 128#32)).toNat = 128 * t.val
    ∧ (Scalar.indexCast (Scalar.subi (Scalar.addi (Scalar.muli (tW t) 128#32) 128#32) 1#32)).toNat = 128 * t.val + 127 := by
  decide +kernel

variable (c : Dev nD) (i : grid0.Coords) (arg2 : Memref sig .tc .smem S2x1024 .i32) (harg2 : arg2.IsWhole) (arg3 : Memref sig .tc .smem S2x24 .f32) (harg3 : arg3.IsWhole) (arg4 : Memref sig .tc .smem S2x24 .f32) (harg4 : arg4.IsWhole) (arg5 : Memref sig .tc .smem S2x24 .f32) (harg5 : arg5.IsWhole) (arg6 : Memref sig .tc .vmem S1x1x1024 .i32) (harg6 : arg6.IsWhole) (arg7 : Memref sig .tc .vmem S1x1x128 .f32) (harg7 : arg7.IsWhole) (arg8 : Memref sig .tc .vmem S1x1024x128 .fp8e4m3) (harg8 : arg8.IsWhole) (arg9 : Memref sig .tc .vmem S1x1024x128 .fp8e4m3) (harg9 : arg9.IsWhole) (arg10 : Memref sig .tc .vmem S1x1024x128 .fp8e4m3) (harg10 : arg10.IsWhole) (arg11 : Memref sig .tc .vmem S1x1024x128 .bf16) (harg11 : arg11.IsWhole) (arg12 : Memref sig .tc .vmem S640x128 .i32) (harg12 : arg12.IsWhole) (arg13 : Memref sig .tc .vmem S1024x128 .i32) (harg13 : arg13.IsWhole) (arg14 : Memref sig .tc .vmem S640x128 .f32) (harg14 : arg14.IsWhole) (arg15 : Memref sig .tc .vmem S128x1024 .fp8e4m3) (harg15 : arg15.IsWhole) (arg0 : BitVec 32) (v14 : Ideal .f32) (v17 : Elt Ideal .f32)
  (f2 : Bf (F := Ideal) c arg2) (f6 : Bf (F := Ideal) c arg6) (f8 : Bf (F := Ideal) c arg8) (f9 : Bf (F := Ideal) c arg9)
  (f13 : Bf (F := Ideal) c arg13) (f14 : Bf (F := Ideal) c arg14) (f15 : Bf (F := Ideal) c arg15) (k : Fin k0_t1_loop.trips)

section Rows
variable (S : Fin 1024 → BitVec 32) (b : Fin 2) (hb : (i 0).val = b.val)
  (h2 : ∀ n : Fin 1024, arg2.view.read (Elt Ideal) f2 (ix2 b n) = S n)
include hb h2

theorem word_at {off : Fin 2 → ℕ} (inb) (p) (n : Fin 1024) (ho : off = ![(BitVec.ofNat 32 (i 0).val).toNat, n.val]) :
    arg2.view.readAt (Elt Ideal) (Rect.unit (s := S2x1024) off S1x1.size inb).toLoadRect f2 (Shape.Idx.first p) = S n := by
  rw [← h2]
  have e : (BitVec.ofNat 32 (i 0).val).toNat = b.val := by rw [hb, BitVec.toNat_ofNat]; omega
  rw [e] at ho
  subst ho
  exact ld arg2.view f2 inb _ _ (fun a => by match a with | ⟨0, _⟩ => rfl | ⟨1, _⟩ => rfl)

theorem LO_eq : LO c i arg2 f2 k = loW (S ⟨128 * k.val, by have := k.isLt; change _ < 8 at this; omega⟩) (S 127) (S 255) (S 383) (S 511) (S 639) (S 767) (S 895) (S 1023) := by
  have w := fun {off} => word_at c i arg2 f2 S b hb h2 (off := off)
  have e0 : trip.sl.r c i arg2 f2 k = S ⟨128 * k.val, by have := k.isLt; change _ < 8 at this; omega⟩ :=
    w _ _ _ (congrArg (fun z : ℕ => ![(BitVec.ofNat 32 (i 0).val).toNat, z]) (tile_word k).1)
  have e2 : trip.sl.r_2 c i arg2 f2 = S 127 := w _ _ _ rfl
  have e4 : trip.sl.r_4 c i arg2 f2 = S 255 := w _ _ _ rfl
  have e6 : trip.sl.r_6 c i arg2 f2 = S 383 := w _ _ _ rfl
  have e8 : trip.sl.r_8 c i arg2 f2 = S 511 := w _ _ _ rfl
  have e10 : trip.sl.r_10 c i arg2 f2 = S 639 := w _ _ _ rfl
  have e12 : trip.sl.r_12 c i arg2 f2 = S 767 := w _ _ _ rfl
  have e14 : trip.sl.r_14 c i arg2 f2 = S 895 := w _ _ _ rfl
  have e16 : trip.sl.r_16 c i arg2 f2 = S 1023 := w _ _ _ rfl
  unfold LO
  rw [e0, e2, e4, e6, e8, e10, e12, e14, e16]

theorem HI_eq : HI c i arg2 f2 k = hiW (S ⟨128 * k.val + 127, by have := k.isLt; change _ < 8 at this; omega⟩) (S 0) (S 128) (S 256) (S 384) (S 512) (S 640) (S 768) (S 896) := by
  have w := fun {off} => word_at c i arg2 f2 S b hb h2 (off := off)
  have e0 : trip.sl.r_1 c i arg2 f2 k = S ⟨128 * k.val + 127, by have := k.isLt; change _ < 8 at this; omega⟩ :=
    w _ _ _ (congrArg (fun z : ℕ => ![(BitVec.ofNat 32 (i 0).val).toNat, z]) (tile_word k).2)
  have e3 : trip.sl.r_3 c i arg2 f2 = S 0 := w _ _ _ rfl
  have e5 : trip.sl.r_5 c i arg2 f2 = S 128 := w _ _ _ rfl
  have e7 : trip.sl.r_7 c i arg2 f2 = S 256 := w _ _ _ rfl
  have e9 : trip.sl.r_9 c i arg2 f2 = S 384 := w _ _ _ rfl
  have e11 : trip.sl.r_11 c i arg2 f2 = S 512 := w _ _ _ rfl
  have e13 : trip.sl.r_13 c i arg2 f2 = S 640 := w _ _ _ rfl
  have e15 : trip.sl.r_15 c i arg2 f2 = S 768 := w _ _ _ rfl
  have e17 : trip.sl.r_17 c i arg2 f2 = S 896 := w _ _ _ rfl
  unfold HI
  rw [e0, e3, e5, e7, e9, e11, e13, e15, e17]

variable (mono : ∀ a b : Fin 1024, a.val ≤ b.val → (S a).toInt ≤ (S b).toInt)
  (h6 : ∀ n : Fin 1024, arg6.view.read (Elt Ideal) f6 (ix3 0 0 n) = S n)
  (h13 : ∀ (n : Fin 1024) (l : Fin 128), arg13.view.read (Elt Ideal) f13 (ix2 n l) = S n)
  (hc : (0 : EReal) < (v14 : EReal) * (Named.named (F := Ideal) κ "log2e" (φ := .f32) 1069066811#32 : EReal))

omit hb h2 in
theorem Yk_masked (κ' ρ : Fin 1024) (h : S κ' ≠ S ρ) (h6 : ∀ n : Fin 1024, arg6.view.read (Elt Ideal) f6 (ix3 0 0 n) = S n)
    (h13 : ∀ (n : Fin 1024) (l : Fin 128), arg13.view.read (Elt Ideal) f13 (ix2 n l) = S n) : Yk c arg6 arg8 arg9 arg13 arg14 f6 f8 f9 f13 f14 κ' ρ = ⊥ := by
  unfold Yk
  rw [h6, h13, ← ofBits_ninf]
  have e : IntOp.cmpi .eq (S κ') (S ρ) = 0#1 := by
    show BitVec.ofBool (S κ' == S ρ) = 0#1
    rw [beq_eq_false_iff_ne.2 h]; rfl
  rw [e]; rfl

include mono h6 h13 hc

/-- A trip's rows: the row function over all the keys. -/
theorem trip_row (f11) (r d : Fin 128) :
    arg11.view.read (Elt Ideal) ((trip c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k).1 f11) (ix3 0 (pos k.val r k.isLt) d)
      = outAt (fun κ' : Fin 1024 => Yk c arg6 arg8 arg9 arg13 arg14 f6 f8 f9 f13 f14 κ' (pos k.val r k.isLt)) ((v14 : EReal) * (Named.named (F := Ideal) κ "log2e" (φ := .f32) 1069066811#32 : EReal))
          (fun κ' : Fin 1024 => arg15.view.read (Elt Ideal) f15 (ix2 d κ')) v17 := by
  obtain ⟨a, a8, ho⟩ := window S mono k _ _ (LO_eq c i arg2 f2 k S b hb h2) (HI_eq c i arg2 f2 k S b hb h2)
  have hO : ∀ x : Fin 1024, (x.val < 128 * (LO c i arg2 f2 k).toNat ∨ 128 * (HI c i arg2 f2 k).toNat ≤ x.val) → Yk c arg6 arg8 arg9 arg13 arg14 f6 f8 f9 f13 f14 x (pos k.val r k.isLt) = ⊥ := fun x hx =>
    Yk_masked c arg6 arg8 arg9 arg13 arg14 f6 f8 f9 f13 f14 S x _ (ho r x hx) h6 h13
  have hsub : ∀ n : ℕ, n ≤ 8 → (HI c i arg2 f2 k).toNat = (LO c i arg2 f2 k).toNat + n → HI c i arg2 f2 k - LO c i arg2 f2 k = BitVec.ofNat 32 n := fun n hn h => by
    apply BitVec.eq_of_toNat_eq
    rw [BitVec.toNat_sub, BitVec.toNat_ofNat]; omega
  generalize hd : (HI c i arg2 f2 k).toNat - (LO c i arg2 f2 k).toNat = n
  have hHI : (HI c i arg2 f2 k).toNat = (LO c i arg2 f2 k).toNat + n := by omega
  have hn1 : 1 ≤ n := by omega
  have hn8 : (LO c i arg2 f2 k).toNat + n ≤ 8 := by omega
  rw [hHI] at hO
  have hS := hsub n (by omega) hHI
  match n, hn1, hn8, hO, hS with
  | 1, _, hn8, hO, hS => exact (trip_hit1 c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k hS hn8 f11 r d).trans (out_window (LO c i arg2 f2 k).toNat 1 128 hn8 rfl (fun κ' : Fin 1024 => Yk c arg6 arg8 arg9 arg13 arg14 f6 f8 f9 f13 f14 κ' (pos k.val r k.isLt)) (fun κ' : Fin 1024 => arg15.view.read (Elt Ideal) f15 (ix2 d κ')) _ _ hc hO)
  | 2, _, hn8, hO, hS => exact (trip_hit2 c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k hS hn8 f11 r d).trans (out_window (LO c i arg2 f2 k).toNat 2 256 hn8 rfl (fun κ' : Fin 1024 => Yk c arg6 arg8 arg9 arg13 arg14 f6 f8 f9 f13 f14 κ' (pos k.val r k.isLt)) (fun κ' : Fin 1024 => arg15.view.read (Elt Ideal) f15 (ix2 d κ')) _ _ hc hO)
  | 3, _, hn8, hO, hS => exact (trip_hit3 c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k hS hn8 f11 r d).trans (out_window (LO c i arg2 f2 k).toNat 3 384 hn8 rfl (fun κ' : Fin 1024 => Yk c arg6 arg8 arg9 arg13 arg14 f6 f8 f9 f13 f14 κ' (pos k.val r k.isLt)) (fun κ' : Fin 1024 => arg15.view.read (Elt Ideal) f15 (ix2 d κ')) _ _ hc hO)
  | 4, _, hn8, hO, hS => exact (trip_hit4 c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k hS hn8 f11 r d).trans (out_window (LO c i arg2 f2 k).toNat 4 512 hn8 rfl (fun κ' : Fin 1024 => Yk c arg6 arg8 arg9 arg13 arg14 f6 f8 f9 f13 f14 κ' (pos k.val r k.isLt)) (fun κ' : Fin 1024 => arg15.view.read (Elt Ideal) f15 (ix2 d κ')) _ _ hc hO)
  | 5, _, hn8, hO, hS => exact (trip_hit5 c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k hS hn8 f11 r d).trans (out_window (LO c i arg2 f2 k).toNat 5 640 hn8 rfl (fun κ' : Fin 1024 => Yk c arg6 arg8 arg9 arg13 arg14 f6 f8 f9 f13 f14 κ' (pos k.val r k.isLt)) (fun κ' : Fin 1024 => arg15.view.read (Elt Ideal) f15 (ix2 d κ')) _ _ hc hO)
  | 6, _, hn8, hO, hS => exact (trip_hit6 c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k hS hn8 f11 r d).trans (out_window (LO c i arg2 f2 k).toNat 6 768 hn8 rfl (fun κ' : Fin 1024 => Yk c arg6 arg8 arg9 arg13 arg14 f6 f8 f9 f13 f14 κ' (pos k.val r k.isLt)) (fun κ' : Fin 1024 => arg15.view.read (Elt Ideal) f15 (ix2 d κ')) _ _ hc hO)
  | 7, _, hn8, hO, hS => exact (trip_hit7 c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k hS hn8 f11 r d).trans (out_window (LO c i arg2 f2 k).toNat 7 896 hn8 rfl (fun κ' : Fin 1024 => Yk c arg6 arg8 arg9 arg13 arg14 f6 f8 f9 f13 f14 κ' (pos k.val r k.isLt)) (fun κ' : Fin 1024 => arg15.view.read (Elt Ideal) f15 (ix2 d κ')) _ _ hc hO)
  | 8, _, hn8, hO, hS => exact (trip_hit8 c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 k hS hn8 f11 r d).trans (out_window (LO c i arg2 f2 k).toNat 8 1024 hn8 rfl (fun κ' : Fin 1024 => Yk c arg6 arg8 arg9 arg13 arg14 f6 f8 f9 f13 f14 κ' (pos k.val r k.isLt)) (fun κ' : Fin 1024 => arg15.view.read (Elt Ideal) f15 (ix2 d κ')) _ _ hc hO)
  | n + 9, _, hn8, _, _ => exact absurd hn8 (by omega)

/-- The result's rows after the first `n` trips. -/
theorem acc_row (f11) (n : ℕ) (hn : n ≤ 8) (ρ : Fin 1024) (hρ : ρ.val < 128 * n) (d : Fin 128) :
    arg11.view.read (Elt Ideal) (accAt c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 f11 n) (ix3 0 ρ d)
      = outAt (fun κ' : Fin 1024 => Yk c arg6 arg8 arg9 arg13 arg14 f6 f8 f9 f13 f14 κ' ρ) ((v14 : EReal) * (Named.named (F := Ideal) κ "log2e" (φ := .f32) 1069066811#32 : EReal))
          (fun κ' : Fin 1024 => arg15.view.read (Elt Ideal) f15 (ix2 d κ')) v17 := by
  induction n with
  | zero => exact absurd hρ (by omega)
  | succ n ih =>
    have hlt : n < k0_t1_loop.trips := by show n < 8; omega
    rw [accAt, dif_pos hlt]
    by_cases hq : ρ.val / 128 = n
    · have hn8 : n < 8 := hlt
      obtain ⟨r, rfl⟩ : ∃ r : Fin 128, ρ = pos n r hn8 := ⟨⟨ρ.val % 128, Nat.mod_lt _ (by decide)⟩, Fin.ext (by show ρ.val = 128 * n + ρ.val % 128; omega)⟩
      exact trip_row c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 ⟨n, hlt⟩ S b hb h2 mono h6 h13 hc _ r d
    · rw [trip_miss c i arg2 harg2 arg3 harg3 arg4 harg4 arg5 harg5 arg6 harg6 arg7 harg7 arg8 harg8 arg9 harg9 arg10 harg10 arg11 harg11 arg12 harg12 arg13 harg13 arg14 harg14 arg15 harg15 arg0 v14 v17 f2 f6 f8 f9 f13 f14 f15 ⟨n, hlt⟩ _ ρ hq d]
      exact ih (by omega) (by omega)

end Rows

end Cert.Proof.KernelIdeal
end
-- ==== Proof.RowExp.lean ====
/-
  The exponent of a row's power of two: ten comparisons against powers of two count what the logarithm to base two,
  rounded down, gives.
-/
module
public import proofs.«01_k».proof.Proof.RowMath
@[expose] public section
set_option maxRecDepth 16384
noncomputable section
namespace Cert.Proof.Row
open Idealize.ShloMosaic

theorem floor_log {x : ℝ} {e : ℤ} (h1 : (2 : ℝ) ^ (e - 1) ≤ x) (h2 : x < (2 : ℝ) ^ e) : ⌊Real.log x * (1 / Real.log 2)⌋ = e - 1 := by
  have hx : 0 < x := lt_of_lt_of_le (zpow_pos (by norm_num) _) h1
  have hl : 0 < Real.log 2 := Real.log_pos (by norm_num)
  have a1 : ((e - 1 : ℤ) : ℝ) * Real.log 2 ≤ Real.log x := by
    rw [← Real.log_zpow]; exact Real.log_le_log (zpow_pos (by norm_num) _) h1
  have a2 : Real.log x < (e : ℝ) * Real.log 2 := by
    rw [← Real.log_zpow]; exact Real.log_lt_log hx h2
  rw [Int.floor_eq_iff, mul_one_div]
  refine ⟨(le_div_iff₀ hl).mpr a1, (div_lt_iff₀ hl).mpr ?_⟩
  push_cast
  linarith

theorem ge_coe {b : BitVec 32} {t x : ℝ} (hb : Ideal.ofBits FTy.f32 b = ((t : ℝ) : EReal)) : ge (x : EReal) b = if t ≤ x then 1#32 else 0#32 := by
  unfold ge
  rw [hb]
  by_cases h : t ≤ x
  · rw [if_pos h, decide_eq_true (EReal.coe_le_coe_iff.mpr h)]; rfl
  · rw [if_neg h, decide_eq_false (fun hh => h (EReal.coe_le_coe_iff.mp hh))]; rfl

theorem b0 : Ideal.ofBits FTy.f32 914358272#32 = ((1/262144 : ℝ) : EReal) := by
  simp [Ideal.ofBits, Ideal.ieee, -EReal.coe_mul]; norm_num
theorem b1 : Ideal.ofBits FTy.f32 922746880#32 = ((1/131072 : ℝ) : EReal) := by
  simp [Ideal.ofBits, Ideal.ieee, -EReal.coe_mul]; norm_num
theorem b2 : Ideal.ofBits FTy.f32 931135488#32 = ((1/65536 : ℝ) : EReal) := by
  simp [Ideal.ofBits, Ideal.ieee, -EReal.coe_mul]; norm_num
theorem b3 : Ideal.ofBits FTy.f32 939524096#32 = ((1/32768 : ℝ) : EReal) := by
  simp [Ideal.ofBits, Ideal.ieee, -EReal.coe_mul]; norm_num
theorem b4 : Ideal.ofBits FTy.f32 947912704#32 = ((1/16384 : ℝ) : EReal) := by
  simp [Ideal.ofBits, Ideal.ieee, -EReal.coe_mul]; norm_num
theorem b5 : Ideal.ofBits FTy.f32 956301312#32 = ((1/8192 : ℝ) : EReal) := by
  simp [Ideal.ofBits, Ideal.ieee, -EReal.coe_mul]; norm_num
theorem b6 : Ideal.ofBits FTy.f32 964689920#32 = ((1/4096 : ℝ) : EReal) := by
  simp [Ideal.ofBits, Ideal.ieee, -EReal.coe_mul]; norm_num
theorem b7 : Ideal.ofBits FTy.f32 973078528#32 = ((1/2048 : ℝ) : EReal) := by
  simp [Ideal.ofBits, Ideal.ieee, -EReal.coe_mul]; norm_num
theorem b8 : Ideal.ofBits FTy.f32 981467136#32 = ((1/1024 : ℝ) : EReal) := by
  simp [Ideal.ofBits, Ideal.ieee, -EReal.coe_mul]; norm_num
theorem b9 : Ideal.ofBits FTy.f32 989855744#32 = ((1/512 : ℝ) : EReal) := by
  simp [Ideal.ofBits, Ideal.ieee, -EReal.coe_mul]; norm_num
theorem ps0 : pScale 4294967278#32 = (((2 : ℝ) ^ ((-18 : ℤ)) : ℝ) : EReal) := by
  show Ideal.ofBits FTy.f32 914358272#32 = _
  simp [Ideal.ofBits, Ideal.ieee, -EReal.coe_mul]; norm_num
theorem pi0 : pInv 4294967278#32 = (((2 : ℝ) ^ (-(-18 : ℤ)) : ℝ) : EReal) := by
  show Ideal.ofBits FTy.f32 1216348160#32 = _
  simp [Ideal.ofBits, Ideal.ieee, -EReal.coe_mul]; norm_num; rw [← EReal.coe_pow]; norm_num
theorem ps1 : pScale 4294967279#32 = (((2 : ℝ) ^ ((-17 : ℤ)) : ℝ) : EReal) := by
  show Ideal.ofBits FTy.f32 922746880#32 = _
  simp [Ideal.ofBits, Ideal.ieee, -EReal.coe_mul]; norm_num
theorem pi1 : pInv 4294967279#32 = (((2 : ℝ) ^ (-(-17 : ℤ)) : ℝ) : EReal) := by
  show Ideal.ofBits FTy.f32 1207959552#32 = _
  simp [Ideal.ofBits, Ideal.ieee, -EReal.coe_mul]; norm_num; rw [← EReal.coe_pow]; norm_num
theorem ps2 : pScale 4294967280#32 = (((2 : ℝ) ^ ((-16 : ℤ)) : ℝ) : EReal) := by
  show Ideal.ofBits FTy.f32 931135488#32 = _
  simp [Ideal.ofBits, Ideal.ieee, -EReal.coe_mul]; norm_num
theorem pi2 : pInv 4294967280#32 = (((2 : ℝ) ^ (-(-16 : ℤ)) : ℝ) : EReal) := by
  show Ideal.ofBits FTy.f32 1199570944#32 = _
  simp [Ideal.ofBits, Ideal.ieee, -EReal.coe_mul]; norm_num; rw [← EReal.coe_pow]; norm_num
theorem ps3 : pScale 4294967281#32 = (((2 : ℝ) ^ ((-15 : ℤ)) : ℝ) : EReal) := by
  show Ideal.ofBits FTy.f32 939524096#32 = _
  simp [Ideal.ofBits, Ideal.ieee, -EReal.coe_mul]; norm_num
theorem pi3 : pInv 4294967281#32 = (((2 : ℝ) ^ (-(-15 : ℤ)) : ℝ) : EReal) := by
  show Ideal.ofBits FTy.f32 1191182336#32 = _
  simp [Ideal.ofBits, Ideal.ieee, -EReal.coe_mul]; norm_num; rw [← EReal.coe_pow]; norm_num
theorem ps4 : pScale 4294967282#32 = (((2 : ℝ) ^ ((-14 : ℤ)) : ℝ) : EReal) := by
  show Ideal.ofBits FTy.f32 947912704#32 = _
  simp [Ideal.ofBits, Ideal.ieee, -EReal.coe_mul]; norm_num
theorem pi4 : pInv 4294967282#32 = (((2 : ℝ) ^ (-(-14 : ℤ)) : ℝ) : EReal) := by
  show Ideal.ofBits FTy.f32 1182793728#32 = _
  simp [Ideal.ofBits, Ideal.ieee, -EReal.coe_mul]; norm_num; rw [← EReal.coe_pow]; norm_num
theorem ps5 : pScale 4294967283#32 = (((2 : ℝ) ^ ((-13 : ℤ)) : ℝ) : EReal) := by
  show Ideal.ofBits FTy.f32 956301312#32 = _
  simp [Ideal.ofBits, Ideal.ieee, -EReal.coe_mul]; norm_num
theorem pi5 : pInv 4294967283#32 = (((2 : ℝ) ^ (-(-13 : ℤ)) : ℝ) : EReal) := by
  show Ideal.ofBits FTy.f32 1174405120#32 = _
  simp [Ideal.ofBits, Ideal.ieee, -EReal.coe_mul]; norm_num; rw [← EReal.coe_pow]; norm_num
theorem ps6 : pScale 4294967284#32 = (((2 : ℝ) ^ ((-12 : ℤ)) : ℝ) : EReal) := by
  show Ideal.ofBits FTy.f32 964689920#32 = _
  simp [Ideal.ofBits, Ideal.ieee, -EReal.coe_mul]; norm_num
theorem pi6 : pInv 4294967284#32 = (((2 : ℝ) ^ (-(-12 : ℤ)) : ℝ) : EReal) := by
  show Ideal.ofBits FTy.f32 1166016512#32 = _
  simp [Ideal.ofBits, Ideal.ieee, -EReal.coe_mul]; norm_num; rw [← EReal.coe_pow]; norm_num
theorem ps7 : pScale 4294967285#32 = (((2 : ℝ) ^ ((-11 : ℤ)) : ℝ) : EReal) := by
  show Ideal.ofBits FTy.f32 973078528#32 = _
  simp [Ideal.ofBits, Ideal.ieee, -EReal.coe_mul]; norm_num
theorem pi7 : pInv 4294967285#32 = (((2 : ℝ) ^ (-(-11 : ℤ)) : ℝ) : EReal) := by
  show Ideal.ofBits FTy.f32 1157627904#32 = _
  simp [Ideal.ofBits, Ideal.ieee, -EReal.coe_mul]; norm_num; rw [← EReal.coe_pow]; norm_num
theorem ps8 : pScale 4294967286#32 = (((2 : ℝ) ^ ((-10 : ℤ)) : ℝ) : EReal) := by
  show Ideal.ofBits FTy.f32 981467136#32 = _
  simp [Ideal.ofBits, Ideal.ieee, -EReal.coe_mul]; norm_num
theorem pi8 : pInv 4294967286#32 = (((2 : ℝ) ^ (-(-10 : ℤ)) : ℝ) : EReal) := by
  show Ideal.ofBits FTy.f32 1149239296#32 = _
  simp [Ideal.ofBits, Ideal.ieee, -EReal.coe_mul]; norm_num; rw [← EReal.coe_pow]; norm_num
theorem ps9 : pScale 4294967287#32 = (((2 : ℝ) ^ ((-9 : ℤ)) : ℝ) : EReal) := by
  show Ideal.ofBits FTy.f32 989855744#32 = _
  simp [Ideal.ofBits, Ideal.ieee, -EReal.coe_mul]; norm_num
theorem pi9 : pInv 4294967287#32 = (((2 : ℝ) ^ (-(-9 : ℤ)) : ℝ) : EReal) := by
  show Ideal.ofBits FTy.f32 1140850688#32 = _
  simp [Ideal.ofBits, Ideal.ieee, -EReal.coe_mul]; norm_num; rw [← EReal.coe_pow]; norm_num
theorem ps10 : pScale 4294967288#32 = (((2 : ℝ) ^ ((-8 : ℤ)) : ℝ) : EReal) := by
  show Ideal.ofBits FTy.f32 998244352#32 = _
  simp [Ideal.ofBits, Ideal.ieee, -EReal.coe_mul]; norm_num
theorem pi10 : pInv 4294967288#32 = (((2 : ℝ) ^ (-(-8 : ℤ)) : ℝ) : EReal) := by
  show Ideal.ofBits FTy.f32 1132462080#32 = _
  simp [Ideal.ofBits, Ideal.ieee, -EReal.coe_mul]; norm_num; rw [← EReal.coe_pow]; norm_num

theorem exW_coe (x : ℝ) : exW (x : EReal) = IntOp.addi (IntOp.addi (IntOp.addi (IntOp.addi (IntOp.addi (IntOp.addi (IntOp.addi (IntOp.addi (IntOp.addi (IntOp.addi
    4294967278#32 (if (1/262144 : ℝ) ≤ x then 1#32 else 0#32)) (if (1/131072 : ℝ) ≤ x then 1#32 else 0#32)) (if (1/65536 : ℝ) ≤ x then 1#32 else 0#32)) (if (1/32768 : ℝ) ≤ x then 1#32 else 0#32)) (if (1/16384 : ℝ) ≤ x then 1#32 else 0#32))
    (if (1/8192 : ℝ) ≤ x then 1#32 else 0#32)) (if (1/4096 : ℝ) ≤ x then 1#32 else 0#32)) (if (1/2048 : ℝ) ≤ x then 1#32 else 0#32)) (if (1/1024 : ℝ) ≤ x then 1#32 else 0#32)) (if (1/512 : ℝ) ≤ x then 1#32 else 0#32) := by
  unfold exW
  rw [ge_coe b0, ge_coe b1, ge_coe b2, ge_coe b3, ge_coe b4, ge_coe b5, ge_coe b6, ge_coe b7, ge_coe b8, ge_coe b9]

/-- The word counted, its two powers, and the interval it names. -/
def Good (x : ℝ) (e : ℤ) : Prop :=
  (2 : ℝ) ^ (e - 1) ≤ x ∧ x < (2 : ℝ) ^ e ∧ pScale (exW (x : EReal)) = (((2 : ℝ) ^ e : ℝ) : EReal) ∧ pInv (exW (x : EReal)) = (((2 : ℝ) ^ (-e) : ℝ) : EReal)

theorem good0 {x : ℝ} (h1 : (1/524288 : ℝ) ≤ x) (h2 : x < (1/262144 : ℝ)) : Good x (-18) := by
  have hw : exW (x : EReal) = 4294967278#32 := by
    rw [exW_coe, if_neg (show ¬ (1/262144 : ℝ) ≤ x by linarith), if_neg (show ¬ (1/131072 : ℝ) ≤ x by linarith), if_neg (show ¬ (1/65536 : ℝ) ≤ x by linarith), if_neg (show ¬ (1/32768 : ℝ) ≤ x by linarith), if_neg (show ¬ (1/16384 : ℝ) ≤ x by linarith), if_neg (show ¬ (1/8192 : ℝ) ≤ x by linarith), if_neg (show ¬ (1/4096 : ℝ) ≤ x by linarith), if_neg (show ¬ (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps0, by rw [hw]; exact pi0⟩
theorem good1 {x : ℝ} (h1 : (1/262144 : ℝ) ≤ x) (h2 : x < (1/131072 : ℝ)) : Good x (-17) := by
  have hw : exW (x : EReal) = 4294967279#32 := by
    rw [exW_coe, if_pos (show (1/262144 : ℝ) ≤ x by linarith), if_neg (show ¬ (1/131072 : ℝ) ≤ x by linarith), if_neg (show ¬ (1/65536 : ℝ) ≤ x by linarith), if_neg (show ¬ (1/32768 : ℝ) ≤ x by linarith), if_neg (show ¬ (1/16384 : ℝ) ≤ x by linarith), if_neg (show ¬ (1/8192 : ℝ) ≤ x by linarith), if_neg (show ¬ (1/4096 : ℝ) ≤ x by linarith), if_neg (show ¬ (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps1, by rw [hw]; exact pi1⟩
theorem good2 {x : ℝ} (h1 : (1/131072 : ℝ) ≤ x) (h2 : x < (1/65536 : ℝ)) : Good x (-16) := by
  have hw : exW (x : EReal) = 4294967280#32 := by
    rw [exW_coe, if_pos (show (1/262144 : ℝ) ≤ x by linarith), if_pos (show (1/131072 : ℝ) ≤ x by linarith), if_neg (show ¬ (1/65536 : ℝ) ≤ x by linarith), if_neg (show ¬ (1/32768 : ℝ) ≤ x by linarith), if_neg (show ¬ (1/16384 : ℝ) ≤ x by linarith), if_neg (show ¬ (1/8192 : ℝ) ≤ x by linarith), if_neg (show ¬ (1/4096 : ℝ) ≤ x by linarith), if_neg (show ¬ (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps2, by rw [hw]; exact pi2⟩
theorem good3 {x : ℝ} (h1 : (1/65536 : ℝ) ≤ x) (h2 : x < (1/32768 : ℝ)) : Good x (-15) := by
  have hw : exW (x : EReal) = 4294967281#32 := by
    rw [exW_coe, if_pos (show (1/262144 : ℝ) ≤ x by linarith), if_pos (show (1/131072 : ℝ) ≤ x by linarith), if_pos (show (1/65536 : ℝ) ≤ x by linarith), if_neg (show ¬ (1/32768 : ℝ) ≤ x by linarith), if_neg (show ¬ (1/16384 : ℝ) ≤ x by linarith), if_neg (show ¬ (1/8192 : ℝ) ≤ x by linarith), if_neg (show ¬ (1/4096 : ℝ) ≤ x by linarith), if_neg (show ¬ (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps3, by rw [hw]; exact pi3⟩
theorem good4 {x : ℝ} (h1 : (1/32768 : ℝ) ≤ x) (h2 : x < (1/16384 : ℝ)) : Good x (-14) := by
  have hw : exW (x : EReal) = 4294967282#32 := by
    rw [exW_coe, if_pos (show (1/262144 : ℝ) ≤ x by linarith), if_pos (show (1/131072 : ℝ) ≤ x by linarith), if_pos (show (1/65536 : ℝ) ≤ x by linarith), if_pos (show (1/32768 : ℝ) ≤ x by linarith), if_neg (show ¬ (1/16384 : ℝ) ≤ x by linarith), if_neg (show ¬ (1/8192 : ℝ) ≤ x by linarith), if_neg (show ¬ (1/4096 : ℝ) ≤ x by linarith), if_neg (show ¬ (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps4, by rw [hw]; exact pi4⟩
theorem good5 {x : ℝ} (h1 : (1/16384 : ℝ) ≤ x) (h2 : x < (1/8192 : ℝ)) : Good x (-13) := by
  have hw : exW (x : EReal) = 4294967283#32 := by
    rw [exW_coe, if_pos (show (1/262144 : ℝ) ≤ x by linarith), if_pos (show (1/131072 : ℝ) ≤ x by linarith), if_pos (show (1/65536 : ℝ) ≤ x by linarith), if_pos (show (1/32768 : ℝ) ≤ x by linarith), if_pos (show (1/16384 : ℝ) ≤ x by linarith), if_neg (show ¬ (1/8192 : ℝ) ≤ x by linarith), if_neg (show ¬ (1/4096 : ℝ) ≤ x by linarith), if_neg (show ¬ (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps5, by rw [hw]; exact pi5⟩
theorem good6 {x : ℝ} (h1 : (1/8192 : ℝ) ≤ x) (h2 : x < (1/4096 : ℝ)) : Good x (-12) := by
  have hw : exW (x : EReal) = 4294967284#32 := by
    rw [exW_coe, if_pos (show (1/262144 : ℝ) ≤ x by linarith), if_pos (show (1/131072 : ℝ) ≤ x by linarith), if_pos (show (1/65536 : ℝ) ≤ x by linarith), if_pos (show (1/32768 : ℝ) ≤ x by linarith), if_pos (show (1/16384 : ℝ) ≤ x by linarith), if_pos (show (1/8192 : ℝ) ≤ x by linarith), if_neg (show ¬ (1/4096 : ℝ) ≤ x by linarith), if_neg (show ¬ (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps6, by rw [hw]; exact pi6⟩
theorem good7 {x : ℝ} (h1 : (1/4096 : ℝ) ≤ x) (h2 : x < (1/2048 : ℝ)) : Good x (-11) := by
  have hw : exW (x : EReal) = 4294967285#32 := by
    rw [exW_coe, if_pos (show (1/262144 : ℝ) ≤ x by linarith), if_pos (show (1/131072 : ℝ) ≤ x by linarith), if_pos (show (1/65536 : ℝ) ≤ x by linarith), if_pos (show (1/32768 : ℝ) ≤ x by linarith), if_pos (show (1/16384 : ℝ) ≤ x by linarith), if_pos (show (1/8192 : ℝ) ≤ x by linarith), if_pos (show (1/4096 : ℝ) ≤ x by linarith), if_neg (show ¬ (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps7, by rw [hw]; exact pi7⟩
theorem good8 {x : ℝ} (h1 : (1/2048 : ℝ) ≤ x) (h2 : x < (1/1024 : ℝ)) : Good x (-10) := by
  have hw : exW (x : EReal) = 4294967286#32 := by
    rw [exW_coe, if_pos (show (1/262144 : ℝ) ≤ x by linarith), if_pos (show (1/131072 : ℝ) ≤ x by linarith), if_pos (show (1/65536 : ℝ) ≤ x by linarith), if_pos (show (1/32768 : ℝ) ≤ x by linarith), if_pos (show (1/16384 : ℝ) ≤ x by linarith), if_pos (show (1/8192 : ℝ) ≤ x by linarith), if_pos (show (1/4096 : ℝ) ≤ x by linarith), if_pos (show (1/2048 : ℝ) ≤ x by linarith), if_neg (show ¬ (1/1024 : ℝ) ≤ x by linarith), if_neg (show ¬ (1/512 : ℝ) ≤ x by linarith)]; rfl
  exact ⟨by norm_num; linarith, by norm_num; linarith, by rw [hw]; exact ps8, by rw [hw]; exact pi8⟩
theorem good9 {x : ℝ} (h1 : (1/1024 : ℝ) ≤ x) (h2 : x < (1/512 : ℝ)) : Good x (-9) := by
  have hw : exW (x : EReal) = 4294967287#32 := by
    rw [exW_coe, if_pos (show (1/262144 : ℝ) ≤ x by linarith), if_pos (show (1/131072 : ℝ) ≤ x by linarith), if_pos (show (1/65536 : ℝ) ≤ x by linarith), if_pos (show (1/32768 : ℝ) ≤ x by linarith), if_pos (show (1/16384 : ℝ) ≤ x by linarith), if_pos (show (1/8192 : ℝ) ≤ x by linarith), if_pos (show (1/4096 : ℝ) ≤ x by linarith), if_pos (show (1/2048 : ℝ) ≤ x by linarith), if_pos (show (1/1024 : ℝ) ≤ x by linarith), if_neg (show ¬ (1/512 : ℝ) ≤ x by linarith)]; rfl
  exact ⟨by norm_num; linarith, by norm_num; linarith, by rw [hw]; exact ps9, by rw [hw]; exact pi9⟩
theorem good10 {x : ℝ} (h1 : (1/512 : ℝ) ≤ x) (h2 : x < (1/256 : ℝ)) : Good x (-8) := by
  have hw : exW (x : EReal) = 4294967288#32 := by
    rw [exW_coe, if_pos (show (1/262144 : ℝ) ≤ x by linarith), if_pos (show (1/131072 : ℝ) ≤ x by linarith), if_pos (show (1/65536 : ℝ) ≤ x by linarith), if_pos (show (1/32768 : ℝ) ≤ x by linarith), if_pos (show (1/16384 : ℝ) ≤ x by linarith), if_pos (show (1/8192 : ℝ) ≤ x by linarith), if_pos (show (1/4096 : ℝ) ≤ x by linarith), if_pos (show (1/2048 : ℝ) ≤ x by linarith), if_pos (show (1/1024 : ℝ) ≤ x by linarith), if_pos (show (1/512 : ℝ) ≤ x by linarith)]; rfl
  exact ⟨by norm_num; linarith, by norm_num; linarith, by rw [hw]; exact ps10, by rw [hw]; exact pi10⟩

theorem good_exists (x : ℝ) (h1 : 1/524288 ≤ x) (h2 : x < 1/256) : ∃ e, Good x e := by
  rcases lt_or_ge x (1/262144 : ℝ) with g | g
  · exact ⟨_, good0 (by linarith) g⟩
  rcases lt_or_ge x (1/131072 : ℝ) with g | g
  · exact ⟨_, good1 (by linarith) g⟩
  rcases lt_or_ge x (1/65536 : ℝ) with g | g
  · exact ⟨_, good2 (by linarith) g⟩
  rcases lt_or_ge x (1/32768 : ℝ) with g | g
  · exact ⟨_, good3 (by linarith) g⟩
  rcases lt_or_ge x (1/16384 : ℝ) with g | g
  · exact ⟨_, good4 (by linarith) g⟩
  rcases lt_or_ge x (1/8192 : ℝ) with g | g
  · exact ⟨_, good5 (by linarith) g⟩
  rcases lt_or_ge x (1/4096 : ℝ) with g | g
  · exact ⟨_, good6 (by linarith) g⟩
  rcases lt_or_ge x (1/2048 : ℝ) with g | g
  · exact ⟨_, good7 (by linarith) g⟩
  rcases lt_or_ge x (1/1024 : ℝ) with g | g
  · exact ⟨_, good8 (by linarith) g⟩
  rcases lt_or_ge x (1/512 : ℝ) with g | g
  · exact ⟨_, good9 (by linarith) g⟩
  exact ⟨_, good10 (by linarith) h2⟩

end Cert.Proof.Row

end
-- ==== Proof.RowEq.lean ====
/-
  One row of the kernel and one row of the reference give the same: the kernel's scores are the reference's over the
  product of the two scales, and its exponentials are taken to base two.
-/
module
public import proofs.«01_k».proof.Proof.RowExp
public import proofs.«01_k».proof.Proof.RefRow
@[expose] public section
set_option maxRecDepth 16384
noncomputable section
namespace Cert.Proof.Row
open Idealize.ShloMosaic Cert.Proof.Ref

theorem c0_eq : Ideal.ofBits FTy.f32 991054117#32 = ((9586981 / 4294967296 : ℝ) : EReal) := by
  simp [Ideal.ofBits, Ideal.ieee, -EReal.coe_mul]; norm_num

theorem c448_eq : Ideal.ofBits FTy.f32 1138753536#32 = ((448 : ℝ) : EReal) := by
  simp [Ideal.ofBits, Ideal.ieee, -EReal.coe_mul]; norm_num

theorem cm448_eq : Ideal.ofBits FTy.f32 3286237184#32 = ((-448 : ℝ) : EReal) := by
  simp [Ideal.ofBits, Ideal.ieee, -EReal.coe_mul, -EReal.coe_neg]; norm_num

theorem zero_eq : Ideal.ofBits FTy.f32 0#32 = ((0 : ℝ) : EReal) := by
  simp [Ideal.ofBits, Ideal.ieee]

theorem max_eq (t : Fin 1024 → EReal) :
    max (Ideal.ofBits FTy.f32 4286578688#32) (Finset.fold max (Ideal.ofBits FTy.f32 4286578688#32) t Finset.univ) = mx t := by
  show max (Ideal.ofBits FTy.f32 4286578688#32) (mx t) = mx t
  rw [ofBits_ninf]; exact max_eq_right bot_le

theorem mx_mul (Y : Fin 1024 → EReal) {r : ℝ} (hr : 0 < r) : mx (fun k => Y k * (r : EReal)) = mx Y * (r : EReal) := by
  rw [mx_eq, mx_eq]
  refine (Finset.comp_sup_eq_sup_comp_of_is_total (fun y : EReal => y * (r : EReal)) (fun a b hab => ?_) (EReal.bot_mul_of_pos (by exact_mod_cast hr))).symm
  exact mul_le_mul_of_nonneg_right hab (by exact_mod_cast hr.le)

theorem exp2_bot : FloatOps.exp2 (F := Ideal) (φ := FTy.f32) (⊥ : EReal) = (0 : EReal) := rfl
theorem exp2_coe (x : ℝ) : FloatOps.exp2 (F := Ideal) (φ := FTy.f32) ((x : ℝ) : EReal) = (((2 : ℝ) ^ x : ℝ) : EReal) := rfl
theorem exp_bot : Ideal.exp (⊥ : EReal) = (0 : EReal) := rfl
theorem exp_coe (x : ℝ) : Ideal.exp ((x : ℝ) : EReal) = ((Real.exp x : ℝ) : EReal) := rfl

/-- A row whose scores are all at minus infinity below its maximum gives nothing. -/
theorem outAt_zero (Y : Fin 1024 → EReal) (c : EReal) (hc : 0 < c) (v : Fin 1024 → EReal) (vs : EReal) (h : ∀ k, Y k - mx Y = ⊥) : outAt Y c v vs = 0 := by
  have he : ∀ k, ee Y c k = 0 := fun k => by
    unfold ee; rw [h k, EReal.bot_mul_of_pos hc, exp2_bot]
  unfold outAt
  rw [Finset.sum_eq_zero fun k _ => by rw [he k, zero_mul, mul_zero], zero_mul]

theorem refAt_zero (t : Fin 1024 → EReal) (v : Fin 1024 → EReal) (vs : EReal) (h : ∀ k, t k - mx t = ⊥) : refAt t v vs = 0 := by
  have hP : ∀ k, rP t k = ⊥ := fun k => by
    unfold rP
    rw [max_eq, h k, exp_bot, Finset.sum_eq_zero fun x _ => by rw [h x, exp_bot]]
    simp [Ideal.div]
  have hA : rA t = ⊥ := by
    show mx (rP t) = ⊥
    rw [mx_eq, Finset.sup_eq_bot_iff]; exact fun k _ => hP k
  have hE : rE ⊥ = ⊥ := by
    have h1 : FloatOps.cmpf (F := Ideal) (φ := .f32) .oeq (⊥ : EReal) (Ideal.ofBits .f32 0#32) = 0#1 := by
      rw [zero_eq]; rfl
    have h2 : (Named.named (F := Ideal) Cert.ReferenceIdeal.κ "ln2" (φ := .f32) 1060205080#32 : EReal) = ((Real.log 2 : ℝ) : EReal) := rfl
    have hl : 0 < Real.log 2 := Real.log_pos (by norm_num)
    unfold rE
    rw [h1, c0_eq, EReal.bot_mul_of_pos (by exact_mod_cast (by norm_num : (0 : ℝ) < 9586981 / 4294967296)), h2]
    show Ideal.liftRound Int.floor (Ideal.div ⊥ ((Real.log 2 : ℝ) : EReal)) + 1 = ⊥
    rw [Ideal.div_coe hl.ne', EReal.bot_mul_of_pos (by exact_mod_cast (one_div_pos.mpr hl))]
    exact EReal.bot_add _
  unfold refAt
  rw [hA, hE, exp2_bot, zero_mul, mul_zero]

/-- The exponent both sides take: from the largest weight `1 / L`. -/
theorem rE_coe {a : ℝ} (ha : 0 < a) {e : ℤ} (hg : Good (a * (9586981 / 4294967296)) e) : rE (a : EReal) = (((e : ℤ) : ℝ) : EReal) := by
  have h1 : FloatOps.cmpf (F := Ideal) (φ := .f32) .oeq (a : EReal) (Ideal.ofBits .f32 0#32) = 0#1 := by
    rw [zero_eq]
    show BitVec.ofBool (decide ((a : EReal) = ((0 : ℝ) : EReal))) = 0#1
    rw [decide_eq_false (fun h => ha.ne' (EReal.coe_eq_coe_iff.mp h))]; rfl
  have h2 : (Named.named (F := Ideal) Cert.ReferenceIdeal.κ "ln2" (φ := .f32) 1060205080#32 : EReal) = ((Real.log 2 : ℝ) : EReal) := rfl
  have hl : 0 < Real.log 2 := Real.log_pos (by norm_num)
  have hx : 0 < a * (9586981 / 4294967296) := by positivity
  have h3 : Ideal.log (((a * (9586981 / 4294967296) : ℝ)) : EReal) = ((Real.log (a * (9586981 / 4294967296)) : ℝ) : EReal) := by
    show (if _ then _ else _) = _
    rw [if_neg (not_le.mpr hx)]
  unfold rE
  rw [h1, c0_eq, ← EReal.coe_mul, h3, h2, Ideal.div_coe hl.ne', ← EReal.coe_mul]
  show (((⌊Real.log (a * (9586981 / 4294967296)) * (1 / Real.log 2)⌋ : ℤ) : ℝ) : EReal) + ((1 : ℝ) : EReal) = _
  rw [floor_log hg.1 hg.2.1, ← EReal.coe_add]
  refine congrArg _ ?_
  push_cast
  ring

theorem coe_sum {n : ℕ} (g : Fin n → ℝ) : ((∑ k, g k : ℝ) : EReal) = ∑ k, (g k : EReal) :=
  map_sum (⟨⟨fun x : ℝ => (x : EReal), EReal.coe_zero⟩, EReal.coe_add⟩ : ℝ →+ EReal) g Finset.univ

/-- A row whose maximum is a number. -/
theorem row_real (Y : Fin 1024 → EReal) {r : ℝ} (hr : 0 < r) (v : Fin 1024 → EReal) (vs : EReal) {m : ℝ} (hm : mx Y = (m : EReal)) :
    outAt Y ((r : EReal) * (((Real.log 2)⁻¹ : ℝ) : EReal)) v vs = refAt (fun k => Y k * (r : EReal)) v vs := by
  have hl : 0 < Real.log 2 := Real.log_pos (by norm_num)
  have hcE : (0 : EReal) < ((r * (Real.log 2)⁻¹ : ℝ) : EReal) := by exact_mod_cast mul_pos hr (inv_pos.mpr hl)
  have hle : ∀ k, Y k ≤ (m : EReal) := fun k => by rw [← hm, mx_eq]; exact Finset.le_sup (Finset.mem_univ k)
  -- the exponentials, as numbers
  have hg : ∀ k, ∃ g : ℝ, 0 ≤ g ∧ g ≤ 1 ∧ (Y k = (m : EReal) → g = 1) ∧ ee Y ((r : EReal) * (((Real.log 2)⁻¹ : ℝ) : EReal)) k = (g : EReal)
      ∧ Ideal.exp (Y k * (r : EReal) - (m : EReal) * (r : EReal)) = (g : EReal) := fun k => by
    unfold ee
    rw [hm, ← EReal.coe_mul]
    have hk := hle k
    generalize Y k = yk at hk ⊢
    induction yk with
    | bot =>
      refine ⟨0, le_refl _, zero_le_one, fun h => absurd h (by simp), ?_, ?_⟩
      · rw [bot_sub, EReal.bot_mul_of_pos hcE]; rfl
      · rw [EReal.bot_mul_of_pos (by exact_mod_cast hr), bot_sub]; rfl
    | top => exact absurd hk (not_le.mpr (EReal.coe_lt_top m))
    | coe y =>
        have hk' : y ≤ m := EReal.coe_le_coe_iff.mp hk
        refine ⟨Real.exp ((y - m) * r), (Real.exp_pos _).le, Real.exp_le_one_iff.mpr (mul_nonpos_of_nonpos_of_nonneg (by linarith) hr.le), fun h => ?_, ?_, ?_⟩
        · have : y = m := EReal.coe_eq_coe_iff.mp h
          rw [this, sub_self, zero_mul, Real.exp_zero]
        · show FloatOps.exp2 (F := Ideal) (φ := FTy.f32) (((y : EReal) - (m : EReal)) * ((r * (Real.log 2)⁻¹ : ℝ) : EReal)) = _
          rw [← EReal.coe_sub, ← EReal.coe_mul, exp2_coe, Real.rpow_def_of_pos (by norm_num)]
          congr 2
          field_simp
        · show Ideal.exp ((y : EReal) * (r : EReal) - (m : EReal) * (r : EReal)) = _
          rw [← EReal.coe_mul, ← EReal.coe_mul, ← EReal.coe_sub, exp_coe, sub_mul]
  choose g g0 g1 gm ge gx using hg
  obtain ⟨k0, -, hk0⟩ : ∃ k0 ∈ Finset.univ, Finset.sup Finset.univ Y = Y k0 := Finset.exists_mem_eq_sup _ ⟨0, Finset.mem_univ _⟩ Y
  have hgk : g k0 = 1 := gm k0 (by rw [← hk0, ← mx_eq, hm])
  set L : ℝ := ∑ k, g k with hL
  have L1 : 1 ≤ L := by rw [← hgk]; exact Finset.single_le_sum (f := g) (fun k _ => g0 k) (Finset.mem_univ k0)
  have L2 : L ≤ 1024 := by
    calc L ≤ ∑ _k : Fin 1024, (1 : ℝ) := Finset.sum_le_sum fun k _ => g1 k
      _ = 1024 := by simp
  have Lp : 0 < L := by linarith
  have hsum : ∀ f : Fin 1024 → EReal, (∀ k, f k = (g k : EReal)) → ∑ k, f k = (L : EReal) := fun f hf => by
    rw [Finset.sum_congr rfl fun k _ => hf k, hL]; exact (coe_sum g).symm
  have hmr : mx (fun k => Y k * (r : EReal)) = (m : EReal) * (r : EReal) := by rw [mx_mul Y hr, hm]
  have haa : aa Y ((r : EReal) * (((Real.log 2)⁻¹ : ℝ) : EReal)) = ((1 / L : ℝ) : EReal) := by
    unfold aa
    rw [hsum _ ge, Ideal.div_coe Lp.ne', one_mul]
  have hP : ∀ k, rP (fun k => Y k * (r : EReal)) k = ((g k / L : ℝ) : EReal) := fun k => by
    unfold rP
    rw [max_eq, hmr, hsum _ gx, gx k, Ideal.div_coe Lp.ne', ← EReal.coe_mul, mul_one_div]
  have hA : rA (fun k => Y k * (r : EReal)) = ((1 / L : ℝ) : EReal) := by
    show mx (rP _) = _
    rw [mx_eq]
    apply le_antisymm
    · refine Finset.sup_le fun k _ => ?_
      rw [hP k, EReal.coe_le_coe_iff]
      exact div_le_div_of_nonneg_right (g1 k) Lp.le
    · refine le_trans (le_of_eq ?_) (Finset.le_sup (Finset.mem_univ k0))
      rw [hP k0, hgk]
  have iL1 : 1 / L ≤ 1 := by rw [div_le_one Lp]; exact L1
  have iL2 : 1 / 1024 ≤ 1 / L := one_div_le_one_div_of_le Lp L2
  obtain ⟨e, he⟩ := good_exists (1 / L * (9586981 / 4294967296)) (by nlinarith) (by nlinarith)
  have ipos : 0 < 1 / L := by positivity
  have hE : rE ((1 / L : ℝ) : EReal) = (((e : ℤ) : ℝ) : EReal) := rE_coe ipos he
  have h2e : (0 : ℝ) < (2 : ℝ) ^ e := zpow_pos (by norm_num) _
  have h2n : (0 : ℝ) < (2 : ℝ) ^ (-e) := zpow_pos (by norm_num) _
  have hcap : 1 / L * (2 : ℝ) ^ (-e) ≤ 448 := by
    have := he.2.1
    rw [zpow_neg, ← div_eq_mul_inv, div_le_iff₀ h2e]
    nlinarith
  have hx2 : FloatOps.exp2 (F := Ideal) (φ := FTy.f32) (0 - (((e : ℤ) : ℝ) : EReal)) = (((2 : ℝ) ^ (-e) : ℝ) : EReal) := by
    rw [show (0 : EReal) - (((e : ℤ) : ℝ) : EReal) = (((-e : ℤ) : ℝ) : EReal) by
      rw [zero_sub, ← EReal.coe_neg]; push_cast; rfl, exp2_coe, Real.rpow_intCast]
  have hx1 : FloatOps.exp2 (F := Ideal) (φ := FTy.f32) (((e : ℤ) : ℝ) : EReal) = (((2 : ℝ) ^ e : ℝ) : EReal) := by
    rw [exp2_coe, Real.rpow_intCast]
  unfold outAt refAt
  rw [haa, hA, hE, c0_eq, show ((1 / L : ℝ) : EReal) * ((9586981 / 4294967296 : ℝ) : EReal) = ((1 / L * (9586981 / 4294967296) : ℝ) : EReal) from (EReal.coe_mul _ _).symm, he.2.2.1, he.2.2.2, hx2, hx1, c448_eq, cm448_eq]
  refine congrArg (fun x : EReal => x * _) (Finset.sum_congr rfl fun k _ => congrArg (fun x : EReal => v k * x) ?_)
  rw [ge k, hP k, ← EReal.coe_mul, ← EReal.coe_mul]
  have hk0 : 0 ≤ g k / L * (2 : ℝ) ^ (-e) := mul_nonneg (div_nonneg (g0 k) Lp.le) h2n.le
  have hk1 : g k / L * (2 : ℝ) ^ (-e) ≤ 448 := le_trans (mul_le_mul_of_nonneg_right (div_le_div_of_nonneg_right (g1 k) Lp.le) h2n.le) hcap
  rw [min_eq_left (EReal.coe_le_coe_iff.mpr hcap), max_eq_right (EReal.coe_le_coe_iff.mpr (by linarith)), min_eq_right (EReal.coe_le_coe_iff.mpr hk1), ← EReal.coe_mul]
  congr 1
  ring

theorem row_eq (Y : Fin 1024 → EReal) {r : ℝ} (hr : 0 < r) (v : Fin 1024 → EReal) (vs : EReal) :
    outAt Y ((r : EReal) * (((Real.log 2)⁻¹ : ℝ) : EReal)) v vs = refAt (fun k => Y k * (r : EReal)) v vs := by
  have hrE : (0 : EReal) < (r : EReal) := by exact_mod_cast hr
  have hc : (0 : EReal) < (r : EReal) * (((Real.log 2)⁻¹ : ℝ) : EReal) := by
    rw [← EReal.coe_mul]; exact_mod_cast mul_pos hr (inv_pos.mpr (Real.log_pos (by norm_num)))
  have hz : (∀ k, Y k - mx Y = ⊥) → (∀ k, Y k * (r : EReal) - mx (fun k => Y k * (r : EReal)) = ⊥) →
      outAt Y ((r : EReal) * (((Real.log 2)⁻¹ : ℝ) : EReal)) v vs = refAt (fun k => Y k * (r : EReal)) v vs := fun h1 h2 => by
    rw [outAt_zero Y _ hc v vs h1, refAt_zero _ v vs h2]
  have subtop : ∀ x : EReal, x - ⊤ = ⊥ := fun x => by rw [sub_eq_add_neg, EReal.neg_top, EReal.add_bot]
  rcases hm : mx Y with _ | m
  · have hb : ∀ k, Y k = ⊥ := fun k => by
      have : Finset.sup Finset.univ Y = ⊥ := by rw [← mx_eq]; exact hm
      exact (Finset.sup_eq_bot_iff Y Finset.univ).mp this k (Finset.mem_univ k)
    exact hz (fun k => by rw [hb k, bot_sub]) (fun k => by rw [hb k, EReal.bot_mul_of_pos hrE, bot_sub])
  · rcases m with _ | m
    · have ht : mx Y = ⊤ := hm
      exact hz (fun k => by rw [ht, subtop]) (fun k => by rw [mx_mul Y hr, ht, EReal.top_mul_of_pos hrE, subtop])
    · exact row_real Y hr v vs hm

end Cert.Proof.Row

end
-- ==== Proof.KernelIdealPoint.lean ====
/-
  A grid point's result rows, over what its staging buffers read: the reference's row.
-/
module
public import proofs.«01_k».proof.Proof.KernelIdealBody
public import proofs.«01_k».proof.Proof.KernelIdealScratch
public import proofs.«01_k».proof.Proof.KernelIdealRow
public import proofs.«01_k».proof.Proof.RowEq
@[expose] public section
set_option maxRecDepth 16384
noncomputable section
namespace Cert.Proof.KernelIdeal
open Cert.KernelIdeal
open Idealize.ShloMosaic Idealize.ShloMosaic.TcCoe
open Cert.Proof.Row Cert.Proof.Words Cert.Proof.Ref

variable (c : Dev nD) (i : grid0.Coords) (arg2 : Memref sig .tc .smem S2x1024 .i32) (harg2 : arg2.IsWhole) (arg3 : Memref sig .tc .smem S2x24 .f32) (harg3 : arg3.IsWhole) (arg4 : Memref sig .tc .smem S2x24 .f32) (harg4 : arg4.IsWhole) (arg5 : Memref sig .tc .smem S2x24 .f32) (harg5 : arg5.IsWhole) (arg6 : Memref sig .tc .vmem S1x1x1024 .i32) (harg6 : arg6.IsWhole) (arg7 : Memref sig .tc .vmem S1x1x128 .f32) (harg7 : arg7.IsWhole) (arg8 : Memref sig .tc .vmem S1x1024x128 .fp8e4m3) (harg8 : arg8.IsWhole) (arg9 : Memref sig .tc .vmem S1x1024x128 .fp8e4m3) (harg9 : arg9.IsWhole) (arg10 : Memref sig .tc .vmem S1x1024x128 .fp8e4m3) (harg10 : arg10.IsWhole) (arg11 : Memref sig .tc .vmem S1x1024x128 .bf16) (harg11 : arg11.IsWhole) (arg12 : Memref sig .tc .vmem S640x128 .i32) (harg12 : arg12.IsWhole) (arg13 : Memref sig .tc .vmem S1024x128 .i32) (harg13 : arg13.IsWhole) (arg14 : Memref sig .tc .vmem S640x128 .f32) (harg14 : arg14.IsWhole) (arg15 : Memref sig .tc .vmem S128x1024 .fp8e4m3) (harg15 : arg15.IsWhole) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14) (f15 : Bf (F := Ideal) c arg15)

set_option maxHeartbeats 4000000 in
theorem body_12 : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).2.1 = G12 c i arg12 f12 := by
  unfold bodyRun; rfl
set_option maxHeartbeats 4000000 in
theorem body_13 : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).2.2.1 = G13 c i arg6 arg13 f6 f13 := by
  unfold bodyRun; rfl
set_option maxHeartbeats 4000000 in
theorem body_11 : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1 = accAt c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (bodyRun.sl.v14 c i arg3 arg4 f3 f4) (bodyRun.sl.r_4 c i arg5 f5) f2 f6 f8 f9
    (G13 c i arg6 arg13 f6 f13) (G14 c i arg3 arg4 arg7 arg12 arg14 f3 f4 f7 f12) (G15 c arg10 arg15 f10) f11 8 := by
  unfold bodyRun; rfl

/-- A word below thirty-two picks its own entry of the table of biases. -/
theorem chain_word (w : BitVec 32) (h : w.toNat < 32) (β : Fin 32 → EReal) (z : EReal) : chain w β z = β ⟨w.toNat, h⟩ := by
  have e : w = BitVec.ofNat 32 (⟨w.toNat, h⟩ : Fin 32).val := by simp
  exact (congrArg (fun w => chain w β z) e).trans (chain_eq ⟨w.toNat, h⟩ β z)

/-- Scaling a sum whose second part was divided by the scale. -/
theorem scale_back (A B : EReal) (r : ℝ) (hr : 0 < r) : (A + Ideal.div B (r : EReal)) * (r : EReal) = A * r + B := by
  rw [EReal.right_distrib_of_nonneg_of_ne_top (EReal.coe_nonneg.2 hr.le) (EReal.coe_ne_top r), Ideal.div_coe hr.ne' B, mul_assoc, ← EReal.coe_mul, one_div, inv_mul_cancel₀ hr.ne', EReal.coe_one, mul_one]

theorem eq_swap (a b : BitVec 32) : IntOp.cmpi .eq a b = IntOp.cmpi .eq b a := by
  show BitVec.ofBool (a == b) = BitVec.ofBool (b == a)
  rw [Bool.beq_comm]

theorem select_mul (p : BitVec 1) (x y : EReal) (r : EReal) : Scalar.select p x y * r = Scalar.select p (x * r) (y * r) := by
  unfold Scalar.select
  split_ifs <;> rfl

/-- The result's rows at a point, over what its staging buffers read. -/
theorem body_row (S : Fin 1024 → BitVec 32) (b : Fin 2) (hb : (i 0).val = b.val)
    (h2 : ∀ n : Fin 1024, arg2.view.read (Elt Ideal) f2 (ix2 b n) = S n)
    (mono : ∀ a b : Fin 1024, a.val ≤ b.val → (S a).toInt ≤ (S b).toInt)
    (h6 : ∀ n : Fin 1024, arg6.view.read (Elt Ideal) f6 (ix3 0 0 n) = S n)
    (q k v : Fin 1024 → Fin 128 → EReal) (β : Fin 32 → EReal)
    (h7 : ∀ j : Fin 32, arg7.view.read (Elt Ideal) f7 (ix3 0 0 ⟨j.val, by omega⟩) = β j)
    (h8 : ∀ (n : Fin 1024) (x : Fin 128), arg8.view.read (Elt Ideal) f8 (ix3 0 n x) = q n x)
    (h9 : ∀ (n : Fin 1024) (x : Fin 128), arg9.view.read (Elt Ideal) f9 (ix3 0 n x) = k n x)
    (h10 : ∀ (n : Fin 1024) (x : Fin 128), arg10.view.read (Elt Ideal) f10 (ix3 0 n x) = v n x)
    (r : ℝ) (hr : 0 < r) (h14 : bodyRun.sl.v14 c i arg3 arg4 f3 f4 = (r : EReal))
    (hT : bodyRun.sl.v4 i = 1#1 ∨ IsTab c arg12 f12) (hS : bodyRun.sl.v7 i = 1#1 ∨ IsSeg c arg6 arg13 f6 f13) (ρ : Fin 1024) (d : Fin 128) :
    arg11.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15).1 (ix3 0 ρ d)
      = refAt (fun κ' : Fin 1024 => Scalar.select (IntOp.cmpi .eq (S ρ) (S κ'))
          ((∑ x : Fin 128, q ρ x * k κ' x) * (r : EReal) + chain (bktW (IntOp.subi (BitVec.ofNat 32 κ'.val) (BitVec.ofNat 32 ρ.val))) β (Ideal.ofBits .f32 0#32))
          (Ideal.ofBits .f32 4286578688#32)) (fun κ' => v κ' d) (bodyRun.sl.r_4 c i arg5 f5) := by
  have hT' := G12_tab c i arg12 f12 hT
  have hS' := G13_seg c i arg6 arg13 f6 f13 hS
  have eN : (Named.named (F := Ideal) κ "log2e" (φ := .f32) 1069066811#32 : EReal) = (((Real.log 2)⁻¹ : ℝ) : EReal) := rfl
  have hc : (0 : EReal) < (bodyRun.sl.v14 c i arg3 arg4 f3 f4 : EReal) * (Named.named (F := Ideal) κ "log2e" (φ := .f32) 1069066811#32 : EReal) := by
    rw [h14, eN, ← EReal.coe_mul]
    exact EReal.coe_pos.2 (mul_pos hr (inv_pos.2 (Real.log_pos (by norm_num))))
  rw [body_11]
  refine (acc_row c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (bodyRun.sl.v14 c i arg3 arg4 f3 f4) (bodyRun.sl.r_4 c i arg5 f5) f2 f6 f8 f9
    (G13 c i arg6 arg13 f6 f13) (G14 c i arg3 arg4 arg7 arg12 arg14 f3 f4 f7 f12) (G15 c arg10 arg15 f10) S b hb h2 mono h6 (fun n l => (hS' n l).trans (h6 n)) hc f11 8 le_rfl ρ ρ.isLt d).trans ?_
  rw [h14, eN, row_eq _ hr]
  refine congr (congr (congrArg refAt (funext fun κ' => ?_)) (funext fun κ' => ?_)) rfl
  · unfold Yk
    rw [hS', h6, h6, G14_at c i arg3 arg4 arg7 arg12 arg14 f3 f4 f7 f12 hT', h14, eq_swap]
    have e : stripV c arg7 f7 (r : EReal) (ix2 (strow κ' ρ) (lane ρ)) = Ideal.div (chain (bktW (IntOp.subi (BitVec.ofNat 32 κ'.val) (BitVec.ofNat 32 ρ.val))) β (Ideal.ofBits .f32 0#32)) (r : EReal) := by
      rw [chain_word _ (bkt_dist_lt κ' ρ), ← h7]
      show Ideal.div (arg7.view.read (Elt Ideal) f7 (ix3 0 0 ⟨(bktW (IntOp.subi (IntOp.subi (BitVec.ofNat 32 (strow κ' ρ).val) 256#32) (BitVec.ofNat 32 (lane ρ).val))).toNat % 128, _⟩)) _ = _
      refine congrArg (fun z => Ideal.div (arg7.view.read (Elt Ideal) f7 (ix3 0 0 z)) (r : EReal)) (Fin.ext ?_)
      show (bktW (IntOp.subi (IntOp.subi (BitVec.ofNat 32 (strow κ' ρ).val) 256#32) (BitVec.ofNat 32 (lane ρ).val))).toNat % 128 = _
      rw [bkt_strow]
      exact Nat.mod_eq_of_lt (lt_trans (bkt_dist_lt κ' ρ) (by decide))
    rw [e, select_mul, scale_back _ _ r hr, ofBits_ninf, EReal.bot_mul_of_pos (EReal.coe_pos.2 hr)]
    simp only [h8, h9]
    have es : ∑ x, k κ' x * q ρ x = ∑ x, q ρ x * k κ' x := Finset.sum_congr rfl fun x _ => mul_comm _ _
    rw [es]
  · rw [G15_at, h10]

end Cert.Proof.KernelIdeal
end
-- ==== Proof.KernelIdealBlocks.lean ====
/-
  What each window's block holds at a grid point, at its coordinates, over the arguments.
-/
module
public import proofs.«01_k».proof.Proof.Gen.KernelIdeal.Frame
public import Idealize.ShloMosaic.Lib.Pipeline.ValueKit
public import Idealize.ShloMosaic.Lib.Pointwise
public import Idealize.ShloMosaic.Lib.Routing.OpsSet
@[expose] public section
set_option maxRecDepth 16384
noncomputable section
namespace Cert.Proof.KernelIdeal
open Cert.KernelIdeal Cert.KernelIdeal.Gen
open Idealize.ShloMosaic Idealize.ShloMosaic.TcCoe
open Idealize.ShloMosaic.Pipeline (Dat)

/-- A point's batch and head. -/
def pb (t : Fin cfg0.N) : Fin 2 := ⟨t.val / 24, by have := t.isLt; change _ < 48 at this; omega⟩
def ph (t : Fin cfg0.N) : Fin 24 := ⟨t.val % 24, Nat.mod_lt _ (by decide)⟩

/-- Each window's block index at a point. -/
theorem idx : ∀ t : Fin cfg0.N, win0_0.index t = ![0, 0] ∧ win0_1.index t = ![0, 0] ∧ win0_2.index t = ![0, 0] ∧ win0_3.index t = ![0, 0]
    ∧ win0_4.index t = ![t.val / 24, 0, 0] ∧ win0_5.index t = ![t.val % 24, 0, 0] ∧ win0_6.index t = ![t.val / 24, 0, t.val % 24]
    ∧ win0_7.index t = ![t.val / 24, 0, t.val % 24] ∧ win0_8.index t = ![t.val / 24, 0, t.val % 24] ∧ win0_9.index t = ![t.val / 24, 0, t.val % 24] :=
  (by decide +kernel : ∀ t : Fin grid0.N, _)

theorem coords_eq : ∀ t : Fin cfg0.N, (grid0.coords t 0).val = t.val / 24 ∧ (grid0.coords t 1).val = t.val % 24 :=
  (by decide +kernel : ∀ t : Fin grid0.N, _)

variable (m : (ℓ : Loc nD τ sig) → Buf (Elt Ideal) ℓ) (c : Dev nD) (t : Fin cfg0.N)

theorem iblk0_at (x : S2x1024.Idx) : iblk m c 0 t x = m ((c : Thread nD τ).loc main_arg7) x := by
  blk_ext! [iblk, V_main_arg7, idx t]
theorem iblk1_at (x : S2x24.Idx) : iblk m c 1 t x = m ((c : Thread nD τ).loc main_arg3) x := by
  blk_ext! [iblk, V_main_arg3, idx t]
theorem iblk2_at (x : S2x24.Idx) : iblk m c 2 t x = m ((c : Thread nD τ).loc main_arg4) x := by
  blk_ext! [iblk, V_main_arg4, idx t]
theorem iblk3_at (x : S2x24.Idx) : iblk m c 3 t x = m ((c : Thread nD τ).loc main_arg5) x := by
  blk_ext! [iblk, V_main_arg5, idx t]
theorem iblk4_at (n : Fin 1024) : iblk m c 4 t (ix3 0 0 n) = m ((c : Thread nD τ).loc main_arg7) (ix2 (pb t) n) := by
  blk_ext! [iblk, idx t, pb]
theorem iblk6_at (n : Fin 1024) (x : Fin 128) : iblk m c 6 t (ix3 0 n x) = m ((c : Thread nD τ).loc main_arg0) (ix4 (pb t) n (ph t) x) := by
  blk_ext! [iblk, idx t, pb, ph]
theorem iblk7_at (n : Fin 1024) (x : Fin 128) : iblk m c 7 t (ix3 0 n x) = m ((c : Thread nD τ).loc main_arg1) (ix4 (pb t) n (ph t) x) := by
  blk_ext! [iblk, idx t, pb, ph]
theorem iblk8_at (n : Fin 1024) (x : Fin 128) : iblk m c 8 t (ix3 0 n x) = m ((c : Thread nD τ).loc main_arg2) (ix4 (pb t) n (ph t) x) := by
  blk_ext! [iblk, idx t, pb, ph]
/-- The table of biases written at its corner, read where it was written. -/
theorem scatter_corner (x0 : Vec Ideal S24x1x128 .f32) (idx : IVec S2 32) (hidx : ∀ x, idx x = 0#32) (upd : Vec Ideal S24x32 .f32) (h : Fin 24) (j : Fin 32) :
    Host.scatter scatter_S24x1x128_S2_S24x32_01_1_12_0 (fun _ b => b) x0 idx upd (ix3 h 0 ⟨j.val, by omega⟩) = upd (ix2 h j) := by
  have hs : ∀ k a, scatter_S24x1x128_S2_S24x32_01_1_12_0.start k idx a = 0 := fun k a => by
    unfold ScatterDims.start
    split_ifs
    · rw [hidx]; rfl
    · rfl
  have hw : ∀ (k : S24x32.Idx), scatter_S24x1x128_S2_S24x32_01_1_12_0.window k 0 = (k 0).val ∧ scatter_S24x1x128_S2_S24x32_01_1_12_0.window k 1 = 0 ∧ scatter_S24x1x128_S2_S24x32_01_1_12_0.window k 2 = (k 1).val :=
    fun k => ⟨rfl, rfl, rfl⟩
  refine Routing.scatter_set_hit scatter_S24x1x128_S2_S24x32_01_1_12_0 x0 idx upd (ix3 h 0 ⟨j.val, by omega⟩) _ (fun k hk => ?_) (ix2 h j) ?_
  · have e := (Routing.resultIdx?_eq_some scatter_S24x1x128_S2_S24x32_01_1_12_0 k idx (ix3 h 0 ⟨j.val, by omega⟩)).1 hk
    have e0 := e 0
    have e2 := e 2
    rw [hs, (hw k).1] at e0
    rw [hs, (hw k).2.2] at e2
    refine congrArg upd (funext fun a => Fin.ext ?_)
    match a with
    | ⟨0, _⟩ => simpa using e0
    | ⟨1, _⟩ => simpa using e2
  · refine (Routing.resultIdx?_eq_some scatter_S24x1x128_S2_S24x32_01_1_12_0 (ix2 h j) idx (ix3 h 0 ⟨j.val, by omega⟩)).2 fun a => ?_
    rw [hs]
    match a with
    | ⟨0, _⟩ => exact (congrArg (fun n : ℕ => (0 : ℤ) + (n : ℤ)) (hw (ix2 h j)).1).trans (by simp)
    | ⟨1, _⟩ => exact (congrArg (fun n : ℕ => (0 : ℤ) + (n : ℤ)) (hw (ix2 h j)).2.1).trans (by simp)
    | ⟨2, _⟩ => exact (congrArg (fun n : ℕ => (0 : ℤ) + (n : ℤ)) (hw (ix2 h j)).2.2).trans (by simp)

theorem emb5 (j : Fin 128) : ((View.whole main_v9).slice (win0_5.rect t)).emb (ix3 0 0 j) = ix3 (ph t) 0 j := by
  funext a
  apply Fin.ext
  match a with
  | ⟨0, _⟩ => blk_simp [idx t, ph]; rfl
  | ⟨1, _⟩ => blk_simp [idx t, ph]
  | ⟨2, _⟩ => blk_simp [idx t, ph]

theorem iblk5_at (j : Fin 32) : iblk m c 5 t (ix3 0 0 ⟨j.val, by omega⟩) = m ((c : Thread nD τ).loc main_arg6) (ix2 j (ph t)) := by
  blk_simp [iblk, idx t, ph]
  entry_read
  pointwise
  refine (congrArg _ (emb5 t _)).trans ((scatter_corner _ _ (fun x => ?_) _ (ph t) j).trans ?_)
  · idx_vars x
    pointwise
    split_ifs <;> rfl
  · pointwise
    rfl

end Cert.Proof.KernelIdeal
end
-- ==== Proof.RefValue.lean ====
/-
  The reference's result, read at one entry, as the row function of the masked scores.
-/
module
public import proofs.«01_k».proof.Proof.RefRow
@[expose] public section
set_option maxRecDepth 16384
noncomputable section
namespace Cert.Proof.Ref
open Idealize.ShloMosaic Idealize.ShloMosaic.TcCoe Cert.ReferenceIdeal Cert.ReferenceIdeal.Gen

theorem row_at (v8 : FVec Ideal S2x24x1024x1024 .f32) (v52 : IVec S1024x1024 32) (v413 : FVec Ideal S24x1024x1024 .f32) (v416 : IVec S1x1024x1024 1) (v419 : FVec Ideal S24 .f32) (v429 : Vec Ideal S1x24 .bf16) (v438 : Vec Ideal S2x1024 .i32)
    (v : Vec Ideal S2x1024x24x128 .fp8e4m3) (vs : Vec Ideal S2x24 .f32) (b : Fin 2) (q : Fin 1024) (h : Fin 24) (d : Fin 128) :
    k0_pay36 (F := Ideal) (k0_pay32 v8 v52 v413 v416 v419 v429 v438) (k0_pay34 v8 v52 v413 v416 v419 v429 v438) (k0_pay35 v8 v52 v413 v416 v419 v429 v438) v vs (ix3 b q ⟨128 * h.val + d.val, by omega⟩)
      = refAt (fun k => msk v8 (b437 v52 v413 v416 v419 v429) v438 (ix4 b h q k)) (fun k => v (ix4 b k h d)) (vs (ix2 b h)) := by
  rw [pay36_at, pay34_at, pay35_at]
  have hA : k0_pay33 (F := Ideal) v8 v52 v413 v416 v419 v429 v438 (ix3 b h q) = rA (fun k => msk v8 (b437 v52 v413 v416 v419 v429) v438 (ix4 b h q k)) := by
    rw [pay33_at, pay32_eq]
    unfold rA
    exact congrArg (fun f => Finset.fold max _ f Finset.univ) (funext fun k => smx_at _ b q k h)
  rw [hA, pay32_eq]
  unfold refAt rE2 rE
  refine congrArg (fun x : EReal => x * _) (Finset.sum_congr rfl fun k _ => ?_)
  rw [smx_at]

/-- One masked score. -/
def score (a0 a1 : Vec Ideal S2x1024x24x128 .fp8e4m3) (a3 a4 : Vec Ideal S2x24 .f32) (a6 : Vec Ideal S32x24 .bf16) (a7 : Vec Ideal S2x1024 .i32) (b : Fin 2) (q : Fin 1024) (h : Fin 24) (k : Fin 1024) : EReal :=
  Scalar.select (IntOp.cmpi .eq (a7 (ix2 b q)) (a7 (ix2 b k)))
    ((∑ x : Fin 128, (a0 (ix4 b q h x) : EReal) * a1 (ix4 b k h x)) * (a3 (ix2 b h) * a4 (ix2 b h))
      + chain (bktW (IntOp.subi (BitVec.ofNat 32 k.val) (BitVec.ofNat 32 q.val))) (fun t => a6 (ix2 t h)) (Ideal.ofBits .f32 0#32))
    (Ideal.ofBits .f32 4286578688#32)

theorem score_at (a0 a1 a2 : Vec Ideal S2x1024x24x128 .fp8e4m3) (a3 a4 a5 : Vec Ideal S2x24 .f32) (a6 : Vec Ideal S32x24 .bf16) (a7 : Vec Ideal S2x1024 .i32) (b : Fin 2) (q : Fin 1024) (h : Fin 24) (k : Fin 1024) :
    msk (k0_pay37 a0 a1 a2 a3 a4 a5 a6 a7) (b437 (k0_pay42 (F := Ideal) a0 a1 a2 a3 a4 a5 a6 a7) (k0_pay43 a0 a1 a2 a3 a4 a5 a6 a7) (k0_pay44 (F := Ideal) a0 a1 a2 a3 a4 a5 a6 a7) (k0_pay45 a0 a1 a2 a3 a4 a5 a6 a7) (View.ld a6 r0_33)) a7 (ix4 b h q k)
      = score a0 a1 a3 a4 a6 a7 b q h k := by
  rw [msk_at, b437_at]
  unfold k0_pay45 k0_pay44 k0_pay43
  rw [pay31_at, pay30_at, pay29_at, pay28_at, pay27_at, pay26_at, pay25_at, pay24_at, pay23_at, pay22_at, pay21_at, pay20_at, pay19_at, pay18_at, pay17_at, pay16_at, pay15_at, pay14_at, pay13_at, pay12_at, pay11_at, pay10_at, pay9_at, pay8_at]
  rw [ld31, ld30, ld29, ld28, ld27, ld26, ld25, ld24, ld23, ld22, ld21, ld20, ld19, ld18, ld17, ld16, ld15, ld14, ld13, ld12, ld11, ld10, ld9, ld8, ld7, ld6, ld5, ld4, ld3, ld2, ld1, ld0]
  unfold k0_pay42 k0_pay38 k0_pay39 k0_pay40 k0_pay41 k0_pay37
  rw [pay7_at, pay1_at, View.ld_unit_zero (S := S2x1024x24x128) Value.hz0 _ a0, View.ld_unit_zero (S := S2x1024x24x128) Value.hz1 _ a1, View.ld_unit_zero (S := S2x24) Value.hz3 _ a3, View.ld_unit_zero (S := S2x24) Value.hz4 _ a4]
  unfold score chain
  rfl

theorem G8_at (a0 a1 a2 : Vec Ideal S2x1024x24x128 .fp8e4m3) (a3 a4 a5 : Vec Ideal S2x24 .f32) (a6 : Vec Ideal S32x24 .bf16) (a7 : Vec Ideal S2x1024 .i32) (b : Fin 2) (q : Fin 1024) (h : Fin 24) (d : Fin 128) :
    Value.G8 a0 a1 a2 a3 a4 a5 a6 a7 (ix3 b q ⟨128 * h.val + d.val, by omega⟩)
      = refAt (score a0 a1 a3 a4 a6 a7 b q h) (fun k => a2 (ix4 b k h d)) (a5 (ix2 b h)) := by
  refine (row_at _ _ _ _ _ _ _ _ _ b q h d).trans ?_
  exact congrArg (fun t => refAt t _ _) (funext fun k => score_at a0 a1 a2 a3 a4 a5 a6 a7 b q h k)

end Cert.Proof.Ref
-- ==== Proof.KernelIdealRun.lean ====
/-
  The kernel's run with its result tracked: the two tables the scratches carry from point to point, the block every
  point leaves, and the result array the run ends at.
-/
module
public import proofs.«01_k».proof.Proof.KernelIdealFrame
public import proofs.«01_k».proof.Proof.KernelIdealPoint
public import proofs.«01_k».proof.Proof.KernelIdealBlocks
public import proofs.«01_k».proof.Proof.RefValue
@[expose] public section
set_option maxRecDepth 16384
noncomputable section
namespace Cert.Proof.KernelIdeal
open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Row Cert.Proof.Words Cert.Proof.Ref

local notation "𝕄" => MT nD τ sig Unit (Elt Ideal) ℕ (UU nD τ) ℕ

/-- The first point fills the table of buckets, -/
theorem v4_first : ∀ t : Fin cfg0.N, t.val = 0 → bodyRun.sl.v4 (grid0.coords t) = 1#1 :=
  (by decide +kernel : ∀ t : Fin grid0.N, t.val = 0 → bodyRun.sl.v4 (grid0.coords t) = 1#1)
/-- and the first point of a batch its table of ids. -/
theorem v7_first : ∀ t : Fin cfg0.N, t.val % 24 = 0 → bodyRun.sl.v7 (grid0.coords t) = 1#1 :=
  (by decide +kernel : ∀ t : Fin grid0.N, t.val % 24 = 0 → bodyRun.sl.v7 (grid0.coords t) = 1#1)

/-- One scale, read at the point's batch and head. -/
theorem scale_word (c : Dev nD) (i : grid0.Coords) (M : Memref sig .tc .smem S2x24 .f32) (f : Bf (F := Ideal) c M) (b : Fin 2) (h : Fin 24)
    (hb : (i 0).val = b.val) (hh : (i 1).val = h.val) (inb) (p) :
    M.view.readAt (Elt Ideal) (Rect.unit (s := S2x24) (k0_off1 i) S1x1.size inb).toLoadRect f (Shape.Idx.first p) = M.view.read (Elt Ideal) f (ix2 b h) := by
  have e0 : (BitVec.ofNat 32 (i 0).val).toNat = b.val := by rw [hb, BitVec.toNat_ofNat]; omega
  have e1 : (BitVec.ofNat 32 (i 1).val).toNat = h.val := by rw [hh, BitVec.toNat_ofNat]; omega
  exact ld M.view f inb _ _ (fun a => by match a with | ⟨0, _⟩ => exact e0.symm | ⟨1, _⟩ => exact e1.symm)

variable (m : (ℓ : Loc nD τ sig) → Buf (Elt Ideal) ℓ) (ρ : Dev nD → PrngReg)

/-- What is asked of the arguments: a positive real scale of every batch and head, -/
def ScaleOk : Prop := ∀ (c : Dev nD) (b : Fin 2) (h : Fin 24), ∃ r : ℝ, 0 < r ∧ HMul.hMul (α := EReal) (β := EReal) (γ := EReal) (m ((c : Thread nD τ).loc main_arg3) (ix2 b h)) (m ((c : Thread nD τ).loc main_arg4) (ix2 b h)) = (r : EReal)
/-- and ids that never fall along a sequence. -/
def IdsOk : Prop := ∀ (c : Dev nD) (b : Fin 2) (x y : Fin 1024), x.val ≤ y.val → ((m ((c : Thread nD τ).loc main_arg7) (ix2 b x) : BitVec 32)).toInt ≤ ((m ((c : Thread nD τ).loc main_arg7) (ix2 b y) : BitVec 32)).toInt

/-- The reference's result of the arguments, -/
def Res (c : Dev nD) : Vec Ideal Cert.ReferenceIdeal.S2x1024x3072 .bf16 :=
  Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- and a point's block of it. -/
def oBlk (c : Dev nD) (t : Fin cfg0.N) : (cfg0.win 9).block.Idx → Elt Ideal (cfg0.win 9).elt := fun x =>
  Res m c (ix3 (pb t) (x 1) ⟨128 * (ph t).val + (x 2).val, by have h1 := (ph t).isLt; have h2 : (x 2).val < 128 := (x 2).isLt; omega⟩)

theorem v14_at (c : Dev nD) (t : Fin cfg0.N) :
    bodyRun.sl.v14 c (grid0.coords t) (win0_1.stage (cfg0.slots t 1)) (win0_2.stage (cfg0.slots t 2)) ((hstage0_1 ((cfg0.slots t 1).cast nbuf0_1)).unread (iblk m c 1 t)) ((hstage0_2 ((cfg0.slots t 2).cast nbuf0_2)).unread (iblk m c 2 t)) = HMul.hMul (α := EReal) (β := EReal) (γ := EReal) (m ((c : Thread nD τ).loc main_arg3) (ix2 (pb t) (ph t))) (m ((c : Thread nD τ).loc main_arg4) (ix2 (pb t) (ph t))) := by
  unfold bodyRun.sl.v14 bodyRun.sl.r_2 bodyRun.sl.r_3
  rw [scale_word c _ (win0_1.stage (cfg0.slots t 1)) ((hstage0_1 ((cfg0.slots t 1).cast nbuf0_1)).unread (iblk m c 1 t)) (pb t) (ph t) (coords_eq t).1 (coords_eq t).2, scale_word c _ (win0_2.stage (cfg0.slots t 2)) ((hstage0_2 ((cfg0.slots t 2).cast nbuf0_2)).unread (iblk m c 2 t)) (pb t) (ph t) (coords_eq t).1 (coords_eq t).2]
  exact congr (congrArg (HMul.hMul (α := EReal) (β := EReal) (γ := EReal)) ((congrFun ((hstage0_1 ((cfg0.slots t 1).cast nbuf0_1)).read_unread (iblk m c 1 t)) _).trans (iblk1_at m c t _))) ((congrFun ((hstage0_2 ((cfg0.slots t 2).cast nbuf0_2)).read_unread (iblk m c 2 t)) _).trans (iblk2_at m c t _))

theorem r4_at (c : Dev nD) (t : Fin cfg0.N) :
    bodyRun.sl.r_4 c (grid0.coords t) (win0_3.stage (cfg0.slots t 3)) ((hstage0_3 ((cfg0.slots t 3).cast nbuf0_3)).unread (iblk m c 3 t)) = m ((c : Thread nD τ).loc main_arg5) (ix2 (pb t) (ph t)) := by
  unfold bodyRun.sl.r_4
  rw [scale_word c _ (win0_3.stage (cfg0.slots t 3)) ((hstage0_3 ((cfg0.slots t 3).cast nbuf0_3)).unread (iblk m c 3 t)) (pb t) (ph t) (coords_eq t).1 (coords_eq t).2]
  exact (congrFun ((hstage0_3 ((cfg0.slots t 3).cast nbuf0_3)).read_unread (iblk m c 3 t)) _).trans (iblk3_at m c t _)

/-- The block a point leaves. -/
theorem outX_eq (hs : ScaleOk m) (hi : IdsOk m) (c : Dev nD) (t : Fin cfg0.N) (X9 : (cfg0.win 9).block.Idx → Elt Ideal (cfg0.win 9).elt)
    (f12 : Bf (F := Ideal) c (Memref.whole cc0_scratch0)) (f13 : Bf (F := Ideal) c (Memref.whole cc0_scratch1))
    (f14 : Bf (F := Ideal) c (Memref.whole cc0_scratch2)) (f15 : Bf (F := Ideal) c (Memref.whole cc0_scratch3))
    (hT : bodyRun.sl.v4 (grid0.coords t) = 1#1 ∨ IsTab c (Memref.whole cc0_scratch0) f12)
    (hS : bodyRun.sl.v7 (grid0.coords t) = 1#1 ∨ IsSeg c (win0_4.stage (cfg0.slots t 4)) (Memref.whole cc0_scratch1) ((hstage0_4 ((cfg0.slots t 4).cast nbuf0_4)).unread (iblk m c 4 t)) f13) :
    outX m c t X9 f12 f13 f14 f15 = oBlk m c t := by
  obtain ⟨r, hr, er⟩ := hs c (pb t) (ph t)
  funext x
  have hx : x = ix3 0 (x 1) (x 2) := by
    funext a
    match a with
    | ⟨0, _⟩ => exact Subsingleton.elim (α := Fin 1) _ _
    | ⟨1, _⟩ => rfl
    | ⟨2, _⟩ => rfl
  unfold outX RR
  refine (congrArg _ hx).trans ((body_row c (grid0.coords t) _ _ _ _ _ _ _ _ _ _ _ _ _ _ _ _ _ _ _ _ _ _ _ _ _ _ _ _ _ _ _ _ _ _ _ _ _ _ _ _ _ _
    (fun n => m ((c : Thread nD τ).loc main_arg7) (ix2 (pb t) n)) (pb t) (coords_eq t).1 (fun n => ?_) (hi c (pb t)) (fun n => ?_)
    (fun n x => m ((c : Thread nD τ).loc main_arg0) (ix4 (pb t) n (ph t) x)) (fun n x => m ((c : Thread nD τ).loc main_arg1) (ix4 (pb t) n (ph t) x))
    (fun n x => m ((c : Thread nD τ).loc main_arg2) (ix4 (pb t) n (ph t) x)) (fun j => m ((c : Thread nD τ).loc main_arg6) (ix2 j (ph t)))
    (fun j => ?_) (fun n x => ?_) (fun n x => ?_) (fun n x => ?_) r hr ((v14_at m c t).trans er) hT hS (x 1) (x 2)).trans ?_)
  · exact (congrFun ((hstage0_0 ((cfg0.slots t 0).cast nbuf0_0)).read_unread (iblk m c 0 t)) _).trans (iblk0_at m c t _)
  · exact (congrFun ((hstage0_4 ((cfg0.slots t 4).cast nbuf0_4)).read_unread (iblk m c 4 t)) _).trans (iblk4_at m c t n)
  · exact (congrFun ((hstage0_5 ((cfg0.slots t 5).cast nbuf0_5)).read_unread (iblk m c 5 t)) _).trans (iblk5_at m c t j)
  · exact (congrFun ((hstage0_6 ((cfg0.slots t 6).cast nbuf0_6)).read_unread (iblk m c 6 t)) _).trans (iblk6_at m c t n x)
  · exact (congrFun ((hstage0_7 ((cfg0.slots t 7).cast nbuf0_7)).read_unread (iblk m c 7 t)) _).trans (iblk7_at m c t n x)
  · exact (congrFun ((hstage0_8 ((cfg0.slots t 8).cast nbuf0_8)).read_unread (iblk m c 8 t)) _).trans (iblk8_at m c t n x)
  · rw [r4_at, ← er]
    exact (G8_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (pb t) (x 1) (ph t) (x 2)).symm

/-- Before point `n`, the table of buckets past the first point, -/
def TabAt (c : Dev nD) (n : ℕ) (f12 : Bf (F := Ideal) c (Memref.whole cc0_scratch0)) : Prop := n = 0 ∨ IsTab c (Memref.whole cc0_scratch0) f12
/-- and the table of the batch's ids past the batch's first point. -/
def SegAt (c : Dev nD) (n : ℕ) (f13 : Bf (F := Ideal) c (Memref.whole cc0_scratch1)) : Prop :=
  n % 24 = 0 ∨ ∀ (b : Fin 2), b.val = n / 24 → ∀ (κ' : Fin 1024) (l : Fin 128),
    (Memref.whole cc0_scratch1).view.read (Elt Ideal) f13 (ix2 κ' l) = m ((c : Thread nD τ).loc main_arg7) (ix2 b κ')

theorem hT_of (c : Dev nD) (t : Fin cfg0.N) (f12) (h : TabAt c t.val f12) : bodyRun.sl.v4 (grid0.coords t) = 1#1 ∨ IsTab c (Memref.whole cc0_scratch0) f12 :=
  h.imp (v4_first t) id
theorem hS_of (c : Dev nD) (t : Fin cfg0.N) (f13) (h : SegAt m c t.val f13) :
    bodyRun.sl.v7 (grid0.coords t) = 1#1 ∨ IsSeg c (win0_4.stage (cfg0.slots t 4)) (Memref.whole cc0_scratch1) ((hstage0_4 ((cfg0.slots t 4).cast nbuf0_4)).unread (iblk m c 4 t)) f13 :=
  h.imp (v7_first t) fun h κ' l => (h (pb t) rfl κ' l).trans ((congrFun ((hstage0_4 ((cfg0.slots t 4).cast nbuf0_4)).read_unread (iblk m c 4 t)) _).trans (iblk4_at m c t κ')).symm

section Step
variable (c : Dev nD) (t : Fin cfg0.N) (X9 : (cfg0.win 9).block.Idx → Elt Ideal (cfg0.win 9).elt)
    (f12 : Bf (F := Ideal) c (Memref.whole cc0_scratch0)) (f13 : Bf (F := Ideal) c (Memref.whole cc0_scratch1))
    (f14 : Bf (F := Ideal) c (Memref.whole cc0_scratch2)) (f15 : Bf (F := Ideal) c (Memref.whole cc0_scratch3))

theorem tab_step (h : TabAt c t.val f12) : TabAt c (t.val + 1) (RR m c t X9 f12 f13 f14 f15).2.1 := by
  refine Or.inr ?_
  unfold RR
  rw [body_12]
  exact G12_tab c _ _ _ (hT_of c t f12 h)
theorem seg_step (h : SegAt m c t.val f13) : SegAt m c (t.val + 1) (RR m c t X9 f12 f13 f14 f15).2.2.1 := by
  by_cases hn : (t.val + 1) % 24 = 0
  · exact Or.inl hn
  refine Or.inr fun b hb κ' l => ?_
  have e : b = pb t := Fin.ext (hb.trans (by show _ = t.val / 24; omega))
  rw [e]
  unfold RR
  rw [body_13]
  exact (G13_seg c _ _ _ _ _ (hS_of m c t f13 h) κ' l).trans ((congrFun ((hstage0_4 ((cfg0.slots t 4).cast nbuf0_4)).read_unread (iblk m c 4 t)) _).trans (iblk4_at m c t κ'))
end Step

/-- The invariant: the tables as far as they are filled, the other scratches at anything, the generator register. -/
def Φv (c : Dev nD) (n : Fin (cfg0.N + 1)) : sProp 𝕄 :=
  iprop(((∃ f12 : Buf (Elt Ideal) ((c : Thread nD τ).loc cc0_scratch0), ⌜TabAt c n.val f12⌝ ∗ ((c : Thread nD τ).loc cc0_scratch0) ↦{fullShare} f12)
      ∗ (∃ f13 : Buf (Elt Ideal) ((c : Thread nD τ).loc cc0_scratch1), ⌜SegAt m c n.val f13⌝ ∗ ((c : Thread nD τ).loc cc0_scratch1) ↦{fullShare} f13)
      ∗ (∃ f14 : Buf (Elt Ideal) ((c : Thread nD τ).loc cc0_scratch2), ((c : Thread nD τ).loc cc0_scratch2) ↦{fullShare} f14)
      ∗ (∃ f15 : Buf (Elt Ideal) ((c : Thread nD τ).loc cc0_scratch3), ((c : Thread nD τ).loc cc0_scratch3) ↦{fullShare} f15))
    ∗ ∃ r, prngReg c r)

theorem Φv_in (c : Dev nD) : Pipeline.ΦA (U := UR sig nD τ) (Val := Elt Ideal) spec0 c ⊢ Φv m c 0 := by
  rw [Pipeline.ΦA, scopedRest0_eq]
  unfold Φv
  iintro ⟨⟨⟨%f12, S0⟩, ⟨%f13, S1⟩, ⟨%f14, S2⟩, ⟨%f15, S3⟩⟩, HP⟩
  isplitl [S0 S1 S2 S3]
  · isplitl [S0]
    · iexists f12
      isplitr
      · ipureintro; exact Or.inl rfl
      iexact S0
    isplitl [S1]
    · iexists f13
      isplitr
      · ipureintro; exact Or.inl rfl
      iexact S1
    isplitl [S2]; · iexists _; iexact S2
    iexists _; iexact S3
  iexact HP

theorem Φv_out (c : Dev nD) (n : Fin (cfg0.N + 1)) : Φv m c n ⊢ Pipeline.ΦA (U := UR sig nD τ) (Val := Elt Ideal) spec0 c := by
  rw [Pipeline.ΦA, scopedRest0_eq]
  unfold Φv
  iintro ⟨⟨⟨%f12, %hT, S0⟩, ⟨%f13, %hS, S1⟩, ⟨%f14, S2⟩, ⟨%f15, S3⟩⟩, HP⟩
  isplitl [S0 S1 S2 S3]
  · isplitl [S0]; · iexists _; iexact S0
    isplitl [S1]; · iexists _; iexact S1
    isplitl [S2]; · iexists _; iexact S2
    iexists _; iexact S3
  iexact HP

/-- The proof data of the tracked run. -/
abbrev datsV : (p : Fin 1) → (c : Dev nD) → Dat τ (Elt Ideal) Unit ℕ (UR sig nD τ) ℕ cfg0 c :=
  datsOf m (Φv m) (oBlk m)

theorem sound_bodyV (hs : ScaleOk m) (hi : IdsOk m) (c : Dev nD) (t : Fin cfg0.N) :
    iprop((datsV m 0 c).Φ t.castSucc ∗ (datsV m 0 c).owesAt () t.castSucc
      ∗ (∃ d, owns (c : Thread nD τ) (st0_0 t) fullShare ((datsV m 0 c).before 0 t d)) ∗ (∃ d, owns (c : Thread nD τ) (st0_1 t) fullShare ((datsV m 0 c).before 1 t d)) ∗ (∃ d, owns (c : Thread nD τ) (st0_2 t) fullShare ((datsV m 0 c).before 2 t d)) ∗ (∃ d, owns (c : Thread nD τ) (st0_3 t) fullShare ((datsV m 0 c).before 3 t d)) ∗ (∃ d, owns (c : Thread nD τ) (st0_4 t) fullShare ((datsV m 0 c).before 4 t d)) ∗ (∃ d, owns (c : Thread nD τ) (st0_5 t) fullShare ((datsV m 0 c).before 5 t d)) ∗ (∃ d, owns (c : Thread nD τ) (st0_6 t) fullShare ((datsV m 0 c).before 6 t d)) ∗ (∃ d, owns (c : Thread nD τ) (st0_7 t) fullShare ((datsV m 0 c).before 7 t d)) ∗ (∃ d, owns (c : Thread nD τ) (st0_8 t) fullShare ((datsV m 0 c).before 8 t d)) ∗ (∃ d, owns (c : Thread nD τ) (st0_9 t) fullShare ((datsV m 0 c).before 9 t d)))
    ⊢ wp Idealize.ShloMosaic.frame (wpE (defs₀ (F := Ideal)) 𝒱₀ (c : Thread nD τ) none) Set.univ (bodyAt0 t)
      (fun _ => iprop((datsV m 0 c).Φ t.succ ∗ (datsV m 0 c).owesAt () t.succ
        ∗ owns (c : Thread nD τ) (st0_0 t) fullShare ((datsV m 0 c).after 0 t) ∗ owns (c : Thread nD τ) (st0_1 t) fullShare ((datsV m 0 c).after 1 t) ∗ owns (c : Thread nD τ) (st0_2 t) fullShare ((datsV m 0 c).after 2 t) ∗ owns (c : Thread nD τ) (st0_3 t) fullShare ((datsV m 0 c).after 3 t) ∗ owns (c : Thread nD τ) (st0_4 t) fullShare ((datsV m 0 c).after 4 t) ∗ owns (c : Thread nD τ) (st0_5 t) fullShare ((datsV m 0 c).after 5 t) ∗ owns (c : Thread nD τ) (st0_6 t) fullShare ((datsV m 0 c).after 6 t) ∗ owns (c : Thread nD τ) (st0_7 t) fullShare ((datsV m 0 c).after 7 t) ∗ owns (c : Thread nD τ) (st0_8 t) fullShare ((datsV m 0 c).after 8 t) ∗ owns (c : Thread nD τ) (st0_9 t) fullShare ((datsV m 0 c).after 9 t))) := by
  simp only [before0_0, before0_1, before0_2, before0_3, before0_4, before0_5, before0_6, before0_7, before0_8]
  rw [show (datsV m 0 c).owesAt () t.succ = (datsV m 0 c).owesAt () t.castSucc from rfl,
    after0_0, after0_1, after0_2, after0_3, after0_4, after0_5, after0_6, after0_7, after0_8, after0_9]
  rw [show (datsV m 0 c).Φ t.castSucc = Φv m c t.castSucc from rfl, show (datsV m 0 c).Φ t.succ = Φv m c t.succ from rfl]
  unfold Φv
  iintro ⟨⟨⟨⟨%f12, %hT, S0⟩, ⟨%f13, %hS, S1⟩, ⟨%f14, S2⟩, ⟨%f15, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← outX_eq m hs hi c t ((datsV m 0 c).before 9 t d9) f12 f13 f14 f15 (hT_of c t f12 hT) (hS_of m c t f13 hS)]
  iapply (wp_wand_r Idealize.ShloMosaic.frame (wpE (defs₀ (F := Ideal)) 𝒱₀ (c : Thread nD τ) none) Set.univ)
  isplitl [S0 S1 S2 S3 H0 H1 H2 H3 H4 H5 H6 H7 H8 H9]
  · iapply (body_at m c t ((datsV m 0 c).before 9 t d9) f12 f13 f14 f15)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  iintro %_ ⟨H0, H1, H2, H3, H4, H5, H6, H7, H8, H9, S0, S1, S2, S3⟩
  isplitl [S0 S1 S2 S3 HP]
  · isplitl [S0 S1 S2 S3]
    · isplitl [S0]
      · iexists _
        isplitr
        · ipureintro; exact tab_step m c t ((datsV m 0 c).before 9 t d9) f12 f13 f14 f15 hT
        iexact S0
      isplitl [S1]
      · iexists _
        isplitr
        · ipureintro; exact seg_step m c t ((datsV m 0 c).before 9 t d9) f12 f13 f14 f15 hS
        iexact S1
      isplitl [S2]; · iexists _; iexact S2
      iexists _; iexact S3
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligationV (hs : ScaleOk m) (hi : IdsOk m) (c : Dev nD) : BodyObligation (datsV m 0 c) (defs₀ (F := Ideal)) 𝒱₀ () Set.univ := fun t => by
  rw [bigSep_W0, bigSep_W0, defs₀_row]
  exact triple_restated (sound_bodyV m hs hi c t) rfl .rfl fun _ => .rfl

set_option backward.isDefEq.respectTransparency.types false in
set_option maxHeartbeats 800000 in
/-- The launch, the result tracked. -/
theorem run_track (hs : ScaleOk m) (hi : IdsOk m) : θ_run (defs (F := Ideal)) (onTc (τ := τ) (main (F := Ideal))) (s₀ m ρ) (Pipeline.FramePost cfgs (datsV m) 0 (V m)) :=
  Pipeline.θ_run_frame_track cfgs (datsV m) (0 : Fin 1) launch0 defs₀ 𝒱₀ m ρ main
    (hbody := fun c => (body_obligationV m hs hi c).loose) (hshare := fun c => (datsV m 0 c).share_full fun _ => rfl)
    (howed := fun _ _ => rfl) (V := V m) (hmain := hmain m 𝒱₀) (hA := A_eq m _ _)
    (hin := fun c => Φv_in m c) (hout := fun c => Φv_out m c _)

/-- An array is what its blocks are. -/
theorem arr_eq (Φ : (c : Dev nD) → Fin (cfg0.N + 1) → sProp 𝕄) (o : (c : Dev nD) → Fin cfg0.N → (cfg0.win 9).block.Idx → Elt Ideal (cfg0.win 9).elt)
    (c : Dev nD) (G : Vec Ideal S2x1024x3072 .bf16)
    (hG : ∀ (t : Fin cfg0.N) (x : S1x1024x128.Idx), o c t x = G (ix3 (pb t) (x 1) ⟨128 * (ph t).val + (x 2).val, by have h1 := (ph t).isLt; have h2 : (x 2).val < 128 := (x 2).isLt; omega⟩)) :
    (datsOf m Φ o 0 c).arrAt 9 cfg0.N = G := by
  refine (datsOf m Φ o 0 c).arrAt_eq_of_covers 9 G (by decide +kernel) fun t hf y => ?_
  blk_simp
  rw [after0_9]
  refine (hG t y).trans (congrArg G (funext fun a => Fin.ext ?_))
  match a with
  | ⟨0, _⟩ => blk_simp [idx t, pb]
  | ⟨1, _⟩ => blk_simp [idx t]; rfl
  | ⟨2, _⟩ => blk_simp [idx t, ph]; exact congrArg (· + (y 2).val) (Nat.mul_comm 128 (t.val % 24))

/-- The result array is the reference's result. -/
theorem res_eq (c : Dev nD) : (datsV m 0 c).arrAt 9 cfg0.N = Res m c :=
  arr_eq m (Φv m) (oBlk m) c (Res m c) fun t x => rfl

/-- THE RUN: the result array ends at the reference's result, the arguments unchanged. -/
theorem run (hs : ScaleOk m) (hi : IdsOk m) : θ_run (defs (F := Ideal)) (onTc (τ := τ) (main (F := Ideal))) ⟨m, fun _ => 0, ρ⟩ (fun r => ∀ c : Dev nD,
      r.2.mem ((c.tc : Thread nD τ).loc main_v11) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨((h c).1 9).trans (res_eq m c), ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((datsV m 0 c).arrAt_in 1 rfl _).trans ((A_eq m _ _ c 1).trans (V_main_arg3 m c))),
      ((h c).1 2).trans (((datsV m 0 c).arrAt_in 2 rfl _).trans ((A_eq m _ _ c 2).trans (V_main_arg4 m c))),
      ((h c).1 3).trans (((datsV m 0 c).arrAt_in 3 rfl _).trans ((A_eq m _ _ c 3).trans (V_main_arg5 m c))),
      ((h c).2 main_arg6 (Pipeline.mem_restRefs_of main_arg6 (by decide) (by decide))).trans (V_main_arg6 m c),
      ((h c).1 0).trans (((datsV m 0 c).arrAt_in 0 rfl _).trans ((A_eq m _ _ c 0).trans (V_main_arg7 m c)))⟩) (run_track m ρ hs hi)

end Cert.Proof.KernelIdeal
-- ==== Proof.Pre.lean ====
/-
  What the precondition says of the arguments, element by element.
-/
module
public import proofs.«01_k».proof.Defs
public import proofs.«01_k».proof.Proof.KernelIdealRun
public import Idealize.ShloMosaic.Lib.ReduceAll
@[expose] public section
set_option maxRecDepth 16384
noncomputable section
namespace Cert.Proof.Pre
open Idealize.ShloMosaic Idealize.ShloMosaic.TcCoe

/-- The precondition's shape relations. -/
theorem facts : Cert.Pre_pre.Facts where
  bcast_S_S2x24 := by decide
  reducesTo_S2x24_S_d0_1 := by decide
  h_S_ := by decide
  slices_S2x1024_S2x1023_0_1 := by decide
  slices_S2x1024_S2x1023_0_0 := by decide
  reducesTo_S2x1023_S_d0_1 := by decide

instance : Subsingleton Cert.Pre_pre.S_.Idx := ⟨fun a b => funext fun x => x.elim0⟩

attribute [local instance] facts

theorem one_of (b : Bool) (h : BitVec.ofBool b = 1#1) : b = true := by cases b <;> simp_all

/-- Words that never fall from one place to the next never fall. -/
theorem mono_of_step (f : Fin 1024 → ℤ) (h : ∀ n : Fin 1023, f ⟨n.val, by omega⟩ ≤ f ⟨n.val + 1, by omega⟩) (x y : Fin 1024) (hxy : x.val ≤ y.val) : f x ≤ f y := by
  obtain ⟨y, hy⟩ := y
  induction y with
  | zero =>
    have : x = ⟨0, hy⟩ := Fin.ext (Nat.le_zero.1 hxy)
    rw [this]
  | succ n ih =>
    rcases Nat.lt_or_ge n x.val with hlt | hge
    · have : x = ⟨n + 1, hy⟩ := Fin.ext (Nat.le_antisymm hxy hlt)
      rw [this]
    · exact (ih (by omega) hge).trans (h ⟨n, by omega⟩)

variable (a0 a1 a2 : FVec Ideal Cert.Pre_pre.S2x1024x24x128 .fp8e4m3) (a3 a4 a5 : FVec Ideal Cert.Pre_pre.S2x24 .f32) (a6 : FVec Ideal Cert.Pre_pre.S32x24 .bf16) (a7 : IVec Cert.Pre_pre.S2x1024 32)

theorem split (h : Cert.Pre_pre.fn (F := Ideal) a0 a1 a2 a3 a4 a5 a6 a7 = fun _ => 1#1) :
    (∀ (b : Fin 2) (n : Fin 24), Ideal.cmp .ogt (a3 (ix2 b n) * a4 (ix2 b n) : EReal) (Ideal.ofBits .f32 0#32) = 1#1 ∧ Ideal.cmp .olt (a3 (ix2 b n) * a4 (ix2 b n) : EReal) (Ideal.ofBits .f32 0x7F800000#32) = 1#1)
    ∧ (∀ (b : Fin 2) (n : Fin 1023), (a7 (ix2 b ⟨n.val, by omega⟩)).toInt ≤ (a7 (ix2 b ⟨n.val + 1, by omega⟩)).toInt) := by
  have h0 := congrFun h (fun x => x.elim0)
  unfold Cert.Pre_pre.fn at h0
  obtain ⟨hA, hB⟩ := IntOp.andi_eq_one.1 h0
  constructor
  · intro b n
    have e := Host.reduce_andi_all _ _ _ _ _ hA (ix2 b n)
    exact IntOp.andi_eq_one.1 e
  · intro b n
    have e := IntOp.cmpi_sge.1 (Host.reduce_andi_all _ _ _ _ _ hB (ix2 b n))
    have e1 : (extractStridedSlice Cert.Pre_pre.S2x1023 ![0, 1] a7 Cert.Pre_pre.Facts.slices_S2x1024_S2x1023_0_1) (ix2 b n) = a7 (ix2 b ⟨n.val + 1, by omega⟩) :=
      congrArg a7 (funext fun a => Fin.ext (by
        match a with
        | ⟨0, _⟩ => exact Nat.zero_add _
        | ⟨1, _⟩ => exact Nat.add_comm _ _))
    have e2 : (extractStridedSlice Cert.Pre_pre.S2x1023 ![0, 0] a7 Cert.Pre_pre.Facts.slices_S2x1024_S2x1023_0_0) (ix2 b n) = a7 (ix2 b ⟨n.val, by omega⟩) :=
      congrArg a7 (funext fun a => Fin.ext (by
        match a with
        | ⟨0, _⟩ => exact Nat.zero_add _
        | ⟨1, _⟩ => exact Nat.zero_add _))
    exact (congrArg BitVec.toInt e2).symm.le.trans (e.trans (congrArg BitVec.toInt e1).le)

theorem scale_real (x : EReal) (h1 : Ideal.cmp .ogt x (Ideal.ofBits .f32 0#32) = 1#1) (h2 : Ideal.cmp .olt x (Ideal.ofBits .f32 0x7F800000#32) = 1#1) :
    ∃ r : ℝ, 0 < r ∧ x = (r : EReal) := by
  have z : Ideal.ofBits .f32 0#32 = 0 := by simp [Ideal.ofBits, Ideal.ieee]
  have t : Ideal.ofBits .f32 0x7F800000#32 = ⊤ := by simp [Ideal.ofBits, Ideal.ieee]
  rw [z] at h1; rw [t] at h2
  have p : 0 < x := of_decide_eq_true (one_of _ h1)
  have q : x < ⊤ := of_decide_eq_true (one_of _ h2)
  lift x to ℝ using ⟨q.ne, (lt_trans EReal.bot_lt_zero p).ne'⟩
  exact ⟨x, EReal.coe_pos.1 p, rfl⟩

theorem scaleOk (m) (h : Cert.Pre_KernelIdeal_pre m) : KernelIdeal.ScaleOk m := fun c b n =>
  scale_real _ ((split _ _ _ _ _ _ _ _ (h c)).1 b n).1 ((split _ _ _ _ _ _ _ _ (h c)).1 b n).2
theorem idsOk (m) (h : Cert.Pre_KernelIdeal_pre m) : KernelIdeal.IdsOk m := fun c b x y hxy =>
  mono_of_step (fun n => (m ((c.tc : Thread Cert.KernelIdeal.nD Cert.KernelIdeal.τ).loc Cert.KernelIdeal.main_arg7) (ix2 b n) : BitVec 32).toInt) (fun n => (split _ _ _ _ _ _ _ _ (h c)).2 b n) x y hxy

end Cert.Proof.Pre
-- ==== Proof.lean ====
/-
  The proof of `Cert.Claim`.
-/
module

public import proofs.«01_k».proof.Defs
public import proofs.«01_k».proof.Proof.KernelFrame
public import proofs.«01_k».proof.Proof.KernelIdealFrame
public import proofs.«01_k».proof.Proof.Gen.Reference.Frame
public import proofs.«01_k».proof.Proof.Gen.ReferenceIdeal.Frame
public import proofs.«01_k».proof.Proof.Gen.ReferenceIdeal.Value
public import proofs.«01_k».proof.Proof.KernelIdealRun
public import proofs.«01_k».proof.Proof.Pre

@[expose] public section

namespace Cert.Proof

open Idealize.ShloMosaic Idealize.SL.Sem

/-- The reference's result of equal arguments. -/
theorem ref_res (m : (ℓ : Loc Cert.KernelIdeal.nD Cert.KernelIdeal.τ Cert.KernelIdeal.sig) → Buf (Elt Ideal) ℓ) (c : Dev Cert.KernelIdeal.nD)
    (b0 b1 b2 : Vec Ideal Cert.ReferenceIdeal.S2x1024x24x128 .fp8e4m3) (b3 b4 b5 : Vec Ideal Cert.ReferenceIdeal.S2x24 .f32)
    (b6 : Vec Ideal Cert.ReferenceIdeal.S32x24 .bf16) (b7 : Vec Ideal Cert.ReferenceIdeal.S2x1024 .i32)
    (e0 : b0 = m ((c.tc : Thread Cert.KernelIdeal.nD Cert.KernelIdeal.τ).loc Cert.KernelIdeal.main_arg0))
    (e1 : b1 = m ((c.tc : Thread Cert.KernelIdeal.nD Cert.KernelIdeal.τ).loc Cert.KernelIdeal.main_arg1))
    (e2 : b2 = m ((c.tc : Thread Cert.KernelIdeal.nD Cert.KernelIdeal.τ).loc Cert.KernelIdeal.main_arg2))
    (e3 : b3 = m ((c.tc : Thread Cert.KernelIdeal.nD Cert.KernelIdeal.τ).loc Cert.KernelIdeal.main_arg3))
    (e4 : b4 = m ((c.tc : Thread Cert.KernelIdeal.nD Cert.KernelIdeal.τ).loc Cert.KernelIdeal.main_arg4))
    (e5 : b5 = m ((c.tc : Thread Cert.KernelIdeal.nD Cert.KernelIdeal.τ).loc Cert.KernelIdeal.main_arg5))
    (e6 : b6 = m ((c.tc : Thread Cert.KernelIdeal.nD Cert.KernelIdeal.τ).loc Cert.KernelIdeal.main_arg6))
    (e7 : b7 = m ((c.tc : Thread Cert.KernelIdeal.nD Cert.KernelIdeal.τ).loc Cert.KernelIdeal.main_arg7))
    : Cert.ReferenceIdeal.Value.G8 b0 b1 b2 b3 b4 b5 b6 b7 = KernelIdeal.Res m c := by
  subst e0 e1 e2 e3 e4 e5 e6 e7
  rfl

/-- The two programs end at one result. -/
theorem algebraic : Cert.algebraic_KernelIdeal_ReferenceIdeal_pre_pre (hPre_pre := Pre.facts) := fun m g m' g' hp e =>
  ⟨fun c => KernelIdeal.Res m c, KernelIdeal.run m g (Pre.scaleOk m hp) (Pre.idsOk m hp),
    (θ_run (Cert.ReferenceIdeal.defs (F := Ideal)) _ _).mono (fun _ h c =>
      ⟨(h c).1.trans (ref_res m c _ _ _ _ _ _ _ _ (e c).1 (e c).2.1 (e c).2.2.1 (e c).2.2.2.1 (e c).2.2.2.2.1 (e c).2.2.2.2.2.1 (e c).2.2.2.2.2.2.1 (e c).2.2.2.2.2.2.2), (h c).2⟩)
      (Cert.ReferenceIdeal.Value.run m' g')⟩

theorem claim : Cert.Claim := ⟨Cert.Kernel.Gen.facts, Cert.KernelIdeal.Gen.facts, Cert.ReferenceIdeal.Gen.facts, Cert.Reference.Gen.facts, Pre.facts,
  fun m ρ _ => Kernel.frame m ρ, fun m ρ _ => KernelIdeal.frame m ρ, fun m ρ _ => KernelIdeal.frame m ρ,
  fun m ρ _ => Cert.ReferenceIdeal.Gen.frame m ρ, fun m ρ _ => Cert.ReferenceIdeal.Gen.frame m ρ, fun m ρ _ => Cert.Reference.Gen.frame m ρ,
  IdealRules.named_const.statement Cert.KernelIdeal.κ "log2e" .f32 0x3FB8AA3B#32 (((Real.log 2)⁻¹ : ℝ) : EReal) rfl,
  IdealRules.named_const.statement Cert.ReferenceIdeal.κ "ln2" .f32 0x3F317218#32 ((Real.log 2 : ℝ) : EReal) rfl,
  algebraic⟩

end Cert.Proof

end
